-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelBdy (m : (ℓ : Loc Cert.KernelBdy.nD Cert.KernelBdy.τ Cert.KernelBdy.sig) → Buf (Elt Bits) ℓ) : Prop :=
  True

def Pre_KernelBdyIdeal (m : (ℓ : Loc Cert.KernelBdyIdeal.nD Cert.KernelBdyIdeal.τ Cert.KernelBdyIdeal.sig) → Buf (Elt Ideal) ℓ) : Prop :=
  True

def Pre_ReferenceBdyIdeal (m : (ℓ : Loc Cert.ReferenceBdyIdeal.nD Cert.ReferenceBdyIdeal.τ Cert.ReferenceBdyIdeal.sig) → Buf (Elt Ideal) ℓ) : Prop :=
  True

def Pre_KernelBdw (m : (ℓ : Loc Cert.KernelBdw.nD Cert.KernelBdw.τ Cert.KernelBdw.sig) → Buf (Elt Bits) ℓ) : Prop :=
  True

def Pre_KernelBdwIdeal (m : (ℓ : Loc Cert.KernelBdwIdeal.nD Cert.KernelBdwIdeal.τ Cert.KernelBdwIdeal.sig) → Buf (Elt Ideal) ℓ) : Prop :=
  True

def Pre_ReferenceBdwIdeal (m : (ℓ : Loc Cert.ReferenceBdwIdeal.nD Cert.ReferenceBdwIdeal.τ Cert.ReferenceBdwIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_finite_norm [hPre_finite_norm : Cert.Pre_finite_norm.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).1 = (fun _ => 1#1)
    ∧ (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).2.1 = (fun _ => 1#1)
    ∧ (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).2.2.1 = (fun _ => 1#1)
    ∧ (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).2.2.2.1 = (fun _ => 1#1)
    ∧ (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))).2.2.2.2 = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_finite_norm [hPre_finite_norm : Cert.Pre_finite_norm.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))).1 = (fun _ => 1#1)
    ∧ (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))).2.1 = (fun _ => 1#1)
    ∧ (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))).2.2.1 = (fun _ => 1#1)
    ∧ (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))).2.2.2.1 = (fun _ => 1#1)
    ∧ (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))).2.2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.2 = (fun _ => 1#1)

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelAdaw (m : (ℓ : Loc Cert.KernelAdaw.nD Cert.KernelAdaw.τ Cert.KernelAdaw.sig) → Buf (Elt Bits) ℓ) : Prop :=
  True

def Pre_KernelAdawIdeal (m : (ℓ : Loc Cert.KernelAdawIdeal.nD Cert.KernelAdawIdeal.τ Cert.KernelAdawIdeal.sig) → Buf (Elt Ideal) ℓ) : Prop :=
  True

def Pre_ReferenceAdawIdeal (m : (ℓ : Loc Cert.ReferenceAdawIdeal.nD Cert.ReferenceAdawIdeal.τ Cert.ReferenceAdawIdeal.sig) → Buf (Elt Ideal) ℓ) : Prop :=
  True

def Pre_KernelFac (m : (ℓ : Loc Cert.KernelFac.nD Cert.KernelFac.τ Cert.KernelFac.sig) → Buf (Elt Bits) ℓ) : Prop :=
  True

def Pre_KernelFacIdeal (m : (ℓ : Loc Cert.KernelFacIdeal.nD Cert.KernelFacIdeal.τ Cert.KernelFacIdeal.sig) → Buf (Elt Ideal) ℓ) : Prop :=
  True

def Pre_ReferenceFacIdeal (m : (ℓ : Loc Cert.ReferenceFacIdeal.nD Cert.ReferenceFacIdeal.τ Cert.ReferenceFacIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_ReferenceSmallIdeal (m : (ℓ : Loc Cert.ReferenceSmallIdeal.nD Cert.ReferenceSmallIdeal.τ Cert.ReferenceSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1))
      ∧ r.2.sem = fun _ => 0)

def quiescent_KernelBdy [hKernelBdy : Cert.KernelBdy.Facts] : Prop :=
  ∀ (m : (ℓ : Loc Cert.KernelBdy.nD Cert.KernelBdy.τ Cert.KernelBdy.sig) → Buf (Elt Bits) ℓ) (g : Dev Cert.KernelBdy.nD → PrngReg), Pre_KernelBdy m →
    θ_run (Cert.KernelBdy.defs (F := Bits)) (onTc (τ := Cert.KernelBdy.τ) (Cert.KernelBdy.main (F := Bits))) ⟨m, fun _ => 0, g⟩ (fun r => (∀ c : Dev Cert.KernelBdy.nD,
      r.2.mem ((c.tc : Thread Cert.KernelBdy.nD Cert.KernelBdy.τ).loc Cert.KernelBdy.main_arg0) = m ((c.tc : Thread Cert.KernelBdy.nD Cert.KernelBdy.τ).loc Cert.KernelBdy.main_arg0)
      ∧ r.2.mem ((c.tc : Thread Cert.KernelBdy.nD Cert.KernelBdy.τ).loc Cert.KernelBdy.main_arg1) = m ((c.tc : Thread Cert.KernelBdy.nD Cert.KernelBdy.τ).loc Cert.KernelBdy.main_arg1))
      ∧ r.2.sem = fun _ => 0)

def quiescent_KernelBdyIdeal [hKernelBdyIdeal : Cert.KernelBdyIdeal.Facts] : Prop :=
  ∀ (m : (ℓ : Loc Cert.KernelBdyIdeal.nD Cert.KernelBdyIdeal.τ Cert.KernelBdyIdeal.sig) → Buf (Elt Ideal) ℓ) (g : Dev Cert.KernelBdyIdeal.nD → PrngReg), Pre_KernelBdyIdeal m →
    θ_run (Cert.KernelBdyIdeal.defs (F := Ideal)) (onTc (τ := Cert.KernelBdyIdeal.τ) (Cert.KernelBdyIdeal.main (F := Ideal))) ⟨m, fun _ => 0, g⟩ (fun r => (∀ c : Dev Cert.KernelBdyIdeal.nD,
      r.2.mem ((c.tc : Thread Cert.KernelBdyIdeal.nD Cert.KernelBdyIdeal.τ).loc Cert.KernelBdyIdeal.main_arg0) = m ((c.tc : Thread Cert.KernelBdyIdeal.nD Cert.KernelBdyIdeal.τ).loc Cert.KernelBdyIdeal.main_arg0)
      ∧ r.2.mem ((c.tc : Thread Cert.KernelBdyIdeal.nD Cert.KernelBdyIdeal.τ).loc Cert.KernelBdyIdeal.main_arg1) = m ((c.tc : Thread Cert.KernelBdyIdeal.nD Cert.KernelBdyIdeal.τ).loc Cert.KernelBdyIdeal.main_arg1))
      ∧ r.2.sem = fun _ => 0)

def quiescent_ReferenceBdyIdeal [hReferenceBdyIdeal : Cert.ReferenceBdyIdeal.Facts] : Prop :=
  ∀ (m : (ℓ : Loc Cert.ReferenceBdyIdeal.nD Cert.ReferenceBdyIdeal.τ Cert.ReferenceBdyIdeal.sig) → Buf (Elt Ideal) ℓ) (g : Dev Cert.ReferenceBdyIdeal.nD → PrngReg), Pre_ReferenceBdyIdeal m →
    θ_run (Cert.ReferenceBdyIdeal.defs (F := Ideal)) (onTc (τ := Cert.ReferenceBdyIdeal.τ) (Cert.ReferenceBdyIdeal.main (F := Ideal))) ⟨m, fun _ => 0, g⟩ (fun r => (∀ c : Dev Cert.ReferenceBdyIdeal.nD,
      r.2.mem ((c.tc : Thread Cert.ReferenceBdyIdeal.nD Cert.ReferenceBdyIdeal.τ).loc Cert.ReferenceBdyIdeal.main_arg0) = m ((c.tc : Thread Cert.ReferenceBdyIdeal.nD Cert.ReferenceBdyIdeal.τ).loc Cert.ReferenceBdyIdeal.main_arg0)
      ∧ r.2.mem ((c.tc : Thread Cert.ReferenceBdyIdeal.nD Cert.ReferenceBdyIdeal.τ).loc Cert.ReferenceBdyIdeal.main_arg1) = m ((c.tc : Thread Cert.ReferenceBdyIdeal.nD Cert.ReferenceBdyIdeal.τ).loc Cert.ReferenceBdyIdeal.main_arg1))
      ∧ r.2.sem = fun _ => 0)

def quiescent_KernelBdw [hKernelBdw : Cert.KernelBdw.Facts] : Prop :=
  ∀ (m : (ℓ : Loc Cert.KernelBdw.nD Cert.KernelBdw.τ Cert.KernelBdw.sig) → Buf (Elt Bits) ℓ) (g : Dev Cert.KernelBdw.nD → PrngReg), Pre_KernelBdw m →
    θ_run (Cert.KernelBdw.defs (F := Bits)) (onTc (τ := Cert.KernelBdw.τ) (Cert.KernelBdw.main (F := Bits))) ⟨m, fun _ => 0, g⟩ (fun r => (∀ c : Dev Cert.KernelBdw.nD,
      r.2.mem ((c.tc : Thread Cert.KernelBdw.nD Cert.KernelBdw.τ).loc Cert.KernelBdw.main_arg0) = m ((c.tc : Thread Cert.KernelBdw.nD Cert.KernelBdw.τ).loc Cert.KernelBdw.main_arg0)
      ∧ r.2.mem ((c.tc : Thread Cert.KernelBdw.nD Cert.KernelBdw.τ).loc Cert.KernelBdw.main_arg1) = m ((c.tc : Thread Cert.KernelBdw.nD Cert.KernelBdw.τ).loc Cert.KernelBdw.main_arg1))
      ∧ r.2.sem = fun _ => 0)

def quiescent_KernelBdwIdeal [hKernelBdwIdeal : Cert.KernelBdwIdeal.Facts] : Prop :=
  ∀ (m : (ℓ : Loc Cert.KernelBdwIdeal.nD Cert.KernelBdwIdeal.τ Cert.KernelBdwIdeal.sig) → Buf (Elt Ideal) ℓ) (g : Dev Cert.KernelBdwIdeal.nD → PrngReg), Pre_KernelBdwIdeal m →
    θ_run (Cert.KernelBdwIdeal.defs (F := Ideal)) (onTc (τ := Cert.KernelBdwIdeal.τ) (Cert.KernelBdwIdeal.main (F := Ideal))) ⟨m, fun _ => 0, g⟩ (fun r => (∀ c : Dev Cert.KernelBdwIdeal.nD,
      r.2.mem ((c.tc : Thread Cert.KernelBdwIdeal.nD Cert.KernelBdwIdeal.τ).loc Cert.KernelBdwIdeal.main_arg0) = m ((c.tc : Thread Cert.KernelBdwIdeal.nD Cert.KernelBdwIdeal.τ).loc Cert.KernelBdwIdeal.main_arg0)
      ∧ r.2.mem ((c.tc : Thread Cert.KernelBdwIdeal.nD Cert.KernelBdwIdeal.τ).loc Cert.KernelBdwIdeal.main_arg1) = m ((c.tc : Thread Cert.KernelBdwIdeal.nD Cert.KernelBdwIdeal.τ).loc Cert.KernelBdwIdeal.main_arg1))
      ∧ r.2.sem = fun _ => 0)

def quiescent_ReferenceBdwIdeal [hReferenceBdwIdeal : Cert.ReferenceBdwIdeal.Facts] : Prop :=
  ∀ (m : (ℓ : Loc Cert.ReferenceBdwIdeal.nD Cert.ReferenceBdwIdeal.τ Cert.ReferenceBdwIdeal.sig) → Buf (Elt Ideal) ℓ) (g : Dev Cert.ReferenceBdwIdeal.nD → PrngReg), Pre_ReferenceBdwIdeal m →
    θ_run (Cert.ReferenceBdwIdeal.defs (F := Ideal)) (onTc (τ := Cert.ReferenceBdwIdeal.τ) (Cert.ReferenceBdwIdeal.main (F := Ideal))) ⟨m, fun _ => 0, g⟩ (fun r => (∀ c : Dev Cert.ReferenceBdwIdeal.nD,
      r.2.mem ((c.tc : Thread Cert.ReferenceBdwIdeal.nD Cert.ReferenceBdwIdeal.τ).loc Cert.ReferenceBdwIdeal.main_arg0) = m ((c.tc : Thread Cert.ReferenceBdwIdeal.nD Cert.ReferenceBdwIdeal.τ).loc Cert.ReferenceBdwIdeal.main_arg0)
      ∧ r.2.mem ((c.tc : Thread Cert.ReferenceBdwIdeal.nD Cert.ReferenceBdwIdeal.τ).loc Cert.ReferenceBdwIdeal.main_arg1) = m ((c.tc : Thread Cert.ReferenceBdwIdeal.nD Cert.ReferenceBdwIdeal.τ).loc Cert.ReferenceBdwIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5)
      ∧ r.2.mem ((c.tc : Thread Cert.KernelGate.nD Cert.KernelGate.τ).loc Cert.KernelGate.main_arg6) = m ((c.tc : Thread Cert.KernelGate.nD Cert.KernelGate.τ).loc Cert.KernelGate.main_arg6))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
      ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5)
      ∧ r.2.mem ((c.tc : Thread Cert.ReferenceGateIdeal.nD Cert.ReferenceGateIdeal.τ).loc Cert.ReferenceGateIdeal.main_arg6) = m ((c.tc : Thread Cert.ReferenceGateIdeal.nD Cert.ReferenceGateIdeal.τ).loc Cert.ReferenceGateIdeal.main_arg6))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_KernelNormIdeal_pre_finite_norm [hKernelNormIdeal : Cert.KernelNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_finite_norm m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_ReferenceNormIdeal_pre_finite_norm [hReferenceNormIdeal : Cert.ReferenceNormIdeal.Facts] [hPre_finite_norm : Cert.Pre_finite_norm.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_finite_norm m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1))
      ∧ r.2.sem = fun _ => 0)

def quiescent_KernelAdaw [hKernelAdaw : Cert.KernelAdaw.Facts] : Prop :=
  ∀ (m : (ℓ : Loc Cert.KernelAdaw.nD Cert.KernelAdaw.τ Cert.KernelAdaw.sig) → Buf (Elt Bits) ℓ) (g : Dev Cert.KernelAdaw.nD → PrngReg), Pre_KernelAdaw m →
    θ_run (Cert.KernelAdaw.defs (F := Bits)) (onTc (τ := Cert.KernelAdaw.τ) (Cert.KernelAdaw.main (F := Bits))) ⟨m, fun _ => 0, g⟩ (fun r => (∀ c : Dev Cert.KernelAdaw.nD,
      r.2.mem ((c.tc : Thread Cert.KernelAdaw.nD Cert.KernelAdaw.τ).loc Cert.KernelAdaw.main_arg0) = m ((c.tc : Thread Cert.KernelAdaw.nD Cert.KernelAdaw.τ).loc Cert.KernelAdaw.main_arg0)
      ∧ r.2.mem ((c.tc : Thread Cert.KernelAdaw.nD Cert.KernelAdaw.τ).loc Cert.KernelAdaw.main_arg1) = m ((c.tc : Thread Cert.KernelAdaw.nD Cert.KernelAdaw.τ).loc Cert.KernelAdaw.main_arg1)
      ∧ r.2.mem ((c.tc : Thread Cert.KernelAdaw.nD Cert.KernelAdaw.τ).loc Cert.KernelAdaw.main_arg2) = m ((c.tc : Thread Cert.KernelAdaw.nD Cert.KernelAdaw.τ).loc Cert.KernelAdaw.main_arg2)
      ∧ r.2.mem ((c.tc : Thread Cert.KernelAdaw.nD Cert.KernelAdaw.τ).loc Cert.KernelAdaw.main_arg3) = m ((c.tc : Thread Cert.KernelAdaw.nD Cert.KernelAdaw.τ).loc Cert.KernelAdaw.main_arg3)
      ∧ r.2.mem ((c.tc : Thread Cert.KernelAdaw.nD Cert.KernelAdaw.τ).loc Cert.KernelAdaw.main_arg4) = m ((c.tc : Thread Cert.KernelAdaw.nD Cert.KernelAdaw.τ).loc Cert.KernelAdaw.main_arg4))
      ∧ r.2.sem = fun _ => 0)

def quiescent_KernelAdawIdeal [hKernelAdawIdeal : Cert.KernelAdawIdeal.Facts] : Prop :=
  ∀ (m : (ℓ : Loc Cert.KernelAdawIdeal.nD Cert.KernelAdawIdeal.τ Cert.KernelAdawIdeal.sig) → Buf (Elt Ideal) ℓ) (g : Dev Cert.KernelAdawIdeal.nD → PrngReg), Pre_KernelAdawIdeal m →
    θ_run (Cert.KernelAdawIdeal.defs (F := Ideal)) (onTc (τ := Cert.KernelAdawIdeal.τ) (Cert.KernelAdawIdeal.main (F := Ideal))) ⟨m, fun _ => 0, g⟩ (fun r => (∀ c : Dev Cert.KernelAdawIdeal.nD,
      r.2.mem ((c.tc : Thread Cert.KernelAdawIdeal.nD Cert.KernelAdawIdeal.τ).loc Cert.KernelAdawIdeal.main_arg0) = m ((c.tc : Thread Cert.KernelAdawIdeal.nD Cert.KernelAdawIdeal.τ).loc Cert.KernelAdawIdeal.main_arg0)
      ∧ r.2.mem ((c.tc : Thread Cert.KernelAdawIdeal.nD Cert.KernelAdawIdeal.τ).loc Cert.KernelAdawIdeal.main_arg1) = m ((c.tc : Thread Cert.KernelAdawIdeal.nD Cert.KernelAdawIdeal.τ).loc Cert.KernelAdawIdeal.main_arg1)
      ∧ r.2.mem ((c.tc : Thread Cert.KernelAdawIdeal.nD Cert.KernelAdawIdeal.τ).loc Cert.KernelAdawIdeal.main_arg2) = m ((c.tc : Thread Cert.KernelAdawIdeal.nD Cert.KernelAdawIdeal.τ).loc Cert.KernelAdawIdeal.main_arg2)
      ∧ r.2.mem ((c.tc : Thread Cert.KernelAdawIdeal.nD Cert.KernelAdawIdeal.τ).loc Cert.KernelAdawIdeal.main_arg3) = m ((c.tc : Thread Cert.KernelAdawIdeal.nD Cert.KernelAdawIdeal.τ).loc Cert.KernelAdawIdeal.main_arg3)
      ∧ r.2.mem ((c.tc : Thread Cert.KernelAdawIdeal.nD Cert.KernelAdawIdeal.τ).loc Cert.KernelAdawIdeal.main_arg4) = m ((c.tc : Thread Cert.KernelAdawIdeal.nD Cert.KernelAdawIdeal.τ).loc Cert.KernelAdawIdeal.main_arg4))
      ∧ r.2.sem = fun _ => 0)

def quiescent_ReferenceAdawIdeal [hReferenceAdawIdeal : Cert.ReferenceAdawIdeal.Facts] : Prop :=
  ∀ (m : (ℓ : Loc Cert.ReferenceAdawIdeal.nD Cert.ReferenceAdawIdeal.τ Cert.ReferenceAdawIdeal.sig) → Buf (Elt Ideal) ℓ) (g : Dev Cert.ReferenceAdawIdeal.nD → PrngReg), Pre_ReferenceAdawIdeal m →
    θ_run (Cert.ReferenceAdawIdeal.defs (F := Ideal)) (onTc (τ := Cert.ReferenceAdawIdeal.τ) (Cert.ReferenceAdawIdeal.main (F := Ideal))) ⟨m, fun _ => 0, g⟩ (fun r => (∀ c : Dev Cert.ReferenceAdawIdeal.nD,
      r.2.mem ((c.tc : Thread Cert.ReferenceAdawIdeal.nD Cert.ReferenceAdawIdeal.τ).loc Cert.ReferenceAdawIdeal.main_arg0) = m ((c.tc : Thread Cert.ReferenceAdawIdeal.nD Cert.ReferenceAdawIdeal.τ).loc Cert.ReferenceAdawIdeal.main_arg0)
      ∧ r.2.mem ((c.tc : Thread Cert.ReferenceAdawIdeal.nD Cert.ReferenceAdawIdeal.τ).loc Cert.ReferenceAdawIdeal.main_arg1) = m ((c.tc : Thread Cert.ReferenceAdawIdeal.nD Cert.ReferenceAdawIdeal.τ).loc Cert.ReferenceAdawIdeal.main_arg1)
      ∧ r.2.mem ((c.tc : Thread Cert.ReferenceAdawIdeal.nD Cert.ReferenceAdawIdeal.τ).loc Cert.ReferenceAdawIdeal.main_arg2) = m ((c.tc : Thread Cert.ReferenceAdawIdeal.nD Cert.ReferenceAdawIdeal.τ).loc Cert.ReferenceAdawIdeal.main_arg2)
      ∧ r.2.mem ((c.tc : Thread Cert.ReferenceAdawIdeal.nD Cert.ReferenceAdawIdeal.τ).loc Cert.ReferenceAdawIdeal.main_arg3) = m ((c.tc : Thread Cert.ReferenceAdawIdeal.nD Cert.ReferenceAdawIdeal.τ).loc Cert.ReferenceAdawIdeal.main_arg3)
      ∧ r.2.mem ((c.tc : Thread Cert.ReferenceAdawIdeal.nD Cert.ReferenceAdawIdeal.τ).loc Cert.ReferenceAdawIdeal.main_arg4) = m ((c.tc : Thread Cert.ReferenceAdawIdeal.nD Cert.ReferenceAdawIdeal.τ).loc Cert.ReferenceAdawIdeal.main_arg4))
      ∧ r.2.sem = fun _ => 0)

def quiescent_KernelFac [hKernelFac : Cert.KernelFac.Facts] : Prop :=
  ∀ (m : (ℓ : Loc Cert.KernelFac.nD Cert.KernelFac.τ Cert.KernelFac.sig) → Buf (Elt Bits) ℓ) (g : Dev Cert.KernelFac.nD → PrngReg), Pre_KernelFac m →
    θ_run (Cert.KernelFac.defs (F := Bits)) (onTc (τ := Cert.KernelFac.τ) (Cert.KernelFac.main (F := Bits))) ⟨m, fun _ => 0, g⟩ (fun r => (∀ c : Dev Cert.KernelFac.nD,
      r.2.mem ((c.tc : Thread Cert.KernelFac.nD Cert.KernelFac.τ).loc Cert.KernelFac.main_arg0) = m ((c.tc : Thread Cert.KernelFac.nD Cert.KernelFac.τ).loc Cert.KernelFac.main_arg0)
      ∧ r.2.mem ((c.tc : Thread Cert.KernelFac.nD Cert.KernelFac.τ).loc Cert.KernelFac.main_arg1) = m ((c.tc : Thread Cert.KernelFac.nD Cert.KernelFac.τ).loc Cert.KernelFac.main_arg1)
      ∧ r.2.mem ((c.tc : Thread Cert.KernelFac.nD Cert.KernelFac.τ).loc Cert.KernelFac.main_arg2) = m ((c.tc : Thread Cert.KernelFac.nD Cert.KernelFac.τ).loc Cert.KernelFac.main_arg2))
      ∧ r.2.sem = fun _ => 0)

def quiescent_KernelFacIdeal [hKernelFacIdeal : Cert.KernelFacIdeal.Facts] : Prop :=
  ∀ (m : (ℓ : Loc Cert.KernelFacIdeal.nD Cert.KernelFacIdeal.τ Cert.KernelFacIdeal.sig) → Buf (Elt Ideal) ℓ) (g : Dev Cert.KernelFacIdeal.nD → PrngReg), Pre_KernelFacIdeal m →
    θ_run (Cert.KernelFacIdeal.defs (F := Ideal)) (onTc (τ := Cert.KernelFacIdeal.τ) (Cert.KernelFacIdeal.main (F := Ideal))) ⟨m, fun _ => 0, g⟩ (fun r => (∀ c : Dev Cert.KernelFacIdeal.nD,
      r.2.mem ((c.tc : Thread Cert.KernelFacIdeal.nD Cert.KernelFacIdeal.τ).loc Cert.KernelFacIdeal.main_arg0) = m ((c.tc : Thread Cert.KernelFacIdeal.nD Cert.KernelFacIdeal.τ).loc Cert.KernelFacIdeal.main_arg0)
      ∧ r.2.mem ((c.tc : Thread Cert.KernelFacIdeal.nD Cert.KernelFacIdeal.τ).loc Cert.KernelFacIdeal.main_arg1) = m ((c.tc : Thread Cert.KernelFacIdeal.nD Cert.KernelFacIdeal.τ).loc Cert.KernelFacIdeal.main_arg1)
      ∧ r.2.mem ((c.tc : Thread Cert.KernelFacIdeal.nD Cert.KernelFacIdeal.τ).loc Cert.KernelFacIdeal.main_arg2) = m ((c.tc : Thread Cert.KernelFacIdeal.nD Cert.KernelFacIdeal.τ).loc Cert.KernelFacIdeal.main_arg2))
      ∧ r.2.sem = fun _ => 0)

def quiescent_ReferenceFacIdeal [hReferenceFacIdeal : Cert.ReferenceFacIdeal.Facts] : Prop :=
  ∀ (m : (ℓ : Loc Cert.ReferenceFacIdeal.nD Cert.ReferenceFacIdeal.τ Cert.ReferenceFacIdeal.sig) → Buf (Elt Ideal) ℓ) (g : Dev Cert.ReferenceFacIdeal.nD → PrngReg), Pre_ReferenceFacIdeal m →
    θ_run (Cert.ReferenceFacIdeal.defs (F := Ideal)) (onTc (τ := Cert.ReferenceFacIdeal.τ) (Cert.ReferenceFacIdeal.main (F := Ideal))) ⟨m, fun _ => 0, g⟩ (fun r => (∀ c : Dev Cert.ReferenceFacIdeal.nD,
      r.2.mem ((c.tc : Thread Cert.ReferenceFacIdeal.nD Cert.ReferenceFacIdeal.τ).loc Cert.ReferenceFacIdeal.main_arg0) = m ((c.tc : Thread Cert.ReferenceFacIdeal.nD Cert.ReferenceFacIdeal.τ).loc Cert.ReferenceFacIdeal.main_arg0)
      ∧ r.2.mem ((c.tc : Thread Cert.ReferenceFacIdeal.nD Cert.ReferenceFacIdeal.τ).loc Cert.ReferenceFacIdeal.main_arg1) = m ((c.tc : Thread Cert.ReferenceFacIdeal.nD Cert.ReferenceFacIdeal.τ).loc Cert.ReferenceFacIdeal.main_arg1)
      ∧ r.2.mem ((c.tc : Thread Cert.ReferenceFacIdeal.nD Cert.ReferenceFacIdeal.τ).loc Cert.ReferenceFacIdeal.main_arg2) = m ((c.tc : Thread Cert.ReferenceFacIdeal.nD Cert.ReferenceFacIdeal.τ).loc Cert.ReferenceFacIdeal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1)
      ∧ r.2.mem ((c.tc : Thread Cert.KernelSmall.nD Cert.KernelSmall.τ).loc Cert.KernelSmall.main_arg2) = m ((c.tc : Thread Cert.KernelSmall.nD Cert.KernelSmall.τ).loc Cert.KernelSmall.main_arg2)
      ∧ r.2.mem ((c.tc : Thread Cert.KernelSmall.nD Cert.KernelSmall.τ).loc Cert.KernelSmall.main_arg3) = m ((c.tc : Thread Cert.KernelSmall.nD Cert.KernelSmall.τ).loc Cert.KernelSmall.main_arg3))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
      ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
      ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1)
      ∧ r.2.mem ((c.tc : Thread Cert.ReferenceSmallIdeal.nD Cert.ReferenceSmallIdeal.τ).loc Cert.ReferenceSmallIdeal.main_arg2) = m ((c.tc : Thread Cert.ReferenceSmallIdeal.nD Cert.ReferenceSmallIdeal.τ).loc Cert.ReferenceSmallIdeal.main_arg2)
      ∧ r.2.mem ((c.tc : Thread Cert.ReferenceSmallIdeal.nD Cert.ReferenceSmallIdeal.τ).loc Cert.ReferenceSmallIdeal.main_arg3) = m ((c.tc : Thread Cert.ReferenceSmallIdeal.nD Cert.ReferenceSmallIdeal.τ).loc Cert.ReferenceSmallIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)) (v3 : (c : Dev Cert.KernelIdeal.nD) → Buf (Elt Ideal) ((c.tc : Thread Cert.KernelIdeal.nD Cert.KernelIdeal.τ).loc Cert.KernelIdeal.main_v66_3)) (v4 : (c : Dev Cert.KernelIdeal.nD) → Buf (Elt Ideal) ((c.tc : Thread Cert.KernelIdeal.nD Cert.KernelIdeal.τ).loc Cert.KernelIdeal.main_v66_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_v66_3) = v3 c
          ∧ r.2.mem ((c.tc : Thread Cert.KernelIdeal.nD Cert.KernelIdeal.τ).loc Cert.KernelIdeal.main_v66_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v172) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v6) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v5) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v4) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v4) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1))

def preserves_KernelBdy_KernelBdyIdeal : Prop :=
  True

def algebraic_KernelBdyIdeal_ReferenceBdyIdeal [hKernelBdyIdeal : Cert.KernelBdyIdeal.Facts] [hReferenceBdyIdeal : Cert.ReferenceBdyIdeal.Facts] : Prop :=
  ∀ (m : (ℓ : Loc Cert.KernelBdyIdeal.nD Cert.KernelBdyIdeal.τ Cert.KernelBdyIdeal.sig) → Buf (Elt Ideal) ℓ) (g : Dev Cert.KernelBdyIdeal.nD → PrngReg)
    (m' : (ℓ : Loc Cert.ReferenceBdyIdeal.nD Cert.ReferenceBdyIdeal.τ Cert.ReferenceBdyIdeal.sig) → Buf (Elt Ideal) ℓ) (g' : Dev Cert.ReferenceBdyIdeal.nD → PrngReg), Pre_KernelBdyIdeal m →
    (∀ c : Dev Cert.KernelBdyIdeal.nD,
      m' ((c.tc : Thread Cert.ReferenceBdyIdeal.nD Cert.ReferenceBdyIdeal.τ).loc Cert.ReferenceBdyIdeal.main_arg0) = m ((c.tc : Thread Cert.KernelBdyIdeal.nD Cert.KernelBdyIdeal.τ).loc Cert.KernelBdyIdeal.main_arg0)
      ∧ m' ((c.tc : Thread Cert.ReferenceBdyIdeal.nD Cert.ReferenceBdyIdeal.τ).loc Cert.ReferenceBdyIdeal.main_arg1) = m ((c.tc : Thread Cert.KernelBdyIdeal.nD Cert.KernelBdyIdeal.τ).loc Cert.KernelBdyIdeal.main_arg1)) →
    ∃ (v0 : (c : Dev Cert.KernelBdyIdeal.nD) → Buf (Elt Ideal) ((c.tc : Thread Cert.KernelBdyIdeal.nD Cert.KernelBdyIdeal.τ).loc Cert.KernelBdyIdeal.main_v0)),
      θ_run (Cert.KernelBdyIdeal.defs (F := Ideal)) (onTc (τ := Cert.KernelBdyIdeal.τ) (Cert.KernelBdyIdeal.main (F := Ideal))) ⟨m, fun _ => 0, g⟩ (fun r => ∀ c : Dev Cert.KernelBdyIdeal.nD,
          r.2.mem ((c.tc : Thread Cert.KernelBdyIdeal.nD Cert.KernelBdyIdeal.τ).loc Cert.KernelBdyIdeal.main_v0) = v0 c
          ∧ r.2.mem ((c.tc : Thread Cert.KernelBdyIdeal.nD Cert.KernelBdyIdeal.τ).loc Cert.KernelBdyIdeal.main_arg0) = m ((c.tc : Thread Cert.KernelBdyIdeal.nD Cert.KernelBdyIdeal.τ).loc Cert.KernelBdyIdeal.main_arg0)
          ∧ r.2.mem ((c.tc : Thread Cert.KernelBdyIdeal.nD Cert.KernelBdyIdeal.τ).loc Cert.KernelBdyIdeal.main_arg1) = m ((c.tc : Thread Cert.KernelBdyIdeal.nD Cert.KernelBdyIdeal.τ).loc Cert.KernelBdyIdeal.main_arg1))
      ∧ θ_run (Cert.ReferenceBdyIdeal.defs (F := Ideal)) (onTc (τ := Cert.ReferenceBdyIdeal.τ) (Cert.ReferenceBdyIdeal.main (F := Ideal))) ⟨m', fun _ => 0, g'⟩ (fun r => ∀ c : Dev Cert.ReferenceBdyIdeal.nD,
          r.2.mem ((c.tc : Thread Cert.ReferenceBdyIdeal.nD Cert.ReferenceBdyIdeal.τ).loc Cert.ReferenceBdyIdeal.main_v5) = v0 c
          ∧ r.2.mem ((c.tc : Thread Cert.ReferenceBdyIdeal.nD Cert.ReferenceBdyIdeal.τ).loc Cert.ReferenceBdyIdeal.main_arg0) = m' ((c.tc : Thread Cert.ReferenceBdyIdeal.nD Cert.ReferenceBdyIdeal.τ).loc Cert.ReferenceBdyIdeal.main_arg0)
          ∧ r.2.mem ((c.tc : Thread Cert.ReferenceBdyIdeal.nD Cert.ReferenceBdyIdeal.τ).loc Cert.ReferenceBdyIdeal.main_arg1) = m' ((c.tc : Thread Cert.ReferenceBdyIdeal.nD Cert.ReferenceBdyIdeal.τ).loc Cert.ReferenceBdyIdeal.main_arg1))

def preserves_KernelBdw_KernelBdwIdeal : Prop :=
  True

def algebraic_KernelBdwIdeal_ReferenceBdwIdeal [hKernelBdwIdeal : Cert.KernelBdwIdeal.Facts] [hReferenceBdwIdeal : Cert.ReferenceBdwIdeal.Facts] : Prop :=
  ∀ (m : (ℓ : Loc Cert.KernelBdwIdeal.nD Cert.KernelBdwIdeal.τ Cert.KernelBdwIdeal.sig) → Buf (Elt Ideal) ℓ) (g : Dev Cert.KernelBdwIdeal.nD → PrngReg)
    (m' : (ℓ : Loc Cert.ReferenceBdwIdeal.nD Cert.ReferenceBdwIdeal.τ Cert.ReferenceBdwIdeal.sig) → Buf (Elt Ideal) ℓ) (g' : Dev Cert.ReferenceBdwIdeal.nD → PrngReg), Pre_KernelBdwIdeal m →
    (∀ c : Dev Cert.KernelBdwIdeal.nD,
      m' ((c.tc : Thread Cert.ReferenceBdwIdeal.nD Cert.ReferenceBdwIdeal.τ).loc Cert.ReferenceBdwIdeal.main_arg0) = m ((c.tc : Thread Cert.KernelBdwIdeal.nD Cert.KernelBdwIdeal.τ).loc Cert.KernelBdwIdeal.main_arg0)
      ∧ m' ((c.tc : Thread Cert.ReferenceBdwIdeal.nD Cert.ReferenceBdwIdeal.τ).loc Cert.ReferenceBdwIdeal.main_arg1) = m ((c.tc : Thread Cert.KernelBdwIdeal.nD Cert.KernelBdwIdeal.τ).loc Cert.KernelBdwIdeal.main_arg1)) →
    ∃ (v0 : (c : Dev Cert.KernelBdwIdeal.nD) → Buf (Elt Ideal) ((c.tc : Thread Cert.KernelBdwIdeal.nD Cert.KernelBdwIdeal.τ).loc Cert.KernelBdwIdeal.main_v0)),
      θ_run (Cert.KernelBdwIdeal.defs (F := Ideal)) (onTc (τ := Cert.KernelBdwIdeal.τ) (Cert.KernelBdwIdeal.main (F := Ideal))) ⟨m, fun _ => 0, g⟩ (fun r => ∀ c : Dev Cert.KernelBdwIdeal.nD,
          r.2.mem ((c.tc : Thread Cert.KernelBdwIdeal.nD Cert.KernelBdwIdeal.τ).loc Cert.KernelBdwIdeal.main_v0) = v0 c
          ∧ r.2.mem ((c.tc : Thread Cert.KernelBdwIdeal.nD Cert.KernelBdwIdeal.τ).loc Cert.KernelBdwIdeal.main_arg0) = m ((c.tc : Thread Cert.KernelBdwIdeal.nD Cert.KernelBdwIdeal.τ).loc Cert.KernelBdwIdeal.main_arg0)
          ∧ r.2.mem ((c.tc : Thread Cert.KernelBdwIdeal.nD Cert.KernelBdwIdeal.τ).loc Cert.KernelBdwIdeal.main_arg1) = m ((c.tc : Thread Cert.KernelBdwIdeal.nD Cert.KernelBdwIdeal.τ).loc Cert.KernelBdwIdeal.main_arg1))
      ∧ θ_run (Cert.ReferenceBdwIdeal.defs (F := Ideal)) (onTc (τ := Cert.ReferenceBdwIdeal.τ) (Cert.ReferenceBdwIdeal.main (F := Ideal))) ⟨m', fun _ => 0, g'⟩ (fun r => ∀ c : Dev Cert.ReferenceBdwIdeal.nD,
          r.2.mem ((c.tc : Thread Cert.ReferenceBdwIdeal.nD Cert.ReferenceBdwIdeal.τ).loc Cert.ReferenceBdwIdeal.main_v5) = v0 c
          ∧ r.2.mem ((c.tc : Thread Cert.ReferenceBdwIdeal.nD Cert.ReferenceBdwIdeal.τ).loc Cert.ReferenceBdwIdeal.main_arg0) = m' ((c.tc : Thread Cert.ReferenceBdwIdeal.nD Cert.ReferenceBdwIdeal.τ).loc Cert.ReferenceBdwIdeal.main_arg0)
          ∧ r.2.mem ((c.tc : Thread Cert.ReferenceBdwIdeal.nD Cert.ReferenceBdwIdeal.τ).loc Cert.ReferenceBdwIdeal.main_arg1) = m' ((c.tc : Thread Cert.ReferenceBdwIdeal.nD Cert.ReferenceBdwIdeal.τ).loc Cert.ReferenceBdwIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)) (v3 : (c : Dev Cert.KernelMergeIdeal.nD) → Buf (Elt Ideal) ((c.tc : Thread Cert.KernelMergeIdeal.nD Cert.KernelMergeIdeal.τ).loc Cert.KernelMergeIdeal.main_v0_3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_v0_3) = v3 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v25) = v0 c
          ∧ r.2.mem ((c.tc : Thread Cert.ReferenceMergeIdeal.nD Cert.ReferenceMergeIdeal.τ).loc Cert.ReferenceMergeIdeal.main_v26) = v1 c
          ∧ r.2.mem ((c.tc : Thread Cert.ReferenceMergeIdeal.nD Cert.ReferenceMergeIdeal.τ).loc Cert.ReferenceMergeIdeal.main_v27) = v2 c
          ∧ r.2.mem ((c.tc : Thread Cert.ReferenceMergeIdeal.nD Cert.ReferenceMergeIdeal.τ).loc Cert.ReferenceMergeIdeal.main_v28) = v3 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)
      ∧ m' ((c.tc : Thread Cert.ReferenceGateIdeal.nD Cert.ReferenceGateIdeal.τ).loc Cert.ReferenceGateIdeal.main_arg6) = m ((c.tc : Thread Cert.KernelGateIdeal.nD Cert.KernelGateIdeal.τ).loc Cert.KernelGateIdeal.main_arg6)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v0_2)) (v3 : (c : Dev Cert.KernelGateIdeal.nD) → Buf (Elt Ideal) ((c.tc : Thread Cert.KernelGateIdeal.nD Cert.KernelGateIdeal.τ).loc Cert.KernelGateIdeal.main_v0_3)) (v4 : (c : Dev Cert.KernelGateIdeal.nD) → Buf (Elt Ideal) ((c.tc : Thread Cert.KernelGateIdeal.nD Cert.KernelGateIdeal.τ).loc Cert.KernelGateIdeal.main_v0_4)) (v5 : (c : Dev Cert.KernelGateIdeal.nD) → Buf (Elt Ideal) ((c.tc : Thread Cert.KernelGateIdeal.nD Cert.KernelGateIdeal.τ).loc Cert.KernelGateIdeal.main_v0_5)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v0_2) = v2 c
          ∧ r.2.mem ((c.tc : Thread Cert.KernelGateIdeal.nD Cert.KernelGateIdeal.τ).loc Cert.KernelGateIdeal.main_v0_3) = v3 c
          ∧ r.2.mem ((c.tc : Thread Cert.KernelGateIdeal.nD Cert.KernelGateIdeal.τ).loc Cert.KernelGateIdeal.main_v0_4) = v4 c
          ∧ r.2.mem ((c.tc : Thread Cert.KernelGateIdeal.nD Cert.KernelGateIdeal.τ).loc Cert.KernelGateIdeal.main_v0_5) = v5 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
          ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v40) = v0 c
          ∧ r.2.mem ((c.tc : Thread Cert.ReferenceGateIdeal.nD Cert.ReferenceGateIdeal.τ).loc Cert.ReferenceGateIdeal.main_v41) = v1 c
          ∧ r.2.mem ((c.tc : Thread Cert.ReferenceGateIdeal.nD Cert.ReferenceGateIdeal.τ).loc Cert.ReferenceGateIdeal.main_v42) = v2 c
          ∧ r.2.mem ((c.tc : Thread Cert.ReferenceGateIdeal.nD Cert.ReferenceGateIdeal.τ).loc Cert.ReferenceGateIdeal.main_v43) = v3 c
          ∧ r.2.mem ((c.tc : Thread Cert.ReferenceGateIdeal.nD Cert.ReferenceGateIdeal.τ).loc Cert.ReferenceGateIdeal.main_v44) = v4 c
          ∧ r.2.mem ((c.tc : Thread Cert.ReferenceGateIdeal.nD Cert.ReferenceGateIdeal.τ).loc Cert.ReferenceGateIdeal.main_v45) = v5 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5)
          ∧ r.2.mem ((c.tc : Thread Cert.ReferenceGateIdeal.nD Cert.ReferenceGateIdeal.τ).loc Cert.ReferenceGateIdeal.main_arg6) = m' ((c.tc : Thread Cert.ReferenceGateIdeal.nD Cert.ReferenceGateIdeal.τ).loc Cert.ReferenceGateIdeal.main_arg6))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v0)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v0) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v18) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelNorm_KernelNormIdeal : Prop :=
  True

def algebraic_KernelNormIdeal_ReferenceNormIdeal_pre_finite_norm [hKernelNormIdeal : Cert.KernelNormIdeal.Facts] [hReferenceNormIdeal : Cert.ReferenceNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_finite_norm m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)) (v2 : (c : Dev Cert.KernelNormIdeal.nD) → Buf (Elt Ideal) ((c.tc : Thread Cert.KernelNormIdeal.nD Cert.KernelNormIdeal.τ).loc Cert.KernelNormIdeal.main_v0_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_v0_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v43) = v0 c
          ∧ r.2.mem ((c.tc : Thread Cert.ReferenceNormIdeal.nD Cert.ReferenceNormIdeal.τ).loc Cert.ReferenceNormIdeal.main_v23) = v1 c
          ∧ r.2.mem ((c.tc : Thread Cert.ReferenceNormIdeal.nD Cert.ReferenceNormIdeal.τ).loc Cert.ReferenceNormIdeal.main_v26) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v51) = v0 c
          ∧ r.2.mem ((c.tc : Thread Cert.ReferenceLossIdeal.nD Cert.ReferenceLossIdeal.τ).loc Cert.ReferenceLossIdeal.main_v35) = v1 c
          ∧ r.2.mem ((c.tc : Thread Cert.ReferenceLossIdeal.nD Cert.ReferenceLossIdeal.τ).loc Cert.ReferenceLossIdeal.main_v24) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v0)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v2) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1))

def preserves_KernelAdaw_KernelAdawIdeal : Prop :=
  True

def algebraic_KernelAdawIdeal_ReferenceAdawIdeal [hKernelAdawIdeal : Cert.KernelAdawIdeal.Facts] [hReferenceAdawIdeal : Cert.ReferenceAdawIdeal.Facts] : Prop :=
  ∀ (m : (ℓ : Loc Cert.KernelAdawIdeal.nD Cert.KernelAdawIdeal.τ Cert.KernelAdawIdeal.sig) → Buf (Elt Ideal) ℓ) (g : Dev Cert.KernelAdawIdeal.nD → PrngReg)
    (m' : (ℓ : Loc Cert.ReferenceAdawIdeal.nD Cert.ReferenceAdawIdeal.τ Cert.ReferenceAdawIdeal.sig) → Buf (Elt Ideal) ℓ) (g' : Dev Cert.ReferenceAdawIdeal.nD → PrngReg), Pre_KernelAdawIdeal m →
    (∀ c : Dev Cert.KernelAdawIdeal.nD,
      m' ((c.tc : Thread Cert.ReferenceAdawIdeal.nD Cert.ReferenceAdawIdeal.τ).loc Cert.ReferenceAdawIdeal.main_arg0) = m ((c.tc : Thread Cert.KernelAdawIdeal.nD Cert.KernelAdawIdeal.τ).loc Cert.KernelAdawIdeal.main_arg0)
      ∧ m' ((c.tc : Thread Cert.ReferenceAdawIdeal.nD Cert.ReferenceAdawIdeal.τ).loc Cert.ReferenceAdawIdeal.main_arg1) = m ((c.tc : Thread Cert.KernelAdawIdeal.nD Cert.KernelAdawIdeal.τ).loc Cert.KernelAdawIdeal.main_arg1)
      ∧ m' ((c.tc : Thread Cert.ReferenceAdawIdeal.nD Cert.ReferenceAdawIdeal.τ).loc Cert.ReferenceAdawIdeal.main_arg2) = m ((c.tc : Thread Cert.KernelAdawIdeal.nD Cert.KernelAdawIdeal.τ).loc Cert.KernelAdawIdeal.main_arg2)
      ∧ m' ((c.tc : Thread Cert.ReferenceAdawIdeal.nD Cert.ReferenceAdawIdeal.τ).loc Cert.ReferenceAdawIdeal.main_arg3) = m ((c.tc : Thread Cert.KernelAdawIdeal.nD Cert.KernelAdawIdeal.τ).loc Cert.KernelAdawIdeal.main_arg3)
      ∧ m' ((c.tc : Thread Cert.ReferenceAdawIdeal.nD Cert.ReferenceAdawIdeal.τ).loc Cert.ReferenceAdawIdeal.main_arg4) = m ((c.tc : Thread Cert.KernelAdawIdeal.nD Cert.KernelAdawIdeal.τ).loc Cert.KernelAdawIdeal.main_arg4)) →
    ∃ (v0 : (c : Dev Cert.KernelAdawIdeal.nD) → Buf (Elt Ideal) ((c.tc : Thread Cert.KernelAdawIdeal.nD Cert.KernelAdawIdeal.τ).loc Cert.KernelAdawIdeal.main_v0_0)) (v1 : (c : Dev Cert.KernelAdawIdeal.nD) → Buf (Elt Ideal) ((c.tc : Thread Cert.KernelAdawIdeal.nD Cert.KernelAdawIdeal.τ).loc Cert.KernelAdawIdeal.main_v0_1)) (v2 : (c : Dev Cert.KernelAdawIdeal.nD) → Buf (Elt Ideal) ((c.tc : Thread Cert.KernelAdawIdeal.nD Cert.KernelAdawIdeal.τ).loc Cert.KernelAdawIdeal.main_v0_2)) (v3 : (c : Dev Cert.KernelAdawIdeal.nD) → Buf (Elt Ideal) ((c.tc : Thread Cert.KernelAdawIdeal.nD Cert.KernelAdawIdeal.τ).loc Cert.KernelAdawIdeal.main_v0_3)),
      θ_run (Cert.KernelAdawIdeal.defs (F := Ideal)) (onTc (τ := Cert.KernelAdawIdeal.τ) (Cert.KernelAdawIdeal.main (F := Ideal))) ⟨m, fun _ => 0, g⟩ (fun r => ∀ c : Dev Cert.KernelAdawIdeal.nD,
          r.2.mem ((c.tc : Thread Cert.KernelAdawIdeal.nD Cert.KernelAdawIdeal.τ).loc Cert.KernelAdawIdeal.main_v0_0) = v0 c
          ∧ r.2.mem ((c.tc : Thread Cert.KernelAdawIdeal.nD Cert.KernelAdawIdeal.τ).loc Cert.KernelAdawIdeal.main_v0_1) = v1 c
          ∧ r.2.mem ((c.tc : Thread Cert.KernelAdawIdeal.nD Cert.KernelAdawIdeal.τ).loc Cert.KernelAdawIdeal.main_v0_2) = v2 c
          ∧ r.2.mem ((c.tc : Thread Cert.KernelAdawIdeal.nD Cert.KernelAdawIdeal.τ).loc Cert.KernelAdawIdeal.main_v0_3) = v3 c
          ∧ r.2.mem ((c.tc : Thread Cert.KernelAdawIdeal.nD Cert.KernelAdawIdeal.τ).loc Cert.KernelAdawIdeal.main_arg0) = m ((c.tc : Thread Cert.KernelAdawIdeal.nD Cert.KernelAdawIdeal.τ).loc Cert.KernelAdawIdeal.main_arg0)
          ∧ r.2.mem ((c.tc : Thread Cert.KernelAdawIdeal.nD Cert.KernelAdawIdeal.τ).loc Cert.KernelAdawIdeal.main_arg1) = m ((c.tc : Thread Cert.KernelAdawIdeal.nD Cert.KernelAdawIdeal.τ).loc Cert.KernelAdawIdeal.main_arg1)
          ∧ r.2.mem ((c.tc : Thread Cert.KernelAdawIdeal.nD Cert.KernelAdawIdeal.τ).loc Cert.KernelAdawIdeal.main_arg2) = m ((c.tc : Thread Cert.KernelAdawIdeal.nD Cert.KernelAdawIdeal.τ).loc Cert.KernelAdawIdeal.main_arg2)
          ∧ r.2.mem ((c.tc : Thread Cert.KernelAdawIdeal.nD Cert.KernelAdawIdeal.τ).loc Cert.KernelAdawIdeal.main_arg3) = m ((c.tc : Thread Cert.KernelAdawIdeal.nD Cert.KernelAdawIdeal.τ).loc Cert.KernelAdawIdeal.main_arg3)
          ∧ r.2.mem ((c.tc : Thread Cert.KernelAdawIdeal.nD Cert.KernelAdawIdeal.τ).loc Cert.KernelAdawIdeal.main_arg4) = m ((c.tc : Thread Cert.KernelAdawIdeal.nD Cert.KernelAdawIdeal.τ).loc Cert.KernelAdawIdeal.main_arg4))
      ∧ θ_run (Cert.ReferenceAdawIdeal.defs (F := Ideal)) (onTc (τ := Cert.ReferenceAdawIdeal.τ) (Cert.ReferenceAdawIdeal.main (F := Ideal))) ⟨m', fun _ => 0, g'⟩ (fun r => ∀ c : Dev Cert.ReferenceAdawIdeal.nD,
          r.2.mem ((c.tc : Thread Cert.ReferenceAdawIdeal.nD Cert.ReferenceAdawIdeal.τ).loc Cert.ReferenceAdawIdeal.main_v7) = v0 c
          ∧ r.2.mem ((c.tc : Thread Cert.ReferenceAdawIdeal.nD Cert.ReferenceAdawIdeal.τ).loc Cert.ReferenceAdawIdeal.main_v31) = v1 c
          ∧ r.2.mem ((c.tc : Thread Cert.ReferenceAdawIdeal.nD Cert.ReferenceAdawIdeal.τ).loc Cert.ReferenceAdawIdeal.main_v12) = v2 c
          ∧ r.2.mem ((c.tc : Thread Cert.ReferenceAdawIdeal.nD Cert.ReferenceAdawIdeal.τ).loc Cert.ReferenceAdawIdeal.main_v18) = v3 c
          ∧ r.2.mem ((c.tc : Thread Cert.ReferenceAdawIdeal.nD Cert.ReferenceAdawIdeal.τ).loc Cert.ReferenceAdawIdeal.main_arg0) = m' ((c.tc : Thread Cert.ReferenceAdawIdeal.nD Cert.ReferenceAdawIdeal.τ).loc Cert.ReferenceAdawIdeal.main_arg0)
          ∧ r.2.mem ((c.tc : Thread Cert.ReferenceAdawIdeal.nD Cert.ReferenceAdawIdeal.τ).loc Cert.ReferenceAdawIdeal.main_arg1) = m' ((c.tc : Thread Cert.ReferenceAdawIdeal.nD Cert.ReferenceAdawIdeal.τ).loc Cert.ReferenceAdawIdeal.main_arg1)
          ∧ r.2.mem ((c.tc : Thread Cert.ReferenceAdawIdeal.nD Cert.ReferenceAdawIdeal.τ).loc Cert.ReferenceAdawIdeal.main_arg2) = m' ((c.tc : Thread Cert.ReferenceAdawIdeal.nD Cert.ReferenceAdawIdeal.τ).loc Cert.ReferenceAdawIdeal.main_arg2)
          ∧ r.2.mem ((c.tc : Thread Cert.ReferenceAdawIdeal.nD Cert.ReferenceAdawIdeal.τ).loc Cert.ReferenceAdawIdeal.main_arg3) = m' ((c.tc : Thread Cert.ReferenceAdawIdeal.nD Cert.ReferenceAdawIdeal.τ).loc Cert.ReferenceAdawIdeal.main_arg3)
          ∧ r.2.mem ((c.tc : Thread Cert.ReferenceAdawIdeal.nD Cert.ReferenceAdawIdeal.τ).loc Cert.ReferenceAdawIdeal.main_arg4) = m' ((c.tc : Thread Cert.ReferenceAdawIdeal.nD Cert.ReferenceAdawIdeal.τ).loc Cert.ReferenceAdawIdeal.main_arg4))

def preserves_KernelFac_KernelFacIdeal : Prop :=
  True

def algebraic_KernelFacIdeal_ReferenceFacIdeal [hKernelFacIdeal : Cert.KernelFacIdeal.Facts] [hReferenceFacIdeal : Cert.ReferenceFacIdeal.Facts] : Prop :=
  ∀ (m : (ℓ : Loc Cert.KernelFacIdeal.nD Cert.KernelFacIdeal.τ Cert.KernelFacIdeal.sig) → Buf (Elt Ideal) ℓ) (g : Dev Cert.KernelFacIdeal.nD → PrngReg)
    (m' : (ℓ : Loc Cert.ReferenceFacIdeal.nD Cert.ReferenceFacIdeal.τ Cert.ReferenceFacIdeal.sig) → Buf (Elt Ideal) ℓ) (g' : Dev Cert.ReferenceFacIdeal.nD → PrngReg), Pre_KernelFacIdeal m →
    (∀ c : Dev Cert.KernelFacIdeal.nD,
      m' ((c.tc : Thread Cert.ReferenceFacIdeal.nD Cert.ReferenceFacIdeal.τ).loc Cert.ReferenceFacIdeal.main_arg0) = m ((c.tc : Thread Cert.KernelFacIdeal.nD Cert.KernelFacIdeal.τ).loc Cert.KernelFacIdeal.main_arg0)
      ∧ m' ((c.tc : Thread Cert.ReferenceFacIdeal.nD Cert.ReferenceFacIdeal.τ).loc Cert.ReferenceFacIdeal.main_arg1) = m ((c.tc : Thread Cert.KernelFacIdeal.nD Cert.KernelFacIdeal.τ).loc Cert.KernelFacIdeal.main_arg1)
      ∧ m' ((c.tc : Thread Cert.ReferenceFacIdeal.nD Cert.ReferenceFacIdeal.τ).loc Cert.ReferenceFacIdeal.main_arg2) = m ((c.tc : Thread Cert.KernelFacIdeal.nD Cert.KernelFacIdeal.τ).loc Cert.KernelFacIdeal.main_arg2)) →
    ∃ (v0 : (c : Dev Cert.KernelFacIdeal.nD) → Buf (Elt Ideal) ((c.tc : Thread Cert.KernelFacIdeal.nD Cert.KernelFacIdeal.τ).loc Cert.KernelFacIdeal.main_v0_0)) (v1 : (c : Dev Cert.KernelFacIdeal.nD) → Buf (Elt Ideal) ((c.tc : Thread Cert.KernelFacIdeal.nD Cert.KernelFacIdeal.τ).loc Cert.KernelFacIdeal.main_v0_1)),
      θ_run (Cert.KernelFacIdeal.defs (F := Ideal)) (onTc (τ := Cert.KernelFacIdeal.τ) (Cert.KernelFacIdeal.main (F := Ideal))) ⟨m, fun _ => 0, g⟩ (fun r => ∀ c : Dev Cert.KernelFacIdeal.nD,
          r.2.mem ((c.tc : Thread Cert.KernelFacIdeal.nD Cert.KernelFacIdeal.τ).loc Cert.KernelFacIdeal.main_v0_0) = v0 c
          ∧ r.2.mem ((c.tc : Thread Cert.KernelFacIdeal.nD Cert.KernelFacIdeal.τ).loc Cert.KernelFacIdeal.main_v0_1) = v1 c
          ∧ r.2.mem ((c.tc : Thread Cert.KernelFacIdeal.nD Cert.KernelFacIdeal.τ).loc Cert.KernelFacIdeal.main_arg0) = m ((c.tc : Thread Cert.KernelFacIdeal.nD Cert.KernelFacIdeal.τ).loc Cert.KernelFacIdeal.main_arg0)
          ∧ r.2.mem ((c.tc : Thread Cert.KernelFacIdeal.nD Cert.KernelFacIdeal.τ).loc Cert.KernelFacIdeal.main_arg1) = m ((c.tc : Thread Cert.KernelFacIdeal.nD Cert.KernelFacIdeal.τ).loc Cert.KernelFacIdeal.main_arg1)
          ∧ r.2.mem ((c.tc : Thread Cert.KernelFacIdeal.nD Cert.KernelFacIdeal.τ).loc Cert.KernelFacIdeal.main_arg2) = m ((c.tc : Thread Cert.KernelFacIdeal.nD Cert.KernelFacIdeal.τ).loc Cert.KernelFacIdeal.main_arg2))
      ∧ θ_run (Cert.ReferenceFacIdeal.defs (F := Ideal)) (onTc (τ := Cert.ReferenceFacIdeal.τ) (Cert.ReferenceFacIdeal.main (F := Ideal))) ⟨m', fun _ => 0, g'⟩ (fun r => ∀ c : Dev Cert.ReferenceFacIdeal.nD,
          r.2.mem ((c.tc : Thread Cert.ReferenceFacIdeal.nD Cert.ReferenceFacIdeal.τ).loc Cert.ReferenceFacIdeal.main_v4) = v0 c
          ∧ r.2.mem ((c.tc : Thread Cert.ReferenceFacIdeal.nD Cert.ReferenceFacIdeal.τ).loc Cert.ReferenceFacIdeal.main_v3) = v1 c
          ∧ r.2.mem ((c.tc : Thread Cert.ReferenceFacIdeal.nD Cert.ReferenceFacIdeal.τ).loc Cert.ReferenceFacIdeal.main_arg0) = m' ((c.tc : Thread Cert.ReferenceFacIdeal.nD Cert.ReferenceFacIdeal.τ).loc Cert.ReferenceFacIdeal.main_arg0)
          ∧ r.2.mem ((c.tc : Thread Cert.ReferenceFacIdeal.nD Cert.ReferenceFacIdeal.τ).loc Cert.ReferenceFacIdeal.main_arg1) = m' ((c.tc : Thread Cert.ReferenceFacIdeal.nD Cert.ReferenceFacIdeal.τ).loc Cert.ReferenceFacIdeal.main_arg1)
          ∧ r.2.mem ((c.tc : Thread Cert.ReferenceFacIdeal.nD Cert.ReferenceFacIdeal.τ).loc Cert.ReferenceFacIdeal.main_arg2) = m' ((c.tc : Thread Cert.ReferenceFacIdeal.nD Cert.ReferenceFacIdeal.τ).loc Cert.ReferenceFacIdeal.main_arg2))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)) →
    ∃ (v0 : (c : Dev Cert.KernelPostIdeal.nD) → Buf (Elt Ideal) ((c.tc : Thread Cert.KernelPostIdeal.nD Cert.KernelPostIdeal.τ).loc Cert.KernelPostIdeal.main_v0_0)) (v1 : (c : Dev Cert.KernelPostIdeal.nD) → Buf (Elt Ideal) ((c.tc : Thread Cert.KernelPostIdeal.nD Cert.KernelPostIdeal.τ).loc Cert.KernelPostIdeal.main_v0_1)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0_0) = v0 c
          ∧ r.2.mem ((c.tc : Thread Cert.KernelPostIdeal.nD Cert.KernelPostIdeal.τ).loc Cert.KernelPostIdeal.main_v0_1) = v1 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v4) = v0 c
          ∧ r.2.mem ((c.tc : Thread Cert.ReferencePostIdeal.nD Cert.ReferencePostIdeal.τ).loc Cert.ReferencePostIdeal.main_v7) = v1 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2))

def preserves_KernelSmall_KernelSmallIdeal : Prop :=
  True

def algebraic_KernelSmallIdeal_ReferenceSmallIdeal [hKernelSmallIdeal : Cert.KernelSmallIdeal.Facts] [hReferenceSmallIdeal : Cert.ReferenceSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)
      ∧ m' ((c.tc : Thread Cert.ReferenceSmallIdeal.nD Cert.ReferenceSmallIdeal.τ).loc Cert.ReferenceSmallIdeal.main_arg2) = m ((c.tc : Thread Cert.KernelSmallIdeal.nD Cert.KernelSmallIdeal.τ).loc Cert.KernelSmallIdeal.main_arg2)
      ∧ m' ((c.tc : Thread Cert.ReferenceSmallIdeal.nD Cert.ReferenceSmallIdeal.τ).loc Cert.ReferenceSmallIdeal.main_arg3) = m ((c.tc : Thread Cert.KernelSmallIdeal.nD Cert.KernelSmallIdeal.τ).loc Cert.KernelSmallIdeal.main_arg3)) →
    ∃ (v0 : (c : Dev Cert.KernelSmallIdeal.nD) → Buf (Elt Ideal) ((c.tc : Thread Cert.KernelSmallIdeal.nD Cert.KernelSmallIdeal.τ).loc Cert.KernelSmallIdeal.main_v0_0)) (v1 : (c : Dev Cert.KernelSmallIdeal.nD) → Buf (Elt Ideal) ((c.tc : Thread Cert.KernelSmallIdeal.nD Cert.KernelSmallIdeal.τ).loc Cert.KernelSmallIdeal.main_v0_1)) (v2 : (c : Dev Cert.KernelSmallIdeal.nD) → Buf (Elt Ideal) ((c.tc : Thread Cert.KernelSmallIdeal.nD Cert.KernelSmallIdeal.τ).loc Cert.KernelSmallIdeal.main_v0_2)) (v3 : (c : Dev Cert.KernelSmallIdeal.nD) → Buf (Elt Ideal) ((c.tc : Thread Cert.KernelSmallIdeal.nD Cert.KernelSmallIdeal.τ).loc Cert.KernelSmallIdeal.main_v0_3)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v0_0) = v0 c
          ∧ r.2.mem ((c.tc : Thread Cert.KernelSmallIdeal.nD Cert.KernelSmallIdeal.τ).loc Cert.KernelSmallIdeal.main_v0_1) = v1 c
          ∧ r.2.mem ((c.tc : Thread Cert.KernelSmallIdeal.nD Cert.KernelSmallIdeal.τ).loc Cert.KernelSmallIdeal.main_v0_2) = v2 c
          ∧ r.2.mem ((c.tc : Thread Cert.KernelSmallIdeal.nD Cert.KernelSmallIdeal.τ).loc Cert.KernelSmallIdeal.main_v0_3) = v3 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
          ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
          ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v0) = v0 c
          ∧ r.2.mem ((c.tc : Thread Cert.ReferenceSmallIdeal.nD Cert.ReferenceSmallIdeal.τ).loc Cert.ReferenceSmallIdeal.main_v24) = v1 c
          ∧ r.2.mem ((c.tc : Thread Cert.ReferenceSmallIdeal.nD Cert.ReferenceSmallIdeal.τ).loc Cert.ReferenceSmallIdeal.main_v5) = v2 c
          ∧ r.2.mem ((c.tc : Thread Cert.ReferenceSmallIdeal.nD Cert.ReferenceSmallIdeal.τ).loc Cert.ReferenceSmallIdeal.main_v11) = v3 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1)
          ∧ r.2.mem ((c.tc : Thread Cert.ReferenceSmallIdeal.nD Cert.ReferenceSmallIdeal.τ).loc Cert.ReferenceSmallIdeal.main_arg2) = m' ((c.tc : Thread Cert.ReferenceSmallIdeal.nD Cert.ReferenceSmallIdeal.τ).loc Cert.ReferenceSmallIdeal.main_arg2)
          ∧ r.2.mem ((c.tc : Thread Cert.ReferenceSmallIdeal.nD Cert.ReferenceSmallIdeal.τ).loc Cert.ReferenceSmallIdeal.main_arg3) = m' ((c.tc : Thread Cert.ReferenceSmallIdeal.nD Cert.ReferenceSmallIdeal.τ).loc Cert.ReferenceSmallIdeal.main_arg3))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hKernelDh : Cert.KernelDh.Facts) (hKernelDhIdeal : Cert.KernelDhIdeal.Facts) (hReferenceDhIdeal : Cert.ReferenceDhIdeal.Facts) (hKernelProj : Cert.KernelProj.Facts) (hKernelProjIdeal : Cert.KernelProjIdeal.Facts) (hReferenceProjIdeal : Cert.ReferenceProjIdeal.Facts) (hKernelWout : Cert.KernelWout.Facts) (hKernelWoutIdeal : Cert.KernelWoutIdeal.Facts) (hReferenceWoutIdeal : Cert.ReferenceWoutIdeal.Facts) (hKernelBdy : Cert.KernelBdy.Facts) (hKernelBdyIdeal : Cert.KernelBdyIdeal.Facts) (hReferenceBdyIdeal : Cert.ReferenceBdyIdeal.Facts) (hKernelBdw : Cert.KernelBdw.Facts) (hKernelBdwIdeal : Cert.KernelBdwIdeal.Facts) (hReferenceBdwIdeal : Cert.ReferenceBdwIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelGate : Cert.KernelGate.Facts) (hKernelGateIdeal : Cert.KernelGateIdeal.Facts) (hReferenceGateIdeal : Cert.ReferenceGateIdeal.Facts) (hKernelMod : Cert.KernelMod.Facts) (hKernelModIdeal : Cert.KernelModIdeal.Facts) (hReferenceModIdeal : Cert.ReferenceModIdeal.Facts) (hKernelNorm : Cert.KernelNorm.Facts) (hKernelNormIdeal : Cert.KernelNormIdeal.Facts) (hReferenceNormIdeal : Cert.ReferenceNormIdeal.Facts) (hKernelLoss : Cert.KernelLoss.Facts) (hKernelLossIdeal : Cert.KernelLossIdeal.Facts) (hReferenceLossIdeal : Cert.ReferenceLossIdeal.Facts) (hKernelAda : Cert.KernelAda.Facts) (hKernelAdaIdeal : Cert.KernelAdaIdeal.Facts) (hReferenceAdaIdeal : Cert.ReferenceAdaIdeal.Facts) (hKernelAdaw : Cert.KernelAdaw.Facts) (hKernelAdawIdeal : Cert.KernelAdawIdeal.Facts) (hReferenceAdawIdeal : Cert.ReferenceAdawIdeal.Facts) (hKernelFac : Cert.KernelFac.Facts) (hKernelFacIdeal : Cert.KernelFacIdeal.Facts) (hReferenceFacIdeal : Cert.ReferenceFacIdeal.Facts) (hKernelPost : Cert.KernelPost.Facts) (hKernelPostIdeal : Cert.KernelPostIdeal.Facts) (hReferencePostIdeal : Cert.ReferencePostIdeal.Facts) (hKernelSmall : Cert.KernelSmall.Facts) (hKernelSmallIdeal : Cert.KernelSmallIdeal.Facts) (hReferenceSmallIdeal : Cert.ReferenceSmallIdeal.Facts) (hPre_finite : Cert.Pre_finite.Facts) (hPre_finite_norm : Cert.Pre_finite_norm.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelBdy (hKernelBdy := hKernelBdy)
    ∧ quiescent_KernelBdyIdeal (hKernelBdyIdeal := hKernelBdyIdeal)
    ∧ quiescent_ReferenceBdyIdeal (hReferenceBdyIdeal := hReferenceBdyIdeal)
    ∧ quiescent_KernelBdw (hKernelBdw := hKernelBdw)
    ∧ quiescent_KernelBdwIdeal (hKernelBdwIdeal := hKernelBdwIdeal)
    ∧ quiescent_ReferenceBdwIdeal (hReferenceBdwIdeal := hReferenceBdwIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelNorm (hKernelNorm := hKernelNorm)
    ∧ quiescent_KernelNormIdeal (hKernelNormIdeal := hKernelNormIdeal)
    ∧ quiescent_KernelNormIdeal_pre_finite_norm (hKernelNormIdeal := hKernelNormIdeal) (hPre_finite_norm := hPre_finite_norm)
    ∧ quiescent_ReferenceNormIdeal (hReferenceNormIdeal := hReferenceNormIdeal)
    ∧ quiescent_ReferenceNormIdeal_pre_finite_norm (hReferenceNormIdeal := hReferenceNormIdeal) (hPre_finite_norm := hPre_finite_norm)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelAdaw (hKernelAdaw := hKernelAdaw)
    ∧ quiescent_KernelAdawIdeal (hKernelAdawIdeal := hKernelAdawIdeal)
    ∧ quiescent_ReferenceAdawIdeal (hReferenceAdawIdeal := hReferenceAdawIdeal)
    ∧ quiescent_KernelFac (hKernelFac := hKernelFac)
    ∧ quiescent_KernelFacIdeal (hKernelFacIdeal := hKernelFacIdeal)
    ∧ quiescent_ReferenceFacIdeal (hReferenceFacIdeal := hReferenceFacIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelSmall (hKernelSmall := hKernelSmall)
    ∧ quiescent_KernelSmallIdeal (hKernelSmallIdeal := hKernelSmallIdeal)
    ∧ quiescent_ReferenceSmallIdeal (hReferenceSmallIdeal := hReferenceSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
    ∧ preserves_KernelDh_KernelDhIdeal
    ∧ algebraic_KernelDhIdeal_ReferenceDhIdeal (hKernelDhIdeal := hKernelDhIdeal) (hReferenceDhIdeal := hReferenceDhIdeal)
    ∧ preserves_KernelProj_KernelProjIdeal
    ∧ algebraic_KernelProjIdeal_ReferenceProjIdeal (hKernelProjIdeal := hKernelProjIdeal) (hReferenceProjIdeal := hReferenceProjIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelBdy_KernelBdyIdeal
    ∧ algebraic_KernelBdyIdeal_ReferenceBdyIdeal (hKernelBdyIdeal := hKernelBdyIdeal) (hReferenceBdyIdeal := hReferenceBdyIdeal)
    ∧ preserves_KernelBdw_KernelBdwIdeal
    ∧ algebraic_KernelBdwIdeal_ReferenceBdwIdeal (hKernelBdwIdeal := hKernelBdwIdeal) (hReferenceBdwIdeal := hReferenceBdwIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelGate_KernelGateIdeal
    ∧ algebraic_KernelGateIdeal_ReferenceGateIdeal (hKernelGateIdeal := hKernelGateIdeal) (hReferenceGateIdeal := hReferenceGateIdeal)
    ∧ preserves_KernelMod_KernelModIdeal
    ∧ algebraic_KernelModIdeal_ReferenceModIdeal (hKernelModIdeal := hKernelModIdeal) (hReferenceModIdeal := hReferenceModIdeal)
    ∧ preserves_KernelNorm_KernelNormIdeal
    ∧ algebraic_KernelNormIdeal_ReferenceNormIdeal_pre_finite_norm (hKernelNormIdeal := hKernelNormIdeal) (hReferenceNormIdeal := hReferenceNormIdeal) (hPre_finite_norm := hPre_finite_norm)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelAdaw_KernelAdawIdeal
    ∧ algebraic_KernelAdawIdeal_ReferenceAdawIdeal (hKernelAdawIdeal := hKernelAdawIdeal) (hReferenceAdawIdeal := hReferenceAdawIdeal)
    ∧ preserves_KernelFac_KernelFacIdeal
    ∧ algebraic_KernelFacIdeal_ReferenceFacIdeal (hKernelFacIdeal := hKernelFacIdeal) (hReferenceFacIdeal := hReferenceFacIdeal)
    ∧ preserves_KernelPost_KernelPostIdeal
    ∧ algebraic_KernelPostIdeal_ReferencePostIdeal (hKernelPostIdeal := hKernelPostIdeal) (hReferencePostIdeal := hReferencePostIdeal)
    ∧ preserves_KernelSmall_KernelSmallIdeal
    ∧ algebraic_KernelSmallIdeal_ReferenceSmallIdeal (hKernelSmallIdeal := hKernelSmallIdeal) (hReferenceSmallIdeal := hReferenceSmallIdeal)
-- ==== Pre_finite.lean ====
abbrev S8192x1024 : Shape := ⟨2, ![8192, 1024]⟩
abbrev S8192x13824 : Shape := ⟨2, ![8192, 13824]⟩
abbrev S16 : Shape := ⟨1, ![16]⟩
abbrev S_ : Shape := ⟨0, ![]⟩
abbrev S8192x2560 : Shape := ⟨2, ![8192, 2560]⟩

class Facts : Prop where
  bitsLt_bf16_f32 : FTy.bits .bf16 < FTy.bits .f32
  bcast_S_S8192x1024 : S_.BroadcastsInDim S8192x1024 (![] : Fin 0 → Fin S8192x1024.rank)
  slices_S8192x13824_S8192x2560_0_2048 : S8192x13824.Slices ![0, 2048] S8192x2560
  bcast_S_S8192x2560 : S_.BroadcastsInDim S8192x2560 (![] : Fin 0 → Fin S8192x2560.rank)
  bcast_S_S16 : S_.BroadcastsInDim S16 (![] : Fin 0 → Fin S16.rank)

variable [Facts]

def fn {F : FTy → Type} [FloatOps F] (main_arg0 : FVec F S8192x1024 .bf16) (main_arg1 : FVec F S8192x13824 .bf16) (main_arg2 : FVec F S16 .f32) : IVec S8192x1024 1 × IVec S8192x2560 1 × IVec S16 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x2560 .bf16 := (extractStridedSlice S8192x2560 ![0, 2048] · slices_S8192x13824_S8192x2560_0_2048) main_arg1
  let main_v5 : FVec F S8192x2560 .f32 := (extf .f32 · bitsLt_bf16_f32) main_v4
  let main_v6 : FVec F S8192x2560 .f32 := Host.absf main_v5
  let main_cst_0 : FVec F S_ .f32 := constant S_ .f32 0x7F800000#32
  let main_v7 : FVec F S8192x2560 .f32 := broadcastInDim S8192x2560 ![] bcast_S_S8192x2560 main_cst_0
  let main_v8 : IVec S8192x2560 1 := cmpf .olt main_v6 main_v7
  let main_v9 : FVec F S16 .f32 := Host.absf main_arg2
  let main_cst_1 : FVec F S_ .f32 := constant S_ .f32 0x7F800000#32
  let main_v10 : FVec F S16 .f32 := broadcastInDim S16 ![] bcast_S_S16 main_cst_1
  let main_v11 : IVec S16 1 := cmpf .olt main_v9 main_v10
  (main_v3, main_v8, main_v11)
-- ==== Pre_finite_loss.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S1x2048 .f32) : IVec S8192x2048 1 × IVec S8192x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite_norm.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S8192x2048 .f32) (main_arg3 : FVec F S1x2048 .f32) (main_arg4 : FVec F S1x2048 .f32) : IVec S8192x2048 1 × IVec S8192x2048 1 × IVec S8192x2048 1 × IVec S1x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Kernel.lean ====
abbrev S8192x1024 : Shape := ⟨2, ![8192, 1024]⟩
abbrev S8192x13824 : Shape := ⟨2, ![8192, 13824]⟩
abbrev S16 : Shape := ⟨1, ![16]⟩
abbrev S8192x256 : Shape := ⟨2, ![8192, 256]⟩
abbrev S8192x16x64 : Shape := ⟨3, ![8192, 16, 64]⟩
abbrev S8192x4x64 : Shape := ⟨3, ![8192, 4, 64]⟩
abbrev S128x64x4x4x64 : Shape := ⟨5, ![128, 64, 4, 4, 64]⟩
abbrev S_ : Shape := ⟨0, ![]⟩
abbrev S128x4x64 : Shape := ⟨3, ![128, 4, 64]⟩
abbrev S8320x4x64 : Shape := ⟨3, ![8320, 4, 64]⟩
abbrev S130x64x4x64 : Shape := ⟨4, ![130, 64, 4, 64]⟩
abbrev S128x64x4x64 : Shape := ⟨4, ![128, 64, 4, 64]⟩
abbrev S128x192x4x64 : Shape := ⟨4, ![128, 192, 4, 64]⟩
abbrev S128x4x192x64x4 : Shape := ⟨5, ![128, 4, 192, 64, 4]⟩
abbrev S128x4x4x64x192 : Shape := ⟨5, ![128, 4, 4, 64, 192]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x1x1x1x192 : Shape := ⟨5, ![128, 1, 1, 1, 192]⟩
abbrev S1x4x4x1x1 : Shape := ⟨5, ![1, 4, 4, 1, 1]⟩
abbrev S128x4x4x64 : Shape := ⟨4, ![128, 4, 4, 64]⟩
abbrev S128x4x4x64x1 : Shape := ⟨5, ![128, 4, 4, 64, 1]⟩
abbrev S128x4x64x4x64 : Shape := ⟨5, ![128, 4, 64, 4, 64]⟩
abbrev S16x1 : Shape := ⟨2, ![16, 1]⟩
abbrev S16x128 : Shape := ⟨2, ![16, 128]⟩
abbrev S8320x256 : Shape := ⟨2, ![8320, 256]⟩
abbrev S256x1024 : Shape := ⟨2, ![256, 1024]⟩
abbrev S256x256 : Shape := ⟨2, ![256, 256]⟩
abbrev S128x256 : Shape := ⟨2, ![128, 256]⟩
abbrev S384x256 : Shape := ⟨2, ![384, 256]⟩
abbrev S256x384 : Shape := ⟨2, ![256, 384]⟩
abbrev S384x64 : Shape := ⟨2, ![384, 64]⟩
abbrev S256x64 : Shape := ⟨2, ![256, 64]⟩
abbrev S1x1 : Shape := ⟨2, ![1, 1]⟩
abbrev S256 : Shape := ⟨1, ![256]⟩
abbrev S256x1 : Shape := ⟨2, ![256, 1]⟩
abbrev S1 : Shape := ⟨1, ![1]⟩
abbrev S1x128 : Shape := ⟨2, ![1, 128]⟩

abbrev nBuf : Space → Nat
  | .hbm => 102
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x13824, .bf16⟩
  | .hbm, ⟨2, _⟩ => ⟨S16, .f32⟩
  | .hbm, ⟨3, _⟩ => ⟨S8192x1024, .bf16⟩
  | .hbm, ⟨4, _⟩ => ⟨S8192x1024, .f32⟩
  | .hbm, ⟨5, _⟩ => ⟨S8192x256, .bf16⟩
  | .hbm, ⟨6, _⟩ => ⟨S8192x256, .f32⟩
  | .hbm, ⟨7, _⟩ => ⟨S8192x256, .bf16⟩
  | .hbm, ⟨8, _⟩ => ⟨S8192x256, .f32⟩
  | .hbm, ⟨9, _⟩ => ⟨S8192x1024, .bf16⟩
  | .hbm, ⟨10, _⟩ => ⟨S8192x1024, .f32⟩
  | .hbm, ⟨11, _⟩ => ⟨S8192x16x64, .f32⟩
  | .hbm, ⟨12, _⟩ => ⟨S8192x4x64, .f32⟩
  | .hbm, ⟨13, _⟩ => ⟨S8192x4x64, .f32⟩
  | .hbm, ⟨14, _⟩ => ⟨S128x64x4x4x64, .f32⟩
  | .hbm, ⟨15, _⟩ => ⟨S_, .f32⟩
  | .hbm, ⟨16, _⟩ => ⟨S128x4x64, .f32⟩
  | .hbm, ⟨17, _⟩ => ⟨S8320x4x64, .f32⟩
  | .hbm, ⟨18, _⟩ => ⟨S130x64x4x64, .f32⟩
  | .hbm, ⟨19, _⟩ => ⟨S128x64x4x64, .f32⟩
  | .hbm, ⟨20, _⟩ => ⟨S128x64x4x64, .f32⟩
  | .hbm, ⟨21, _⟩ => ⟨S128x64x4x64, .f32⟩
  | .hbm, ⟨22, _⟩ => ⟨S128x192x4x64, .f32⟩
  | .hbm, ⟨23, _⟩ => ⟨S_, .f32⟩
  | .hbm, ⟨24, _⟩ => ⟨S128x4x64, .f32⟩
  | .hbm, ⟨25, _⟩ => ⟨S8320x4x64, .f32⟩
  | .hbm, ⟨26, _⟩ => ⟨S130x64x4x64, .f32⟩
  | .hbm, ⟨27, _⟩ => ⟨S128x64x4x64, .f32⟩
  | .hbm, ⟨28, _⟩ => ⟨S128x64x4x64, .f32⟩
  | .hbm, ⟨29, _⟩ => ⟨S128x64x4x64, .f32⟩
  | .hbm, ⟨30, _⟩ => ⟨S128x192x4x64, .f32⟩
  | .hbm, ⟨31, _⟩ => ⟨S128x4x192x64x4, .f32⟩
  | .hbm, ⟨32, _⟩ => ⟨S128x4x4x64x192, .f32⟩
  | .hbm, ⟨33, _⟩ => ⟨S_, .f32⟩
  | .hbm, ⟨34, _⟩ => ⟨S128x4x4x64x192, .f32⟩
  | .hbm, ⟨35, _⟩ => ⟨S128x4x4x64x192, .f32⟩
  | .hbm, ⟨36, _⟩ => ⟨S128, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S192, .i32⟩
  | .hbm, ⟨42, _⟩ => ⟨S1x192, .i32⟩
  | .hbm, ⟨43, _⟩ => ⟨S_, .i32⟩
  | .hbm, ⟨44, _⟩ => ⟨S_, .i32⟩
  | .hbm, ⟨45, _⟩ => ⟨S1x192, .i32⟩
  | .hbm, ⟨46, _⟩ => ⟨S1x192, .i32⟩
  | .hbm, ⟨47, _⟩ => ⟨S1x192, .i32⟩
  | .hbm, ⟨48, _⟩ => ⟨S_, .i32⟩
  | .hbm, ⟨49, _⟩ => ⟨S1x192, .i32⟩
  | .hbm, ⟨50, _⟩ => ⟨S1x192, .i1⟩
  | .hbm, ⟨51, _⟩ => ⟨S1x192, .i32⟩
  | .hbm, ⟨52, _⟩ => ⟨S1x192, .i32⟩
  | .hbm, ⟨53, _⟩ => ⟨S_, .i32⟩
  | .hbm, ⟨54, _⟩ => ⟨S1x192, .i32⟩
  | .hbm, ⟨55, _⟩ => ⟨S1x192, .i1⟩
  | .hbm, ⟨56, _⟩ => ⟨S1x192, .i1⟩
  | .hbm, ⟨57, _⟩ => ⟨S_, .i32⟩
  | .hbm, ⟨58, _⟩ => ⟨S1x192, .i32⟩
  | .hbm, ⟨59, _⟩ => ⟨S1x192, .i32⟩
  | .hbm, ⟨60, _⟩ => ⟨S1x192, .i32⟩
  | .hbm, ⟨61, _⟩ => ⟨S128x192, .i32⟩
  | .hbm, ⟨62, _⟩ => ⟨S128x192, .i32⟩
  | .hbm, ⟨63, _⟩ => ⟨S128x192, .i32⟩
  | .hbm, ⟨64, _⟩ => ⟨S_, .i32⟩
  | .hbm, ⟨65, _⟩ => ⟨S128x192, .i32⟩
  | .hbm, ⟨66, _⟩ => ⟨S128x192, .i1⟩
  | .hbm, ⟨67, _⟩ => ⟨S128x1x1x1x192, .i1⟩
  | .hbm, ⟨68, _⟩ => ⟨S_, .f32⟩
  | .hbm, ⟨69, _⟩ => ⟨S_, .f32⟩
  | .hbm, ⟨70, _⟩ => ⟨S128x4x4x64x192, .i1⟩
  | .hbm, ⟨71, _⟩ => ⟨S128x4x4x64x192, .f32⟩
  | .hbm, ⟨72, _⟩ => ⟨S128x4x4x64x192, .f32⟩
  | .hbm, ⟨73, _⟩ => ⟨S1x4x4x1x1, .f32⟩
  | .hbm, ⟨74, _⟩ => ⟨S_, .f32⟩
  | .hbm, ⟨75, _⟩ => ⟨S128x4x4x64, .f32⟩
  | .hbm, ⟨76, _⟩ => ⟨S128x4x4x64x1, .f32⟩
  | .hbm, ⟨77, _⟩ => ⟨S128x4x4x64x1, .f32⟩
  | .hbm, ⟨78, _⟩ => ⟨S128x4x4x64x1, .f32⟩
  | .hbm, ⟨79, _⟩ => ⟨S128x4x4x64x192, .f32⟩
  | .hbm, ⟨80, _⟩ => ⟨S128x4x4x64x192, .f32⟩
  | .hbm, ⟨81, _⟩ => ⟨S128x4x4x64x192, .f32⟩
  | .hbm, ⟨82, _⟩ => ⟨S_, .f32⟩
  | .hbm, ⟨83, _⟩ => ⟨S128x4x4x64, .f32⟩
  | .hbm, ⟨84, _⟩ => ⟨S128x4x4x64x1, .f32⟩
  | .hbm, ⟨85, _⟩ => ⟨S128x4x4x64x1, .f32⟩
  | .hbm, ⟨86, _⟩ => ⟨S128x4x4x64x1, .f32⟩
  | .hbm, ⟨87, _⟩ => ⟨S128x4x4x64x1, .f32⟩
  | .hbm, ⟨88, _⟩ => ⟨S128x4x4x64x1, .f32⟩
  | .hbm, ⟨89, _⟩ => ⟨S128x4x4x64x192, .f32⟩
  | .hbm, ⟨90, _⟩ => ⟨S128x4x4x64x192, .f32⟩
  | .hbm, ⟨91, _⟩ => ⟨S128x4x64x4x64, .f32⟩
  | .hbm, ⟨92, _⟩ => ⟨S128x64x4x4x64, .f32⟩
  | .hbm, ⟨93, _⟩ => ⟨S8192x1024, .f32⟩
  | .hbm, ⟨94, _⟩ => ⟨S8192x1024, .bf16⟩
  | .hbm, ⟨95, _⟩ => ⟨S16x1, .f32⟩
  | .hbm, ⟨96, _⟩ => ⟨S16x128, .f32⟩
  | .hbm, ⟨97, _⟩ => ⟨S8192x1024, .bf16⟩
  | .hbm, ⟨98, _⟩ => ⟨S8192x1024, .bf16⟩
  | .hbm, ⟨99, _⟩ => ⟨S8320x256, .f32⟩
  | .hbm, ⟨100, _⟩ => ⟨S8320x256, .f32⟩
  | .hbm, ⟨101, _⟩ => ⟨S16x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x256, .bf16⟩
  | .local _ .vmem, ⟨9, _⟩ => ⟨S256x256, .bf16⟩
  | .local _ .vmem, ⟨10, _⟩ => ⟨S128x256, .bf16⟩
  | .local _ .vmem, ⟨11, _⟩ => ⟨S128x256, .bf16⟩
  | .local _ .vmem, ⟨12, _⟩ => ⟨S256x256, .bf16⟩
  | .local _ .vmem, ⟨13, _⟩ => ⟨S256x256, .bf16⟩
  | .local _ .vmem, ⟨14, _⟩ => ⟨S128x256, .bf16⟩
  | .local _ .vmem, ⟨15, _⟩ => ⟨S128x256, .bf16⟩
  | .local _ .vmem, ⟨16, _⟩ => ⟨S16x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S16x128, .f32⟩
  | .local _ .vmem, ⟨22, _⟩ => ⟨S8320x256, .f32⟩
  | .local _ .vmem, ⟨23, _⟩ => ⟨S8320x256, .f32⟩
  | .local _ .vmem, ⟨24, _⟩ => ⟨S384x256, .bf16⟩
  | .local _ .vmem, ⟨25, _⟩ => ⟨S384x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v43 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66_0 : Ref sig .tc := ⟨.hbm, 97, rfl⟩
abbrev main_v66_1 : Ref sig .tc := ⟨.hbm, 98, rfl⟩
abbrev main_v66_2 : Ref sig .tc := ⟨.hbm, 99, rfl⟩
abbrev main_v66_3 : Ref sig .tc := ⟨.hbm, 100, rfl⟩
abbrev main_v66_4 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_mult2 (i : grid0.Coords) : BitVec 32 :=
  let arg0 : BitVec 32 := BitVec.ofNat 32 (i 0).val
  let c256_i32 : BitVec 32 := 256#32
  let v0 : BitVec 32 := Scalar.muli arg0 c256_i32
  v0
def k0_mult3 (i : grid0.Coords) : BitVec 32 :=
  let arg0 : BitVec 32 := BitVec.ofNat 32 (i 0).val
  let c256_i32 : BitVec 32 := 256#32
  let v0 : BitVec 32 := Scalar.muli arg0 c256_i32
  v0
def k0_mult4 (i : grid0.Coords) : BitVec 32 :=
  let arg0 : BitVec 32 := BitVec.ofNat 32 (i 0).val
  let c256_i32 : BitVec 32 := 256#32
  let v0 : BitVec 32 := Scalar.muli arg0 c256_i32
  let c128_i32 : BitVec 32 := 128#32
  let v1 : BitVec 32 := Scalar.subi v0 c128_i32
  let c0_i32 : BitVec 32 := 0#32
  let v2 : BitVec 32 := Scalar.maxsi v1 c0_i32
  v2
def k0_mult5 (i : grid0.Coords) : BitVec 32 :=
  let arg0 : BitVec 32 := BitVec.ofNat 32 (i 0).val
  let c256_i32 : BitVec 32 := 256#32
  let v0 : BitVec 32 := Scalar.muli arg0 c256_i32
  v0
def k0_mult6 (i : grid0.Coords) : BitVec 32 :=
  let arg0 : BitVec 32 := BitVec.ofNat 32 (i 0).val
  let c256_i32 : BitVec 32 := 256#32
  let v0 : BitVec 32 := Scalar.muli arg0 c256_i32
  let c128_i32 : BitVec 32 := 128#32
  let v1 : BitVec 32 := Scalar.subi v0 c128_i32
  let c0_i32 : BitVec 32 := 0#32
  let v2 : BitVec 32 := Scalar.maxsi v1 c0_i32
  v2
def k0_mult7 (i : grid0.Coords) : BitVec 32 :=
  let arg0 : BitVec 32 := BitVec.ofNat 32 (i 0).val
  let c256_i32 : BitVec 32 := 256#32
  let v25 : BitVec 32 := Scalar.muli arg0 c256_i32
  v25
def k0_off1 (i : grid0.Coords) : Fin 2 → Nat :=
  let arg0 : BitVec 32 := BitVec.ofNat 32 (i 0).val
  let c256_i32 : BitVec 32 := 256#32
  let v25 : BitVec 32 := Scalar.muli arg0 c256_i32
  let v26 : BitVec 32 := v25
  let v1204 : Index := Scalar.indexCast v26
  let c0_542 : Index := 0#32
  ![v1204.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c2048_i32 : BitVec 32 := 2048#32
  let c0_i32 : BitVec 32 := 0#32
  ![v1.toNat, c2048_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c3584_i32 : BitVec 32 := 3584#32
  let c0_i32 : BitVec 32 := 0#32
  ![v1.toNat, c3584_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c3072_i32 : BitVec 32 := 3072#32
  let c0_i32 : BitVec 32 := 0#32
  ![v1.toNat, c3072_i32.toNat]

def cc0_transform_5 (i : grid0.Coords) : Fin 2 → Nat :=
  let arg0 : BitVec 32 := BitVec.ofNat 32 (i 0).val
  let c256_i32 : BitVec 32 := 256#32
  let v0 : BitVec 32 := Scalar.muli arg0 c256_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c3072_i32 : BitVec 32 := 3072#32
  let c0_i32_0 : BitVec 32 := 0#32
  ![v3.toNat, c3072_i32.toNat]

def cc0_transform_6 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c3328_i32 : BitVec 32 := 3328#32
  let c0_i32 : BitVec 32 := 0#32
  ![v1.toNat, c3328_i32.toNat]

def cc0_transform_7 (i : grid0.Coords) : Fin 2 → Nat :=
  let arg0 : BitVec 32 := BitVec.ofNat 32 (i 0).val
  let c256_i32 : BitVec 32 := 256#32
  let v0 : BitVec 32 := Scalar.muli arg0 c256_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c3328_i32 : BitVec 32 := 3328#32
  let c0_i32_0 : BitVec 32 := 0#32
  ![v3.toNat, c3328_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S8192x13824 : Shape := ⟨2, ![8192, 13824]⟩
abbrev S16 : Shape := ⟨1, ![16]⟩
abbrev S8192x256 : Shape := ⟨2, ![8192, 256]⟩
abbrev S8192x16x64 : Shape := ⟨3, ![8192, 16, 64]⟩
abbrev S8192x4x64 : Shape := ⟨3, ![8192, 4, 64]⟩
abbrev S128x64x4x4x64 : Shape := ⟨5, ![128, 64, 4, 4, 64]⟩
abbrev S_ : Shape := ⟨0, ![]⟩
abbrev S128x4x64 : Shape := ⟨3, ![128, 4, 64]⟩
abbrev S8320x4x64 : Shape := ⟨3, ![8320, 4, 64]⟩
abbrev S130x64x4x64 : Shape := ⟨4, ![130, 64, 4, 64]⟩
abbrev S128x64x4x64 : Shape := ⟨4, ![128, 64, 4, 64]⟩
abbrev S128x192x4x64 : Shape := ⟨4, ![128, 192, 4, 64]⟩
abbrev S128x4x192x64x4 : Shape := ⟨5, ![128, 4, 192, 64, 4]⟩
abbrev S128x4x4x64x192 : Shape := ⟨5, ![128, 4, 4, 64, 192]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x1x1x1x192 : Shape := ⟨5, ![128, 1, 1, 1, 192]⟩
abbrev S1x4x4x1x1 : Shape := ⟨5, ![1, 4, 4, 1, 1]⟩
abbrev S128x4x4x64 : Shape := ⟨4, ![128, 4, 4, 64]⟩
abbrev S128x4x4x64x1 : Shape := ⟨5, ![128, 4, 4, 64, 1]⟩
abbrev S128x4x64x4x64 : Shape := ⟨5, ![128, 4, 64, 4, 64]⟩
abbrev S128x4x64x192 : Shape := ⟨4, ![128, 4, 64, 192]⟩
abbrev S4x4x1 : Shape := ⟨3, ![4, 4, 1]⟩
abbrev S128x4x192x64 : Shape := ⟨4, ![128, 4, 192, 64]⟩
abbrev S8320x256 : Shape := ⟨2, ![8320, 256]⟩
abbrev S16x1 : Shape := ⟨2, ![16, 1]⟩
abbrev S16x128 : Shape := ⟨2, ![16, 128]⟩

abbrev nBuf : Space → Nat
  | .hbm => 250
  | .vmem => 0
  | .smem => 0
  | _ => 0

abbrev hbmTy0_0 (i : Nat) : BufTy := match i % 128 with
  | 0 => ⟨S8192x1024, .bf16⟩
  | 1 => ⟨S8192x13824, .bf16⟩
  | 2 => ⟨S16, .f32⟩
  | 3 => ⟨S8192x1024, .bf16⟩
  | 4 => ⟨S8192x1024, .f32⟩
  | 5 => ⟨S8192x256, .bf16⟩
  | 6 => ⟨S8192x256, .f32⟩
  | 7 => ⟨S8192x256, .bf16⟩
  | 8 => ⟨S8192x256, .f32⟩
  | 9 => ⟨S8192x1024, .bf16⟩
  | 10 => ⟨S8192x1024, .f32⟩
  | 11 => ⟨S8192x16x64, .f32⟩
  | 12 => ⟨S8192x4x64, .f32⟩
  | 13 => ⟨S8192x4x64, .f32⟩
  | 14 => ⟨S128x64x4x4x64, .f32⟩
  | 15 => ⟨S_, .f32⟩
  | 16 => ⟨S128x4x64, .f32⟩
  | 17 => ⟨S8320x4x64, .f32⟩
  | 18 => ⟨S_, .f32⟩
  | 19 => ⟨S128x4x64, .f32⟩
  | 20 => ⟨S130x64x4x64, .f32⟩
  | 21 => ⟨S128x64x4x64, .f32⟩
  | 22 => ⟨S128x64x4x64, .f32⟩
  | 23 => ⟨S128x64x4x64, .f32⟩
  | 24 => ⟨S128x192x4x64, .f32⟩
  | 25 => ⟨S_, .f32⟩
  | 26 => ⟨S128x4x64, .f32⟩
  | 27 => ⟨S8320x4x64, .f32⟩
  | 28 => ⟨S_, .f32⟩
  | 29 => ⟨S128x4x64, .f32⟩
  | 30 => ⟨S130x64x4x64, .f32⟩
  | 31 => ⟨S128x64x4x64, .f32⟩
  | 32 => ⟨S128x64x4x64, .f32⟩
  | 33 => ⟨S128x64x4x64, .f32⟩
  | 34 => ⟨S128x192x4x64, .f32⟩
  | 35 => ⟨S128x4x192x64x4, .f32⟩
  | 36 => ⟨S128x4x4x64x192, .f32⟩
  | 37 => ⟨S_, .f32⟩
  | 38 => ⟨S128x4x4x64x192, .f32⟩
  | 39 => ⟨S128x4x4x64x192, .f32⟩
  | 40 => ⟨S128, .i32⟩
  | 41 => ⟨S128x1, .i32⟩
  | 42 => ⟨S_, .i32⟩
  | 43 => ⟨S128x1, .i32⟩
  | 44 => ⟨S128x1, .i32⟩
  | 45 => ⟨S192, .i32⟩
  | 46 => ⟨S1x192, .i32⟩
  | 47 => ⟨S_, .i32⟩
  | 48 => ⟨S_, .i32⟩
  | 49 => ⟨S1x192, .i32⟩
  | 50 => ⟨S1x192, .i32⟩
  | 51 => ⟨S1x192, .i32⟩
  | 52 => ⟨S_, .i32⟩
  | 53 => ⟨S1x192, .i32⟩
  | 54 => ⟨S1x192, .i1⟩
  | 55 => ⟨S1x192, .i32⟩
  | 56 => ⟨S1x192, .i32⟩
  | 57 => ⟨S_, .i32⟩
  | 58 => ⟨S1x192, .i32⟩
  | 59 => ⟨S1x192, .i1⟩
  | 60 => ⟨S1x192, .i1⟩
  | 61 => ⟨S_, .i32⟩
  | 62 => ⟨S1x192, .i32⟩
  | 63 => ⟨S1x192, .i32⟩
  | 64 => ⟨S1x192, .i32⟩
  | 65 => ⟨S128x192, .i32⟩
  | 66 => ⟨S128x192, .i32⟩
  | 67 => ⟨S128x192, .i32⟩
  | 68 => ⟨S_, .i32⟩
  | 69 => ⟨S128x192, .i32⟩
  | 70 => ⟨S128x192, .i1⟩
  | 71 => ⟨S128x1x1x1x192, .i1⟩
  | 72 => ⟨S_, .f32⟩
  | 73 => ⟨S_, .f32⟩
  | 74 => ⟨S128x4x4x64x192, .i1⟩
  | 75 => ⟨S128x4x4x64x192, .f32⟩
  | 76 => ⟨S128x4x4x64x192, .f32⟩
  | 77 => ⟨S_, .f32⟩
  | 78 => ⟨S128x4x4x64x192, .f32⟩
  | 79 => ⟨S1x4x4x1x1, .f32⟩
  | 80 => ⟨S_, .f32⟩
  | 81 => ⟨S128x4x4x64, .f32⟩
  | 82 => ⟨S128x4x4x64x1, .f32⟩
  | 83 => ⟨S128x4x4x64x192, .f32⟩
  | 84 => ⟨S128x4x4x64x192, .i1⟩
  | 85 => ⟨S128x4x4x64x192, .f32⟩
  | 86 => ⟨S_, .f32⟩
  | 87 => ⟨S128x4x4x64, .f32⟩
  | 88 => ⟨S128x4x4x64x1, .f32⟩
  | 89 => ⟨S128x4x4x64x1, .f32⟩
  | 90 => ⟨S128x4x4x64x1, .f32⟩
  | 91 => ⟨S128x4x4x64x1, .f32⟩
  | 92 => ⟨S128x4x4x64x1, .i1⟩
  | 93 => ⟨S128x4x4x64x1, .f32⟩
  | 94 => ⟨S128x4x4x64x1, .i1⟩
  | 95 => ⟨S_, .f32⟩
  | 96 => ⟨S128x4x4x64x1, .f32⟩
  | 97 => ⟨S_, .f32⟩
  | 98 => ⟨S128x4x4x64x1, .f32⟩
  | 99 => ⟨S_, .f32⟩
  | 100 => ⟨S128x4x4x64x1, .f32⟩
  | 101 => ⟨S128x4x4x64x1, .f32⟩
  | 102 => ⟨S128x4x4x64x1, .f32⟩
  | 103 => ⟨S128x4x4x64x1, .f32⟩
  | 104 => ⟨S128x4x4x64x1, .i1⟩
  | 105 => ⟨S128x4x4x64x1, .f32⟩
  | 106 => ⟨S128x4x4x64x1, .i1⟩
  | 107 => ⟨S_, .f32⟩
  | 108 => ⟨S128x4x4x64x1, .f32⟩
  | 109 => ⟨S_, .f32⟩
  | 110 => ⟨S128x4x4x64x1, .f32⟩
  | 111 => ⟨S_, .f32⟩
  | 112 => ⟨S128x4x4x64x1, .f32⟩
  | 113 => ⟨S128x4x4x64x1, .f32⟩
  | 114 => ⟨S128x4x4x64x1, .f32⟩
  | 115 => ⟨S128x4x4x64x192, .f32⟩
  | 116 => ⟨S128x4x4x64x192, .f32⟩
  | 117 => ⟨S128x4x4x64x192, .f32⟩
  | 118 => ⟨S_, .f32⟩
  | 119 => ⟨S128x4x4x64, .f32⟩
  | 120 => ⟨S128x4x4x64x1, .f32⟩
  | 121 => ⟨S128x4x4x64x1, .f32⟩
  | 122 => ⟨S128x4x4x64x1, .f32⟩
  | 123 => ⟨S128x4x4x64x1, .f32⟩
  | 124 => ⟨S128x4x4x64x1, .f32⟩
  | 125 => ⟨S128x4x4x64x192, .f32⟩
  | 126 => ⟨S128x4x4x64x192, .f32⟩
  | 127 => ⟨S128x4x4x64x1, .f32⟩
  | _ => ⟨S8192x1024, .bf16⟩

abbrev hbmTy0_1 (i : Nat) : BufTy := match i % 128 with
  | 0 => ⟨S_, .f32⟩
  | 1 => ⟨S128x4x4x64x1, .f32⟩
  | 2 => ⟨S128x4x4x64x1, .f32⟩
  | 3 => ⟨S128x4x64x4x64, .f32⟩
  | 4 => ⟨S128x64x4x4x64, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S128x64x4x4x64, .f32⟩
  | 28 => ⟨S128x4x64x4x64, .f32⟩
  | 29 => ⟨S128x4x4x64x192, .f32⟩
  | 30 => ⟨S128x4x64x192, .f32⟩
  | 31 => ⟨S128x192x4x64, .f32⟩
  | 32 => ⟨S128x4x4x64x192, .f32⟩
  | 33 => ⟨S128x4x4x64x192, .f32⟩
  | 34 => ⟨S128x4x4x64x192, .f32⟩
  | 35 => ⟨S_, .f32⟩
  | 36 => ⟨S128x4x4x64, .f32⟩
  | 37 => ⟨S128x4x4x64x1, .f32⟩
  | 38 => ⟨S128x4x4x64x1, .f32⟩
  | 39 => ⟨S128x4x4x64x192, .f32⟩
  | 40 => ⟨S128x4x4x64x192, .f32⟩
  | 41 => ⟨S128x4x4x64x1, .f32⟩
  | 42 => ⟨S_, .f32⟩
  | 43 => ⟨S4x4x1, .f32⟩
  | 44 => ⟨S1x4x4x1x1, .f32⟩
  | 45 => ⟨S128x4x4x64x1, .f32⟩
  | 46 => ⟨S_, .f32⟩
  | 47 => ⟨S128x4x4x64, .f32⟩
  | 48 => ⟨S128x4x4x64x192, .f32⟩
  | 49 => ⟨S128x4x4x64x192, .f32⟩
  | 50 => ⟨S128x4x4x64x192, .f32⟩
  | 51 => ⟨S128x4x4x64x192, .f32⟩
  | 52 => ⟨S_, .f32⟩
  | 53 => ⟨S128x4x4x64, .f32⟩
  | 54 => ⟨S128x4x4x64x1, .f32⟩
  | 55 => ⟨S128x4x4x64x1, .f32⟩
  | 56 => ⟨S128x4x4x64x1, .f32⟩
  | 57 => ⟨S_, .f32⟩
  | 58 => ⟨S4x4x1, .f32⟩
  | 59 => ⟨S1x4x4x1x1, .f32⟩
  | 60 => ⟨S1x4x4x1x1, .f32⟩
  | 61 => ⟨S128x4x4x64x1, .f32⟩
  | 62 => ⟨S_, .f32⟩
  | 63 => ⟨S128x4x4x64, .f32⟩
  | 64 => ⟨S128x4x4x64, .f32⟩
  | 65 => ⟨S128x4x4x64x192, .f32⟩
  | 66 => ⟨S128x4x4x64x192, .f32⟩
  | 67 => ⟨S128x4x4x64x192, .f32⟩
  | 68 => ⟨S16, .f32⟩
  | 69 => ⟨S_, .f32⟩
  | 70 => ⟨S128x4x4x64x192, .f32⟩
  | 71 => ⟨S128x4x4x64x192, .f32⟩
  | 72 => ⟨S_, .f32⟩
  | 73 => ⟨S128x4x4x64x192, .f32⟩
  | 74 => ⟨S128x4x4x64x192, .f32⟩
  | 75 => ⟨S128x4x192x64x4, .f32⟩
  | 76 => ⟨S128x4x64x4x64, .f32⟩
  | 77 => ⟨S128x64x4x4x64, .f32⟩
  | 78 => ⟨S128x4x192x64, .f32⟩
  | 79 => ⟨S128x192x4x64, .f32⟩
  | 80 => ⟨S128x64x4x64, .f32⟩
  | 81 => ⟨S128x64x4x64, .f32⟩
  | 82 => ⟨S128x64x4x64, .f32⟩
  | 83 => ⟨S_, .f32⟩
  | 84 => ⟨S130x64x4x64, .f32⟩
  | 85 => ⟨S_, .f32⟩
  | 86 => ⟨S130x64x4x64, .f32⟩
  | 87 => ⟨S130x64x4x64, .f32⟩
  | 88 => ⟨S_, .f32⟩
  | 89 => ⟨S130x64x4x64, .f32⟩
  | 90 => ⟨S130x64x4x64, .f32⟩
  | 91 => ⟨S8320x4x64, .f32⟩
  | 92 => ⟨S128x4x64, .f32⟩
  | 93 => ⟨S8192x4x64, .f32⟩
  | 94 => ⟨S128x64x4x64, .f32⟩
  | 95 => ⟨S128x64x4x64, .f32⟩
  | 96 => ⟨S128x64x4x64, .f32⟩
  | 97 => ⟨S_, .f32⟩
  | 98 => ⟨S130x64x4x64, .f32⟩
  | 99 => ⟨S_, .f32⟩
  | 100 => ⟨S130x64x4x64, .f32⟩
  | 101 => ⟨S130x64x4x64, .f32⟩
  | 102 => ⟨S_, .f32⟩
  | 103 => ⟨S130x64x4x64, .f32⟩
  | 104 => ⟨S130x64x4x64, .f32⟩
  | 105 => ⟨S8320x4x64, .f32⟩
  | 106 => ⟨S128x4x64, .f32⟩
  | 107 => ⟨S8192x4x64, .f32⟩
  | 108 => ⟨S8192x16x64, .f32⟩
  | 109 => ⟨S8192x256, .f32⟩
  | 110 => ⟨S8192x256, .f32⟩
  | 111 => ⟨S8192x1024, .f32⟩
  | 112 => ⟨S8192x1024, .bf16⟩
  | 113 => ⟨S8192x1024, .bf16⟩
  | 114 => ⟨S_, .i32⟩
  | 115 => ⟨S_, .f32⟩
  | 116 => ⟨S8320x256, .f32⟩
  | 117 => ⟨S_, .i32⟩
  | 118 => ⟨S_, .f32⟩
  | 119 => ⟨S8320x256, .f32⟩
  | 120 => ⟨S16x1, .f32⟩
  | 121 => ⟨S16x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_call1_v0 : Ref sig .tc := ⟨.hbm, 73, rfl⟩
abbrev main_v45_1 : Ref sig .tc := ⟨.hbm, 74, rfl⟩
abbrev main_call1_v2 : Ref sig .tc := ⟨.hbm, 75, rfl⟩
abbrev main_v45_0 : Ref sig .tc := ⟨.hbm, 76, rfl⟩
abbrev main_call1_cst : Ref sig .tc := ⟨.hbm, 77, rfl⟩
abbrev main_v45_2 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_12 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_cst_14 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_v91_2 : Ref sig .tc := ⟨.hbm, 141, rfl⟩
abbrev main_call2_cst_1 : Ref sig .tc := ⟨.hbm, 142, rfl⟩
abbrev main_call2_v6 : Ref sig .tc := ⟨.hbm, 143, rfl⟩
abbrev main_call2_v7 : Ref sig .tc := ⟨.hbm, 144, rfl⟩
abbrev main_v91_1 : Ref sig .tc := ⟨.hbm, 145, rfl⟩
abbrev main_v91_0 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_17 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_18 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_19 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_20 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_21 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_22 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_call4_cst : Ref sig .tc := ⟨.hbm, 197, rfl⟩
abbrev main_call4_v0 : Ref sig .tc := ⟨.hbm, 198, rfl⟩
abbrev main_v133 : Ref sig .tc := ⟨.hbm, 199, rfl⟩
abbrev main_cst_23 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_24 : Ref sig .tc := ⟨.hbm, 211, rfl⟩
abbrev main_v144 : Ref sig .tc := ⟨.hbm, 212, rfl⟩
abbrev main_cst_25 : Ref sig .tc := ⟨.hbm, 213, rfl⟩
abbrev main_v145 : Ref sig .tc := ⟨.hbm, 214, rfl⟩
abbrev main_v146 : Ref sig .tc := ⟨.hbm, 215, rfl⟩
abbrev main_cst_26 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_27 : Ref sig .tc := ⟨.hbm, 225, rfl⟩
abbrev main_v155 : Ref sig .tc := ⟨.hbm, 226, rfl⟩
abbrev main_cst_28 : Ref sig .tc := ⟨.hbm, 227, rfl⟩
abbrev main_v156 : Ref sig .tc := ⟨.hbm, 228, rfl⟩
abbrev main_v157 : Ref sig .tc := ⟨.hbm, 229, rfl⟩
abbrev main_cst_29 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_c_30 : Ref sig .tc := ⟨.hbm, 242, rfl⟩
abbrev main_call5_v0 : Ref sig .tc := ⟨.hbm, 243, rfl⟩
abbrev main_v169 : Ref sig .tc := ⟨.hbm, 244, rfl⟩
abbrev main_c_31 : Ref sig .tc := ⟨.hbm, 245, rfl⟩
abbrev main_call6_v0 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩

abbrev nD : Nat := 1
abbrev τ : Topo := Topo.v7x

variable {F : FTy → Type} [FloatOps F]
-- ==== KernelDw.lean ====
abbrev S8192x13824 : Shape := ⟨2, ![8192, 13824]⟩
abbrev S8192x2048 : Shape := ⟨2, ![8192, 2048]⟩
abbrev S1x1 : Shape := ⟨2, ![1, 1]⟩
abbrev S13824x2048 : Shape := ⟨2, ![13824, 2048]⟩
abbrev S1024x768 : Shape := ⟨2, ![1024, 768]⟩
abbrev S1024x2048 : Shape := ⟨2, ![1024, 2048]⟩
abbrev S768x2048 : Shape := ⟨2, ![768, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x13824, .bf16⟩
  | .hbm, ⟨1, _⟩ => ⟨S8192x2048, .bf16⟩
  | .hbm, ⟨2, _⟩ => ⟨S1x1, .f32⟩
  | .hbm, ⟨3, _⟩ => ⟨S13824x2048, .f32⟩
  | .local _ .vmem, ⟨0, _⟩ => ⟨S1x1, .f32⟩
  | .local _ .vmem, ⟨1, _⟩ => ⟨S1024x768, .bf16⟩
  | .local _ .vmem, ⟨2, _⟩ => ⟨S1024x768, .bf16⟩
  | .local _ .vmem, ⟨3, _⟩ => ⟨S1024x2048, .bf16⟩
  | .local _ .vmem, ⟨4, _⟩ => ⟨S1024x2048, .bf16⟩
  | .local _ .vmem, ⟨5, _⟩ => ⟨S768x2048, .f32⟩
  | .local _ .vmem, ⟨6, _⟩ => ⟨S768x2048, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![18, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDwIdeal.lean ====
abbrev S8192x13824 : Shape := ⟨2, ![8192, 13824]⟩
abbrev S8192x2048 : Shape := ⟨2, ![8192, 2048]⟩
abbrev S1x1 : Shape := ⟨2, ![1, 1]⟩
abbrev S_ : Shape := ⟨0, ![]⟩
abbrev S2048x13824 : Shape := ⟨2, ![2048, 13824]⟩
abbrev S13824x2048 : Shape := ⟨2, ![13824, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S8192x2048, .bf16⟩
  | .hbm, ⟨2, _⟩ => ⟨S1x1, .f32⟩
  | .hbm, ⟨3, _⟩ => ⟨S_, .f32⟩
  | .hbm, ⟨4, _⟩ => ⟨S2048x13824, .f32⟩
  | .hbm, ⟨5, _⟩ => ⟨S8192x2048, .f32⟩
  | .hbm, ⟨6, _⟩ => ⟨S8192x13824, .f32⟩
  | .hbm, ⟨7, _⟩ => ⟨S8192x13824, .f32⟩
  | .hbm, ⟨8, _⟩ => ⟨S13824x2048, .f32⟩
  | .hbm, ⟨9, _⟩ => ⟨S2048x13824, .f32⟩
  | .hbm, ⟨10, _⟩ => ⟨S13824x2048, .f32⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelDh.lean ====
abbrev S8192x13824 : Shape := ⟨2, ![8192, 13824]⟩
abbrev S13824x2048 : Shape := ⟨2, ![13824, 2048]⟩
abbrev S1x1 : Shape := ⟨2, ![1, 1]⟩
abbrev S8192x2048 : Shape := ⟨2, ![8192, 2048]⟩
abbrev S1024x1536 : Shape := ⟨2, ![1024, 1536]⟩
abbrev S1536x2048 : Shape := ⟨2, ![1536, 2048]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x13824, .bf16⟩
  | .hbm, ⟨1, _⟩ => ⟨S13824x2048, .bf16⟩
  | .hbm, ⟨2, _⟩ => ⟨S1x1, .f32⟩
  | .hbm, ⟨3, _⟩ => ⟨S8192x2048, .f32⟩
  | .local _ .vmem, ⟨0, _⟩ => ⟨S1x1, .f32⟩
  | .local _ .vmem, ⟨1, _⟩ => ⟨S1024x1536, .bf16⟩
  | .local _ .vmem, ⟨2, _⟩ => ⟨S1024x1536, .bf16⟩
  | .local _ .vmem, ⟨3, _⟩ => ⟨S1536x2048, .bf16⟩
  | .local _ .vmem, ⟨4, _⟩ => ⟨S1536x2048, .bf16⟩
  | .local _ .vmem, ⟨5, _⟩ => ⟨S1024x2048, .f32⟩
  | .local _ .vmem, ⟨6, _⟩ => ⟨S1024x2048, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhIdeal.lean ====
abbrev S8192x13824 : Shape := ⟨2, ![8192, 13824]⟩
abbrev S13824x2048 : Shape := ⟨2, ![13824, 2048]⟩
abbrev S1x1 : Shape := ⟨2, ![1, 1]⟩
abbrev S2048x13824 : Shape := ⟨2, ![2048, 13824]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S13824x2048, .bf16⟩
  | .hbm, ⟨2, _⟩ => ⟨S1x1, .f32⟩
  | .hbm, ⟨3, _⟩ => ⟨S13824x2048, .f32⟩
  | .hbm, ⟨4, _⟩ => ⟨S2048x13824, .f32⟩
  | .hbm, ⟨5, _⟩ => ⟨S_, .f32⟩
  | .hbm, ⟨6, _⟩ => ⟨S8192x2048, .f32⟩
  | .hbm, ⟨7, _⟩ => ⟨S8192x13824, .f32⟩
  | .hbm, ⟨8, _⟩ => ⟨S8192x13824, .f32⟩
  | .hbm, ⟨9, _⟩ => ⟨S8192x2048, .f32⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelProj.lean ====
abbrev S8192x2048 : Shape := ⟨2, ![8192, 2048]⟩
abbrev S13824x2048 : Shape := ⟨2, ![13824, 2048]⟩
abbrev S8192x13824 : Shape := ⟨2, ![8192, 13824]⟩
abbrev S512x2048 : Shape := ⟨2, ![512, 2048]⟩
abbrev S1536x2048 : Shape := ⟨2, ![1536, 2048]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S13824x2048, .bf16⟩
  | .hbm, ⟨2, _⟩ => ⟨S8192x13824, .bf16⟩
  | .local _ .vmem, ⟨0, _⟩ => ⟨S512x2048, .bf16⟩
  | .local _ .vmem, ⟨1, _⟩ => ⟨S512x2048, .bf16⟩
  | .local _ .vmem, ⟨2, _⟩ => ⟨S1536x2048, .bf16⟩
  | .local _ .vmem, ⟨3, _⟩ => ⟨S1536x2048, .bf16⟩
  | .local _ .vmem, ⟨4, _⟩ => ⟨S512x1536, .bf16⟩
  | .local _ .vmem, ⟨5, _⟩ => ⟨S512x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S8192x2048 : Shape := ⟨2, ![8192, 2048]⟩
abbrev S13824x2048 : Shape := ⟨2, ![13824, 2048]⟩
abbrev S2048x13824 : Shape := ⟨2, ![2048, 13824]⟩
abbrev S8192x13824 : Shape := ⟨2, ![8192, 13824]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S13824x2048, .bf16⟩
  | .hbm, ⟨2, _⟩ => ⟨S8192x2048, .f32⟩
  | .hbm, ⟨3, _⟩ => ⟨S13824x2048, .f32⟩
  | .hbm, ⟨4, _⟩ => ⟨S2048x13824, .f32⟩
  | .hbm, ⟨5, _⟩ => ⟨S8192x13824, .f32⟩
  | .hbm, ⟨6, _⟩ => ⟨S8192x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelWout.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWoutIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelBdy.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBdyIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelBdw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBdwIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMerge.lean ====
abbrev S8192x1024 : Shape := ⟨2, ![8192, 1024]⟩
abbrev S1024x2048 : Shape := ⟨2, ![1024, 2048]⟩
abbrev S8192x13824 : Shape := ⟨2, ![8192, 13824]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 11
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S8192x13824, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c7680_i32 : BitVec 32 := 7680#32
  let arg0 : BitVec 32 := BitVec.ofNat 32 (i 0).val
  let c1024_i32 : BitVec 32 := 1024#32
  let v1 : BitVec 32 := Scalar.muli arg0 c1024_i32
  let v2 : BitVec 32 := Scalar.addi c7680_i32 v1
  v2
def k0_mult2 (i : grid0.Coords) : BitVec 32 :=
  let c9728_i32 : BitVec 32 := 9728#32
  let arg0 : BitVec 32 := BitVec.ofNat 32 (i 0).val
  let c1024_i32 : BitVec 32 := 1024#32
  let v1 : BitVec 32 := Scalar.muli arg0 c1024_i32
  let v2 : BitVec 32 := Scalar.addi c9728_i32 v1
  v2
def k0_mult3 (i : grid0.Coords) : BitVec 32 :=
  let c11776_i32 : BitVec 32 := 11776#32
  let arg0 : BitVec 32 := BitVec.ofNat 32 (i 0).val
  let c1024_i32 : BitVec 32 := 1024#32
  let v1 : BitVec 32 := Scalar.muli arg0 c1024_i32
  let v2 : BitVec 32 := Scalar.addi c11776_i32 v1
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.muli arg0 c1024_i32
  let c7680_i32 : BitVec 32 := 7680#32
  let v2 : BitVec 32 := Scalar.addi c7680_i32 v1
  let v3 : BitVec 32 := v2
  let c0_i32 : BitVec 32 := 0#32
  ![v0.toNat, v3.toNat]

def cc0_transform_7 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.muli arg0 c1024_i32
  let c9728_i32 : BitVec 32 := 9728#32
  let v2 : BitVec 32 := Scalar.addi c9728_i32 v1
  let v3 : BitVec 32 := v2
  let c0_i32 : BitVec 32 := 0#32
  ![v0.toNat, v3.toNat]

def cc0_transform_8 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.muli arg0 c1024_i32
  let c11776_i32 : BitVec 32 := 11776#32
  let v2 : BitVec 32 := Scalar.addi c11776_i32 v1
  let v3 : BitVec 32 := v2
  let c0_i32 : BitVec 32 := 0#32
  ![v0.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMergeIdeal.lean ====
abbrev S8192x1024 : Shape := ⟨2, ![8192, 1024]⟩
abbrev S1024x2048 : Shape := ⟨2, ![1024, 2048]⟩
abbrev S8192x13824 : Shape := ⟨2, ![8192, 13824]⟩
abbrev S8192x6144 : Shape := ⟨2, ![8192, 6144]⟩
abbrev S8192x2048 : Shape := ⟨2, ![8192, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S8192x13824, .bf16⟩
  | .hbm, ⟨7, _⟩ => ⟨S8192x6144, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S8192x6144, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S_, .f32⟩
  | .hbm, ⟨24, _⟩ => ⟨S8192x6144, .f32⟩
  | .hbm, ⟨25, _⟩ => ⟨S8192x6144, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | .hbm, ⟨35, _⟩ => ⟨S8192x2048, .bf16⟩
  | .hbm, ⟨36, _⟩ => ⟨S8192x2048, .bf16⟩
  | .hbm, ⟨37, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S2048x1024 : Shape := ⟨2, ![2048, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelGate.lean ====
abbrev S8192x2048 : Shape := ⟨2, ![8192, 2048]⟩
abbrev S1x2048 : Shape := ⟨2, ![1, 2048]⟩
abbrev S2048x2048 : Shape := ⟨2, ![2048, 2048]⟩
abbrev S8192x13824 : Shape := ⟨2, ![8192, 13824]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 13
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x13824, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c7680_i32 : BitVec 32 := 7680#32
  let arg0 : BitVec 32 := BitVec.ofNat 32 (i 0).val
  let c1024_i32 : BitVec 32 := 1024#32
  let v1 : BitVec 32 := Scalar.muli arg0 c1024_i32
  let v2 : BitVec 32 := Scalar.addi c7680_i32 v1
  v2
def k0_mult2 (i : grid0.Coords) : BitVec 32 :=
  let c9728_i32 : BitVec 32 := 9728#32
  let arg0 : BitVec 32 := BitVec.ofNat 32 (i 0).val
  let c1024_i32 : BitVec 32 := 1024#32
  let v1 : BitVec 32 := Scalar.muli arg0 c1024_i32
  let v2 : BitVec 32 := Scalar.addi c9728_i32 v1
  v2
def k0_mult3 (i : grid0.Coords) : BitVec 32 :=
  let c11776_i32 : BitVec 32 := 11776#32
  let arg0 : BitVec 32 := BitVec.ofNat 32 (i 0).val
  let c1024_i32 : BitVec 32 := 1024#32
  let v1 : BitVec 32 := Scalar.muli arg0 c1024_i32
  let v2 : BitVec 32 := Scalar.addi c11776_i32 v1
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.muli arg0 c1024_i32
  let c7680_i32 : BitVec 32 := 7680#32
  let v2 : BitVec 32 := Scalar.addi c7680_i32 v1
  let v3 : BitVec 32 := v2
  let c0_i32 : BitVec 32 := 0#32
  ![v0.toNat, v3.toNat]

def cc0_transform_7 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.muli arg0 c1024_i32
  let c9728_i32 : BitVec 32 := 9728#32
  let v2 : BitVec 32 := Scalar.addi c9728_i32 v1
  let v3 : BitVec 32 := v2
  let c0_i32 : BitVec 32 := 0#32
  ![v0.toNat, v3.toNat]

def cc0_transform_8 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.muli arg0 c1024_i32
  let c11776_i32 : BitVec 32 := 11776#32
  let v2 : BitVec 32 := Scalar.addi c11776_i32 v1
  let v3 : BitVec 32 := v2
  let c0_i32 : BitVec 32 := 0#32
  ![v0.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceGateIdeal.lean ====
abbrev S8192x2048 : Shape := ⟨2, ![8192, 2048]⟩
abbrev S1x2048 : Shape := ⟨2, ![1, 2048]⟩
abbrev S2048x2048 : Shape := ⟨2, ![2048, 2048]⟩
abbrev S8192x13824 : Shape := ⟨2, ![8192, 13824]⟩
abbrev S8192x6144 : Shape := ⟨2, ![8192, 6144]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x13824, .bf16⟩
  | .hbm, ⟨7, _⟩ => ⟨S8192x6144, .bf16⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S_, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S8192x6144, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x6144, .f32⟩
  | .hbm, ⟨46, _⟩ => ⟨S8192x6144, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | .hbm, ⟨51, _⟩ => ⟨S8192x2048, .bf16⟩
  | .hbm, ⟨52, _⟩ => ⟨S8192x2048, .bf16⟩
  | .hbm, ⟨53, _⟩ => ⟨S8192x2048, .bf16⟩
  | .hbm, ⟨54, _⟩ => ⟨S8192x2048, .bf16⟩
  | .hbm, ⟨55, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== KernelMod.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceModIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelNorm.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_18 : BitVec 32 := 0#32
  let v39 : BitVec 1 := Scalar.cmpi .ne v38 c0_i32_18
  v39

def k0_cond2 (i : grid0.Coords) : BitVec 1 :=
  let arg0 : BitVec 32 := BitVec.ofNat 32 (i 0).val
  let c0_i32_19 : BitVec 32 := 0#32
  let v40 : BitVec 1 := Scalar.cmpi .sgt arg0 c0_i32_19
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceNormIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== KernelLoss.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S1x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_15 : BitVec 32 := 0#32
  let v41 : BitVec 1 := Scalar.cmpi .ne v40 c0_i32_15
  v41

def k0_cond2 (i : grid0.Coords) : BitVec 1 :=
  let arg0 : BitVec 32 := BitVec.ofNat 32 (i 0).val
  let c0_i32_16 : BitVec 32 := 0#32
  let v42 : BitVec 1 := Scalar.cmpi .sgt arg0 c0_i32_16
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== KernelAda.lean ====
abbrev S8x2048 : Shape := ⟨2, ![8, 2048]⟩
abbrev S4x2048x768 : Shape := ⟨3, ![4, 2048, 768]⟩
abbrev S4x8x768 : Shape := ⟨3, ![4, 8, 768]⟩
abbrev S1x2048x768 : Shape := ⟨3, ![1, 2048, 768]⟩
abbrev S1x8x768 : Shape := ⟨3, ![1, 8, 768]⟩
abbrev S2048x768 : Shape := ⟨2, ![2048, 768]⟩
abbrev S8x768 : Shape := ⟨2, ![8, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x8x768, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x8x768, .f32⟩
  | .local _ .vmem, ⟨4, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAdaIdeal.lean ====
abbrev S8x2048 : Shape := ⟨2, ![8, 2048]⟩
abbrev S4x2048x768 : Shape := ⟨3, ![4, 2048, 768]⟩
abbrev S_ : Shape := ⟨0, ![]⟩
abbrev S8x4x768 : Shape := ⟨3, ![8, 4, 768]⟩
abbrev S4x8x768 : Shape := ⟨3, ![4, 8, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x4x768, .f32⟩
  | .hbm, ⟨12, _⟩ => ⟨S4x8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== KernelAdaw.lean ====
abbrev S2048x8 : Shape := ⟨2, ![2048, 8]⟩
abbrev S4x8x768 : Shape := ⟨3, ![4, 8, 768]⟩
abbrev S4x2048x768 : Shape := ⟨3, ![4, 2048, 768]⟩
abbrev S256x8 : Shape := ⟨2, ![256, 8]⟩
abbrev S1x8x768 : Shape := ⟨3, ![1, 8, 768]⟩
abbrev S1x256x768 : Shape := ⟨3, ![1, 256, 768]⟩
abbrev S8x768 : Shape := ⟨2, ![8, 768]⟩
abbrev S256x1 : Shape := ⟨2, ![256, 1]⟩
abbrev S1x768 : Shape := ⟨2, ![1, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S2048x8, .f32⟩
  | .hbm, ⟨1, _⟩ => ⟨S4x8x768, .f32⟩
  | .hbm, ⟨2, _⟩ => ⟨S4x2048x768, .f32⟩
  | .hbm, ⟨3, _⟩ => ⟨S4x2048x768, .f32⟩
  | .hbm, ⟨4, _⟩ => ⟨S4x2048x768, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x768, .f32⟩
  | .local _ .vmem, ⟨0, _⟩ => ⟨S256x8, .f32⟩
  | .local _ .vmem, ⟨1, _⟩ => ⟨S256x8, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdawIdeal.lean ====
abbrev S2048x8 : Shape := ⟨2, ![2048, 8]⟩
abbrev S4x8x768 : Shape := ⟨3, ![4, 8, 768]⟩
abbrev S4x2048x768 : Shape := ⟨3, ![4, 2048, 768]⟩
abbrev S_ : Shape := ⟨0, ![]⟩
abbrev S8x2048 : Shape := ⟨2, ![8, 2048]⟩
abbrev S8x4x768 : Shape := ⟨3, ![8, 4, 768]⟩
abbrev S4x768x2048 : Shape := ⟨3, ![4, 768, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S4x8x768, .f32⟩
  | .hbm, ⟨2, _⟩ => ⟨S4x2048x768, .f32⟩
  | .hbm, ⟨3, _⟩ => ⟨S4x2048x768, .f32⟩
  | .hbm, ⟨4, _⟩ => ⟨S4x2048x768, .f32⟩
  | .hbm, ⟨5, _⟩ => ⟨S_, .f32⟩
  | .hbm, ⟨6, _⟩ => ⟨S4x2048x768, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x4x768, .f32⟩
  | .hbm, ⟨18, _⟩ => ⟨S4x8x768, .f32⟩
  | .hbm, ⟨19, _⟩ => ⟨S8x4x768, .f32⟩
  | .hbm, ⟨20, _⟩ => ⟨S4x768x2048, .f32⟩
  | .hbm, ⟨21, _⟩ => ⟨S4x2048x768, .f32⟩
  | .hbm, ⟨22, _⟩ => ⟨S_, .f32⟩
  | .hbm, ⟨23, _⟩ => ⟨S4x2048x768, .f32⟩
  | .hbm, ⟨24, _⟩ => ⟨S4x2048x768, .f32⟩
  | .hbm, ⟨25, _⟩ => ⟨S_, .f32⟩
  | .hbm, ⟨26, _⟩ => ⟨S4x2048x768, .f32⟩
  | .hbm, ⟨27, _⟩ => ⟨S4x2048x768, .f32⟩
  | .hbm, ⟨28, _⟩ => ⟨S4x2048x768, .f32⟩
  | .hbm, ⟨29, _⟩ => ⟨S_, .f32⟩
  | .hbm, ⟨30, _⟩ => ⟨S4x2048x768, .f32⟩
  | .hbm, ⟨31, _⟩ => ⟨S4x2048x768, .f32⟩
  | .hbm, ⟨32, _⟩ => ⟨S4x2048x768, .f32⟩
  | .hbm, ⟨33, _⟩ => ⟨S_, .f32⟩
  | .hbm, ⟨34, _⟩ => ⟨S4x2048x768, .f32⟩
  | .hbm, ⟨35, _⟩ => ⟨S4x2048x768, .f32⟩
  | .hbm, ⟨36, _⟩ => ⟨S4x2048x768, .f32⟩
  | .hbm, ⟨37, _⟩ => ⟨S_, .f32⟩
  | .hbm, ⟨38, _⟩ => ⟨S4x2048x768, .f32⟩
  | .hbm, ⟨39, _⟩ => ⟨S4x2048x768, .f32⟩
  | .hbm, ⟨40, _⟩ => ⟨S_, .f32⟩
  | .hbm, ⟨41, _⟩ => ⟨S4x2048x768, .f32⟩
  | .hbm, ⟨42, _⟩ => ⟨S4x2048x768, .f32⟩
  | .hbm, ⟨43, _⟩ => ⟨S4x2048x768, .f32⟩
  | .hbm, ⟨44, _⟩ => ⟨S_, .f32⟩
  | .hbm, ⟨45, _⟩ => ⟨S4x2048x768, .f32⟩
  | .hbm, ⟨46, _⟩ => ⟨S4x2048x768, .f32⟩
  | .hbm, ⟨47, _⟩ => ⟨S4x2048x768, .f32⟩
  | .hbm, ⟨48, _⟩ => ⟨S_, .f32⟩
  | .hbm, ⟨49, _⟩ => ⟨S4x2048x768, .f32⟩
  | .hbm, ⟨50, _⟩ => ⟨S4x2048x768, .f32⟩
  | .hbm, ⟨51, _⟩ => ⟨S4x2048x768, .f32⟩
  | .hbm, ⟨52, _⟩ => ⟨S_, .f32⟩
  | .hbm, ⟨53, _⟩ => ⟨S4x2048x768, .f32⟩
  | .hbm, ⟨54, _⟩ => ⟨S4x2048x768, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== KernelFac.lean ====
abbrev S4x2048 : Shape := ⟨2, ![4, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceFacIdeal.lean ====
abbrev S4x2048 : Shape := ⟨2, ![4, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S_, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelPost.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferencePostIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelSmall.lean ====
abbrev S8x424x128 : Shape := ⟨3, ![8, 424, 128]⟩
abbrev S424x128 : Shape := ⟨2, ![424, 128]⟩
abbrev S1x424x128 : Shape := ⟨3, ![1, 424, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x424x128, .f32⟩
  | .hbm, ⟨1, _⟩ => ⟨S424x128, .f32⟩
  | .hbm, ⟨2, _⟩ => ⟨S424x128, .f32⟩
  | .hbm, ⟨3, _⟩ => ⟨S424x128, .f32⟩
  | .hbm, ⟨4, _⟩ => ⟨S424x128, .f32⟩
  | .hbm, ⟨5, _⟩ => ⟨S424x128, .f32⟩
  | .hbm, ⟨6, _⟩ => ⟨S424x128, .f32⟩
  | .hbm, ⟨7, _⟩ => ⟨S424x128, .f32⟩
  | .local _ .vmem, ⟨0, _⟩ => ⟨S8x424x128, .f32⟩
  | .local _ .vmem, ⟨1, _⟩ => ⟨S424x128, .f32⟩
  | .local _ .vmem, ⟨2, _⟩ => ⟨S424x128, .f32⟩
  | .local _ .vmem, ⟨3, _⟩ => ⟨S424x128, .f32⟩
  | .local _ .vmem, ⟨4, _⟩ => ⟨S424x128, .f32⟩
  | .local _ .vmem, ⟨5, _⟩ => ⟨S424x128, .f32⟩
  | .local _ .vmem, ⟨6, _⟩ => ⟨S424x128, .f32⟩
  | .local _ .vmem, ⟨7, _⟩ => ⟨S424x128, .f32⟩
  | _, _ => ⟨S8x424x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x424x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S424x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S424x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S424x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S424x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S424x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S424x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S424x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceSmallIdeal.lean ====
abbrev S8x424x128 : Shape := ⟨3, ![8, 424, 128]⟩
abbrev S424x128 : Shape := ⟨2, ![424, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x424x128, .f32⟩
  | .hbm, ⟨1, _⟩ => ⟨S424x128, .f32⟩
  | .hbm, ⟨2, _⟩ => ⟨S424x128, .f32⟩
  | .hbm, ⟨3, _⟩ => ⟨S424x128, .f32⟩
  | .hbm, ⟨4, _⟩ => ⟨S_, .f32⟩
  | .hbm, ⟨5, _⟩ => ⟨S424x128, .f32⟩
  | .hbm, ⟨6, _⟩ => ⟨S_, .f32⟩
  | .hbm, ⟨7, _⟩ => ⟨S424x128, .f32⟩
  | .hbm, ⟨8, _⟩ => ⟨S424x128, .f32⟩
  | .hbm, ⟨9, _⟩ => ⟨S_, .f32⟩
  | .hbm, ⟨10, _⟩ => ⟨S424x128, .f32⟩
  | .hbm, ⟨11, _⟩ => ⟨S424x128, .f32⟩
  | .hbm, ⟨12, _⟩ => ⟨S424x128, .f32⟩
  | .hbm, ⟨13, _⟩ => ⟨S_, .f32⟩
  | .hbm, ⟨14, _⟩ => ⟨S424x128, .f32⟩
  | .hbm, ⟨15, _⟩ => ⟨S424x128, .f32⟩
  | .hbm, ⟨16, _⟩ => ⟨S424x128, .f32⟩
  | .hbm, ⟨17, _⟩ => ⟨S_, .f32⟩
  | .hbm, ⟨18, _⟩ => ⟨S424x128, .f32⟩
  | .hbm, ⟨19, _⟩ => ⟨S424x128, .f32⟩
  | .hbm, ⟨20, _⟩ => ⟨S424x128, .f32⟩
  | .hbm, ⟨21, _⟩ => ⟨S_, .f32⟩
  | .hbm, ⟨22, _⟩ => ⟨S424x128, .f32⟩
  | .hbm, ⟨23, _⟩ => ⟨S424x128, .f32⟩
  | .hbm, ⟨24, _⟩ => ⟨S_, .f32⟩
  | .hbm, ⟨25, _⟩ => ⟨S424x128, .f32⟩
  | .hbm, ⟨26, _⟩ => ⟨S424x128, .f32⟩
  | .hbm, ⟨27, _⟩ => ⟨S424x128, .f32⟩
  | .hbm, ⟨28, _⟩ => ⟨S_, .f32⟩
  | .hbm, ⟨29, _⟩ => ⟨S424x128, .f32⟩
  | .hbm, ⟨30, _⟩ => ⟨S424x128, .f32⟩
  | .hbm, ⟨31, _⟩ => ⟨S424x128, .f32⟩
  | .hbm, ⟨32, _⟩ => ⟨S_, .f32⟩
  | .hbm, ⟨33, _⟩ => ⟨S424x128, .f32⟩
  | .hbm, ⟨34, _⟩ => ⟨S424x128, .f32⟩
  | .hbm, ⟨35, _⟩ => ⟨S424x128, .f32⟩
  | .hbm, ⟨36, _⟩ => ⟨S_, .f32⟩
  | .hbm, ⟨37, _⟩ => ⟨S424x128, .f32⟩
  | .hbm, ⟨38, _⟩ => ⟨S424x128, .f32⟩
  | _, _ => ⟨S8x424x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Run.Outs.lean ====
/-
  What the kernel's body leaves at each grid point: per case of its conditionals the contents of each result block and
  of the two accumulators, and point by point (`outsAt0`) all of them as a function of what the point before left.
  The definitions are those of the frame kit; `outsAt0` needs more room to elaborate than the kit gives it.
-/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : cond0_0 i) (hc1 : ¬cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (fw0 : HbBuf0 (F := F) c hbM0_0)
    (fw1 : HbBuf0 (F := F) c hbM0_1)

/-- Case A's pieces for output 9 tile its block (4 stores of `S256x256`, checked by the kernel's evaluation: Lib/Ring.lean `Piece.tiledL`, linear in the pieces, through a loop's `@[irreducible]` trip theorem too), so they cover it. -/
theorem cover0_A_9 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).1 S256x256.size (by sl_kernel_rfl) y

/-- What case A leaves in output 9's staging buffer: its pieces read back over junk. -/
def out0_A_9 : Vec F S256x1024 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).1)

/-- Case A's pieces for output 10 tile its block (4 stores of `S256x256`, checked by the kernel's evaluation: Lib/Ring.lean `Piece.tiledL`, linear in the pieces, through a loop's `@[irreducible]` trip theorem too), so they cover it. -/
theorem cover0_A_10 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.1 S256x256.size (by sl_kernel_rfl) y

/-- What case A leaves in output 10's staging buffer: its pieces read back over junk. -/
def out0_A_10 : Vec F S256x1024 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.1)

/-- Case A's pieces for output 11 are of SEVERAL sizes (17 stores of `S16x128`, `S1x128`): cut into blocks of `![1, 128]` they tile its block (checked by the kernel's evaluation: Lib/Ring.lean `Piece.tiledBy`), so they cover it. -/
theorem cover0_A_11 (y : S16x128.Idx) :
    ∃ pc ∈ (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.1 ![1, 128] (by sl_kernel_rfl) y

/-- What case A leaves in output 11's staging buffer: its pieces read back over junk. -/
def out0_A_11 : Vec F S16x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.1)

/-- Case A's pieces for scratch `arg15`, which the kernel carries between points, cover it: one of them a store of the WHOLE buffer (Lib/Ring.lean `sl_whole_mem`). -/
theorem scover0_A_0 (y : S8320x256.Idx) :
    ∃ pc ∈ (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.1 (by sl_whole_mem) y

/-- What case A leaves in scratch `arg15`: its pieces read back over junk. -/
def sout0_A_0 : Vec F S8320x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.1)

/-- Case A's pieces for scratch `arg16`, which the kernel carries between points, cover it: one of them a store of the WHOLE buffer (Lib/Ring.lean `sl_whole_mem`). -/
theorem scover0_A_1 (y : S8320x256.Idx) :
    ∃ pc ∈ (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.2.1 (by sl_whole_mem) y

/-- What case A leaves in scratch `arg16`: its pieces read back over junk. -/
def sout0_A_1 : Vec F S8320x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.2.1)

/-- Case A copies nothing into `main_v66_2`: it holds the contents it started from (`fw0`), as the run
    hands them back. -/
def hbw0_A_0 : HbBuf0 (F := F) c hbM0_0 := (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.2.2.2.2.1

/-- Case A copies nothing into `main_v66_3`: it holds the contents it started from (`fw1`), as the run
    hands them back. -/
def hbw0_A_1 : HbBuf0 (F := F) c hbM0_1 := (kernelRun0_A c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1).2.2.2.2.2.2.2.2.1

end CaseA

section CaseB

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : ¬cond0_0 i) (hc1 : ¬cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (xo11 : Vec F S16x128 .f32) (xs0 : Vec F S8320x256 .f32)
    (xs1 : Vec F S8320x256 .f32) (fw0 : HbBuf0 (F := F) c hbM0_0) (fw1 : HbBuf0 (F := F) c hbM0_1)

/-- Case B's pieces for output 9 tile its block (4 stores of `S256x256`, checked by the kernel's evaluation: Lib/Ring.lean `Piece.tiledL`, linear in the pieces, through a loop's `@[irreducible]` trip theorem too), so they cover it. -/
theorem cover0_B_9 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).1 S256x256.size (by sl_kernel_rfl) y

/-- What case B leaves in output 9's staging buffer: its pieces read back over junk. -/
def out0_B_9 : Vec F S256x1024 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).1)

/-- Case B's pieces for output 10 tile its block (4 stores of `S256x256`, checked by the kernel's evaluation: Lib/Ring.lean `Piece.tiledL`, linear in the pieces, through a loop's `@[irreducible]` trip theorem too), so they cover it. -/
theorem cover0_B_10 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.1 S256x256.size (by sl_kernel_rfl) y

/-- What case B leaves in output 10's staging buffer: its pieces read back over junk. -/
def out0_B_10 : Vec F S256x1024 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.1)

/-- Case B's pieces for output 11 tile its block (16 stores of `S1x128`, checked by the kernel's evaluation: Lib/Ring.lean `Piece.tiledL`, linear in the pieces, through a loop's `@[irreducible]` trip theorem too), so they cover it. -/
theorem cover0_B_11 (y : S16x128.Idx) :
    ∃ pc ∈ (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.1 S1x128.size (by sl_kernel_rfl) y

/-- What case B leaves in output 11's staging buffer: its pieces read back over junk. -/
def out0_B_11 : Vec F S16x128 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.1)

/-- What case B leaves in scratch `arg15`: its pieces (stores, a counted loop's segment) read back over what the point before left there, which it read first. -/
def sout0_B_0 : Vec F S8320x256 .f32 :=
  arg15.view.read (Elt F) (arg15.view.writes (Elt F) (harg15.unread xs0) (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.1)

/-- What case B leaves in scratch `arg16`: its pieces (stores, a counted loop's segment) read back over what the point before left there, which it read first. -/
def sout0_B_1 : Vec F S8320x256 .f32 :=
  arg16.view.read (Elt F) (arg16.view.writes (Elt F) (harg16.unread xs1) (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.2.1)

/-- Case B copies nothing into `main_v66_2`: it holds the contents it started from (`fw0`), as the run
    hands them back. -/
def hbw0_B_0 : HbBuf0 (F := F) c hbM0_0 := (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.2.2.2.2.1

/-- Case B copies nothing into `main_v66_3`: it holds the contents it started from (`fw1`), as the run
    hands them back. -/
def hbw0_B_1 : HbBuf0 (F := F) c hbM0_1 := (kernelRun0_B c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.2.2.2.2.2.1

end CaseB

section CaseC

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : ¬cond0_0 i) (hc1 : cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (xo11 : Vec F S16x128 .f32) (xs0 : Vec F S8320x256 .f32)
    (xs1 : Vec F S8320x256 .f32) (fw0 : HbBuf0 (F := F) c hbM0_0) (fw1 : HbBuf0 (F := F) c hbM0_1)

/-- Case C's pieces for output 9 tile its block (4 stores of `S256x256`, checked by the kernel's evaluation: Lib/Ring.lean `Piece.tiledL`, linear in the pieces, through a loop's `@[irreducible]` trip theorem too), so they cover it. -/
theorem cover0_C_9 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).1 S256x256.size (by sl_kernel_rfl) y

/-- What case C leaves in output 9's staging buffer: its pieces read back over junk. -/
def out0_C_9 : Vec F S256x1024 .bf16 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).1)

/-- Case C's pieces for output 10 tile its block (4 stores of `S256x256`, checked by the kernel's evaluation: Lib/Ring.lean `Piece.tiledL`, linear in the pieces, through a loop's `@[irreducible]` trip theorem too), so they cover it. -/
theorem cover0_C_10 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.1 S256x256.size (by sl_kernel_rfl) y

/-- What case C leaves in output 10's staging buffer: its pieces read back over junk. -/
def out0_C_10 : Vec F S256x1024 .bf16 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.1)

/-- Case C's pieces for output 11 tile its block (16 stores of `S1x128`, checked by the kernel's evaluation: Lib/Ring.lean `Piece.tiledL`, linear in the pieces, through a loop's `@[irreducible]` trip theorem too), so they cover it. -/
theorem cover0_C_11 (y : S16x128.Idx) :
    ∃ pc ∈ (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.1 S1x128.size (by sl_kernel_rfl) y

/-- What case C leaves in output 11's staging buffer: its pieces read back over junk. -/
def out0_C_11 : Vec F S16x128 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.1)

/-- What case C leaves in scratch `arg15`: its pieces (stores, a counted loop's segment) read back over what the point before left there, which it read first. -/
def sout0_C_0 : Vec F S8320x256 .f32 :=
  arg15.view.read (Elt F) (arg15.view.writes (Elt F) (harg15.unread xs0) (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.1)

/-- What case C leaves in scratch `arg16`: its pieces (stores, a counted loop's segment) read back over what the point before left there, which it read first. -/
def sout0_C_1 : Vec F S8320x256 .f32 :=
  arg16.view.read (Elt F) (arg16.view.writes (Elt F) (harg16.unread xs1) (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.2.1)

/-- What case C leaves in `main_v66_2`, the result left in HBM its copies out of scratch write: the contents
    it started from (`fw0`: what the point before left there, at the first point the launch's) with those copies written over
    them — the contents term the run finds, its witness. -/
def hbw0_C_0 : HbBuf0 (F := F) c hbM0_0 := (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.2.2.2.2.1

/-- What case C leaves in `main_v66_3`, the result left in HBM its copies out of scratch write: the contents
    it started from (`fw1`: what the point before left there, at the first point the launch's) with those copies written over
    them — the contents term the run finds, its witness. -/
def hbw0_C_1 : HbBuf0 (F := F) c hbM0_1 := (kernelRun0_C c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1).2.2.2.2.2.2.2.2.1

/-! ## What the outputs hold after each point -/

end CaseC

set_option maxHeartbeats 400000 in
/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S256x1024 .bf16 × Vec F S16x128 .f32 × Vec F S8320x256 .f32 × Vec F S8320x256 .f32 × HbBuf0 (F := F) c hbM0_0 × HbBuf0 (F := F) c hbM0_1
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3), hbw0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (V m c main_v66_2) (V m c main_v66_3))
  | n + 1, hn =>
    if h0 : (n + 1) % 32 = 0 then
      if h1 : (n + 1) % 32 = 31 then
        False.elim (by have hN : n + 1 < 32 := lt_of_lt_of_eq hn (show cfg0.N = 32 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3), hbw0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (V m c main_v66_2) (V m c main_v66_3))
    else
      if h1 : (n + 1) % 32 = 31 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, hbw0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, hbw0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

end Cert.KernelIdeal.Gen

end
-- ==== Proof.Run.Frame.lean ====
/-
  The run of the kernel from the contents that `outsAt0` states after each grid point: the body's obligation at a point,
  the launch, and the frame.
-/
module

public import proofs.«01_k».proof.Proof.Run.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- `outsAt0` at a point of case A: that case's contents. -/
theorem outsAt0_A (c : Dev nD) (t : Fin cfg0.N) (h0 : t.val % 32 = 0) (h1 : ¬t.val % 32 = 31) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3), hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3), hbw0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, hbw0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, hbw0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.1) ∗ owns (c : Thread nD τ) scM0_1 fullShare ((outsAt0 m c n hn).2.2.2.2.1) ∗ (∃ d, owns (c : Thread nD τ) scM0_2 fullShare d) ∗ (∃ d, owns (c : Thread nD τ) scM0_3 fullShare d)) ∗ (∃ r, prngReg c r) ∗ iprop(semVal ((c : Thread nD τ), SemLoc.dma 22) 0 ∗ semVal ((c : Thread nD τ), SemLoc.dma 23) 0) ∗ iprop(emp) ∗ iprop(hbPt0 c hbM0_0 ((outsAt0 m c n hn).2.2.2.2.2.1) ∗ hbPt0 c hbM0_1 ((outsAt0 m c n hn).2.2.2.2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ (∃ d, owns (c : Thread nD τ) scM0_2 fullShare d) ∗ (∃ d, owns (c : Thread nD τ) scM0_3 fullShare d)) ∗ (∃ r, prngReg c r) ∗ iprop(semVal ((c : Thread nD τ), SemLoc.dma 22) 0 ∗ semVal ((c : Thread nD τ), SemLoc.dma 23) 0) ∗ iprop(emp) ∗ iprop(hbPt0 c hbM0_0 ((outsAt0 m c n hn).2.2.2.2.2.1) ∗ hbPt0 c hbM0_1 ((outsAt0 m c n hn).2.2.2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ (∃ d, owns (c : Thread nD τ) scM0_2 fullShare d) ∗ (∃ d, owns (c : Thread nD τ) scM0_3 fullShare d)) ∗ (∃ r, prngReg c r) ∗ iprop(semVal ((c : Thread nD τ), SemLoc.dma 22) 0 ∗ semVal ((c : Thread nD τ), SemLoc.dma 23) 0) ∗ iprop(emp) ∗ iprop(hbPt0 c hbM0_0 ((outsAt0 m c (n - 1) (by omega)).2.2.2.2.2.1) ∗ hbPt0 c hbM0_1 ((outsAt0 m c (n - 1) (by omega)).2.2.2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (h1 : ¬t.val % 32 = 31) (d) :
    (dats m 0 c).before 11 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case C output 11's current staging buffer holds what the body left at the point before: the point is
    not the first, the buffer was not written back between (`flush0_11`), the window is live and uncut (Lib/Pipeline/Frame.lean
    `Dat.before_out_kept`). -/
theorem before0_11_C (c : Dev nD) (t : Fin cfg0.N) (h0 : ¬t.val % 32 = 0) (h1 : t.val % 32 = 31) (d) :
    (dats m 0 c).before 11 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 19200000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = PhiS m c (t.val + 1) t.isLt from rfl, PhiS_succ,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiDRG0_in_eq]
        rw [outsAt0_A m c t h0 h1]
        unfold out0_A_9 out0_A_10 out0_A_11 sout0_A_0 sout0_A_1 hbw0_A_0 hbw0_A_1; (try dsimp only)
        iintro ⟨⟨⟨HS0, HS1, HS2, HS3⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, H7, H8, ⟨%e9, H9⟩, ⟨%e10, H10⟩, ⟨%e11, H11⟩, ⟨%es0, HS0⟩, ⟨%es1, HS1⟩, ⟨%fT2, HS2⟩, ⟨%fT3, HS3⟩, Hq0, Hq1, Hh0, Hh1, ⟨%W', HW'⟩⟩
        isplitl [HS0 HS1 HS2 HS3 Hg Hq0 Hq1 Hh0 Hh1]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          isplitl [Hg]
          · iexact Hg
          isplitl [Hq0 Hq1]
          · isplitl [Hq0]; · iexact Hq0
            iexact Hq1
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_11_C m c t h0 h1]
        unfold out0_C_9 out0_C_10 out0_C_11 sout0_C_0 sout0_C_1 hbw0_C_0 hbw0_C_1; (try dsimp only)
        iintro ⟨⟨⟨HS0, HS1, HS2, HS3⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _ _ _ _).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, H7, H8, ⟨%e9, H9⟩, ⟨%e10, H10⟩, ⟨%e11, H11⟩, HS0, HS1, ⟨%fT2, HS2⟩, ⟨%fT3, HS3⟩, Hq0, Hq1, Hh0, Hh1, ⟨%W', HW'⟩⟩
        isplitl [HS0 HS1 HS2 HS3 Hg Hq0 Hq1 Hh0 Hh1]
        · isplitl [HS0 HS1 HS2 HS3]
          · isplitl [HS0]
            · unfold owns; iexists _; isplitr
              swap; · iexact HS0
              ipureintro; rfl
            isplitl [HS1]
            · unfold owns; iexists _; isplitr
              swap; · iexact HS1
              ipureintro; rfl
            isplitl [HS2]
            · iexists _; unfold owns; iexists _; isplitr
              swap; · iexact HS2
              ipureintro; rfl
            iexists _; unfold owns; iexists _; isplitr
            swap; · iexact HS3
            ipureintro; rfl
          isplitl [Hg]
          · iexact Hg
          isplitl [Hq0 Hq1]
          · isplitl [Hq0]; · iexact Hq0
            iexact Hq1
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_11_B m c t h0 h1]
        unfold out0_B_9 out0_B_10 out0_B_11 sout0_B_0 sout0_B_1 hbw0_B_0 hbw0_B_1; (try dsimp only)
        iintro ⟨⟨⟨HS0, HS1, HS2, HS3⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _ _ _ _).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, H7, H8, ⟨%e9, H9⟩, ⟨%e10, H10⟩, ⟨%e11, H11⟩, HS0, HS1, ⟨%fT2, HS2⟩, ⟨%fT3, HS3⟩, Hq0, Hq1, Hh0, Hh1, ⟨%W', HW'⟩⟩
        isplitl [HS0 HS1 HS2 HS3 Hg Hq0 Hq1 Hh0 Hh1]
        · isplitl [HS0 HS1 HS2 HS3]
          · isplitl [HS0]
            · unfold owns; iexists _; isplitr
              swap; · iexact HS0
              ipureintro; rfl
            isplitl [HS1]
            · unfold owns; iexists _; isplitr
              swap; · iexact HS1
              ipureintro; rfl
            isplitl [HS2]
            · iexists _; unfold owns; iexists _; isplitr
              swap; · iexact HS2
              ipureintro; rfl
            iexists _; unfold owns; iexists _; isplitr
            swap; · iexact HS3
            ipureintro; rfl
          isplitl [Hg]
          · iexact Hg
          isplitl [Hq0 Hq1]
          · isplitl [Hq0]; · iexact Hq0
            iexact Hq1
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update (Function.update ((V m) c) main_v66_2 (outsAt0 m c ((Fin.last cfg0.N).val - 1) (by rw [Fin.val_last]; have : cfg0.N = 32 := N_0; omega)).2.2.2.2.2.1) main_v66_3 (outsAt0 m c ((Fin.last cfg0.N).val - 1) (by rw [Fin.val_last]; have : cfg0.N = 32 := N_0; omega)).2.2.2.2.2.2
/-- `hbG0` at `main_v66_2`: `outsAt0`'s component. -/
theorem hbG0_0 (c : Dev nD) : hbG0 m c main_v66_2 = (outsAt0 m c ((Fin.last cfg0.N).val - 1) (by rw [Fin.val_last]; have : cfg0.N = 32 := N_0; omega)).2.2.2.2.2.1 := by
  unfold hbG0; simp only [Function.update_of_ne (show (main_v66_2 : Ref sig .tc) ≠ main_v66_3 by decide), Function.update_self]
/-- `hbG0` at `main_v66_3`: `outsAt0`'s component. -/
theorem hbG0_1 (c : Dev nD) : hbG0 m c main_v66_3 = (outsAt0 m c ((Fin.last cfg0.N).val - 1) (by rw [Fin.val_last]; have : cfg0.N = 32 := N_0; omega)).2.2.2.2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_0 ((outsAt0 m c ((Fin.last cfg0.N).val - 1) (by rw [Fin.val_last]; have : cfg0.N = 32 := N_0; omega)).2.2.2.2.2.1) ∗ hbPt0 c hbM0_1 ((outsAt0 m c ((Fin.last cfg0.N).val - 1) (by rw [Fin.val_last]; have : cfg0.N = 32 := N_0; omega)).2.2.2.2.2.2)) := by
  unfold Pipeline.routed; rw [BI.bigSep_eq_bigSepL_of_eq [main_v66_2, main_v66_3] (by decide) (by decide)]
  simp only [BI.bigSepL_cons_cons, BI.bigSepL_singleton, hbG0_0, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 22) 0 ∗ semVal ((c : Thread nD τ), SemLoc.dma 23) 0) ∗ iprop(emp) ∗ iprop(hbPt0 c hbM0_0 ((outsAt0 m c ((Fin.last cfg0.N).val - 1) (by rw [Fin.val_last]; have : cfg0.N = 32 := N_0; omega)).2.2.2.2.2.1) ∗ hbPt0 c hbM0_1 ((outsAt0 m c ((Fin.last cfg0.N).val - 1) (by rw [Fin.val_last]; have : cfg0.N = 32 := N_0; omega)).2.2.2.2.2.2))) := by
  rw [Pipeline.ΦDRG_eq, scopedRest0_eq, ownSems00_eq, hbmPts0_eq, heldG0_eq]; simp only [scM0_0, scM0_1, scM0_2, scM0_3, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiDRG0_out_eq]
  iintro ⟨⟨HS0, HS1, HS2, HS3⟩, Hg, ⟨Hq0, Hq1⟩, ⟨Hh0, Hh1⟩⟩
  isplitl [HS0 HS1 HS2 HS3]
  · isplitl [HS0]
    · iexists _; iexact HS0
    isplitl [HS1]
    · iexists _; iexact HS1
    isplitl [HS2]
    · iexact HS2
    iexact HS3
  isplitl [Hg]; · iexact Hg
  isplitl [Hq0 Hq1]
  · isplitl [Hq0]; · iexact Hq0
    iexact Hq1
  isplitl [Hh0]; · iexact Hh0
  iexact Hh1

/-! ## The run and the frame -/

-- `θ_run_frame_dmaRG_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Run.Value.lean ====
/-
  The result arrays after the run, block by block, and the accumulators after a grid point as a function of what the
  point before left in them.
-/
module

public import proofs.«01_k».proof.Proof.Run.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 32 = 0) (h1 : ¬t.val % 32 = 31) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3)) := by
  rw [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 32 = 0) (h1 : ¬t.val % 32 = 31) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  rw [flushed9, outsAt0_B m c t h0 h1]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 32 = 0) (h1 : t.val % 32 = 31) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  rw [flushed9, outsAt0_C m c t h0 h1]

/-- The index map sends distinct grid points to distinct block indices (decided over the 32 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8192x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 1), read through the window's block. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 32 = 0) (h1 : ¬t.val % 32 = 31) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3)) := by
  rw [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 32 = 0) (h1 : ¬t.val % 32 = 31) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  rw [flushed10, outsAt0_B m c t h0 h1]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 32 = 0) (h1 : t.val % 32 = 31) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  rw [flushed10, outsAt0_C m c t h0 h1]

/-- The index map sends distinct grid points to distinct block indices (decided over the 32 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8192x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 2), read through the window's block. -/
theorem flushed11 (c : Dev nD) (t : Fin cfg0.N) :
    (dats m 0 c).flushed 11 t = (cfg0.win 11).cut (grid0.coords t) ((outsAt0 m c t.val t.isLt).2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 32 = 0) (h1 : ¬t.val % 32 = 31) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v66_2) (V m c main_v66_3)) := by
  rw [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 32 = 0) (h1 : ¬t.val % 32 = 31) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  rw [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 32 = 0) (h1 : t.val % 32 = 31) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  rw [flushed11, outsAt0_C m c t h0 h1]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S16x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 9's array is `(dats m 0 c).arrAt 9 N`. -/
theorem post9 (r : PUnit × MemSt nD τ sig (Elt F)) (h : Pipeline.FramePostRG cfgs (dats m) 0 R0 (V m) (hbG0 m) r) (c : Dev nD) :
    r.2.mem ((c : Thread nD τ).loc main_v66_0) = (dats m 0 c).arrAt 9 cfg0.N :=
  (h.toR c).1 9

/-- After the frame run, output window 10's array is `(dats m 0 c).arrAt 10 N`. -/
theorem post10 (r : PUnit × MemSt nD τ sig (Elt F)) (h : Pipeline.FramePostRG cfgs (dats m) 0 R0 (V m) (hbG0 m) r) (c : Dev nD) :
    r.2.mem ((c : Thread nD τ).loc main_v66_1) = (dats m 0 c).arrAt 10 cfg0.N :=
  (h.toR c).1 10

/-- After the frame run, output window 11's array is `(dats m 0 c).arrAt 11 N`. -/
theorem post11 (r : PUnit × MemSt nD τ sig (Elt F)) (h : Pipeline.FramePostRG cfgs (dats m) 0 R0 (V m) (hbG0 m) r) (c : Dev nD) :
    r.2.mem ((c : Thread nD τ).loc main_v66_4) = (dats m 0 c).arrAt 11 cfg0.N :=
  (h.toR c).1 11

/-- After the frame run, argument `main_arg0` is as launched: input window 0 stages it and never writes it back. -/
theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).1 0).trans (((dats m 0 c).arrAt_in 0 rfl _).trans ((A_eq m c 0).trans (V_main_arg0 m c)))

/-- After the frame run, argument `main_arg1` is as launched: input window 7 stages it and never writes it back. -/
theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).1 7).trans (((dats m 0 c).arrAt_in 7 rfl _).trans ((A_eq m c 7).trans (V_main_arg1 m c)))

/-- After the frame run, argument `main_arg2` is as launched: no window stages it, and the run leaves the region's other buffers as they were (it is none of `Gen.R0`, the buffers the body itself writes). -/
theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).2 main_arg2 (Finset.mem_sdiff.mpr ⟨Pipeline.mem_restRefs_of main_arg2 (by decide) (by decide), by decide⟩)).trans (V_main_arg2 m c)

/-- After the frame run, `main_v66_2`, a result left in HBM that the body's copies out of scratch write, holds what the LAST point left
    in it: `Gen.outsAt0`'s component for it there (the value post states it at `Gen.hbG0`, which `Gen.hbG0_0` unfolds). -/
theorem held_main_v66_2 (r : PUnit × MemSt nD τ sig (Elt F)) (h : Pipeline.FramePostRG cfgs (dats m) 0 R0 (V m) (hbG0 m) r) (c : Dev nD) :
    r.2.mem ((c : Thread nD τ).loc main_v66_2) = (outsAt0 m c ((Fin.last cfg0.N).val - 1) (by rw [Fin.val_last]; have : cfg0.N = 32 := N_0; omega)).2.2.2.2.2.1 :=
  (h.written c (by decide : main_v66_2 ∈ R0)).trans (hbG0_0 m c)

/-- After the frame run, `main_v66_3`, a result left in HBM that the body's copies out of scratch write, holds what the LAST point left
    in it: `Gen.outsAt0`'s component for it there (the value post states it at `Gen.hbG0`, which `Gen.hbG0_1` unfolds). -/
theorem held_main_v66_3 (r : PUnit × MemSt nD τ sig (Elt F)) (h : Pipeline.FramePostRG cfgs (dats m) 0 R0 (V m) (hbG0 m) r) (c : Dev nD) :
    r.2.mem ((c : Thread nD τ).loc main_v66_3) = (outsAt0 m c ((Fin.last cfg0.N).val - 1) (by rw [Fin.val_last]; have : cfg0.N = 32 := N_0; omega)).2.2.2.2.2.2 :=
  (h.written c (by decide : main_v66_3 ∈ R0)).trans (hbG0_1 m c)

/-- The frame run with each output array after the run NAMED — `(dats m 0 c).arrAt w N`, which `blocks_w` / `entry_w` read —,
    the arguments unchanged; each result the body's copies out write at what the last point left in it. -/
theorem run_blocks : θ_run defs (onTc (τ := τ) (main (F := F))) ⟨m, fun _ => 0, ρ⟩ fun r => ∀ c : Dev nD,
      r.2.mem ((c : Thread nD τ).loc main_v66_0) = (dats m 0 c).arrAt 9 cfg0.N
      ∧ r.2.mem ((c : Thread nD τ).loc main_v66_1) = (dats m 0 c).arrAt 10 cfg0.N
      ∧ r.2.mem ((c : Thread nD τ).loc main_v66_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v66_2) = (outsAt0 m c ((Fin.last cfg0.N).val - 1) (by rw [Fin.val_last]; have : cfg0.N = 32 := N_0; omega)).2.2.2.2.2.1
      ∧ r.2.mem ((c : Thread nD τ).loc main_v66_3) = (outsAt0 m c ((Fin.last cfg0.N).val - 1) (by rw [Fin.val_last]; have : cfg0.N = 32 := N_0; omega)).2.2.2.2.2.2 :=
  (θ_run defs _ _).mono (fun r h c => ⟨post9 m r h c,
      post10 m r h c,
      post11 m r h c,
      kept_main_arg0 m r h c,
      kept_main_arg1 m r h c,
      kept_main_arg2 m r h c,
      held_main_v66_2 m r h c,
      held_main_v66_3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8320x256 .f32) : Vec F S8320x256 .f32 :=
  if h0 : n % 32 = 0 then
    if h1 : n % 32 = 31 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (V m c main_v66_2) (V m c main_v66_3)
  else
    if h1 : n % 32 = 31 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.2.1) 32 (fun n h => scAt0_0 m c n h (VS0_0.read (Elt F) VS0_0.junk)) (scAt0_0 m c)
    (fun n h hn => by
      have hN := lt_of_lt_of_eq h (show cfg0.N = 32 from N_0)
      by_cases h0 : n % 32 = 0 <;> by_cases h1 : n % 32 = 31
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 32 from N_0)
      by_cases h0 : (n + 1) % 32 = 0 <;> by_cases h1 : (n + 1) % 32 = 31
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S8320x256 .f32) : Vec F S8320x256 .f32 :=
  if h0 : n % 32 = 0 then
    if h1 : n % 32 = 31 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (V m c main_v66_2) (V m c main_v66_3)
  else
    if h1 : n % 32 = 31 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.1 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2.2.2.1) 32 (fun n h => scAt0_1 m c n h (VS0_1.read (Elt F) VS0_1.junk)) (scAt0_1 m c)
    (fun n h hn => by
      have hN := lt_of_lt_of_eq h (show cfg0.N = 32 from N_0)
      by_cases h0 : n % 32 = 0 <;> by_cases h1 : n % 32 = 31
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 32 from N_0)
      by_cases h0 : (n + 1) % 32 = 0 <;> by_cases h1 : (n + 1) % 32 = 31
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

end Cert.KernelIdeal.Value

end
-- ==== Proof.Run.Words.lean ====
/-
  The kernel and the idealized kernel have one text. This module states it of the body table and of @main, and so a run
  of the idealized kernel's text over machine words is a run of the kernel.
-/
module

public import proofs.«01_k».proof.Defs
public import proofs.«01_k».proof.Proof.Gen.Kernel
public import proofs.«01_k».proof.Proof.Run.Frame

@[expose] public section

noncomputable section

namespace Cert.Proof

open Idealize.ShloMosaic Idealize.SL.Sem

set_option maxHeartbeats 4000000

variable {F : FTy → Type} [FloatOps F]

/-- The two body tables are one. -/
theorem defs₀_eq : Cert.Kernel.defs₀ (F := F) = Cert.KernelIdeal.defs₀ (F := F) := by
  delta Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  fin_cases l
  with_unfolding_all rfl

/-- So are the tables with the pipeline's own labels. -/
theorem defs_eq : Cert.Kernel.defs (F := F) = Cert.KernelIdeal.defs (F := F) :=
  congrArg (Pipeline.defs (Cert.KernelIdeal.pcfgs (F := F))) defs₀_eq

/-- And the two @main. -/
theorem main_eq : Cert.Kernel.main (F := F) = Cert.KernelIdeal.main (F := F) := by with_unfolding_all rfl

/-- The kernel over machine words ends, its arguments unchanged and no semaphore counting. -/
theorem frame_kernel : Cert.quiescent_Kernel (hKernel := Cert.Kernel.Gen.facts) := fun m ρ _ => by
  rw [defs_eq, main_eq]
  exact Cert.KernelIdeal.Gen.frame (F := Bits) m ρ

end Cert.Proof

end
-- ==== Proof.Mul.Dw.lean ====
/-
  The gradient of the input projection's weight (the call win_tn): what the kernel's result array holds after the run.
  The grid has 18 blocks of 768 rows, and 8 points for each; a point adds the product of a block of 1024 rows of dproj,
  transposed, with the same rows of h to the block that the first of the 8 points reset.
-/
module

public import proofs.«01_k».proof.Defs
public import proofs.«01_k».proof.Proof.Gen.KernelDw.Frame
public import proofs.«01_k».proof.Proof.Gen.KernelDwIdeal.Value
public import proofs.«01_k».proof.Proof.Gen.ReferenceDwIdeal.Read
public import Idealize.ShloMosaic.Lib.Pipeline.ValueKit
public import Idealize.ShloMosaic.Lib.Claim

@[expose] public section

set_option maxRecDepth 16384

noncomputable section

namespace Cert.Proof.Mul.Dw

open Cert.KernelDwIdeal Cert.KernelDwIdeal.Gen Idealize.ShloMosaic Idealize.ShloMosaic.TcCoe Idealize.SL.Sem

variable (m : (ℓ : Loc nD τ sig) → Buf (Elt Ideal) ℓ)

/-- The product of dproj, transposed, with h. -/
def prod (x : FVec Ideal S8192x13824 .bf16) (y : FVec Ideal S8192x2048 .bf16) : FVec Ideal S13824x2048 .f32 := fun i =>
  ∑ k : Fin 8192, x (ix2 k (i 0)) * y (ix2 k (i 1))

/-- A point's product at an index. -/
theorem pay1_apply (x : FVec Ideal S1024x768 .bf16) (y : FVec Ideal S1024x2048 .bf16) (j : S768x2048.Idx) :
    k0_pay1 (F := Ideal) x y j = ∑ k : Fin 1024, x (ix2 k (j 0)) * y (ix2 k (j 1)) := by
  pointwise [k0_pay1]

/-- The blocks' places. -/
theorem idx : ∀ t : Fin cfg0.N, win0_1.index t = ![t.val % 8, t.val / 8] ∧ win0_2.index t = ![t.val % 8, 0] ∧ win0_3.index t = ![t.val / 8, 0] := by
  decide +kernel

/-- After a run's last point the block holds the sum of the run's products. -/
theorem outs_eq (c : Dev nD) (t : Fin cfg0.N) (ht : t.val % 8 = 7) (j : S768x2048.Idx) :
    (outsAt0 m c t.val t.isLt : S768x2048.Idx → EReal) j
      = 0 + ∑ s : Fin 8, k0_pay1 (F := Ideal) (iblk m c 1 ⟨8 * (t.val / 8) + s.val, Pipeline.run_point_lt_of_flush t ht s⟩) (iblk m c 2 ⟨8 * (t.val / 8) + s.val, Pipeline.run_point_lt_of_flush t ht s⟩) j := by
  refine Pipeline.eq_sum_fin_of_reset_step_apply_of_flush (M := EReal) (fun n h => (outsAt0 m c n h : S768x2048.Idx → EReal)) 8 (fun _ => 0)
    (fun t => k0_pay1 (F := Ideal) (iblk m c 1 t) (iblk m c 2 t)) ?_ ?_ t ht j
  · intro t h j
    rw [outsAt0_A m c t h (by omega)]
    frame_out
    rw [zero_add]
  · intro t h j
    rw [outsAt0_B m c t h (by omega)]
    frame_out
    pointwise [k0_pay2]

/-- After the run the result array holds the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  have ht := (flush0_3 t).mp hf
  blk_simp
  rw [after0_3]
  refine (outs_eq m c t ht _).trans ?_
  rw [zero_add]
  simp only [pay1_apply]
  unfold prod
  refine Fin.sum_mul_add_congr fun s k hl => ?_
  blk_point [iblk, V, idx t, idx ⟨_, Pipeline.run_point_lt_of_flush t ht s⟩]

/-- The reference computes the same product. -/
theorem ref_eq (x : FVec Ideal S8192x13824 .bf16) (y : FVec Ideal S8192x2048 .bf16) :
    Cert.ReferenceDwIdeal.Read.val_main_v6 (F := Ideal) x y = prod x y := by
  rw [← Cert.ReferenceDwIdeal.Read.val_main_v6_eq]
  funext i
  pointwise [prod]

/-- The kernel and the reference end with the same result. -/
theorem algebraic : Cert.algebraic_KernelDwIdeal_ReferenceDwIdeal (hKernelDwIdeal := Cert.KernelDwIdeal.Gen.facts) (hReferenceDwIdeal := Cert.ReferenceDwIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.KernelDwIdeal.Value.run_blocks (F := Ideal) m ρ)
  · refine (θ_run _ _ _).mono (fun r h c => ⟨?_, (h c).2⟩) (Cert.ReferenceDwIdeal.Value.run (F := Ideal) m' ρ')
    rw [(h c).1, (hag c).1, (hag c).2.1]
    exact (Cert.ReferenceDwIdeal.Read.val_main_v6_eq _ _).trans (ref_eq _ _)

/-- The kernel over machine words ends, its arguments unchanged and no semaphore counting. -/
theorem frame_kernel : Cert.quiescent_KernelDw (hKernelDw := Cert.KernelDw.Gen.facts) := fun m ρ _ => Cert.KernelDw.Gen.frame m ρ

/-- So does the idealized kernel. -/
theorem frame_ideal : Cert.quiescent_KernelDwIdeal (hKernelDwIdeal := Cert.KernelDwIdeal.Gen.facts) := fun m ρ _ => Cert.KernelDwIdeal.Gen.frame m ρ

/-- And the reference. -/
theorem frame_reference : Cert.quiescent_ReferenceDwIdeal (hReferenceDwIdeal := Cert.ReferenceDwIdeal.Gen.facts) := fun m ρ _ =>
  (θ_run Cert.ReferenceDwIdeal.defs _ _).mono (fun r h => ⟨fun c => (h c).2, sem_eq_zero_of_no_sems (by decide) r.2⟩)
    (Cert.ReferenceDwIdeal.Value.run (F := Ideal) m ρ)

end Cert.Proof.Mul.Dw

end
-- ==== Proof.Mul.Dh.lean ====
/-
  The gradient of the input projection's input (the call dh_mm): what the kernel's result array holds after the run. The
  grid has 8 blocks of 1024 rows, and 9 points for each; a point adds the product of a block of 1536 columns of dproj
  with the same rows of the transposed weight to the block that the first of the 9 points reset.
-/
module

public import proofs.«01_k».proof.Defs
public import proofs.«01_k».proof.Proof.Gen.KernelDh.Frame
public import proofs.«01_k».proof.Proof.Gen.KernelDhIdeal.Value
public import proofs.«01_k».proof.Proof.Gen.ReferenceDhIdeal.Read
public import Idealize.ShloMosaic.Lib.Pipeline.ValueKit
public import Idealize.ShloMosaic.Lib.Claim

@[expose] public section

set_option maxRecDepth 16384

noncomputable section

namespace Cert.Proof.Mul.Dh

open Cert.KernelDhIdeal Cert.KernelDhIdeal.Gen Idealize.ShloMosaic Idealize.ShloMosaic.TcCoe Idealize.SL.Sem

variable (m : (ℓ : Loc nD τ sig) → Buf (Elt Ideal) ℓ)

/-- The product of dproj with the transposed weight. -/
def prod (x : FVec Ideal S8192x13824 .bf16) (y : FVec Ideal S13824x2048 .bf16) : FVec Ideal S8192x2048 .f32 := fun i =>
  ∑ k : Fin 13824, x (ix2 (i 0) k) * y (ix2 k (i 1))

/-- A point's product at an index. -/
theorem pay1_apply (x : FVec Ideal S1024x1536 .bf16) (y : FVec Ideal S1536x2048 .bf16) (j : S1024x2048.Idx) :
    k0_pay1 (F := Ideal) x y j = ∑ k : Fin 1536, x (ix2 (j 0) k) * y (ix2 k (j 1)) := by
  pointwise [k0_pay1]

/-- The blocks' places. -/
theorem idx : ∀ t : Fin cfg0.N, win0_1.index t = ![t.val / 9, t.val % 9] ∧ win0_2.index t = ![t.val % 9, 0] ∧ win0_3.index t = ![t.val / 9, 0] := by
  decide +kernel

/-- After a run's last point the block holds the sum of the run's products. -/
theorem outs_eq (c : Dev nD) (t : Fin cfg0.N) (ht : t.val % 9 = 8) (j : S1024x2048.Idx) :
    (outsAt0 m c t.val t.isLt : S1024x2048.Idx → EReal) j
      = 0 + ∑ s : Fin 9, k0_pay1 (F := Ideal) (iblk m c 1 ⟨9 * (t.val / 9) + s.val, Pipeline.run_point_lt_of_flush t ht s⟩) (iblk m c 2 ⟨9 * (t.val / 9) + s.val, Pipeline.run_point_lt_of_flush t ht s⟩) j := by
  refine Pipeline.eq_sum_fin_of_reset_step_apply_of_flush (M := EReal) (fun n h => (outsAt0 m c n h : S1024x2048.Idx → EReal)) 9 (fun _ => 0)
    (fun t => k0_pay1 (F := Ideal) (iblk m c 1 t) (iblk m c 2 t)) ?_ ?_ t ht j
  · intro t h j
    rw [outsAt0_A m c t h (by omega)]
    frame_out
    rw [zero_add]
  · intro t h j
    rw [outsAt0_B m c t h (by omega)]
    frame_out
    pointwise [k0_pay2]

/-- After the run the result array holds the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  have ht := (flush0_3 t).mp hf
  blk_simp
  rw [after0_3]
  refine (outs_eq m c t ht _).trans ?_
  rw [zero_add]
  simp only [pay1_apply]
  unfold prod
  refine Fin.sum_mul_add_congr fun s k hl => ?_
  blk_point [iblk, V, idx t, idx ⟨_, Pipeline.run_point_lt_of_flush t ht s⟩]

/-- The reference computes the same product. -/
theorem ref_eq (x : FVec Ideal S8192x13824 .bf16) (y : FVec Ideal S13824x2048 .bf16) :
    Cert.ReferenceDhIdeal.Read.val_main_v5 (F := Ideal) x y = prod x y := by
  rw [← Cert.ReferenceDhIdeal.Read.val_main_v5_eq]
  funext i
  pointwise [prod]

/-- The kernel and the reference end with the same result. -/
theorem algebraic : Cert.algebraic_KernelDhIdeal_ReferenceDhIdeal (hKernelDhIdeal := Cert.KernelDhIdeal.Gen.facts) (hReferenceDhIdeal := Cert.ReferenceDhIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.KernelDhIdeal.Value.run_blocks (F := Ideal) m ρ)
  · refine (θ_run _ _ _).mono (fun r h c => ⟨?_, (h c).2⟩) (Cert.ReferenceDhIdeal.Value.run (F := Ideal) m' ρ')
    rw [(h c).1, (hag c).1, (hag c).2.1]
    exact (Cert.ReferenceDhIdeal.Read.val_main_v5_eq _ _).trans (ref_eq _ _)

/-- The kernel over machine words ends, its arguments unchanged and no semaphore counting. -/
theorem frame_kernel : Cert.quiescent_KernelDh (hKernelDh := Cert.KernelDh.Gen.facts) := fun m ρ _ => Cert.KernelDh.Gen.frame m ρ

/-- So does the idealized kernel. -/
theorem frame_ideal : Cert.quiescent_KernelDhIdeal (hKernelDhIdeal := Cert.KernelDhIdeal.Gen.facts) := fun m ρ _ => Cert.KernelDhIdeal.Gen.frame m ρ

/-- And the reference. -/
theorem frame_reference : Cert.quiescent_ReferenceDhIdeal (hReferenceDhIdeal := Cert.ReferenceDhIdeal.Gen.facts) := fun m ρ _ =>
  (θ_run Cert.ReferenceDhIdeal.defs _ _).mono (fun r h => ⟨fun c => (h c).2, sem_eq_zero_of_no_sems (by decide) r.2⟩)
    (Cert.ReferenceDhIdeal.Value.run (F := Ideal) m ρ)

end Cert.Proof.Mul.Dh

end
-- ==== Proof.Mul.Proj.lean ====
/-
  The input projection (the call proj_mm): what the kernel's result array holds after the run. Each of the 144 points
  writes one block of 512 rows and 1536 columns, the product of 512 rows of h with 1536 rows of the transposed weight.
-/
module

public import proofs.«01_k».proof.Defs
public import proofs.«01_k».proof.Proof.Gen.KernelProj.Frame
public import proofs.«01_k».proof.Proof.Gen.KernelProjIdeal.Value
public import proofs.«01_k».proof.Proof.Gen.ReferenceProjIdeal.Read
public import Idealize.ShloMosaic.Lib.Pipeline.ValueKit
public import Idealize.ShloMosaic.Lib.Claim

@[expose] public section

set_option maxRecDepth 16384

noncomputable section

namespace Cert.Proof.Mul.Proj

open Cert.KernelProjIdeal Cert.KernelProjIdeal.Gen Idealize.ShloMosaic Idealize.ShloMosaic.TcCoe Idealize.SL.Sem

variable (m : (ℓ : Loc nD τ sig) → Buf (Elt Ideal) ℓ)

/-- The product of h with the weight, which is given transposed. -/
def prod (x : FVec Ideal S8192x2048 .bf16) (y : FVec Ideal S13824x2048 .bf16) : FVec Ideal S8192x13824 .bf16 := fun i =>
  ∑ k : Fin 2048, x (ix2 (i 0) k) * y (ix2 (i 1) k)

/-- The blocks' places: the rows' block goes fastest. -/
theorem idx : ∀ t : Fin cfg0.N, win0_0.index t = ![t.val % 16, 0] ∧ win0_1.index t = ![t.val / 16, 0] ∧ win0_2.index t = ![t.val % 16, t.val / 16] := by
  decide +kernel

/-- After the run the result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

/-- The reference computes the same product. -/
theorem ref_eq (x : FVec Ideal S8192x2048 .bf16) (y : FVec Ideal S13824x2048 .bf16) :
    Cert.ReferenceProjIdeal.Read.val_main_v4 (F := Ideal) x y = prod x y := by
  rw [← Cert.ReferenceProjIdeal.Read.val_main_v4_eq]
  funext i
  pointwise [prod]

/-- The kernel and the reference end with the same result. -/
theorem algebraic : Cert.algebraic_KernelProjIdeal_ReferenceProjIdeal (hKernelProjIdeal := Cert.KernelProjIdeal.Gen.facts) (hReferenceProjIdeal := Cert.ReferenceProjIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.KernelProjIdeal.Value.run_blocks (F := Ideal) m ρ)
  · refine (θ_run _ _ _).mono (fun r h c => ⟨?_, (h c).2⟩) (Cert.ReferenceProjIdeal.Value.run (F := Ideal) m' ρ')
    rw [(h c).1, (hag c).1, (hag c).2]
    exact (Cert.ReferenceProjIdeal.Read.val_main_v4_eq _ _).trans (ref_eq _ _)

/-- The kernel over machine words ends, its arguments unchanged and no semaphore counting. -/
theorem frame_kernel : Cert.quiescent_KernelProj (hKernelProj := Cert.KernelProj.Gen.facts) := fun m ρ _ => Cert.KernelProj.Gen.frame m ρ

/-- So does the idealized kernel. -/
theorem frame_ideal : Cert.quiescent_KernelProjIdeal (hKernelProjIdeal := Cert.KernelProjIdeal.Gen.facts) := fun m ρ _ => Cert.KernelProjIdeal.Gen.frame m ρ

/-- And the reference. -/
theorem frame_reference : Cert.quiescent_ReferenceProjIdeal (hReferenceProjIdeal := Cert.ReferenceProjIdeal.Gen.facts) := fun m ρ _ =>
  (θ_run Cert.ReferenceProjIdeal.defs _ _).mono (fun r h => ⟨fun c => (h c).2, sem_eq_zero_of_no_sems (by decide) r.2⟩)
    (Cert.ReferenceProjIdeal.Value.run (F := Ideal) m ρ)

end Cert.Proof.Mul.Proj

end
-- ==== Proof.Mul.Wout.lean ====
/-
  The output projection's weight gradient before the gate (the call wout_tn): what the kernel's result array holds after the
  run. A block of 1024 rows and columns is the sum of eight products, one of each 1024 tokens, that the last grid axis adds up.
-/
module

public import proofs.«01_k».proof.Defs
public import proofs.«01_k».proof.Proof.Gen.KernelWout.Frame
public import proofs.«01_k».proof.Proof.Gen.KernelWoutIdeal.Value
public import proofs.«01_k».proof.Proof.Gen.ReferenceWoutIdeal.Read
public import Idealize.ShloMosaic.Lib.Pipeline.ValueKit
public import Idealize.ShloMosaic.Lib.Claim

@[expose] public section

set_option maxRecDepth 16384

noncomputable section

namespace Cert.Proof.Mul.Wout

open Cert.KernelWoutIdeal Cert.KernelWoutIdeal.Gen Idealize.ShloMosaic Idealize.ShloMosaic.TcCoe Idealize.SL.Sem

variable (m : (ℓ : Loc nD τ sig) → Buf (Elt Ideal) ℓ)

/-- The product of merged, transposed, with dx. -/
def prod (x : FVec Ideal S8192x2048 .bf16) (y : FVec Ideal S8192x2048 .f32) : FVec Ideal S2048x2048 .f32 := fun i =>
  ∑ k : Fin 8192, x (ix2 k (i 0)) * y (ix2 k (i 1))

/-- A point's product at an index. -/
theorem pay1_apply (x : FVec Ideal S1024x1024 .bf16) (y : FVec Ideal S1024x1024 .f32) (j : S1024x1024.Idx) :
    k0_pay1 (F := Ideal) x y j = ∑ k : Fin 1024, x (ix2 k (j 0)) * y (ix2 k (j 1)) := by
  pointwise [k0_pay1]

/-- The blocks' places. -/
theorem idx : ∀ t : Fin cfg0.N, win0_0.index t = ![t.val % 8, t.val / 16] ∧ win0_1.index t = ![t.val % 8, t.val / 8 % 2] ∧ win0_2.index t = ![t.val / 16, t.val / 8 % 2] := by
  decide +kernel

/-- After a run's last point the block holds the sum of the run's products. -/
theorem outs_eq (c : Dev nD) (t : Fin cfg0.N) (ht : t.val % 8 = 7) (j : S1024x1024.Idx) :
    (outsAt0 m c t.val t.isLt : S1024x1024.Idx → EReal) j
      = 0 + ∑ s : Fin 8, k0_pay1 (F := Ideal) (iblk m c 0 ⟨8 * (t.val / 8) + s.val, Pipeline.run_point_lt_of_flush t ht s⟩) (iblk m c 1 ⟨8 * (t.val / 8) + s.val, Pipeline.run_point_lt_of_flush t ht s⟩) j := by
  refine Pipeline.eq_sum_fin_of_reset_step_apply_of_flush (M := EReal) (fun n h => (outsAt0 m c n h : S1024x1024.Idx → EReal)) 8 (fun _ => 0)
    (fun t => k0_pay1 (F := Ideal) (iblk m c 0 t) (iblk m c 1 t)) ?_ ?_ t ht j
  · intro t h j
    rw [outsAt0_A m c t h (by omega)]
    frame_out
    rw [zero_add]
  · intro t h j
    rw [outsAt0_B m c t h (by omega)]
    frame_out
    pointwise [k0_pay2]

/-- After the run the result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  refine (outs_eq m c t ht _).trans ?_
  rw [zero_add]
  simp only [pay1_apply]
  unfold prod
  refine Fin.sum_mul_add_congr fun s k hl => ?_
  blk_point [iblk, V, idx t, idx ⟨_, Pipeline.run_point_lt_of_flush t ht s⟩]

/-- The reference computes the same product. -/
theorem ref_eq (x : FVec Ideal S8192x2048 .bf16) (y : FVec Ideal S8192x2048 .f32) :
    Cert.ReferenceWoutIdeal.Read.val_main_v4 (F := Ideal) x y = prod x y := by
  rw [← Cert.ReferenceWoutIdeal.Read.val_main_v4_eq]
  funext i
  pointwise [prod]
  exact Finset.sum_congr rfl fun k _ => mul_comm _ _

/-- The kernel and the reference end with the same result. -/
theorem algebraic : Cert.algebraic_KernelWoutIdeal_ReferenceWoutIdeal (hKernelWoutIdeal := Cert.KernelWoutIdeal.Gen.facts) (hReferenceWoutIdeal := Cert.ReferenceWoutIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.KernelWoutIdeal.Value.run_blocks (F := Ideal) m ρ)
  · refine (θ_run _ _ _).mono (fun r h c => ⟨?_, (h c).2⟩) (Cert.ReferenceWoutIdeal.Value.run (F := Ideal) m' ρ')
    rw [(h c).1, (hag c).1, (hag c).2]
    exact (Cert.ReferenceWoutIdeal.Read.val_main_v4_eq _ _).trans (ref_eq _ _)

/-- The kernel over machine words ends, its arguments unchanged and no semaphore counting. -/
theorem frame_kernel : Cert.quiescent_KernelWout (hKernelWout := Cert.KernelWout.Gen.facts) := fun m ρ _ => Cert.KernelWout.Gen.frame m ρ

/-- So does the idealized kernel. -/
theorem frame_ideal : Cert.quiescent_KernelWoutIdeal (hKernelWoutIdeal := Cert.KernelWoutIdeal.Gen.facts) := fun m ρ _ => Cert.KernelWoutIdeal.Gen.frame m ρ

/-- And the reference. -/
theorem frame_reference : Cert.quiescent_ReferenceWoutIdeal (hReferenceWoutIdeal := Cert.ReferenceWoutIdeal.Gen.facts) := fun m ρ _ =>
  (θ_run Cert.ReferenceWoutIdeal.defs _ _).mono (fun r h => ⟨fun c => (h c).2, sem_eq_zero_of_no_sems (by decide) r.2⟩)
    (Cert.ReferenceWoutIdeal.Value.run (F := Ideal) m ρ)

end Cert.Proof.Mul.Wout

end
-- ==== Proof.Mul.Bdy.lean ====
/-
  A branch's gradient through its projection (the call branch_bwd_mm): what the kernel's result array holds after the run.
  Each of the 16 points writes 512 rows.
-/
module

public import proofs.«01_k».proof.Defs
public import proofs.«01_k».proof.Proof.Gen.KernelBdy.Frame
public import proofs.«01_k».proof.Proof.Gen.KernelBdyIdeal.Value
public import proofs.«01_k».proof.Proof.Gen.ReferenceBdyIdeal.Read
public import Idealize.ShloMosaic.Lib.Pipeline.ValueKit
public import Idealize.ShloMosaic.Lib.Claim

@[expose] public section

set_option maxRecDepth 16384

noncomputable section

namespace Cert.Proof.Mul.Bdy

open Cert.KernelBdyIdeal Cert.KernelBdyIdeal.Gen Idealize.ShloMosaic Idealize.ShloMosaic.TcCoe Idealize.SL.Sem

variable (m : (ℓ : Loc nD τ sig) → Buf (Elt Ideal) ℓ)

/-- The product of the projection's gradient with the weight, transposed. -/
def prod (x : FVec Ideal S8192x2048 .bf16) (y : FVec Ideal S1024x2048 .bf16) : FVec Ideal S8192x1024 .bf16 := fun i =>
  ∑ k : Fin 2048, x (ix2 (i 0) k) * y (ix2 (i 1) k)

/-- The blocks' places. -/
theorem idx : ∀ t : Fin cfg0.N, win0_0.index t = ![t.val, 0] ∧ win0_1.index t = ![0, 0] ∧ win0_2.index t = ![t.val, 0] := by
  decide +kernel

/-- After the run the result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

/-- The reference computes the same product. -/
theorem ref_eq (x : FVec Ideal S8192x2048 .bf16) (y : FVec Ideal S1024x2048 .bf16) :
    Cert.ReferenceBdyIdeal.Read.val_main_v5 (F := Ideal) x y = prod x y := by
  rw [← Cert.ReferenceBdyIdeal.Read.val_main_v5_eq]
  funext i
  pointwise [prod]

/-- The kernel and the reference end with the same result. -/
theorem algebraic : Cert.algebraic_KernelBdyIdeal_ReferenceBdyIdeal (hKernelBdyIdeal := Cert.KernelBdyIdeal.Gen.facts) (hReferenceBdyIdeal := Cert.ReferenceBdyIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.KernelBdyIdeal.Value.run_blocks (F := Ideal) m ρ)
  · refine (θ_run _ _ _).mono (fun r h c => ⟨?_, (h c).2⟩) (Cert.ReferenceBdyIdeal.Value.run (F := Ideal) m' ρ')
    rw [(h c).1, (hag c).1, (hag c).2]
    exact (Cert.ReferenceBdyIdeal.Read.val_main_v5_eq _ _).trans (ref_eq _ _)

/-- The kernel over machine words ends, its arguments unchanged and no semaphore counting. -/
theorem frame_kernel : Cert.quiescent_KernelBdy (hKernelBdy := Cert.KernelBdy.Gen.facts) := fun m ρ _ => Cert.KernelBdy.Gen.frame m ρ

/-- So does the idealized kernel. -/
theorem frame_ideal : Cert.quiescent_KernelBdyIdeal (hKernelBdyIdeal := Cert.KernelBdyIdeal.Gen.facts) := fun m ρ _ => Cert.KernelBdyIdeal.Gen.frame m ρ

/-- And the reference. -/
theorem frame_reference : Cert.quiescent_ReferenceBdyIdeal (hReferenceBdyIdeal := Cert.ReferenceBdyIdeal.Gen.facts) := fun m ρ _ =>
  (θ_run Cert.ReferenceBdyIdeal.defs _ _).mono (fun r h => ⟨fun c => (h c).2, sem_eq_zero_of_no_sems (by decide) r.2⟩)
    (Cert.ReferenceBdyIdeal.Value.run (F := Ideal) m ρ)

end Cert.Proof.Mul.Bdy

end
-- ==== Proof.Mul.Bdw.lean ====
/-
  A branch projection's weight gradient (the call branch_tn): what the kernel's result array holds after the run. A block of
  1024 columns is the sum of eight products, one of each 1024 tokens, that the last grid axis adds up.
-/
module

public import proofs.«01_k».proof.Defs
public import proofs.«01_k».proof.Proof.Gen.KernelBdw.Frame
public import proofs.«01_k».proof.Proof.Gen.KernelBdwIdeal.Value
public import proofs.«01_k».proof.Proof.Gen.ReferenceBdwIdeal.Read
public import Idealize.ShloMosaic.Lib.Pipeline.ValueKit
public import Idealize.ShloMosaic.Lib.Claim

@[expose] public section

set_option maxRecDepth 16384

noncomputable section

namespace Cert.Proof.Mul.Bdw

open Cert.KernelBdwIdeal Cert.KernelBdwIdeal.Gen Idealize.ShloMosaic Idealize.ShloMosaic.TcCoe Idealize.SL.Sem

variable (m : (ℓ : Loc nD τ sig) → Buf (Elt Ideal) ℓ)

/-- The product of the branch's output, transposed, with the gradient of its projection. -/
def prod (x : FVec Ideal S8192x1024 .bf16) (y : FVec Ideal S8192x2048 .bf16) : FVec Ideal S1024x2048 .f32 := fun i =>
  ∑ k : Fin 8192, x (ix2 k (i 0)) * y (ix2 k (i 1))

/-- A point's product at an index. -/
theorem pay1_apply (x : FVec Ideal S1024x1024 .bf16) (y : FVec Ideal S1024x1024 .bf16) (j : S1024x1024.Idx) :
    k0_pay1 (F := Ideal) x y j = ∑ k : Fin 1024, x (ix2 k (j 0)) * y (ix2 k (j 1)) := by
  pointwise [k0_pay1]

/-- The blocks' places. -/
theorem idx : ∀ t : Fin cfg0.N, win0_0.index t = ![t.val % 8, 0] ∧ win0_1.index t = ![t.val % 8, t.val / 8] ∧ win0_2.index t = ![0, t.val / 8] := by
  decide +kernel

/-- After a run's last point the block holds the sum of the run's products. -/
theorem outs_eq (c : Dev nD) (t : Fin cfg0.N) (ht : t.val % 8 = 7) (j : S1024x1024.Idx) :
    (outsAt0 m c t.val t.isLt : S1024x1024.Idx → EReal) j
      = 0 + ∑ s : Fin 8, k0_pay1 (F := Ideal) (iblk m c 0 ⟨8 * (t.val / 8) + s.val, Pipeline.run_point_lt_of_flush t ht s⟩) (iblk m c 1 ⟨8 * (t.val / 8) + s.val, Pipeline.run_point_lt_of_flush t ht s⟩) j := by
  refine Pipeline.eq_sum_fin_of_reset_step_apply_of_flush (M := EReal) (fun n h => (outsAt0 m c n h : S1024x1024.Idx → EReal)) 8 (fun _ => 0)
    (fun t => k0_pay1 (F := Ideal) (iblk m c 0 t) (iblk m c 1 t)) ?_ ?_ t ht j
  · intro t h j
    rw [outsAt0_A m c t h (by omega)]
    frame_out
    rw [zero_add]
  · intro t h j
    rw [outsAt0_B m c t h (by omega)]
    frame_out
    pointwise [k0_pay2]

/-- After the run the result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  refine (outs_eq m c t ht _).trans ?_
  rw [zero_add]
  simp only [pay1_apply]
  unfold prod
  refine Fin.sum_mul_add_congr fun s k hl => ?_
  blk_point [iblk, V, idx t, idx ⟨_, Pipeline.run_point_lt_of_flush t ht s⟩]

/-- The reference computes the same product. -/
theorem ref_eq (x : FVec Ideal S8192x1024 .bf16) (y : FVec Ideal S8192x2048 .bf16) :
    Cert.ReferenceBdwIdeal.Read.val_main_v5 (F := Ideal) x y = prod x y := by
  rw [← Cert.ReferenceBdwIdeal.Read.val_main_v5_eq]
  funext i
  pointwise [prod]
  exact Finset.sum_congr rfl fun k _ => mul_comm _ _

/-- The kernel and the reference end with the same result. -/
theorem algebraic : Cert.algebraic_KernelBdwIdeal_ReferenceBdwIdeal (hKernelBdwIdeal := Cert.KernelBdwIdeal.Gen.facts) (hReferenceBdwIdeal := Cert.ReferenceBdwIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.KernelBdwIdeal.Value.run_blocks (F := Ideal) m ρ)
  · refine (θ_run _ _ _).mono (fun r h c => ⟨?_, (h c).2⟩) (Cert.ReferenceBdwIdeal.Value.run (F := Ideal) m' ρ')
    rw [(h c).1, (hag c).1, (hag c).2]
    exact (Cert.ReferenceBdwIdeal.Read.val_main_v5_eq _ _).trans (ref_eq _ _)

/-- The kernel over machine words ends, its arguments unchanged and no semaphore counting. -/
theorem frame_kernel : Cert.quiescent_KernelBdw (hKernelBdw := Cert.KernelBdw.Gen.facts) := fun m ρ _ => Cert.KernelBdw.Gen.frame m ρ

/-- So does the idealized kernel. -/
theorem frame_ideal : Cert.quiescent_KernelBdwIdeal (hKernelBdwIdeal := Cert.KernelBdwIdeal.Gen.facts) := fun m ρ _ => Cert.KernelBdwIdeal.Gen.frame m ρ

/-- And the reference. -/
theorem frame_reference : Cert.quiescent_ReferenceBdwIdeal (hReferenceBdwIdeal := Cert.ReferenceBdwIdeal.Gen.facts) := fun m ρ _ =>
  (θ_run Cert.ReferenceBdwIdeal.defs _ _).mono (fun r h => ⟨fun c => (h c).2, sem_eq_zero_of_no_sems (by decide) r.2⟩)
    (Cert.ReferenceBdwIdeal.Value.run (F := Ideal) m ρ)

end Cert.Proof.Mul.Bdw

end
-- ==== Proof.Mul.Merge.lean ====
/-
  The branches' projections and their merge by the sigmoid gates (the call merge_fwd): what the kernel's four result arrays
  hold after the run, and what the reference computes. Each of the 32 points writes blocks of 512 rows and 1024 columns.
-/
module

public import proofs.«01_k».proof.Defs
public import proofs.«01_k».proof.Proof.Gen.KernelMerge.Frame
public import proofs.«01_k».proof.Proof.Gen.KernelMergeIdeal.Value
public import proofs.«01_k».proof.Proof.Gen.ReferenceMergeIdeal.Read
public import Idealize.ShloMosaic.Lib.Pipeline.ValueKit
public import Idealize.ShloMosaic.Lib.Claim

@[expose] public section

set_option maxRecDepth 16384

noncomputable section

namespace Cert.Proof.Mul.Merge

open Cert.KernelMergeIdeal Cert.KernelMergeIdeal.Gen Idealize.ShloMosaic Idealize.ShloMosaic.TcCoe Idealize.SL.Sem

variable (m : (ℓ : Loc nD τ sig) → Buf (Elt Ideal) ℓ)

/-- The projection of a branch. -/
def pr (y : FVec Ideal S8192x1024 .bf16) (w : FVec Ideal S1024x2048 .bf16) : FVec Ideal S8192x2048 .bf16 := fun i =>
  ∑ k : Fin 1024, y (ix2 (i 0) k) * w (ix2 k (i 1))

/-- A gate: the sigmoid of a column of the projection. -/
def gt (off : Nat) (h : off ≤ 4096) (proj : FVec Ideal S8192x13824 .bf16) (i : S8192x2048.Idx) : EReal :=
  Ideal.div 1 (1 + Ideal.exp (-proj (ix2 (i 0) ⟨7680 + (off + (i 1).val), by have : (i 1).val < 2048 := (i 1).isLt; omega⟩)))

/-- The three projections, each times its gate, added. -/
def merged (y0 y1 y2 : FVec Ideal S8192x1024 .bf16) (w0 w1 w2 : FVec Ideal S1024x2048 .bf16) (proj : FVec Ideal S8192x13824 .bf16) :
    FVec Ideal S8192x2048 .bf16 := fun i =>
  gt 0 (by decide) proj i * pr y0 w0 i + gt 2048 (by decide) proj i * pr y1 w1 i + gt 4096 (by decide) proj i * pr y2 w2 i

/-- The blocks' places: the rows' block goes fastest. -/
theorem idx : ∀ t : Fin cfg0.N, win0_0.index t = ![t.val % 16, 0] ∧ win0_1.index t = ![t.val % 16, 0] ∧ win0_2.index t = ![t.val % 16, 0]
    ∧ win0_3.index t = ![0, t.val / 16] ∧ win0_4.index t = ![0, t.val / 16] ∧ win0_5.index t = ![0, t.val / 16]
    ∧ win0_9.index t = ![t.val % 16, t.val / 16] ∧ win0_10.index t = ![t.val % 16, t.val / 16] ∧ win0_11.index t = ![t.val % 16, t.val / 16]
    ∧ win0_12.index t = ![t.val % 16, t.val / 16] := by
  decide +kernel

/-- The places of the gates' windows, which count elements. -/
theorem eidx : ∀ t : Fin cfg0.N, win0_6.index t = ![t.val % 16 * 512, 7680 + t.val / 16 * 1024] ∧ win0_7.index t = ![t.val % 16 * 512, 9728 + t.val / 16 * 1024]
    ∧ win0_8.index t = ![t.val % 16 * 512, 11776 + t.val / 16 * 1024] := by
  decide +kernel

theorem place6 (t : Fin cfg0.N) (y : S512x1024.Idx) :
    ((((View.whole main_arg6).slice (win0_6.rect t)).emb y) 0).val = t.val % 16 * 512 + (y 0).val
      ∧ ((((View.whole main_arg6).slice (win0_6.rect t)).emb y) 1).val = 7680 + (0 + (t.val / 16 * 1024 + (y 1).val)) := by
  have e0 := congrFun (eidx t).1 0
  have e1 := congrFun (eidx t).1 1
  refine ⟨?_, ?_⟩
  · show win0_6.index t 0 + 1 * (y 0).val = _
    rw [e0, one_mul]; rfl
  · show win0_6.index t 1 + 1 * (y 1).val = _
    rw [e1, one_mul]; show 7680 + _ + _ = _; omega

theorem place7 (t : Fin cfg0.N) (y : S512x1024.Idx) :
    ((((View.whole main_arg6).slice (win0_7.rect t)).emb y) 0).val = t.val % 16 * 512 + (y 0).val
      ∧ ((((View.whole main_arg6).slice (win0_7.rect t)).emb y) 1).val = 7680 + (2048 + (t.val / 16 * 1024 + (y 1).val)) := by
  have e0 := congrFun (eidx t).2.1 0
  have e1 := congrFun (eidx t).2.1 1
  refine ⟨?_, ?_⟩
  · show win0_7.index t 0 + 1 * (y 0).val = _
    rw [e0, one_mul]; rfl
  · show win0_7.index t 1 + 1 * (y 1).val = _
    rw [e1, one_mul]; show 9728 + _ + _ = _; omega

theorem place8 (t : Fin cfg0.N) (y : S512x1024.Idx) :
    ((((View.whole main_arg6).slice (win0_8.rect t)).emb y) 0).val = t.val % 16 * 512 + (y 0).val
      ∧ ((((View.whole main_arg6).slice (win0_8.rect t)).emb y) 1).val = 7680 + (4096 + (t.val / 16 * 1024 + (y 1).val)) := by
  have e0 := congrFun (eidx t).2.2 0
  have e1 := congrFun (eidx t).2.2 1
  refine ⟨?_, ?_⟩
  · show win0_8.index t 0 + 1 * (y 0).val = _
    rw [e0, one_mul]; rfl
  · show win0_8.index t 1 + 1 * (y 1).val = _
    rw [e1, one_mul]; show 11776 + _ + _ = _; omega

/-- After the run the first result holds the merged branches. -/
theorem final9 (c : Dev nD) : (dats m 0 c).arrAt 9 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  pointwise [k0_pay1, k0_pay2, k0_pay3, k0_pay4, k0_pay5, k0_pay6, k0_pay7, Ideal.logistic, merged, gt, pr]
  blk_point [iblk, V, idx t]
  · exact (place6 t y).1
  · exact (place6 t y).2.trans (by rw [Nat.zero_add])
  · exact (place7 t y).1
  · exact (place7 t y).2
  · exact (place8 t y).1
  · exact (place8 t y).2

/-- After the run result 1 holds the projection of branch 0. -/
theorem final10 (c : Dev nD) : (dats m 0 c).arrAt 10 cfg0.N = pr (m ((c : Thread nD τ).loc main_arg0)) (m ((c : Thread nD τ).loc main_arg3)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, k0_pay7, Ideal.logistic, merged, gt, pr]
  blk_point [iblk, V, idx t]

/-- After the run result 2 holds the projection of branch 1. -/
theorem final11 (c : Dev nD) : (dats m 0 c).arrAt 11 cfg0.N = pr (m ((c : Thread nD τ).loc main_arg1)) (m ((c : Thread nD τ).loc main_arg4)) := by
  refine (dats m 0 c).arrAt_eq_of_covers 11 _ (by decide +kernel) fun t hf y => ?_
  blk_simp
  rw [after0_11]
  frame_out
  pointwise [k0_pay1, k0_pay2, k0_pay3, k0_pay4, k0_pay5, k0_pay6, k0_pay7, Ideal.logistic, merged, gt, pr]
  blk_point [iblk, V, idx t]

/-- After the run result 3 holds the projection of branch 2. -/
theorem final12 (c : Dev nD) : (dats m 0 c).arrAt 12 cfg0.N = pr (m ((c : Thread nD τ).loc main_arg2)) (m ((c : Thread nD τ).loc main_arg5)) := by
  refine (dats m 0 c).arrAt_eq_of_covers 12 _ (by decide +kernel) fun t hf y => ?_
  blk_simp
  rw [after0_12]
  frame_out
  pointwise [k0_pay1, k0_pay2, k0_pay3, k0_pay4, k0_pay5, k0_pay6, k0_pay7, Ideal.logistic, merged, gt, pr]
  blk_point [iblk, V, idx t]

theorem ref26 (y : FVec Ideal S8192x1024 .bf16) (w : FVec Ideal S1024x2048 .bf16) : Cert.ReferenceMergeIdeal.Read.val_main_v26 (F := Ideal) y w = pr y w := by
  rw [← Cert.ReferenceMergeIdeal.Read.val_main_v26_eq]
  funext i
  pointwise [pr]

theorem ref27 (y : FVec Ideal S8192x1024 .bf16) (w : FVec Ideal S1024x2048 .bf16) : Cert.ReferenceMergeIdeal.Read.val_main_v27 (F := Ideal) y w = pr y w := by
  rw [← Cert.ReferenceMergeIdeal.Read.val_main_v27_eq]
  funext i
  pointwise [pr]

theorem ref28 (y : FVec Ideal S8192x1024 .bf16) (w : FVec Ideal S1024x2048 .bf16) : Cert.ReferenceMergeIdeal.Read.val_main_v28 (F := Ideal) y w = pr y w := by
  rw [← Cert.ReferenceMergeIdeal.Read.val_main_v28_eq]
  funext i
  pointwise [pr]

theorem ref25 (y0 y1 y2 : FVec Ideal S8192x1024 .bf16) (w0 w1 w2 : FVec Ideal S1024x2048 .bf16) (proj : FVec Ideal S8192x13824 .bf16) :
    Cert.ReferenceMergeIdeal.Read.val_main_v25 (F := Ideal) y0 y1 y2 w0 w1 w2 proj = merged y0 y1 y2 w0 w1 w2 proj := by
  rw [← Cert.ReferenceMergeIdeal.Read.val_main_v25_eq]
  funext i
  pointwise [merged, gt, pr]

/-- The kernel and the reference end with the same results. -/
theorem algebraic : Cert.algebraic_KernelMergeIdeal_ReferenceMergeIdeal (hKernelMergeIdeal := Cert.KernelMergeIdeal.Gen.facts) (hReferenceMergeIdeal := Cert.ReferenceMergeIdeal.Gen.facts) := by
  intro m ρ m' ρ' _ hag
  refine ⟨fun c => merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => pr (m ((c : Thread nD τ).loc main_arg0)) (m ((c : Thread nD τ).loc main_arg3)),
    fun c => pr (m ((c : Thread nD τ).loc main_arg1)) (m ((c : Thread nD τ).loc main_arg4)),
    fun c => pr (m ((c : Thread nD τ).loc main_arg2)) (m ((c : Thread nD τ).loc main_arg5)), ?_, ?_⟩
  · refine (θ_run _ _ _).mono (fun r h c => ?_) (Cert.KernelMergeIdeal.Value.run_blocks (F := Ideal) m ρ)
    obtain ⟨h0, h1, h2, h3, ha⟩ := h c
    exact ⟨h0.trans (final9 m c), h1.trans (final10 m c), h2.trans (final11 m c), h3.trans (final12 m c), ha⟩
  · refine (θ_run _ _ _).mono (fun r h c => ?_) (Cert.ReferenceMergeIdeal.Value.run (F := Ideal) m' ρ')
    obtain ⟨h0, h1, h2, h3, ha⟩ := h c
    obtain ⟨e0, e1, e2, e3, e4, e5, e6⟩ := hag c
    refine ⟨?_, ?_, ?_, ?_, ha⟩
    · rw [h0, e0, e1, e2, e3, e4, e5, e6]
      exact (Cert.ReferenceMergeIdeal.Read.val_main_v25_eq _ _ _ _ _ _ _ ).trans (ref25 _ _ _ _ _ _ _)
    · rw [h1, e0, e3]
      exact (Cert.ReferenceMergeIdeal.Read.val_main_v26_eq _ _ ).trans (ref26 _ _)
    · rw [h2, e1, e4]
      exact (Cert.ReferenceMergeIdeal.Read.val_main_v27_eq _ _ ).trans (ref27 _ _)
    · rw [h3, e2, e5]
      exact (Cert.ReferenceMergeIdeal.Read.val_main_v28_eq _ _ ).trans (ref28 _ _)

/-- The kernel over machine words ends, its arguments unchanged and no semaphore counting. -/
theorem frame_kernel : Cert.quiescent_KernelMerge (hKernelMerge := Cert.KernelMerge.Gen.facts) := fun m ρ _ => Cert.KernelMerge.Gen.frame m ρ

/-- So does the idealized kernel. -/
theorem frame_ideal : Cert.quiescent_KernelMergeIdeal (hKernelMergeIdeal := Cert.KernelMergeIdeal.Gen.facts) := fun m ρ _ => Cert.KernelMergeIdeal.Gen.frame m ρ

/-- And the reference. -/
theorem frame_reference : Cert.quiescent_ReferenceMergeIdeal (hReferenceMergeIdeal := Cert.ReferenceMergeIdeal.Gen.facts) := fun m ρ _ =>
  (θ_run Cert.ReferenceMergeIdeal.defs _ _).mono (fun r h => ⟨fun c => (h c).2.2.2.2, sem_eq_zero_of_no_sems (by decide) r.2⟩)
    (Cert.ReferenceMergeIdeal.Value.run (F := Ideal) m ρ)

end Cert.Proof.Mul.Merge

end
-- ==== Proof.Mul.Out.lean ====
/-
  The output projection with the residual (the call out_fwd): what the kernel's result array holds after the run, and what the
  reference computes. Each of the 32 points writes a block of 512 rows and 1024 columns.
-/
module

public import proofs.«01_k».proof.Defs
public import proofs.«01_k».proof.Proof.Gen.KernelOut.Frame
public import proofs.«01_k».proof.Proof.Gen.KernelOutIdeal.Value
public import proofs.«01_k».proof.Proof.Gen.ReferenceOutIdeal.Read
public import Idealize.ShloMosaic.Lib.Pipeline.ValueKit
public import Idealize.ShloMosaic.Lib.Claim

@[expose] public section

set_option maxRecDepth 16384

noncomputable section

namespace Cert.Proof.Mul.Out

open Cert.KernelOutIdeal Cert.KernelOutIdeal.Gen Idealize.ShloMosaic Idealize.ShloMosaic.TcCoe Idealize.SL.Sem

variable (m : (ℓ : Loc nD τ sig) → Buf (Elt Ideal) ℓ)

/-- The residual and the gated product of the merged branches with the weight. -/
def out (x : FVec Ideal S8192x2048 .f32) (mg : FVec Ideal S8192x2048 .bf16) (w : FVec Ideal S2048x2048 .bf16) (g : FVec Ideal S1x2048 .f32) :
    FVec Ideal S8192x2048 .f32 := fun i => x i + g (ix2 0 (i 1)) * ∑ k : Fin 2048, mg (ix2 (i 0) k) * w (ix2 k (i 1))

/-- The blocks' places: the rows' block goes fastest. -/
theorem idx : ∀ t : Fin cfg0.N, win0_0.index t = ![t.val % 16, t.val / 16] ∧ win0_1.index t = ![t.val % 16, 0] ∧ win0_2.index t = ![0, t.val / 16]
    ∧ win0_3.index t = ![0, t.val / 16] ∧ win0_4.index t = ![t.val % 16, t.val / 16] := by
  decide +kernel

theorem final4 (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, out]
  blk_point [iblk, V, idx t]

theorem ref5 (x : FVec Ideal S8192x2048 .f32) (mg : FVec Ideal S8192x2048 .bf16) (w : FVec Ideal S2048x2048 .bf16) (g : FVec Ideal S1x2048 .f32) :
    Cert.ReferenceOutIdeal.Read.val_main_v5 (F := Ideal) x mg w g = out x mg w g := by
  rw [← Cert.ReferenceOutIdeal.Read.val_main_v5_eq]
  funext i
  pointwise [out]

/-- The kernel and the reference end with the same results. -/
theorem algebraic : Cert.algebraic_KernelOutIdeal_ReferenceOutIdeal (hKernelOutIdeal := Cert.KernelOutIdeal.Gen.facts) (hReferenceOutIdeal := Cert.ReferenceOutIdeal.Gen.facts) := by
  intro m ρ m' ρ' _ hag
  refine ⟨fun c => out (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.KernelOutIdeal.Value.run_blocks (F := Ideal) m ρ)
    obtain ⟨h0, ha⟩ := h c
    exact ⟨h0.trans (final4 m c), ha⟩
  · refine (θ_run _ _ _).mono (fun r h c => ?_) (Cert.ReferenceOutIdeal.Value.run (F := Ideal) m' ρ')
    obtain ⟨h0, ha⟩ := h c
    obtain ⟨e0, e1, e2, e3⟩ := hag c
    refine ⟨?_, ha⟩
    · rw [h0, e0, e1, e2, e3]
      exact (Cert.ReferenceOutIdeal.Read.val_main_v5_eq _ _ _ _ ).trans (ref5 _ _ _ _)

/-- The kernel over machine words ends, its arguments unchanged and no semaphore counting. -/
theorem frame_kernel : Cert.quiescent_KernelOut (hKernelOut := Cert.KernelOut.Gen.facts) := fun m ρ _ => Cert.KernelOut.Gen.frame m ρ

/-- So does the idealized kernel. -/
theorem frame_ideal : Cert.quiescent_KernelOutIdeal (hKernelOutIdeal := Cert.KernelOutIdeal.Gen.facts) := fun m ρ _ => Cert.KernelOutIdeal.Gen.frame m ρ

/-- And the reference. -/
theorem frame_reference : Cert.quiescent_ReferenceOutIdeal (hReferenceOutIdeal := Cert.ReferenceOutIdeal.Gen.facts) := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

end Cert.Proof.Mul.Out

end
-- ==== Proof.Mul.Gate.lean ====
/-
  The gradients of the merge gates and of the branches' projections (the call out_bwd): what the kernel's six result arrays
  hold after the run, and what the reference computes. Each of the 32 points writes blocks of 512 rows and 1024 columns.
-/
module

public import proofs.«01_k».proof.Defs
public import proofs.«01_k».proof.Proof.Gen.KernelGate.Frame
public import proofs.«01_k».proof.Proof.Gen.KernelGateIdeal.Value
public import proofs.«01_k».proof.Proof.Gen.ReferenceGateIdeal.Read
public import Idealize.ShloMosaic.Lib.Pipeline.ValueKit
public import Idealize.ShloMosaic.Lib.Claim

@[expose] public section

set_option maxRecDepth 16384

noncomputable section

namespace Cert.Proof.Mul.Gate

open Cert.KernelGateIdeal Cert.KernelGateIdeal.Gen Idealize.ShloMosaic Idealize.ShloMosaic.TcCoe Idealize.SL.Sem

variable (m : (ℓ : Loc nD τ sig) → Buf (Elt Ideal) ℓ)

theorem ix2_self (i : S8192x2048.Idx) : ix2 (i 0) (i 1) = i := by
  funext a
  match a with
  | ⟨0, _⟩ => rfl
  | ⟨1, _⟩ => rfl

/-- The gradient of the merged branches. -/
def dm (dx : FVec Ideal S8192x2048 .f32) (g : FVec Ideal S1x2048 .f32) (w : FVec Ideal S2048x2048 .bf16) (i : S8192x2048.Idx) : EReal :=
  ∑ k : Fin 2048, g (ix2 0 k) * dx (ix2 (i 0) k) * w (ix2 (i 1) k)

theorem dm_swap (dx : FVec Ideal S8192x2048 .f32) (g : FVec Ideal S1x2048 .f32) (w : FVec Ideal S2048x2048 .bf16) (i : S8192x2048.Idx) :
    dm dx g w i = ∑ k : Fin 2048, dx (ix2 (i 0) k) * g (ix2 0 k) * w (ix2 (i 1) k) :=
  Finset.sum_congr rfl fun _ _ => congrArg (· * _) (mul_comm _ _)

/-- A gate: the sigmoid of a column of the projection. -/
def gt (off : Nat) (h : off ≤ 4096) (proj : FVec Ideal S8192x13824 .bf16) (i : S8192x2048.Idx) : EReal :=
  Ideal.div 1 (1 + Ideal.exp (-proj (ix2 (i 0) ⟨7680 + (off + (i 1).val), by have : (i 1).val < 2048 := (i 1).isLt; omega⟩)))

/-- The gradient of a branch's projection. -/
def dp (off : Nat) (h : off ≤ 4096) (dx : FVec Ideal S8192x2048 .f32) (g : FVec Ideal S1x2048 .f32) (w : FVec Ideal S2048x2048 .bf16)
    (proj : FVec Ideal S8192x13824 .bf16) : FVec Ideal S8192x2048 .bf16 := fun i => dm dx g w i * gt off h proj i

/-- The gradient of a gate before its sigmoid. -/
def dg (off : Nat) (h : off ≤ 4096) (dx : FVec Ideal S8192x2048 .f32) (g : FVec Ideal S1x2048 .f32) (w : FVec Ideal S2048x2048 .bf16)
    (p : FVec Ideal S8192x2048 .bf16) (proj : FVec Ideal S8192x13824 .bf16) : FVec Ideal S8192x2048 .bf16 := fun i =>
  dm dx g w i * p i * gt off h proj i * (1 - gt off h proj i)

/-- The blocks' places: the rows' block goes fastest. -/
theorem idx : ∀ t : Fin cfg0.N, win0_0.index t = ![t.val % 16, 0] ∧ win0_1.index t = ![0, 0] ∧ win0_2.index t = ![t.val / 16, 0]
    ∧ win0_3.index t = ![t.val % 16, t.val / 16] ∧ win0_4.index t = ![t.val % 16, t.val / 16] ∧ win0_5.index t = ![t.val % 16, t.val / 16]
    ∧ win0_9.index t = ![t.val % 16, t.val / 16] ∧ win0_10.index t = ![t.val % 16, t.val / 16] ∧ win0_11.index t = ![t.val % 16, t.val / 16]
    ∧ win0_12.index t = ![t.val % 16, t.val / 16] ∧ win0_13.index t = ![t.val % 16, t.val / 16] ∧ win0_14.index t = ![t.val % 16, t.val / 16] := by
  decide +kernel

/-- The places of the gates' windows, which count elements. -/
theorem eidx : ∀ t : Fin cfg0.N, win0_6.index t = ![t.val % 16 * 512, 7680 + t.val / 16 * 1024] ∧ win0_7.index t = ![t.val % 16 * 512, 9728 + t.val / 16 * 1024]
    ∧ win0_8.index t = ![t.val % 16 * 512, 11776 + t.val / 16 * 1024] := by
  decide +kernel

theorem place6 (t : Fin cfg0.N) (y : S512x1024.Idx) :
    ((((View.whole main_arg6).slice (win0_6.rect t)).emb y) 0).val = t.val % 16 * 512 + (y 0).val
      ∧ ((((View.whole main_arg6).slice (win0_6.rect t)).emb y) 1).val = 7680 + (0 + (t.val / 16 * 1024 + (y 1).val)) := by
  have e0 := congrFun (eidx t).1 0
  have e1 := congrFun (eidx t).1 1
  refine ⟨?_, ?_⟩
  · show win0_6.index t 0 + 1 * (y 0).val = _
    rw [e0, one_mul]; rfl
  · show win0_6.index t 1 + 1 * (y 1).val = _
    rw [e1, one_mul]; show 7680 + _ + _ = _; omega

theorem place7 (t : Fin cfg0.N) (y : S512x1024.Idx) :
    ((((View.whole main_arg6).slice (win0_7.rect t)).emb y) 0).val = t.val % 16 * 512 + (y 0).val
      ∧ ((((View.whole main_arg6).slice (win0_7.rect t)).emb y) 1).val = 7680 + (2048 + (t.val / 16 * 1024 + (y 1).val)) := by
  have e0 := congrFun (eidx t).2.1 0
  have e1 := congrFun (eidx t).2.1 1
  refine ⟨?_, ?_⟩
  · show win0_7.index t 0 + 1 * (y 0).val = _
    rw [e0, one_mul]; rfl
  · show win0_7.index t 1 + 1 * (y 1).val = _
    rw [e1, one_mul]; show 9728 + _ + _ = _; omega

theorem place8 (t : Fin cfg0.N) (y : S512x1024.Idx) :
    ((((View.whole main_arg6).slice (win0_8.rect t)).emb y) 0).val = t.val % 16 * 512 + (y 0).val
      ∧ ((((View.whole main_arg6).slice (win0_8.rect t)).emb y) 1).val = 7680 + (4096 + (t.val / 16 * 1024 + (y 1).val)) := by
  have e0 := congrFun (eidx t).2.2 0
  have e1 := congrFun (eidx t).2.2 1
  refine ⟨?_, ?_⟩
  · show win0_8.index t 0 + 1 * (y 0).val = _
    rw [e0, one_mul]; rfl
  · show win0_8.index t 1 + 1 * (y 1).val = _
    rw [e1, one_mul]; show 11776 + _ + _ = _; omega

/-- After the run result 0 holds the gradient of projection 0. -/
theorem final9 (c : Dev nD) : (dats m 0 c).arrAt 9 cfg0.N = dp 0 (by decide) (m ((c : Thread nD τ).loc main_arg0)) (m ((c : Thread nD τ).loc main_arg1)) (m ((c : Thread nD τ).loc main_arg2)) (m ((c : Thread nD τ).loc main_arg6)) := by
  refine (dats m 0 c).arrAt_eq_of_covers 9 _ (by decide +kernel) fun t hf y => ?_
  blk_simp
  rw [after0_9]
  frame_out
  pointwise [k0_pay1, k0_pay2, k0_pay3, k0_pay4, k0_pay5, k0_pay6, k0_pay7, k0_pay8, k0_pay9, k0_pay10, k0_pay11, k0_pay12, Ideal.logistic, dm_swap, gt, dp]
  blk_point [iblk, V, idx t]
  · exact (place6 t y).1
  · exact (place6 t y).2.trans (by rw [Nat.zero_add])

/-- After the run result 3 holds the gradient of gate 0. -/
theorem final12 (c : Dev nD) : (dats m 0 c).arrAt 12 cfg0.N = dg 0 (by decide) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 12 _ (by decide +kernel) fun t hf y => ?_
  blk_simp
  rw [after0_12]
  frame_out
  pointwise [k0_pay1, k0_pay2, k0_pay3, k0_pay4, k0_pay5, k0_pay6, k0_pay7, k0_pay8, k0_pay9, k0_pay10, k0_pay11, k0_pay12, Ideal.logistic, dm_swap, gt, dg]
  blk_point [iblk, V, idx t]
  · exact (place6 t y).1
  · exact (place6 t y).2.trans (by rw [Nat.zero_add])

/-- After the run result 1 holds the gradient of projection 1. -/
theorem final10 (c : Dev nD) : (dats m 0 c).arrAt 10 cfg0.N = dp 2048 (by decide) (m ((c : Thread nD τ).loc main_arg0)) (m ((c : Thread nD τ).loc main_arg1)) (m ((c : Thread nD τ).loc main_arg2)) (m ((c : Thread nD τ).loc main_arg6)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, k0_pay7, k0_pay8, k0_pay9, k0_pay10, k0_pay11, k0_pay12, Ideal.logistic, dm_swap, gt, dp]
  blk_point [iblk, V, idx t]
  · exact (place7 t y).1
  · exact (place7 t y).2

/-- After the run result 4 holds the gradient of gate 1. -/
theorem final13 (c : Dev nD) : (dats m 0 c).arrAt 13 cfg0.N = dg 2048 (by decide) (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_covers 13 _ (by decide +kernel) fun t hf y => ?_
  blk_simp
  rw [after0_13]
  frame_out
  pointwise [k0_pay1, k0_pay2, k0_pay3, k0_pay4, k0_pay5, k0_pay6, k0_pay7, k0_pay8, k0_pay9, k0_pay10, k0_pay11, k0_pay12, Ideal.logistic, dm_swap, gt, dg]
  blk_point [iblk, V, idx t]
  · exact (place7 t y).1
  · exact (place7 t y).2

/-- After the run result 2 holds the gradient of projection 2. -/
theorem final11 (c : Dev nD) : (dats m 0 c).arrAt 11 cfg0.N = dp 4096 (by decide) (m ((c : Thread nD τ).loc main_arg0)) (m ((c : Thread nD τ).loc main_arg1)) (m ((c : Thread nD τ).loc main_arg2)) (m ((c : Thread nD τ).loc main_arg6)) := by
  refine (dats m 0 c).arrAt_eq_of_covers 11 _ (by decide +kernel) fun t hf y => ?_
  blk_simp
  rw [after0_11]
  frame_out
  pointwise [k0_pay1, k0_pay2, k0_pay3, k0_pay4, k0_pay5, k0_pay6, k0_pay7, k0_pay8, k0_pay9, k0_pay10, k0_pay11, k0_pay12, Ideal.logistic, dm_swap, gt, dp]
  blk_point [iblk, V, idx t]
  · exact (place8 t y).1
  · exact (place8 t y).2

/-- After the run result 5 holds the gradient of gate 2. -/
theorem final14 (c : Dev nD) : (dats m 0 c).arrAt 14 cfg0.N = dg 4096 (by decide) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 14 _ (by decide +kernel) fun t hf y => ?_
  blk_simp
  rw [after0_14]
  frame_out
  pointwise [k0_pay1, k0_pay2, k0_pay3, k0_pay4, k0_pay5, k0_pay6, k0_pay7, k0_pay8, k0_pay9, k0_pay10, k0_pay11, k0_pay12, Ideal.logistic, dm_swap, gt, dg]
  blk_point [iblk, V, idx t]
  · exact (place8 t y).1
  · exact (place8 t y).2

theorem ref_dp0 (x0 : FVec Ideal S8192x2048 .f32) (x1 : FVec Ideal S1x2048 .f32) (x2 : FVec Ideal S2048x2048 .bf16) (x6 : FVec Ideal S8192x13824 .bf16) :
    Cert.ReferenceGateIdeal.Read.val_main_v40 (F := Ideal) x0 x1 x2 x6 = dp 0 (by decide) x0 x1 x2 x6 := by
  rw [← Cert.ReferenceGateIdeal.Read.val_main_v40_eq]
  funext i
  pointwise [dp, dm, gt]
  exact mul_comm _ _

theorem ref_dg0 (x0 : FVec Ideal S8192x2048 .f32) (x1 : FVec Ideal S1x2048 .f32) (x2 : FVec Ideal S2048x2048 .bf16) (x3 x4 x5 : FVec Ideal S8192x2048 .bf16) (x6 : FVec Ideal S8192x13824 .bf16) :
    Cert.ReferenceGateIdeal.Read.val_main_v43 (F := Ideal) x0 x1 x2 x3 x4 x5 x6 = dg 0 (by decide) x0 x1 x2 x3 x6 := by
  rw [← Cert.ReferenceGateIdeal.Read.val_main_v43_eq]
  funext i
  pointwise [dg, dm, gt]
  refine Eq.trans ?_ (mul_assoc _ _ _).symm
  rfl

theorem ref_dp1 (x0 : FVec Ideal S8192x2048 .f32) (x1 : FVec Ideal S1x2048 .f32) (x2 : FVec Ideal S2048x2048 .bf16) (x6 : FVec Ideal S8192x13824 .bf16) :
    Cert.ReferenceGateIdeal.Read.val_main_v41 (F := Ideal) x0 x1 x2 x6 = dp 2048 (by decide) x0 x1 x2 x6 := by
  rw [← Cert.ReferenceGateIdeal.Read.val_main_v41_eq]
  funext i
  pointwise [dp, dm, gt]
  exact mul_comm _ _

theorem ref_dg1 (x0 : FVec Ideal S8192x2048 .f32) (x1 : FVec Ideal S1x2048 .f32) (x2 : FVec Ideal S2048x2048 .bf16) (x3 x4 x5 : FVec Ideal S8192x2048 .bf16) (x6 : FVec Ideal S8192x13824 .bf16) :
    Cert.ReferenceGateIdeal.Read.val_main_v44 (F := Ideal) x0 x1 x2 x3 x4 x5 x6 = dg 2048 (by decide) x0 x1 x2 x4 x6 := by
  rw [← Cert.ReferenceGateIdeal.Read.val_main_v44_eq]
  funext i
  pointwise [dg, dm, gt]
  refine Eq.trans ?_ (mul_assoc _ _ _).symm
  rfl

theorem ref_dp2 (x0 : FVec Ideal S8192x2048 .f32) (x1 : FVec Ideal S1x2048 .f32) (x2 : FVec Ideal S2048x2048 .bf16) (x6 : FVec Ideal S8192x13824 .bf16) :
    Cert.ReferenceGateIdeal.Read.val_main_v42 (F := Ideal) x0 x1 x2 x6 = dp 4096 (by decide) x0 x1 x2 x6 := by
  rw [← Cert.ReferenceGateIdeal.Read.val_main_v42_eq]
  funext i
  pointwise [dp, dm, gt]
  exact mul_comm _ _

theorem ref_dg2 (x0 : FVec Ideal S8192x2048 .f32) (x1 : FVec Ideal S1x2048 .f32) (x2 : FVec Ideal S2048x2048 .bf16) (x3 x4 x5 : FVec Ideal S8192x2048 .bf16) (x6 : FVec Ideal S8192x13824 .bf16) :
    Cert.ReferenceGateIdeal.Read.val_main_v45 (F := Ideal) x0 x1 x2 x3 x4 x5 x6 = dg 4096 (by decide) x0 x1 x2 x5 x6 := by
  rw [← Cert.ReferenceGateIdeal.Read.val_main_v45_eq]
  funext i
  pointwise [dg, dm, gt]
  have hi : (i 1).val < 2048 := (i 1).isLt
  rw [dif_neg (by omega), dif_neg (by omega)]
  have e : ∀ h, (⟨4096 + (i 1).val - 2048 - 2048, h⟩ : Fin 2048) = i 1 := fun h => Fin.ext (by show 4096 + (i 1).val - 2048 - 2048 = (i 1).val; omega)
  rw [e]
  refine Eq.trans ?_ (mul_assoc _ _ _).symm
  exact congrArg (fun q : EReal => _ * q * _) (congrArg x5 (ix2_self i))

/-- The kernel and the reference end with the same results. -/
theorem algebraic : Cert.algebraic_KernelGateIdeal_ReferenceGateIdeal (hKernelGateIdeal := Cert.KernelGateIdeal.Gen.facts) (hReferenceGateIdeal := Cert.ReferenceGateIdeal.Gen.facts) := by
  intro m ρ m' ρ' _ hag
  refine ⟨fun c => dp 0 (by decide) (m ((c : Thread nD τ).loc main_arg0)) (m ((c : Thread nD τ).loc main_arg1)) (m ((c : Thread nD τ).loc main_arg2)) (m ((c : Thread nD τ).loc main_arg6)),
    fun c => dp 2048 (by decide) (m ((c : Thread nD τ).loc main_arg0)) (m ((c : Thread nD τ).loc main_arg1)) (m ((c : Thread nD τ).loc main_arg2)) (m ((c : Thread nD τ).loc main_arg6)),
    fun c => dp 4096 (by decide) (m ((c : Thread nD τ).loc main_arg0)) (m ((c : Thread nD τ).loc main_arg1)) (m ((c : Thread nD τ).loc main_arg2)) (m ((c : Thread nD τ).loc main_arg6)),
    fun c => dg 0 (by decide) (m ((c : Thread nD τ).loc main_arg0)) (m ((c : Thread nD τ).loc main_arg1)) (m ((c : Thread nD τ).loc main_arg2)) (m ((c : Thread nD τ).loc main_arg3)) (m ((c : Thread nD τ).loc main_arg6)),
    fun c => dg 2048 (by decide) (m ((c : Thread nD τ).loc main_arg0)) (m ((c : Thread nD τ).loc main_arg1)) (m ((c : Thread nD τ).loc main_arg2)) (m ((c : Thread nD τ).loc main_arg4)) (m ((c : Thread nD τ).loc main_arg6)),
    fun c => dg 4096 (by decide) (m ((c : Thread nD τ).loc main_arg0)) (m ((c : Thread nD τ).loc main_arg1)) (m ((c : Thread nD τ).loc main_arg2)) (m ((c : Thread nD τ).loc main_arg5)) (m ((c : Thread nD τ).loc main_arg6)), ?_, ?_⟩
  · refine (θ_run _ _ _).mono (fun r h c => ?_) (Cert.KernelGateIdeal.Value.run_blocks (F := Ideal) m ρ)
    obtain ⟨h0, h1, h2, h3, h4, h5, ha⟩ := h c
    exact ⟨h0.trans (final9 m c), h1.trans (final10 m c), h2.trans (final11 m c), h3.trans (final12 m c), h4.trans (final13 m c), h5.trans (final14 m c), ha⟩
  · refine (θ_run _ _ _).mono (fun r h c => ?_) (Cert.ReferenceGateIdeal.Value.run (F := Ideal) m' ρ')
    obtain ⟨h0, h1, h2, h3, h4, h5, ha⟩ := h c
    obtain ⟨e0, e1, e2, e3, e4, e5, e6⟩ := hag c
    refine ⟨?_, ?_, ?_, ?_, ?_, ?_, ha⟩
    · rw [h0, e0, e1, e2, e6]
      exact (Cert.ReferenceGateIdeal.Read.val_main_v40_eq _ _ _ _ ).trans (ref_dp0 _ _ _ _)
    · rw [h1, e0, e1, e2, e6]
      exact (Cert.ReferenceGateIdeal.Read.val_main_v41_eq _ _ _ _ ).trans (ref_dp1 _ _ _ _)
    · rw [h2, e0, e1, e2, e6]
      exact (Cert.ReferenceGateIdeal.Read.val_main_v42_eq _ _ _ _ ).trans (ref_dp2 _ _ _ _)
    · rw [h3, e0, e1, e2, e3, e4, e5, e6]
      exact (Cert.ReferenceGateIdeal.Read.val_main_v43_eq _ _ _ _ _ _ _ ).trans (ref_dg0 _ _ _ _ _ _ _)
    · rw [h4, e0, e1, e2, e3, e4, e5, e6]
      exact (Cert.ReferenceGateIdeal.Read.val_main_v44_eq _ _ _ _ _ _ _ ).trans (ref_dg1 _ _ _ _ _ _ _)
    · rw [h5, e0, e1, e2, e3, e4, e5, e6]
      exact (Cert.ReferenceGateIdeal.Read.val_main_v45_eq _ _ _ _ _ _ _ ).trans (ref_dg2 _ _ _ _ _ _ _)

/-- The kernel over machine words ends, its arguments unchanged and no semaphore counting. -/
theorem frame_kernel : Cert.quiescent_KernelGate (hKernelGate := Cert.KernelGate.Gen.facts) := fun m ρ _ => Cert.KernelGate.Gen.frame m ρ

/-- So does the idealized kernel. -/
theorem frame_ideal : Cert.quiescent_KernelGateIdeal (hKernelGateIdeal := Cert.KernelGateIdeal.Gen.facts) := fun m ρ _ => Cert.KernelGateIdeal.Gen.frame m ρ

/-- And the reference. -/
theorem frame_reference : Cert.quiescent_ReferenceGateIdeal (hReferenceGateIdeal := Cert.ReferenceGateIdeal.Gen.facts) := fun m ρ _ =>
  (θ_run Cert.ReferenceGateIdeal.defs _ _).mono (fun r h => ⟨fun c => (h c).2.2.2.2.2.2, sem_eq_zero_of_no_sems (by decide) r.2⟩)
    (Cert.ReferenceGateIdeal.Value.run (F := Ideal) m ρ)

end Cert.Proof.Mul.Gate

end
-- ==== Proof.Mul.Mod.lean ====
/-
  The norm with its scale and shift (the call norm_mod): what the kernel's result array holds after the run, and what the
  reference computes. Each of the 32 points writes 256 rows.
-/
module

public import proofs.«01_k».proof.Defs
public import proofs.«01_k».proof.Proof.Gen.KernelMod.Frame
public import proofs.«01_k».proof.Proof.Gen.KernelModIdeal.Value
public import proofs.«01_k».proof.Proof.Gen.ReferenceModIdeal.Read
public import Idealize.ShloMosaic.Lib.Pipeline.ValueKit
public import Idealize.ShloMosaic.Lib.Claim

@[expose] public section

set_option maxRecDepth 16384

noncomputable section

namespace Cert.Proof.Mul.Mod

open Cert.KernelModIdeal Cert.KernelModIdeal.Gen Idealize.ShloMosaic Idealize.ShloMosaic.TcCoe Idealize.SL.Sem

variable (m : (ℓ : Loc nD τ sig) → Buf (Elt Ideal) ℓ)

/-- A row's root mean square, inverted. -/
def rt (x : FVec Ideal S8192x2048 .f32) (r : Fin 8192) : EReal :=
  Ideal.rsqrt (Ideal.div (∑ k : Fin 2048, x (ix2 r k) * x (ix2 r k)) (Ideal.ofBits .f32 0x45000000#32) + Ideal.ofBits .f32 0x358637BD#32)

/-- The normed row, scaled and shifted. -/
def normed (x : FVec Ideal S8192x2048 .f32) (g sc sh : FVec Ideal S1x2048 .f32) : FVec Ideal S8192x2048 .bf16 := fun i =>
  x (ix2 (i 0) (i 1)) * rt x (i 0) * (g (ix2 0 (i 1)) * (1 + sc (ix2 0 (i 1)))) + sh (ix2 0 (i 1))

/-- The blocks' places. -/
theorem idx : ∀ t : Fin cfg0.N, win0_0.index t = ![t.val, 0] ∧ win0_1.index t = ![0, 0] ∧ win0_2.index t = ![0, 0] ∧ win0_3.index t = ![0, 0]
    ∧ win0_4.index t = ![t.val, 0] := by
  decide +kernel

/-- After the run the result holds the normed rows. -/
theorem final4 (c : Dev nD) : (dats m 0 c).arrAt 4 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, normed, rt]
  blk_point [iblk, V, idx t]

theorem ref18 (x0 : FVec Ideal S8192x2048 .f32) (x1 x2 x3 : FVec Ideal S1x2048 .f32) :
    Cert.ReferenceModIdeal.Read.val_main_v18 (F := Ideal) x0 x1 x2 x3 = normed x0 x1 x2 x3 := by
  rw [← Cert.ReferenceModIdeal.Read.val_main_v18_eq]
  funext i
  pointwise [normed, rt]
  rw [mul_assoc]

/-- The kernel and the reference end with the same results. -/
theorem algebraic : Cert.algebraic_KernelModIdeal_ReferenceModIdeal (hKernelModIdeal := Cert.KernelModIdeal.Gen.facts) (hReferenceModIdeal := Cert.ReferenceModIdeal.Gen.facts) := by
  intro m ρ m' ρ' _ hag
  refine ⟨fun c => normed (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.KernelModIdeal.Value.run_blocks (F := Ideal) m ρ)
    obtain ⟨h0, ha⟩ := h c
    exact ⟨h0.trans (final4 m c), ha⟩
  · refine (θ_run _ _ _).mono (fun r h c => ?_) (Cert.ReferenceModIdeal.Value.run (F := Ideal) m' ρ')
    obtain ⟨h0, ha⟩ := h c
    obtain ⟨e0, e1, e2, e3⟩ := hag c
    refine ⟨?_, ha⟩
    · rw [h0, e0, e1, e2, e3]
      exact (Cert.ReferenceModIdeal.Read.val_main_v18_eq _ _ _ _ ).trans (ref18 _ _ _ _)

/-- The kernel over machine words ends, its arguments unchanged and no semaphore counting. -/
theorem frame_kernel : Cert.quiescent_KernelMod (hKernelMod := Cert.KernelMod.Gen.facts) := fun m ρ _ => Cert.KernelMod.Gen.frame m ρ

/-- So does the idealized kernel. -/
theorem frame_ideal : Cert.quiescent_KernelModIdeal (hKernelModIdeal := Cert.KernelModIdeal.Gen.facts) := fun m ρ _ => Cert.KernelModIdeal.Gen.frame m ρ

/-- And the reference. -/
theorem frame_reference : Cert.quiescent_ReferenceModIdeal (hReferenceModIdeal := Cert.ReferenceModIdeal.Gen.facts) := fun m ρ _ =>
  (θ_run Cert.ReferenceModIdeal.defs _ _).mono (fun r h => ⟨fun c => (h c).2, sem_eq_zero_of_no_sems (by decide) r.2⟩)
    (Cert.ReferenceModIdeal.Value.run (F := Ideal) m ρ)

end Cert.Proof.Mul.Mod

end
-- ==== Proof.Attn.Math.lean ====
/-
  The real numbers of the attention's gradient, apart from any program: the softmax with a sink logit over the keys a
  row may see, its output, and the gradients of q, k, v, the gate and the sinks. Rows, columns and keys are natural
  numbers; a key row `u` counts the 128 zero rows in front of the sequence, so row `r` sees the keys of the chunks
  `r / 64` to `r / 64 + 2` of that padded sequence which are not among the zero rows. Both programs are read as these
  sums: the kernel over the 384 keys of a block's window, the reference over the 192 keys of a chunk's band.
-/
module

public import Idealize.ShloMosaic.PureOps.Ideal.Laws

@[expose] public section

noncomputable section

namespace Cert.Proof.Attn

open Finset

/-! ## Sums over consecutive numbers -/

/-- A sum of a function that vanishes off `[a, a + n)` is the sum over that window. -/
theorem sum_window (F : ℕ → ℝ) (a n N : ℕ) (h : a + n ≤ N) (hF : ∀ u, u < N → ¬(a ≤ u ∧ u < a + n) → F u = 0) :
    ∑ u ∈ range N, F u = ∑ j ∈ range n, F (a + j) := by
  obtain ⟨e, rfl⟩ := Nat.exists_eq_add_of_le h
  rw [sum_range_add, sum_range_add]
  have h1 : ∑ x ∈ range a, F x = 0 :=
    sum_eq_zero fun x hx => hF x (by have := mem_range.1 hx; omega) (by have := mem_range.1 hx; omega)
  have h2 : ∑ x ∈ range e, F (a + n + x) = 0 :=
    sum_eq_zero fun x hx => hF _ (by have := mem_range.1 hx; omega) (by omega)
  rw [h1, h2]; ring

/-- A sum over `n * m` numbers, `m` at a time. -/
theorem sum_blocks (F : ℕ → ℝ) (n m : ℕ) : ∑ r ∈ range (n * m), F r = ∑ i ∈ range n, ∑ a ∈ range m, F (i * m + a) := by
  induction n with
  | zero => simp
  | succ n ih => rw [Nat.succ_mul, sum_range_add, ih, sum_range_succ]

/-! ## The inputs and what is computed from them -/

/-- The numbers the gradients are computed from: the output's cotangent `dy`, the queries, the gate's argument (8192 rows
    of 1024), the keys and values (8320 rows of 256, the first 128 of them zero rows), and a sink logit per head. -/
structure Inputs where
  dy : ℕ → ℕ → ℝ
  q : ℕ → ℕ → ℝ
  z : ℕ → ℕ → ℝ
  k : ℕ → ℕ → ℝ
  v : ℕ → ℕ → ℝ
  sk : ℕ → ℝ

/-- Row `r` sees key `u`. -/
def vis (r u : ℕ) : Prop := 128 ≤ u ∧ r / 64 ≤ u / 64 ∧ u / 64 ≤ r / 64 + 2

instance (r u : ℕ) : Decidable (vis r u) := by unfold vis; infer_instance

/-- The logistic function. -/
def sigm (x : ℝ) : ℝ := (1 + Real.exp (-x))⁻¹

theorem one_add_exp_pos (x : ℝ) : 0 < 1 + Real.exp (-x) := by positivity

namespace Inputs

variable (I : Inputs)

/-- The logit of row `r` at key `u` in head `h`; four heads share a head of the keys. -/
def S (r h u : ℕ) : ℝ := (∑ d ∈ range 64, I.q r (64 * h + d) * I.k u (64 * (h / 4) + d)) * (1 / 8)

/-- The key's weight before the division. -/
def w (r h u : ℕ) : ℝ := if vis r u then Real.exp (I.S r h u) else 0

/-- The softmax's denominator, the sink's weight in it. -/
def den (r h : ℕ) : ℝ := ∑ u ∈ range 8320, I.w r h u + Real.exp (I.sk h)

/-- The softmax. -/
def P (r h u : ℕ) : ℝ := I.w r h u / I.den r h

/-- The attention's output. -/
def O (r c : ℕ) : ℝ := ∑ u ∈ range 8320, I.P r (c / 64) u * I.v u (64 * (c / 256) + c % 64)

/-- The cotangent of that output: `dy` times the gate. -/
def dO (r c : ℕ) : ℝ := I.dy r c * (I.z r c * sigm (I.z r c))

/-- The cotangent of the softmax. -/
def dP (r h u : ℕ) : ℝ := ∑ d ∈ range 64, I.dO r (64 * h + d) * I.v u (64 * (h / 4) + d)

/-- The row's sum of the output times its cotangent. -/
def delta (r h : ℕ) : ℝ := ∑ d ∈ range 64, I.dO r (64 * h + d) * I.O r (64 * h + d)

/-- The cotangent of the logits. -/
def dS (r h u : ℕ) : ℝ := I.P r h u * (I.dP r h u - I.delta r h)

/-- The gradient of the queries. -/
def gq (r c : ℕ) : ℝ := (∑ u ∈ range 8320, I.dS r (c / 64) u * I.k u (64 * (c / 256) + c % 64)) * (1 / 8)

/-- The gradient of the gate's argument. -/
def gz (r c : ℕ) : ℝ := I.dy r c * I.O r c * (sigm (I.z r c) + I.z r c * (sigm (I.z r c) * (1 - sigm (I.z r c))))

/-- The gradient of the keys. -/
def gk (u c : ℕ) : ℝ :=
  (∑ g ∈ range 4, ∑ r ∈ range 8192, I.dS r (4 * (c / 64) + g) u * I.q r (64 * (4 * (c / 64) + g) + c % 64)) * (1 / 8)

/-- The gradient of the values. -/
def gv (u c : ℕ) : ℝ :=
  ∑ g ∈ range 4, ∑ r ∈ range 8192, I.P r (4 * (c / 64) + g) u * I.dO r (64 * (4 * (c / 64) + g) + c % 64)

/-- The gradient of the sinks. -/
def gsink (h : ℕ) : ℝ := -∑ r ∈ range 8192, Real.exp (I.sk h) / I.den r h * I.delta r h

theorem w_nonneg (r h u : ℕ) : 0 ≤ I.w r h u := by
  unfold w; split <;> positivity

theorem w_eq_zero {r h u : ℕ} (hv : ¬vis r u) : I.w r h u = 0 := if_neg hv

theorem P_eq_zero {r h u : ℕ} (hv : ¬vis r u) : I.P r h u = 0 := by rw [P, I.w_eq_zero hv, zero_div]

theorem dS_eq_zero {r h u : ℕ} (hv : ¬vis r u) : I.dS r h u = 0 := by rw [dS, I.P_eq_zero hv, zero_mul]

theorem den_pos (r h : ℕ) : 0 < I.den r h :=
  add_pos_of_nonneg_of_pos (sum_nonneg fun u _ => I.w_nonneg r h u) (Real.exp_pos _)

/-- `delta` is also the row's sum of the softmax times its cotangent. -/
theorem delta_eq (r h : ℕ) : I.delta r h = ∑ u ∈ range 8320, I.P r h u * I.dP r h u := by
  have e : ∀ d ∈ range 64, I.dO r (64 * h + d) * I.O r (64 * h + d)
      = ∑ u ∈ range 8320, I.P r h u * (I.dO r (64 * h + d) * I.v u (64 * (h / 4) + d)) := by
    intro d hd
    have hd := mem_range.1 hd
    rw [O, mul_sum, show (64 * h + d) / 64 = h by omega, show (64 * h + d) % 64 = d by omega,
      show (64 * h + d) / 256 = h / 4 by omega]
    exact sum_congr rfl fun u _ => by ring
  rw [delta, sum_congr rfl e, sum_comm]
  exact sum_congr rfl fun u _ => by rw [dP, mul_sum]

/-! ## The sums over a window of keys -/

/-- The keys `[a, a + n)` hold all that row `r` sees. -/
structure Covers (a n r : ℕ) : Prop where
  le : a + n ≤ 8320
  mem : ∀ u, vis r u → a ≤ u ∧ u < a + n

theorem covers_band (c q : ℕ) (hc : c < 128) (hq : q < 64) : Covers (64 * c) 192 (64 * c + q) :=
  ⟨by omega, fun u hu => by unfold vis at hu; omega⟩

theorem covers_block (i a : ℕ) (hi : i < 32) (ha : a < 256) : Covers (256 * i) 384 (256 * i + a) :=
  ⟨by omega, fun u hu => by unfold vis at hu; omega⟩

variable {I}

theorem Covers.sum {a n r : ℕ} (hc : Covers a n r) (F : ℕ → ℝ) (hF : ∀ u, ¬vis r u → F u = 0) :
    ∑ j ∈ range n, F (a + j) = ∑ u ∈ range 8320, F u :=
  (sum_window F a n 8320 hc.le fun u _ hu => hF u fun hv => hu (hc.mem u hv)).symm

/-- The weights shifted by `m`, as a program that subtracts `m` from the logits first finds them. -/
theorem shifted (r h u : ℕ) (m : ℝ) : (if vis r u then Real.exp (I.S r h u - m) else 0) = I.w r h u * Real.exp (-m) := by
  unfold w; split
  · rw [← Real.exp_add, sub_eq_add_neg]
  · rw [zero_mul]

/-- The shifted denominator. -/
theorem Covers.den {a n r : ℕ} (hc : Covers a n r) (h : ℕ) (m : ℝ) :
    ∑ j ∈ range n, I.w r h (a + j) * Real.exp (-m) + Real.exp (I.sk h - m) = I.den r h * Real.exp (-m) := by
  rw [hc.sum (fun u => I.w r h u * Real.exp (-m)) fun u hu => by rw [I.w_eq_zero hu, zero_mul], ← sum_mul, Inputs.den,
    add_mul, ← Real.exp_add, sub_eq_add_neg]

/-- The quotient does not see the shift. -/
theorem shifted_div (x d m : ℝ) : x * Real.exp (-m) / (d * Real.exp (-m)) = x / d :=
  mul_div_mul_right _ _ (Real.exp_ne_zero _)

theorem Covers.sum_P {a n r : ℕ} (hc : Covers a n r) (h : ℕ) (f : ℕ → ℝ) :
    ∑ j ∈ range n, I.P r h (a + j) * f (a + j) = ∑ u ∈ range 8320, I.P r h u * f u :=
  hc.sum (fun u => I.P r h u * f u) fun u hu => by rw [I.P_eq_zero hu, zero_mul]

theorem Covers.sum_dS {a n r : ℕ} (hc : Covers a n r) (h : ℕ) (f : ℕ → ℝ) :
    ∑ j ∈ range n, I.dS r h (a + j) * f (a + j) = ∑ u ∈ range 8320, I.dS r h u * f u :=
  hc.sum (fun u => I.dS r h u * f u) fun u hu => by rw [I.dS_eq_zero hu, zero_mul]

end Inputs

end Cert.Proof.Attn

end
-- ==== Proof.Attn.Real.lean ====
/-
  Real numbers among the extended ones: the float operations of both programs at real arguments.
-/
module

public import Idealize.ShloMosaic.PureOps.Ideal.Laws
public import Idealize.ShloMosaic.Lib.ValueIdx

@[expose] public section

noncomputable section

namespace Cert.Proof.Attn

open Idealize.ShloMosaic Finset

/-- A finite sum of reals, as a sum of extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum of reals over `Fin n` as the sum over the numbers below `n`. -/
theorem coe_sum_fin (n : ℕ) (f : ℕ → ℝ) : ∑ k : Fin n, ((f k.val : ℝ) : EReal) = ((∑ k ∈ range n, f k : ℝ) : EReal) := by
  rw [coe_sum, Fin.sum_univ_eq_sum_range]

theorem coe_cong {x y : ℝ} (h : x = y) : (x : EReal) = (y : EReal) := congrArg _ h

theorem coe_at1 (f : ℕ → ℝ) {a a' : ℕ} (ha : a = a') : ((f a : ℝ) : EReal) = (f a' : ℝ) := by rw [ha]

theorem coe_at2 (f : ℕ → ℕ → ℝ) {a a' b b' : ℕ} (ha : a = a') (hb : b = b') :
    ((f a b : ℝ) : EReal) = (f a' b' : ℝ) := by rw [ha, hb]

/-- The word `0x3E000000` is an eighth. -/
theorem eighth : Ideal.ofBits .f32 0x3E000000#32 = ((1 / 8 : ℝ) : EReal) := by
  simp [Ideal.ofBits, Ideal.ieee, -EReal.coe_mul]; norm_num

/-- The word `0xFF800000` is minus infinity. -/
theorem neg_inf : Ideal.ofBits .f32 0xFF800000#32 = ⊥ := by
  simp [Ideal.ofBits, Ideal.ieee]

/-- The largest of finitely many extended reals, found from minus infinity, is one of them. -/
theorem fold_max_attained {n : ℕ} [NeZero n] (f : Fin n → EReal) :
    ∃ k, (Finset.univ : Finset (Fin n)).fold max ⊥ f = f k ∧ ∀ k', f k' ≤ f k := by
  obtain ⟨k, -, hk⟩ := Finset.exists_max_image (Finset.univ : Finset (Fin n)) f ⟨0, Finset.mem_univ _⟩
  refine ⟨k, le_antisymm ?_ ?_, fun k' => hk k' (Finset.mem_univ _)⟩
  · exact (Finset.fold_max_le _).2 ⟨bot_le, fun x hx => hk x hx⟩
  · exact (Finset.le_fold_max _).2 (Or.inr ⟨k, Finset.mem_univ _, le_rfl⟩)

theorem div_real {x y : ℝ} (h : y ≠ 0) : Ideal.div (x : EReal) (y : EReal) = ((x / y : ℝ) : EReal) := by
  rw [Ideal.div_coe h, ← EReal.coe_mul, ← div_eq_mul_one_div]

theorem exp_real (x : ℝ) : Ideal.exp (x : EReal) = ((Real.exp x : ℝ) : EReal) := Ideal.exp_coe x

theorem max_real (x y : ℝ) : max (x : EReal) (y : EReal) = ((max x y : ℝ) : EReal) :=
  (Monotone.map_max (f := fun x : ℝ => (x : EReal)) fun _ _ h => EReal.coe_le_coe_iff.2 h).symm

end Cert.Proof.Attn

end
-- ==== Proof.Attn.RefIn.lean ====
/-
  The reference's inputs and the keys and values of a chunk's band, as real numbers: `Holds I x0 x1 x2` says that the
  three arguments hold the numbers of `I`, and each lemma reads one stage of the reference at an index.
-/
module

public import proofs.«01_k».proof.Proof.Gen.ReferenceIdeal.Read
public import proofs.«01_k».proof.Proof.Attn.Math
public import proofs.«01_k».proof.Proof.Attn.Real

@[expose] public section

noncomputable section

namespace Cert.Proof.Attn

open Cert.ReferenceIdeal Cert.ReferenceIdeal.Gen Cert.ReferenceIdeal.Read Idealize.ShloMosaic Idealize.ShloMosaic.StableHlo
  Idealize.ShloMosaic.ValueIdx

/-- The arguments hold the numbers of `I`: the columns 2048 to 4607 of the projection are the queries, keys, values and
    the gate's argument, and the key and value rows of `I` are those columns behind 128 zero rows. -/
structure Holds (I : Inputs) (x0 : FVec Ideal ⟨2, ![8192, 1024]⟩ .bf16) (x1 : FVec Ideal ⟨2, ![8192, 13824]⟩ .bf16)
    (x2 : FVec Ideal ⟨1, ![16]⟩ .f32) : Prop where
  dy : ∀ i, x0 i = ((I.dy (i 0).val (i 1).val : ℝ) : EReal)
  q : ∀ i, 2048 ≤ (i 1).val → (i 1).val < 3072 → x1 i = ((I.q (i 0).val ((i 1).val - 2048) : ℝ) : EReal)
  k : ∀ i, 3072 ≤ (i 1).val → (i 1).val < 3328 → x1 i = ((I.k ((i 0).val + 128) ((i 1).val - 3072) : ℝ) : EReal)
  v : ∀ i, 3328 ≤ (i 1).val → (i 1).val < 3584 → x1 i = ((I.v ((i 0).val + 128) ((i 1).val - 3328) : ℝ) : EReal)
  z : ∀ i, 3584 ≤ (i 1).val → (i 1).val < 4608 → x1 i = ((I.z (i 0).val ((i 1).val - 3584) : ℝ) : EReal)
  k0 : ∀ u c, u < 128 → I.k u c = 0
  v0 : ∀ u c, u < 128 → I.v u c = 0
  sk : ∀ i, x2 i = ((I.sk (i 0).val : ℝ) : EReal)

variable {I : Inputs} {x0 : FVec Ideal ⟨2, ![8192, 1024]⟩ .bf16} {x1 : FVec Ideal ⟨2, ![8192, 13824]⟩ .bf16}
  {x2 : FVec Ideal ⟨1, ![16]⟩ .f32} (H : Holds I x0 x1 x2)

include H

theorem v1_eq (i : S8192x1024.Idx) : val_main_v1 (F := Ideal) x1 i = ((I.q (i 0).val (i 1).val : ℝ) : EReal) := by
  have h1 : (i 1).val < 1024 := (i 1).isLt
  rw [val_main_v1_apply, Ideal.extf_def, val_main_v0_apply,
    H.q _ (by show 2048 ≤ 2048 + (i 1).val; omega) (by show 2048 + (i 1).val < 3072; omega)]
  exact coe_at2 _ rfl (by show 2048 + (i 1).val - 2048 = _; omega)

theorem v8_eq (i : S8192x16x64.Idx) :
    val_main_v8 (F := Ideal) x1 i = ((I.q (i 0).val (64 * (i 1).val + (i 2).val) : ℝ) : EReal) := by
  have h0 : (i 0).val < 8192 := (i 0).isLt
  have h1 : (i 1).val < 16 := (i 1).isLt
  have h2 : (i 2).val < 64 := (i 2).isLt
  rw [val_main_v8_apply, v1_eq H]
  exact coe_at2 _ (by dsimp; omega) (by dsimp; omega)

theorem v11_eq (i : S128x64x4x4x64.Idx) :
    val_main_v11 (F := Ideal) x1 i = ((I.q (64 * (i 0).val + (i 1).val) (64 * (4 * (i 2).val + (i 3).val) + (i 4).val) : ℝ) : EReal) := by
  have h0 : (i 0).val < 128 := (i 0).isLt
  have h1 : (i 1).val < 64 := (i 1).isLt
  have h2 : (i 2).val < 4 := (i 2).isLt
  have h3 : (i 3).val < 4 := (i 3).isLt
  have h4 : (i 4).val < 64 := (i 4).isLt
  rw [val_main_v11_apply, v8_eq H]
  exact coe_at2 _ (by dsimp; omega) (by dsimp; omega)

theorem v7_eq (i : S8192x1024.Idx) : val_main_v7 (F := Ideal) x1 i = ((I.z (i 0).val (i 1).val : ℝ) : EReal) := by
  have h1 : (i 1).val < 1024 := (i 1).isLt
  rw [val_main_v7_apply, Ideal.extf_def, val_main_v6_apply,
    H.z _ (by show 3584 ≤ 3584 + (i 1).val; omega) (by show 3584 + (i 1).val < 4608; omega)]
  exact coe_at2 _ rfl (by show 3584 + (i 1).val - 3584 = _; omega)

theorem v9_eq (i : S8192x4x64.Idx) :
    val_main_v9 (F := Ideal) x1 i = ((I.k ((i 0).val + 128) (64 * (i 1).val + (i 2).val) : ℝ) : EReal) := by
  have h0 : (i 0).val < 8192 := (i 0).isLt
  have h1 : (i 1).val < 4 := (i 1).isLt
  have h2 : (i 2).val < 64 := (i 2).isLt
  rw [val_main_v9_apply, val_main_v3_apply, Ideal.extf_def, val_main_v2_apply,
    H.k _ (by dsimp; omega) (by dsimp; omega)]
  exact coe_at2 _ (by dsimp; omega) (by dsimp; omega)

theorem v10_eq (i : S8192x4x64.Idx) :
    val_main_v10 (F := Ideal) x1 i = ((I.v ((i 0).val + 128) (64 * (i 1).val + (i 2).val) : ℝ) : EReal) := by
  have h0 : (i 0).val < 8192 := (i 0).isLt
  have h1 : (i 1).val < 4 := (i 1).isLt
  have h2 : (i 2).val < 64 := (i 2).isLt
  rw [val_main_v10_apply, val_main_v5_apply, Ideal.extf_def, val_main_v4_apply,
    H.v _ (by dsimp; omega) (by dsimp; omega)]
  exact coe_at2 _ (by dsimp; omega) (by dsimp; omega)

theorem v13_eq (i : S8320x4x64.Idx) :
    val_main_v13 (F := Ideal) x1 i = ((I.k (i 0).val (64 * (i 1).val + (i 2).val) : ℝ) : EReal) := by
  have h0 : (i 0).val < 8320 := (i 0).isLt
  have h1 : (i 1).val < 4 := (i 1).isLt
  have h2 : (i 2).val < 64 := (i 2).isLt
  unfold val_main_v13
  by_cases hl : (i 0).val < 128
  · rw [concatenate_pair_apply_left (t := S8320x4x64) (s₁ := S128x4x64) (s₂ := S8192x4x64) 0 _ _ _ i rfl
      (ix3 ⟨(i 0).val, hl⟩ ⟨(i 1).val, h1⟩ ⟨(i 2).val, h2⟩)
      (fun b => by match b with
        | ⟨0, _⟩ => rfl
        | ⟨1, _⟩ => rfl
        | ⟨2, _⟩ => rfl)]
    rw [val_main_v12_apply, val_main_cst_apply, Ideal.ofBits_def, Ideal.ofBits_zero_f32, H.k0 _ _ hl]; rfl
  · rw [concatenate_pair_apply_right (t := S8320x4x64) (s₁ := S128x4x64) (s₂ := S8192x4x64) 0 _ _ _ i rfl rfl
      (ix3 ⟨(i 0).val - 128, by omega⟩ ⟨(i 1).val, h1⟩ ⟨(i 2).val, h2⟩)
      (fun b hb => by match b with
        | ⟨0, _⟩ => exact absurd rfl hb
        | ⟨1, _⟩ => rfl
        | ⟨2, _⟩ => rfl)
      (by show (i 0).val - 128 + 128 = (i 0).val; omega)]
    rw [v9_eq H]
    exact coe_at2 _ (by show (i 0).val - 128 + 128 = (i 0).val; omega) rfl

theorem v21_eq (i : S8320x4x64.Idx) :
    val_main_v21 (F := Ideal) x1 i = ((I.v (i 0).val (64 * (i 1).val + (i 2).val) : ℝ) : EReal) := by
  have h0 : (i 0).val < 8320 := (i 0).isLt
  have h1 : (i 1).val < 4 := (i 1).isLt
  have h2 : (i 2).val < 64 := (i 2).isLt
  unfold val_main_v21
  by_cases hl : (i 0).val < 128
  · rw [concatenate_pair_apply_left (t := S8320x4x64) (s₁ := S128x4x64) (s₂ := S8192x4x64) 0 _ _ _ i rfl
      (ix3 ⟨(i 0).val, hl⟩ ⟨(i 1).val, h1⟩ ⟨(i 2).val, h2⟩)
      (fun b => by match b with
        | ⟨0, _⟩ => rfl
        | ⟨1, _⟩ => rfl
        | ⟨2, _⟩ => rfl)]
    rw [val_main_v20_apply, val_main_cst_1_apply, Ideal.ofBits_def, Ideal.ofBits_zero_f32, H.v0 _ _ hl]; rfl
  · rw [concatenate_pair_apply_right (t := S8320x4x64) (s₁ := S128x4x64) (s₂ := S8192x4x64) 0 _ _ _ i rfl rfl
      (ix3 ⟨(i 0).val - 128, by omega⟩ ⟨(i 1).val, h1⟩ ⟨(i 2).val, h2⟩)
      (fun b hb => by match b with
        | ⟨0, _⟩ => exact absurd rfl hb
        | ⟨1, _⟩ => rfl
        | ⟨2, _⟩ => rfl)
      (by show (i 0).val - 128 + 128 = (i 0).val; omega)]
    rw [v10_eq H]
    exact coe_at2 _ (by show (i 0).val - 128 + 128 = (i 0).val; omega) rfl

theorem v15_eq (i : S130x64x4x64.Idx) :
    val_main_v15 (F := Ideal) x1 i = ((I.k (64 * (i 0).val + (i 1).val) (64 * (i 2).val + (i 3).val) : ℝ) : EReal) := by
  have h0 : (i 0).val < 130 := (i 0).isLt
  have h1 : (i 1).val < 64 := (i 1).isLt
  have h2 : (i 2).val < 4 := (i 2).isLt
  have h3 : (i 3).val < 64 := (i 3).isLt
  rw [val_main_v15_apply, v13_eq H]
  exact coe_at2 _ (by dsimp; omega) (by dsimp; omega)

theorem v23_eq (i : S130x64x4x64.Idx) :
    val_main_v23 (F := Ideal) x1 i = ((I.v (64 * (i 0).val + (i 1).val) (64 * (i 2).val + (i 3).val) : ℝ) : EReal) := by
  have h0 : (i 0).val < 130 := (i 0).isLt
  have h1 : (i 1).val < 64 := (i 1).isLt
  have h2 : (i 2).val < 4 := (i 2).isLt
  have h3 : (i 3).val < 64 := (i 3).isLt
  rw [val_main_v23_apply, v21_eq H]
  exact coe_at2 _ (by dsimp; omega) (by dsimp; omega)

omit H in
/-- Three pieces of 64 rows joined along the rows, read at a row of the band: piece `j / 64` at row `j % 64`. -/
theorem join_eq (a b c : S128x64x4x64.Idx → EReal) (g : ℕ → ℕ → ℕ → ℕ → EReal)
    (h : Shape.Concatenates [S128x64x4x64, S128x64x4x64, S128x64x4x64] S128x192x4x64 1)
    (ha : ∀ i, a i = g (i 0).val (i 1).val (i 2).val (i 3).val)
    (hb : ∀ i, b i = g (i 0).val (64 + (i 1).val) (i 2).val (i 3).val)
    (hc : ∀ i, c i = g (i 0).val (128 + (i 1).val) (i 2).val (i 3).val) (i : S128x192x4x64.Idx) :
    concatenate S128x192x4x64 1 [⟨S128x64x4x64, a⟩, ⟨S128x64x4x64, b⟩, ⟨S128x64x4x64, c⟩] h i
      = g (i 0).val (i 1).val (i 2).val (i 3).val := by
  have h0 : (i 0).val < 128 := (i 0).isLt
  have h1 : (i 1).val < 192 := (i 1).isLt
  have h2 : (i 2).val < 4 := (i 2).isLt
  have h3 : (i 3).val < 64 := (i 3).isLt
  let j : S128x64x4x64.Idx := ix4 ⟨(i 0).val, h0⟩ ⟨(i 1).val % 64, by omega⟩ ⟨(i 2).val, h2⟩ ⟨(i 3).val, h3⟩
  have hj : ∀ b : Fin S128x64x4x64.rank, b.cast (show S128x64x4x64.rank = S128x192x4x64.rank from rfl) ≠ 1 →
      (j b).val = (i (b.cast rfl)).val := fun b hb => by
    match b with
    | ⟨0, _⟩ => rfl
    | ⟨1, _⟩ => exact absurd rfl hb
    | ⟨2, _⟩ => rfl
    | ⟨3, _⟩ => rfl
  rcases (by omega : (i 1).val < 64 ∨ (64 ≤ (i 1).val ∧ (i 1).val < 128) ∨ 128 ≤ (i 1).val) with hk | hk | hk
  · rw [concatenate_apply_piece (t := S128x192x4x64) 1 [⟨S128x64x4x64, a⟩, ⟨S128x64x4x64, b⟩, ⟨S128x64x4x64, c⟩] h i 0 (by show 0 < 3; decide) S128x64x4x64 a rfl rfl 0 rfl j hj
      (by show 0 + (i 1).val % 64 = (i 1).val; omega), ha]
    show g _ ((i 1).val % 64) _ _ = _
    rw [show (i 1).val % 64 = (i 1).val by omega]
  · rw [concatenate_apply_piece (t := S128x192x4x64) 1 [⟨S128x64x4x64, a⟩, ⟨S128x64x4x64, b⟩, ⟨S128x64x4x64, c⟩] h i 1 (by show 1 < 3; decide) S128x64x4x64 b rfl rfl 64 rfl j hj
      (by show 64 + (i 1).val % 64 = (i 1).val; omega), hb]
    show g _ (64 + (i 1).val % 64) _ _ = _
    rw [show 64 + (i 1).val % 64 = (i 1).val by omega]
  · rw [concatenate_apply_piece (t := S128x192x4x64) 1 [⟨S128x64x4x64, a⟩, ⟨S128x64x4x64, b⟩, ⟨S128x64x4x64, c⟩] h i 2 (by show 2 < 3; decide) S128x64x4x64 c rfl rfl 128 rfl j hj
      (by show 128 + (i 1).val % 64 = (i 1).val; omega), hc]
    show g _ (128 + (i 1).val % 64) _ _ = _
    rw [show 128 + (i 1).val % 64 = (i 1).val by omega]

/-- The keys of chunk `n`'s band. -/
theorem v19_eq (i : S128x192x4x64.Idx) :
    val_main_v19 (F := Ideal) x1 i = ((I.k (64 * (i 0).val + (i 1).val) (64 * (i 2).val + (i 3).val) : ℝ) : EReal) := by
  unfold val_main_v19
  refine join_eq _ _ _ (fun n j y d => ((I.k (64 * n + j) (64 * y + d) : ℝ) : EReal)) _ (fun i => ?_) (fun i => ?_)
    (fun i => ?_) i
  · rw [val_main_v16_apply, v15_eq H]
  · rw [val_main_v17_apply, v15_eq H]
    exact coe_at2 _ (by dsimp; omega) rfl
  · rw [val_main_v18_apply, v15_eq H]
    exact coe_at2 _ (by dsimp; omega) rfl

/-- The values of chunk `n`'s band. -/
theorem v27_eq (i : S128x192x4x64.Idx) :
    val_main_v27 (F := Ideal) x1 i = ((I.v (64 * (i 0).val + (i 1).val) (64 * (i 2).val + (i 3).val) : ℝ) : EReal) := by
  unfold val_main_v27
  refine join_eq _ _ _ (fun n j y d => ((I.v (64 * n + j) (64 * y + d) : ℝ) : EReal)) _ (fun i => ?_) (fun i => ?_)
    (fun i => ?_) i
  · rw [val_main_v24_apply, v23_eq H]
  · rw [val_main_v25_apply, v23_eq H]
    exact coe_at2 _ (by dsimp; omega) rfl
  · rw [val_main_v26_apply, v23_eq H]
    exact coe_at2 _ (by dsimp; omega) rfl

/-- The scaled logits. -/
theorem v31_eq (i : S128x4x4x64x192.Idx) : val_main_v31 (F := Ideal) x1 i
    = ((I.S (64 * (i 0).val + (i 3).val) (4 * (i 1).val + (i 2).val) (64 * (i 0).val + (i 4).val) : ℝ) : EReal) := by
  have h2 : (i 2).val < 4 := (i 2).isLt
  rw [val_main_v31_apply, val_main_v29_apply, val_main_v28_apply, val_main_v30_apply, val_main_cst_3_apply,
    Ideal.mulf_def, Finset.sum_congr rfl fun k _ => by rw [v19_eq H, v11_eq H, ← EReal.coe_mul]]
  rw [coe_sum_fin 64 (fun d => I.k (64 * (i 0).val + (i 4).val) (64 * (i 1).val + d)
    * I.q (64 * (i 0).val + (i 3).val) (64 * (4 * (i 1).val + (i 2).val) + d)), Ideal.ofBits_def, eighth, ← EReal.coe_mul]
  refine coe_cong ?_
  rw [Inputs.S, show (4 * (i 1).val + (i 2).val) / 4 = (i 1).val by omega]
  exact congrArg (· * (1 / 8 : ℝ)) (Finset.sum_congr rfl fun d _ => mul_comm _ _)

end Cert.Proof.Attn

end
-- ==== Proof.Attn.Finite.lean ====
/-
  Arguments whose numbers are all finite hold the numbers of some `Inputs`.
-/
module

public import proofs.«01_k».proof.Pre_finite
public import proofs.«01_k».proof.Proof.Attn.RefIn
public import Idealize.ShloMosaic.Lib.Pointwise

@[expose] public section

set_option maxRecDepth 16384

noncomputable section

namespace Cert.Proof.Attn

open Idealize.ShloMosaic Cert.Pre_finite

theorem pre_facts : Cert.Pre_finite.Facts := ⟨by decide, by decide, by decide, by decide, by decide⟩

/-- The word `0x7F800000` is infinity. -/
theorem pos_inf : Ideal.ofBits .f32 0x7F800000#32 = ⊤ := by
  simp [Ideal.ofBits, Ideal.ieee]

/-- An extended real whose absolute value is below infinity is a real. -/
theorem real_of_small {x : EReal} (h : Ideal.cmp .olt (max x (-x)) (Ideal.ofBits .f32 0x7F800000#32) = 1#1) : x = ((x.toReal : ℝ) : EReal) := by
  rw [pos_inf] at h
  have h' : max x (-x) < ⊤ := (Ideal.cmp_olt_eq_one _ _).1 h
  have h1 : x ≠ ⊤ := fun e => by rw [e] at h'; simp at h'
  have h2 : x ≠ ⊥ := fun e => by rw [e] at h'; simp at h'
  exact (EReal.coe_toReal h1 h2).symm

/-- A row and a column's number, and zero outside the array. -/
def at2 {a b : ℕ} (x : (⟨2, ![a, b]⟩ : Shape).Idx → EReal) (u c : ℕ) : ℝ :=
  if h : u < a ∧ c < b then (x (ix2 ⟨u, h.1⟩ ⟨c, h.2⟩)).toReal else 0

theorem at2_eq {a b : ℕ} (x : (⟨2, ![a, b]⟩ : Shape).Idx → EReal) (i : (⟨2, ![a, b]⟩ : Shape).Idx) (u c : ℕ) (hu : u = (i 0).val) (hc : c = (i 1).val) :
    at2 x u c = (x i).toReal := by
  subst hu hc
  have h0 : (i 0).val < a := (i 0).isLt
  have h1 : (i 1).val < b := (i 1).isLt
  unfold at2
  rw [dif_pos ⟨h0, h1⟩]
  refine congrArg (fun j => (x j).toReal) (funext fun k => ?_)
  match k with
  | ⟨0, _⟩ => rfl
  | ⟨1, _⟩ => rfl

/-- The numbers of the arguments. -/
def inputsOf (x0 : FVec Ideal ⟨2, ![8192, 1024]⟩ .bf16) (x1 : FVec Ideal ⟨2, ![8192, 13824]⟩ .bf16) (x2 : FVec Ideal ⟨1, ![16]⟩ .f32) : Inputs where
  dy := at2 x0
  q u c := at2 x1 u (2048 + c)
  z u c := at2 x1 u (3584 + c)
  k u c := if u < 128 then 0 else at2 x1 (u - 128) (3072 + c)
  v u c := if u < 128 then 0 else at2 x1 (u - 128) (3328 + c)
  sk h := if hh : h < 16 then EReal.toReal (x2 (ix1 ⟨h, hh⟩)) else 0

theorem behind (x1 : FVec Ideal ⟨2, ![8192, 13824]⟩ .bf16) (u b c : ℕ) : (if u + 128 < 128 then 0 else at2 x1 (u + 128 - 128) (b + c)) = at2 x1 u (b + c) := by
  rw [if_neg (by omega), Nat.add_sub_cancel]

theorem holds_of_finite [Cert.Pre_finite.Facts] (x0 : FVec Ideal ⟨2, ![8192, 1024]⟩ .bf16) (x1 : FVec Ideal ⟨2, ![8192, 13824]⟩ .bf16) (x2 : FVec Ideal ⟨1, ![16]⟩ .f32)
    (h0 : (Cert.Pre_finite.fn (F := Ideal) x0 x1 x2).1 = fun _ => 1#1) (h1 : (Cert.Pre_finite.fn (F := Ideal) x0 x1 x2).2.1 = fun _ => 1#1)
    (h2 : (Cert.Pre_finite.fn (F := Ideal) x0 x1 x2).2.2 = fun _ => 1#1) : Holds (inputsOf x0 x1 x2) x0 x1 x2 := by
  have e0 : ∀ i, x0 i = ((EReal.toReal (x0 i) : ℝ) : EReal) := fun i => real_of_small (congrFun h0 i)
  have e2 : ∀ i, x2 i = ((EReal.toReal (x2 i) : ℝ) : EReal) := fun i => real_of_small (congrFun h2 i)
  have e1 : ∀ i : S8192x13824.Idx, 2048 ≤ (i 1).val → (i 1).val < 4608 → x1 i = ((EReal.toReal (x1 i) : ℝ) : EReal) := fun i ha hb => by
    have i0 : (i 0).val < 8192 := (i 0).isLt
    have h := real_of_small (congrFun h1 (ix2 ⟨(i 0).val, i0⟩ ⟨(i 1).val - 2048, by omega⟩ : S8192x2560.Idx))
    have ej : (extractStridedSlice S8192x2560 ![0, 2048] x1 Facts.slices_S8192x13824_S8192x2560_0_2048) (ix2 ⟨(i 0).val, i0⟩ ⟨(i 1).val - 2048, by omega⟩) = x1 i := by
      refine congrArg x1 (funext fun a => Fin.ext ?_)
      match a with
      | ⟨0, _⟩ => show 0 + (i 0).val = (i 0).val; omega
      | ⟨1, _⟩ => show 2048 + ((i 1).val - 2048) = (i 1).val; omega
    rw [← ej]
    exact h
  refine ⟨fun i => ?_, fun i ha hb => ?_, fun i ha hb => ?_, fun i ha hb => ?_, fun i ha hb => ?_, fun u c hu => if_pos hu, fun u c hu => if_pos hu, fun i => ?_⟩
  · rw [e0 i]; exact congrArg _ (at2_eq x0 i _ _ rfl rfl).symm
  · rw [e1 i (by omega) (by omega)]; exact congrArg _ (at2_eq x1 i _ _ rfl (by omega)).symm
  · rw [e1 i (by omega) (by omega)]; exact congrArg _ ((behind x1 _ _ _).trans (at2_eq x1 i _ _ rfl (by omega))).symm
  · rw [e1 i (by omega) (by omega)]; exact congrArg _ ((behind x1 _ _ _).trans (at2_eq x1 i _ _ rfl (by omega))).symm
  · rw [e1 i (by omega) (by omega)]; exact congrArg _ (at2_eq x1 i _ _ rfl (by omega)).symm
  · have hi : (i 0).val < 16 := (i 0).isLt
    rw [e2 i]
    refine congrArg _ ((dif_pos hi).trans (congrArg (fun j => EReal.toReal (x2 j)) (funext fun k => ?_))).symm
    match k with
    | ⟨0, _⟩ => rfl

end Cert.Proof.Attn

end
-- ==== Proof.Mul.Rms.lean ====
/-
  The norm by the root mean square of a row of 2048 numbers, over the extended reals: its derivative in the two forms that the
  kernels and the references compute.
-/
module

public import proofs.«01_k».proof.Proof.Attn.Finite

@[expose] public section

noncomputable section

namespace Cert.Proof.Mul.Rms

open Idealize.ShloMosaic Cert.Proof.Attn

/-- The word `0x45000000` is the row's length. -/
theorem len : Ideal.ofBits .f32 0x45000000#32 = ((2048 : ℝ) : EReal) := by
  simp [Ideal.ofBits, Ideal.ieee, -EReal.coe_mul]; norm_num

/-- The word `0x358637BD` is a positive number. -/
theorem eps : ∃ e : ℝ, 0 < e ∧ Ideal.ofBits .f32 0x358637BD#32 = (e : EReal) := by
  refine ⟨_, ?_, by simp [Ideal.ofBits, Ideal.ieee, -EReal.coe_mul]; rfl⟩
  norm_num

/-- The word `0xBF000000` is minus a half. -/
theorem neg_half : Ideal.ofBits .f32 0xBF000000#32 = ((-(1 / 2) : ℝ) : EReal) := by
  simp [Ideal.ofBits, Ideal.ieee, -EReal.coe_mul]; norm_num

/-- A number that is finite. -/
def Fin' (a : EReal) : Prop := ∃ r : ℝ, a = r

theorem Fin'.mul {a b : EReal} : Fin' a → Fin' b → Fin' (a * b) := fun ⟨r, h⟩ ⟨s, k⟩ => ⟨r * s, by rw [h, k, EReal.coe_mul]⟩

theorem Fin'.add {a b : EReal} : Fin' a → Fin' b → Fin' (a + b) := fun ⟨r, h⟩ ⟨s, k⟩ => ⟨r + s, by rw [h, k, EReal.coe_add]⟩

theorem Fin'.sub {a b : EReal} : Fin' a → Fin' b → Fin' (a - b) := fun ⟨r, h⟩ ⟨s, k⟩ => ⟨r - s, by rw [h, k, EReal.coe_sub]⟩

theorem Fin'.one : Fin' 1 := ⟨1, rfl⟩

/-- The mean of the squares of a row, with the small number added. -/
def ms (x : Fin 2048 → EReal) : EReal :=
  Ideal.div (∑ k, x k * x k) (Ideal.ofBits .f32 0x45000000#32) + Ideal.ofBits .f32 0x358637BD#32

theorem ms_real (x : Fin 2048 → ℝ) : ∃ v : ℝ, 0 < v ∧ ms (fun k => (x k : EReal)) = (v : EReal) := by
  obtain ⟨e, he, h⟩ := eps
  refine ⟨(∑ k, x k * x k) / 2048 + e, ?_, ?_⟩
  · have : 0 ≤ ∑ k, x k * x k := Finset.sum_nonneg fun k _ => mul_self_nonneg _
    positivity
  · unfold ms
    simp only [← EReal.coe_mul]
    rw [coe_sum, len, h, div_real (by norm_num), EReal.coe_add]

theorem rsqrt_real {v : ℝ} (h : 0 < v) : Ideal.rsqrt (v : EReal) = (((Real.sqrt v)⁻¹ : ℝ) : EReal) := by
  rw [Ideal.rsqrt_coe, if_neg (not_lt.2 h.le), if_neg h.ne']

theorem root_fin (x : Fin 2048 → EReal) (hx : ∀ k, Fin' (x k)) : Fin' (Ideal.rsqrt (ms x)) := by
  choose xr hxr using hx
  obtain rfl : x = fun k => (xr k : EReal) := funext hxr
  obtain ⟨v, hv, hm⟩ := ms_real xr
  exact ⟨_, by rw [hm, rsqrt_real hv]⟩

/-- The norm's derivative along `g`, from the normed row and from the inverse root's derivative. -/
theorem core (x g : Fin 2048 → EReal) (hx : ∀ k, Fin' (x k)) (hg : ∀ k, Fin' (g k)) (j : Fin 2048) :
    Ideal.rsqrt (ms x) * (g j - x j * Ideal.rsqrt (ms x) * Ideal.div (∑ k, g k * (x k * Ideal.rsqrt (ms x))) (Ideal.ofBits .f32 0x45000000#32))
      = g j * Ideal.rsqrt (ms x)
        + x j * Ideal.div ((∑ k, x k * g k) * (Ideal.ofBits .f32 0xBF000000#32 * Ideal.div (Ideal.rsqrt (ms x)) (ms x))) (Ideal.ofBits .f32 0x45000000#32)
        + Ideal.div ((∑ k, x k * g k) * (Ideal.ofBits .f32 0xBF000000#32 * Ideal.div (Ideal.rsqrt (ms x)) (ms x))) (Ideal.ofBits .f32 0x45000000#32) * x j := by
  choose xr hxr using hx
  choose gr hgr using hg
  obtain rfl : x = fun k => (xr k : EReal) := funext hxr
  obtain rfl : g = fun k => (gr k : EReal) := funext hgr
  obtain ⟨v, hv, hm⟩ := ms_real xr
  rw [hm, rsqrt_real hv, len, neg_half]
  simp only [← EReal.coe_mul, coe_sum]
  rw [div_real hv.ne', div_real (by norm_num)]
  simp only [← EReal.coe_mul]
  rw [div_real (by norm_num)]
  simp only [← EReal.coe_mul, ← EReal.coe_add, ← EReal.coe_sub]
  refine coe_cong ?_
  have h1 : ∑ k, gr k * (xr k * (Real.sqrt v)⁻¹) = (∑ k, xr k * gr k) * (Real.sqrt v)⁻¹ := by
    rw [Finset.sum_mul]; exact Finset.sum_congr rfl fun k _ => by ring
  rw [h1]
  have h2 : (Real.sqrt v)⁻¹ * (Real.sqrt v)⁻¹ = 1 / v := by
    rw [← mul_inv, Real.mul_self_sqrt hv.le, one_div]
  generalize (Real.sqrt v)⁻¹ = r at h2 ⊢
  generalize ∑ k, xr k * gr k = s
  have h3 : r * (xr j * r * (s * r / 2048)) = xr j * s / 2048 * (r * (r * r)) := by ring
  rw [mul_sub, h3, h2]
  ring

/-- The same at a column whose numbers are given by other terms. -/
theorem core_at (x g : Fin 2048 → EReal) (hx : ∀ k, Fin' (x k)) (hg : ∀ k, Fin' (g k)) (j : Fin 2048) {a b : EReal} (ha : x j = a) (hb : g j = b) :
    Ideal.rsqrt (ms x) * (b - a * Ideal.rsqrt (ms x) * Ideal.div (∑ k, g k * (x k * Ideal.rsqrt (ms x))) (Ideal.ofBits .f32 0x45000000#32))
      = b * Ideal.rsqrt (ms x)
        + a * Ideal.div ((∑ k, x k * g k) * (Ideal.ofBits .f32 0xBF000000#32 * Ideal.div (Ideal.rsqrt (ms x)) (ms x))) (Ideal.ofBits .f32 0x45000000#32)
        + Ideal.div ((∑ k, x k * g k) * (Ideal.ofBits .f32 0xBF000000#32 * Ideal.div (Ideal.rsqrt (ms x)) (ms x))) (Ideal.ofBits .f32 0x45000000#32) * a := by
  rw [← ha, ← hb]
  exact core x g hx hg j

/-- A sum times a number that is not negative. -/
theorem sum_mul_pos {n : ℕ} (f : Fin n → EReal) (c : ℝ) (hc : 0 ≤ c) : (∑ k, f k) * (c : EReal) = ∑ k, f k * (c : EReal) := by
  classical
  have : ∀ s : Finset (Fin n), (∑ k ∈ s, f k) * (c : EReal) = ∑ k ∈ s, f k * (c : EReal) := fun s => by
    induction s using Finset.induction_on with
    | empty => simp
    | insert a s ha ih =>
      rw [Finset.sum_insert ha, Finset.sum_insert ha, ← ih]
      exact EReal.right_distrib_of_nonneg_of_ne_top (by exact_mod_cast hc) (EReal.coe_ne_top c) _ _
  exact this _

/-- The word `0x3A000000` is one over the row's length. -/
theorem inv_len : Ideal.ofBits .f32 0x3A000000#32 = ((1 / 2048 : ℝ) : EReal) := by
  simp [Ideal.ofBits, Ideal.ieee, -EReal.coe_mul]; norm_num

/-- The word `0x39800000` is a half over the row's length. -/
theorem half_inv_len : Ideal.ofBits .f32 0x39800000#32 = ((1 / 4096 : ℝ) : EReal) := by
  simp [Ideal.ofBits, Ideal.ieee, -EReal.coe_mul]; norm_num

/-- The word `0x3F000000` is a half. -/
theorem half : Ideal.ofBits .f32 0x3F000000#32 = ((1 / 2 : ℝ) : EReal) := by
  simp [Ideal.ofBits, Ideal.ieee, -EReal.coe_mul]; norm_num

/-- The word `0x40000000` is two. -/
theorem two : Ideal.ofBits .f32 0x40000000#32 = ((2 : ℝ) : EReal) := by
  simp [Ideal.ofBits, Ideal.ieee, -EReal.coe_mul]; norm_num

/-- The square's derivative, scaled by the loss's factors. -/
theorem square_scale (e : EReal) :
    Ideal.ofBits .f32 0x3F000000#32 * Ideal.div 1 (Ideal.ofBits .f32 0x45000000#32) * (Ideal.ofBits .f32 0x40000000#32 * e) = e * Ideal.ofBits .f32 0x3A000000#32 := by
  rw [half, len, two, inv_len, Ideal.div_coe (by norm_num), one_mul, ← mul_assoc, ← EReal.coe_mul, ← EReal.coe_mul, mul_comm]
  exact congrArg (e * ·) (coe_cong (by norm_num))

/-- The loss's factors over a sum. -/
theorem loss_scale {n : ℕ} (f : Fin n → EReal) :
    Ideal.div (Ideal.ofBits .f32 0x3F000000#32 * ∑ k, f k) (Ideal.ofBits .f32 0x45000000#32) = ∑ k, f k * Ideal.ofBits .f32 0x39800000#32 := by
  rw [half, len, half_inv_len, Ideal.div_coe (by norm_num), ← sum_mul_pos f _ (by norm_num), mul_right_comm, ← EReal.coe_mul, mul_comm]
  exact congrArg (_ * ·) (coe_cong (by norm_num))

theorem block_scale {n : ℕ} (f : Fin n → EReal) :
    (∑ k, f k) * Ideal.ofBits .f32 0x39800000#32 = ∑ k, f k * Ideal.ofBits .f32 0x39800000#32 := by
  rw [half_inv_len]
  exact sum_mul_pos f _ (by norm_num)

theorem Fin'.inv_len : Fin' (Ideal.ofBits .f32 0x3A000000#32) := ⟨_, Rms.inv_len⟩

end Cert.Proof.Mul.Rms

end
-- ==== Proof.Mul.Norm.lean ====
/-
  The norm's backward pass (the call norm_bwd): what the kernel's three result arrays hold after the run, and what the
  reference computes. Each of the 32 points reads 256 rows; the gradients of the shift and of the factor add up over the points.
-/
module

public import proofs.«01_k».proof.Defs
public import proofs.«01_k».proof.Proof.Gen.KernelNorm.Frame
public import proofs.«01_k».proof.Proof.Gen.KernelNormIdeal.Value
public import proofs.«01_k».proof.Proof.Gen.ReferenceNormIdeal.Read
public import Idealize.ShloMosaic.Lib.Pipeline.ValueKit
public import Idealize.ShloMosaic.Lib.Claim
public import proofs.«01_k».proof.Proof.Mul.Rms

@[expose] public section

set_option maxRecDepth 16384

noncomputable section

namespace Cert.Proof.Mul.Norm

open Cert.KernelNormIdeal Cert.KernelNormIdeal.Gen Idealize.ShloMosaic Idealize.ShloMosaic.TcCoe Idealize.SL.Sem

variable (m : (ℓ : Loc nD τ sig) → Buf (Elt Ideal) ℓ)

theorem ix2_self (i : S8192x2048.Idx) : ix2 (i 0) (i 1) = i := by
  funext a
  match a with
  | ⟨0, _⟩ => rfl
  | ⟨1, _⟩ => rfl

/-- A row's root mean square, inverted. -/
def rt (x : FVec Ideal S8192x2048 .f32) (r : Fin 8192) : EReal :=
  Ideal.rsqrt (Ideal.div (∑ k : Fin 2048, x (ix2 r k) * x (ix2 r k)) (Ideal.ofBits .f32 0x45000000#32) + Ideal.ofBits .f32 0x358637BD#32)

/-- The normed row's gradient. -/
def gy (dh : FVec Ideal S8192x2048 .f32) (g sc : FVec Ideal S1x2048 .f32) (r : Fin 8192) (k : Fin 2048) : EReal :=
  dh (ix2 r k) * (g (ix2 0 k) * (1 + sc (ix2 0 k)))

/-- The input's gradient. -/
def dx (dh x dxo : FVec Ideal S8192x2048 .f32) (g sc : FVec Ideal S1x2048 .f32) : FVec Ideal S8192x2048 .f32 := fun i =>
  dxo (ix2 (i 0) (i 1)) + rt x (i 0) * (gy dh g sc (i 0) (i 1) - x (ix2 (i 0) (i 1)) * rt x (i 0)
    * Ideal.div (∑ k : Fin 2048, gy dh g sc (i 0) k * (x (ix2 (i 0) k) * rt x (i 0))) (Ideal.ofBits .f32 0x45000000#32))

/-- The shift's gradient. -/
def dsh (dh : FVec Ideal S8192x2048 .f32) : FVec Ideal S1x2048 .f32 := fun i => ∑ r : Fin 8192, dh (ix2 r (i 1))

/-- The factor's gradient. -/
def da (dh x : FVec Ideal S8192x2048 .f32) : FVec Ideal S1x2048 .f32 := fun i => ∑ r : Fin 8192, dh (ix2 r (i 1)) * (x (ix2 r (i 1)) * rt x r)

/-- The blocks' places. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![0, 0] := by
  decide +kernel

/-- What a point leaves of the input's gradient. -/
theorem outs5 (c : Dev nD) (t : Fin cfg0.N) : (outsAt0 m c t.val t.isLt).1
    = k0_pay5 (F := Ideal) (iblk m c 1 t) (iblk m c 0 t) (iblk m c 3 t) (iblk m c 4 t) (iblk m c 2 t) := by
  by_cases h : t.val % 32 = 0
  · rw [outsAt0_A m c t h (by have : t.val < 32 := t.isLt; omega)]
    frame_out
  · rw [outsAt0_B m c t h (by omega)]
    frame_out

/-- After the run the first result holds the input's gradient. -/
theorem final5 (c : Dev nD) : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, outs5]
  pointwise [k0_pay3, k0_pay4, k0_pay5, dx, rt, gy]
  blk_point [iblk, V, idx t]

/-- A point's sum at an index. -/
theorem pay6_apply (v1 : FVec Ideal S256x2048 .f32) (j : S1x2048.Idx) :
    k0_pay6 (F := Ideal) v1 j = ∑ r : Fin 256, v1 (ix2 r (j 1)) := by
  pointwise [k0_pay6, k0_pay4]

/-- After the last point the block holds the sum of the points' sums. -/
theorem outs6 (c : Dev nD) (t : Fin cfg0.N) (ht : t.val % 32 = 31) (j : S1x2048.Idx) :
    ((outsAt0 m c t.val t.isLt).2.1 : S1x2048.Idx → EReal) j
      = 0 + ∑ s : Fin 32, k0_pay6 (F := Ideal) (iblk m c 0 ⟨32 * (t.val / 32) + s.val, Pipeline.run_point_lt_of_flush t ht s⟩) j := by
  refine Pipeline.eq_sum_fin_of_reset_step_apply_of_flush (M := EReal) (fun n h => ((outsAt0 m c n h).2.1 : S1x2048.Idx → EReal)) 32 (fun _ => 0)
    (fun t => k0_pay6 (F := Ideal) (iblk m c 0 t)) ?_ ?_ t ht j
  · intro t h j
    rw [outsAt0_A m c t h (by have : t.val < 32 := t.isLt; omega)]
    frame_out
    rw [zero_add]
  · intro t h j
    rw [outsAt0_B m c t h (by omega)]
    frame_out
    pointwise [k0_pay1]

/-- After the run the result holds the shift's gradient. -/
theorem final6 (c : Dev nD) : (dats m 0 c).arrAt 6 cfg0.N = dsh (m ((c : Thread nD τ).loc main_arg0)) := by
  refine (dats m 0 c).arrAt_eq_of_covers 6 _ (by decide +kernel) fun t hf y => ?_
  have ht := (flush0_6 t).mp hf
  blk_simp
  rw [after0_6]
  refine (outs6 m c t ht _).trans ?_
  rw [zero_add]
  simp only [pay6_apply]
  unfold dsh
  refine Fin.sum_mul_add_congr fun s k hl => ?_
  blk_point [iblk, V, idx t, idx ⟨_, Pipeline.run_point_lt_of_flush t ht s⟩]

/-- A point's sum at an index. -/
theorem pay7_apply (v0 v1 : FVec Ideal S256x2048 .f32) (j : S1x2048.Idx) :
    k0_pay7 (F := Ideal) v0 v1 j = ∑ r : Fin 256, v1 (ix2 r (j 1)) * (v0 (ix2 r (j 1)) * k0_pay3 (F := Ideal) v0 (ix2 r 0)) := by
  pointwise [k0_pay7, k0_pay4]

/-- After the last point the block holds the sum of the points' sums. -/
theorem outs7 (c : Dev nD) (t : Fin cfg0.N) (ht : t.val % 32 = 31) (j : S1x2048.Idx) :
    ((outsAt0 m c t.val t.isLt).2.2 : S1x2048.Idx → EReal) j
      = 0 + ∑ s : Fin 32, k0_pay7 (F := Ideal) (iblk m c 1 ⟨32 * (t.val / 32) + s.val, Pipeline.run_point_lt_of_flush t ht s⟩) (iblk m c 0 ⟨32 * (t.val / 32) + s.val, Pipeline.run_point_lt_of_flush t ht s⟩) j := by
  refine Pipeline.eq_sum_fin_of_reset_step_apply_of_flush (M := EReal) (fun n h => ((outsAt0 m c n h).2.2 : S1x2048.Idx → EReal)) 32 (fun _ => 0)
    (fun t => k0_pay7 (F := Ideal) (iblk m c 1 t) (iblk m c 0 t)) ?_ ?_ t ht j
  · intro t h j
    rw [outsAt0_A m c t h (by have : t.val < 32 := t.isLt; omega)]
    frame_out
    rw [zero_add]
  · intro t h j
    rw [outsAt0_B m c t h (by omega)]
    frame_out
    pointwise [k0_pay2]

/-- After the run the result holds the factor's gradient. -/
theorem final7 (c : Dev nD) : (dats m 0 c).arrAt 7 cfg0.N = da (m ((c : Thread nD τ).loc main_arg0)) (m ((c : Thread nD τ).loc main_arg1)) := by
  refine (dats m 0 c).arrAt_eq_of_covers 7 _ (by decide +kernel) fun t hf y => ?_
  have ht := (flush0_7 t).mp hf
  blk_simp
  rw [after0_7]
  refine (outs7 m c t ht _).trans ?_
  rw [zero_add]
  simp only [pay7_apply]
  unfold da
  refine Fin.sum_mul_add_congr fun s k hl => ?_
  pointwise [k0_pay3, rt]
  blk_point [iblk, V, idx t, idx ⟨_, Pipeline.run_point_lt_of_flush t ht s⟩]

theorem ref23 (x0 : FVec Ideal S8192x2048 .f32) : Cert.ReferenceNormIdeal.Read.val_main_v23 (F := Ideal) x0 = dsh x0 := by
  rw [← Cert.ReferenceNormIdeal.Read.val_main_v23_eq]
  funext i
  pointwise [dsh]

theorem ref26 (x0 x1 : FVec Ideal S8192x2048 .f32) : Cert.ReferenceNormIdeal.Read.val_main_v26 (F := Ideal) x0 x1 = da x0 x1 := by
  rw [← Cert.ReferenceNormIdeal.Read.val_main_v26_eq]
  funext i
  pointwise [da, rt]
  exact Finset.sum_congr rfl fun k _ => mul_comm _ _

theorem ref43 (x0 x1 x2 : FVec Ideal S8192x2048 .f32) (x3 x4 : FVec Ideal S1x2048 .f32) (h0 : ∀ i, Rms.Fin' (x0 i)) (h1 : ∀ i, Rms.Fin' (x1 i))
    (h3 : ∀ i, Rms.Fin' (x3 i)) (h4 : ∀ i, Rms.Fin' (x4 i)) : Cert.ReferenceNormIdeal.Read.val_main_v43 (F := Ideal) x0 x1 x2 x3 x4 = dx x0 x1 x2 x3 x4 := by
  funext i
  unfold Cert.ReferenceNormIdeal.Read.val_main_v43 Cert.ReferenceNormIdeal.Read.val_main_v42 Cert.ReferenceNormIdeal.Read.val_main_v41 Cert.ReferenceNormIdeal.Read.val_main_v40 Cert.ReferenceNormIdeal.Read.val_main_v39 Cert.ReferenceNormIdeal.Read.val_main_v38 Cert.ReferenceNormIdeal.Read.val_main_v37 Cert.ReferenceNormIdeal.Read.val_main_v36 Cert.ReferenceNormIdeal.Read.val_main_v35 Cert.ReferenceNormIdeal.Read.val_main_v34 Cert.ReferenceNormIdeal.Read.val_main_v33 Cert.ReferenceNormIdeal.Read.val_main_v32 Cert.ReferenceNormIdeal.Read.val_main_v31 Cert.ReferenceNormIdeal.Read.val_main_v30 Cert.ReferenceNormIdeal.Read.val_main_v29 Cert.ReferenceNormIdeal.Read.val_main_v28 Cert.ReferenceNormIdeal.Read.val_main_v27 Cert.ReferenceNormIdeal.Read.val_main_v21 Cert.ReferenceNormIdeal.Read.val_main_v14 Cert.ReferenceNormIdeal.Read.val_main_v13 Cert.ReferenceNormIdeal.Read.val_main_v12 Cert.ReferenceNormIdeal.Read.val_main_v11 Cert.ReferenceNormIdeal.Read.val_main_v10 Cert.ReferenceNormIdeal.Read.val_main_v9 Cert.ReferenceNormIdeal.Read.val_main_v8 Cert.ReferenceNormIdeal.Read.val_main_v7 Cert.ReferenceNormIdeal.Read.val_main_v6 Cert.ReferenceNormIdeal.Read.val_main_v5 Cert.ReferenceNormIdeal.Read.val_main_v4 Cert.ReferenceNormIdeal.Read.val_main_v2 Cert.ReferenceNormIdeal.Read.val_main_v1 Cert.ReferenceNormIdeal.Read.val_main_v0 Cert.ReferenceNormIdeal.Read.val_main_cst Cert.ReferenceNormIdeal.Read.val_main_cst_1 Cert.ReferenceNormIdeal.Read.val_main_cst_2 Cert.ReferenceNormIdeal.Read.val_main_cst_3 Cert.ReferenceNormIdeal.Read.val_main_cst_4 Cert.ReferenceNormIdeal.Read.val_main_cst_7 Cert.ReferenceNormIdeal.Read.val_main_cst_8 Cert.ReferenceNormIdeal.Read.val_main_cst_9
  pointwise [dx, rt, gy]
  simp only [Fin.sum_univ_one]
  rw [add_assoc, add_assoc]
  refine congrArg (x2 i + ·) ?_
  rw [← add_assoc]
  exact (Rms.core_at (fun k => x1 (ix2 (i 0) k)) (gy x0 x3 x4 (i 0)) (fun k => h1 _) (fun k => (h0 _).mul ((h3 _).mul (Rms.Fin'.one.add (h4 _)))) (i 1)
    (congrArg x1 (ix2_self i)) (congrArg (fun q => x0 q * _) (ix2_self i))).symm

theorem pre_facts : Cert.Pre_finite_norm.Facts := ⟨by decide, by decide⟩

/-- The kernel and the reference end with the same results, the arguments being finite. -/
theorem algebraic : Cert.algebraic_KernelNormIdeal_ReferenceNormIdeal_pre_finite_norm (hKernelNormIdeal := Cert.KernelNormIdeal.Gen.facts) (hReferenceNormIdeal := Cert.ReferenceNormIdeal.Gen.facts)
    (hPre_finite_norm := pre_facts) := by
  intro m ρ m' ρ' hp hag
  refine ⟨fun c => dx (m ((c : Thread nD τ).loc main_arg0)) (m ((c : Thread nD τ).loc main_arg1)) (m ((c : Thread nD τ).loc main_arg2)) (m ((c : Thread nD τ).loc main_arg3)) (m ((c : Thread nD τ).loc main_arg4)),
    fun c => dsh (m ((c : Thread nD τ).loc main_arg0)),
    fun c => da (m ((c : Thread nD τ).loc main_arg0)) (m ((c : Thread nD τ).loc main_arg1)), ?_, ?_⟩
  · refine (θ_run _ _ _).mono (fun r h c => ?_) (Cert.KernelNormIdeal.Value.run_blocks (F := Ideal) m ρ)
    obtain ⟨h0, h1, h2, ha⟩ := h c
    exact ⟨h0.trans (final5 m c), h1.trans (final6 m c), h2.trans (final7 m c), ha⟩
  · refine (θ_run _ _ _).mono (fun r h c => ?_) (Cert.ReferenceNormIdeal.Value.run (F := Ideal) m' ρ')
    obtain ⟨h0, h1, h2, ha⟩ := h c
    obtain ⟨e0, e1, e2, e3, e4⟩ := hag c
    refine ⟨?_, ?_, ?_, ha⟩
    · rw [h0, Cert.ReferenceNormIdeal.Read.val_main_v43_eq, e0, e1, e2, e3, e4]
      exact ref43 _ _ _ _ _ (fun i => ⟨_, Cert.Proof.Attn.real_of_small (congrFun (hp c).1 i)⟩) (fun i => ⟨_, Cert.Proof.Attn.real_of_small (congrFun (hp c).2.1 i)⟩) (fun i => ⟨_, Cert.Proof.Attn.real_of_small (congrFun (hp c).2.2.2.1 i)⟩) (fun i => ⟨_, Cert.Proof.Attn.real_of_small (congrFun (hp c).2.2.2.2 i)⟩)
    · rw [h1, e0]
      exact (Cert.ReferenceNormIdeal.Read.val_main_v23_eq _ ).trans (ref23 _ )
    · rw [h2, e0, e1]
      exact (Cert.ReferenceNormIdeal.Read.val_main_v26_eq _ _ ).trans (ref26 _ _ )

/-- The kernel over machine words ends, its arguments unchanged and no semaphore counting. -/
theorem frame_kernel : Cert.quiescent_KernelNorm (hKernelNorm := Cert.KernelNorm.Gen.facts) := fun m ρ _ => Cert.KernelNorm.Gen.frame m ρ

/-- So does the idealized kernel. -/
theorem frame_ideal : Cert.quiescent_KernelNormIdeal (hKernelNormIdeal := Cert.KernelNormIdeal.Gen.facts) := fun m ρ _ => Cert.KernelNormIdeal.Gen.frame m ρ

/-- And the reference. -/
theorem frame_reference : Cert.quiescent_ReferenceNormIdeal (hReferenceNormIdeal := Cert.ReferenceNormIdeal.Gen.facts) := fun m ρ _ =>
  (θ_run Cert.ReferenceNormIdeal.defs _ _).mono (fun r h => ⟨fun c => (h c).2.2.2, sem_eq_zero_of_no_sems (by decide) r.2⟩)
    (Cert.ReferenceNormIdeal.Value.run (F := Ideal) m ρ)

end Cert.Proof.Mul.Norm

end
-- ==== Proof.Mul.Loss.lean ====
/-
  The final norm and the loss with their gradients (the call final_loss): what the kernel's three result arrays hold after
  the run, and what the reference computes. Each of the 32 points reads 256 rows; the loss and the factor's gradient add up over the points.
-/
module

public import proofs.«01_k».proof.Defs
public import proofs.«01_k».proof.Proof.Gen.KernelLoss.Frame
public import proofs.«01_k».proof.Proof.Gen.KernelLossIdeal.Value
public import proofs.«01_k».proof.Proof.Gen.ReferenceLossIdeal.Read
public import Idealize.ShloMosaic.Lib.Pipeline.ValueKit
public import Idealize.ShloMosaic.Lib.Claim
public import proofs.«01_k».proof.Proof.Mul.Rms

@[expose] public section

set_option maxRecDepth 16384

noncomputable section

namespace Cert.Proof.Mul.Loss

open Cert.KernelLossIdeal Cert.KernelLossIdeal.Gen Idealize.ShloMosaic Idealize.ShloMosaic.TcCoe Idealize.SL.Sem

variable (m : (ℓ : Loc nD τ sig) → Buf (Elt Ideal) ℓ)

theorem ix2_self (i : S8192x2048.Idx) : ix2 (i 0) (i 1) = i := by
  funext a
  match a with
  | ⟨0, _⟩ => rfl
  | ⟨1, _⟩ => rfl

/-- A row's root mean square, inverted. -/
def rt (x : FVec Ideal S8192x2048 .f32) (r : Fin 8192) : EReal :=
  Ideal.rsqrt (Ideal.div (∑ k : Fin 2048, x (ix2 r k) * x (ix2 r k)) (Ideal.ofBits .f32 0x45000000#32) + Ideal.ofBits .f32 0x358637BD#32)

/-- The difference from the target. -/
def er (x t : FVec Ideal S8192x2048 .f32) (g : FVec Ideal S1x2048 .f32) (r : Fin 8192) (k : Fin 2048) : EReal :=
  x (ix2 r k) * rt x r * g (ix2 0 k) - t (ix2 r k)

/-- The result's gradient. -/
def dy (x t : FVec Ideal S8192x2048 .f32) (g : FVec Ideal S1x2048 .f32) (r : Fin 8192) (k : Fin 2048) : EReal :=
  er x t g r k * Ideal.ofBits .f32 0x3A000000#32

/-- The input's gradient. -/
def dx (x t : FVec Ideal S8192x2048 .f32) (g : FVec Ideal S1x2048 .f32) : FVec Ideal S8192x2048 .f32 := fun i =>
  rt x (i 0) * (dy x t g (i 0) (i 1) * g (ix2 0 (i 1)) - x (ix2 (i 0) (i 1)) * rt x (i 0)
    * Ideal.div (∑ k : Fin 2048, dy x t g (i 0) k * g (ix2 0 k) * (x (ix2 (i 0) k) * rt x (i 0))) (Ideal.ofBits .f32 0x45000000#32))

/-- The factor's gradient. -/
def dg (x t : FVec Ideal S8192x2048 .f32) (g : FVec Ideal S1x2048 .f32) : FVec Ideal S1x2048 .f32 := fun i =>
  ∑ r : Fin 8192, dy x t g r (i 1) * (x (ix2 r (i 1)) * rt x r)

/-- The loss of each column. -/
def ls (x t : FVec Ideal S8192x2048 .f32) (g : FVec Ideal S1x2048 .f32) : FVec Ideal S1x2048 .f32 := fun i =>
  ∑ r : Fin 8192, er x t g r (i 1) * er x t g r (i 1) * Ideal.ofBits .f32 0x39800000#32

/-- The blocks' places. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] := by
  decide +kernel

/-- What a point leaves of the input's gradient. -/
theorem outs3 (c : Dev nD) (t : Fin cfg0.N) : (outsAt0 m c t.val t.isLt).1
    = k0_pay7 (F := Ideal) (iblk m c 0 t) (iblk m c 2 t) (iblk m c 1 t) := by
  by_cases h : t.val % 32 = 0
  · rw [outsAt0_A m c t h (by have : t.val < 32 := t.isLt; omega)]
    frame_out
  · rw [outsAt0_B m c t h (by omega)]
    frame_out

/-- After the run the first result holds the input's gradient. -/
theorem final3 (c : Dev nD) : (dats m 0 c).arrAt 3 cfg0.N = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outs3]
  pointwise [k0_pay3, k0_pay4, k0_pay5, k0_pay6, k0_pay7, dx, rt, dy, er]
  blk_point [iblk, V, idx t]

/-- A row of a point's difference from the target. -/
def be (v0 : FVec Ideal S256x2048 .f32) (v1 : FVec Ideal S1x2048 .f32) (v14 : FVec Ideal S256x2048 .f32) (r : Fin 256) (k : Fin 2048) : EReal :=
  v0 (ix2 r k) * k0_pay3 (F := Ideal) v0 (ix2 r 0) * v1 (ix2 0 k) - v14 (ix2 r k)

/-- A point's sums at an index. -/
theorem pay8_apply (v0 : FVec Ideal S256x2048 .f32) (v1 : FVec Ideal S1x2048 .f32) (v14 : FVec Ideal S256x2048 .f32) (j : S1x2048.Idx) :
    k0_pay8 (F := Ideal) v0 v1 v14 j = ∑ r : Fin 256, be v0 v1 v14 r (j 1) * Ideal.ofBits .f32 0x3A000000#32 * (v0 (ix2 r (j 1)) * k0_pay3 (F := Ideal) v0 (ix2 r 0)) := by
  pointwise [k0_pay8, k0_pay6, k0_pay5, k0_pay4, be]

theorem pay9_apply (v0 : FVec Ideal S256x2048 .f32) (v1 : FVec Ideal S1x2048 .f32) (v14 : FVec Ideal S256x2048 .f32) (j : S1x2048.Idx) :
    k0_pay9 (F := Ideal) v0 v1 v14 j = ∑ r : Fin 256, be v0 v1 v14 r (j 1) * be v0 v1 v14 r (j 1) * Ideal.ofBits .f32 0x39800000#32 := by
  rw [← Rms.block_scale]
  pointwise [k0_pay9, k0_pay5, k0_pay4, be]

/-- After the last point the block holds the sum of the points' sums. -/
theorem outs4 (c : Dev nD) (t : Fin cfg0.N) (ht : t.val % 32 = 31) (j : S1x2048.Idx) :
    ((outsAt0 m c t.val t.isLt).2.1 : S1x2048.Idx → EReal) j
      = 0 + ∑ s : Fin 32, k0_pay8 (F := Ideal) (iblk m c 0 ⟨32 * (t.val / 32) + s.val, Pipeline.run_point_lt_of_flush t ht s⟩) (iblk m c 2 ⟨32 * (t.val / 32) + s.val, Pipeline.run_point_lt_of_flush t ht s⟩) (iblk m c 1 ⟨32 * (t.val / 32) + s.val, Pipeline.run_point_lt_of_flush t ht s⟩) j := by
  refine Pipeline.eq_sum_fin_of_reset_step_apply_of_flush (M := EReal) (fun n h => ((outsAt0 m c n h).2.1 : S1x2048.Idx → EReal)) 32 (fun _ => 0)
    (fun t => k0_pay8 (F := Ideal) (iblk m c 0 t) (iblk m c 2 t) (iblk m c 1 t)) ?_ ?_ t ht j
  · intro t h j
    rw [outsAt0_A m c t h (by have : t.val < 32 := t.isLt; omega)]
    frame_out
    rw [zero_add]
  · intro t h j
    rw [outsAt0_B m c t h (by omega)]
    frame_out
    pointwise [k0_pay1]

/-- After the run the result holds the factor's gradient. -/
theorem final4 (c : Dev nD) : (dats m 0 c).arrAt 4 cfg0.N = dg (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (flush0_4 t).mp hf
  blk_simp
  rw [after0_4]
  refine (outs4 m c t ht _).trans ?_
  rw [zero_add]
  simp only [pay8_apply]
  unfold dg
  refine Fin.sum_mul_add_congr fun s k hl => ?_
  pointwise [k0_pay3, be, rt, dy, er]
  blk_point [iblk, V, idx t, idx ⟨_, Pipeline.run_point_lt_of_flush t ht s⟩]

/-- After the last point the block holds the sum of the points' sums. -/
theorem outs5 (c : Dev nD) (t : Fin cfg0.N) (ht : t.val % 32 = 31) (j : S1x2048.Idx) :
    ((outsAt0 m c t.val t.isLt).2.2 : S1x2048.Idx → EReal) j
      = 0 + ∑ s : Fin 32, k0_pay9 (F := Ideal) (iblk m c 0 ⟨32 * (t.val / 32) + s.val, Pipeline.run_point_lt_of_flush t ht s⟩) (iblk m c 2 ⟨32 * (t.val / 32) + s.val, Pipeline.run_point_lt_of_flush t ht s⟩) (iblk m c 1 ⟨32 * (t.val / 32) + s.val, Pipeline.run_point_lt_of_flush t ht s⟩) j := by
  refine Pipeline.eq_sum_fin_of_reset_step_apply_of_flush (M := EReal) (fun n h => ((outsAt0 m c n h).2.2 : S1x2048.Idx → EReal)) 32 (fun _ => 0)
    (fun t => k0_pay9 (F := Ideal) (iblk m c 0 t) (iblk m c 2 t) (iblk m c 1 t)) ?_ ?_ t ht j
  · intro t h j
    rw [outsAt0_A m c t h (by have : t.val < 32 := t.isLt; omega)]
    frame_out
    rw [zero_add]
  · intro t h j
    rw [outsAt0_B m c t h (by omega)]
    frame_out
    pointwise [k0_pay2]

/-- After the run the result holds the loss of each column. -/
theorem final5 (c : Dev nD) : (dats m 0 c).arrAt 5 cfg0.N = ls (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := (flush0_5 t).mp hf
  blk_simp
  rw [after0_5]
  refine (outs5 m c t ht _).trans ?_
  rw [zero_add]
  simp only [pay9_apply]
  unfold ls
  refine Fin.sum_mul_add_congr fun s k hl => ?_
  pointwise [k0_pay3, be, rt, dy, er]
  blk_point [iblk, V, idx t, idx ⟨_, Pipeline.run_point_lt_of_flush t ht s⟩]

theorem ref24 (x0 x1 : FVec Ideal S8192x2048 .f32) (x2 : FVec Ideal S1x2048 .f32) : Cert.ReferenceLossIdeal.Read.val_main_v24 (F := Ideal) x0 x1 x2 = ls x0 x1 x2 := by
  rw [← Cert.ReferenceLossIdeal.Read.val_main_v24_eq]
  funext i
  pointwise [ls, er, rt]
  exact Rms.loss_scale _

theorem ref35 (x0 x1 : FVec Ideal S8192x2048 .f32) (x2 : FVec Ideal S1x2048 .f32) : Cert.ReferenceLossIdeal.Read.val_main_v35 (F := Ideal) x0 x1 x2 = dg x0 x1 x2 := by
  rw [← Cert.ReferenceLossIdeal.Read.val_main_v35_eq]
  funext i
  pointwise [dg, dy, er, rt]
  simp only [Fin.sum_univ_one, Rms.square_scale]
  exact Finset.sum_congr rfl fun k _ => mul_comm _ _

theorem ref51 (x0 x1 : FVec Ideal S8192x2048 .f32) (x2 : FVec Ideal S1x2048 .f32) (h0 : ∀ i, Rms.Fin' (x0 i)) (h1 : ∀ i, Rms.Fin' (x1 i)) (h2 : ∀ i, Rms.Fin' (x2 i)) :
    Cert.ReferenceLossIdeal.Read.val_main_v51 (F := Ideal) x0 x1 x2 = dx x0 x1 x2 := by
  funext i
  unfold Cert.ReferenceLossIdeal.Read.val_main_v51 Cert.ReferenceLossIdeal.Read.val_main_v50 Cert.ReferenceLossIdeal.Read.val_main_v49 Cert.ReferenceLossIdeal.Read.val_main_v48 Cert.ReferenceLossIdeal.Read.val_main_v47 Cert.ReferenceLossIdeal.Read.val_main_v46 Cert.ReferenceLossIdeal.Read.val_main_v45 Cert.ReferenceLossIdeal.Read.val_main_v44 Cert.ReferenceLossIdeal.Read.val_main_v43 Cert.ReferenceLossIdeal.Read.val_main_v42 Cert.ReferenceLossIdeal.Read.val_main_v41 Cert.ReferenceLossIdeal.Read.val_main_v40 Cert.ReferenceLossIdeal.Read.val_main_v39 Cert.ReferenceLossIdeal.Read.val_main_v38 Cert.ReferenceLossIdeal.Read.val_main_v37 Cert.ReferenceLossIdeal.Read.val_main_v36 Cert.ReferenceLossIdeal.Read.val_main_v32 Cert.ReferenceLossIdeal.Read.val_main_v31 Cert.ReferenceLossIdeal.Read.val_main_v30 Cert.ReferenceLossIdeal.Read.val_main_v29 Cert.ReferenceLossIdeal.Read.val_main_v28 Cert.ReferenceLossIdeal.Read.val_main_v27 Cert.ReferenceLossIdeal.Read.val_main_v26 Cert.ReferenceLossIdeal.Read.val_main_v25 Cert.ReferenceLossIdeal.Read.val_main_v18 Cert.ReferenceLossIdeal.Read.val_main_v17 Cert.ReferenceLossIdeal.Read.val_main_v15 Cert.ReferenceLossIdeal.Read.val_main_v14 Cert.ReferenceLossIdeal.Read.val_main_v13 Cert.ReferenceLossIdeal.Read.val_main_v12 Cert.ReferenceLossIdeal.Read.val_main_v11 Cert.ReferenceLossIdeal.Read.val_main_v10 Cert.ReferenceLossIdeal.Read.val_main_v9 Cert.ReferenceLossIdeal.Read.val_main_v8 Cert.ReferenceLossIdeal.Read.val_main_v7 Cert.ReferenceLossIdeal.Read.val_main_v6 Cert.ReferenceLossIdeal.Read.val_main_v5 Cert.ReferenceLossIdeal.Read.val_main_v4 Cert.ReferenceLossIdeal.Read.val_main_v3 Cert.ReferenceLossIdeal.Read.val_main_v2 Cert.ReferenceLossIdeal.Read.val_main_v1 Cert.ReferenceLossIdeal.Read.val_main_v0 Cert.ReferenceLossIdeal.Read.val_main_cst Cert.ReferenceLossIdeal.Read.val_main_cst_0 Cert.ReferenceLossIdeal.Read.val_main_cst_1 Cert.ReferenceLossIdeal.Read.val_main_cst_2 Cert.ReferenceLossIdeal.Read.val_main_cst_3 Cert.ReferenceLossIdeal.Read.val_main_cst_7 Cert.ReferenceLossIdeal.Read.val_main_cst_8 Cert.ReferenceLossIdeal.Read.val_main_cst_9 Cert.ReferenceLossIdeal.Read.val_main_cst_10 Cert.ReferenceLossIdeal.Read.val_main_cst_12 Cert.ReferenceLossIdeal.Read.val_main_cst_13 Cert.ReferenceLossIdeal.Read.val_main_cst_14
  pointwise [dx, dy, er, rt]
  simp only [Fin.sum_univ_one, Rms.square_scale]
  have hr : Rms.Fin' (rt x0 (i 0)) := Rms.root_fin _ fun k => h0 _
  exact (Rms.core_at (fun k => x0 (ix2 (i 0) k)) (fun k => dy x0 x1 x2 (i 0) k * x2 (ix2 0 k)) (fun k => h0 _)
    (fun k => (((((h0 _).mul hr).mul (h2 _)).sub (h1 _)).mul Rms.Fin'.inv_len).mul (h2 _)) (i 1)
    (congrArg x0 (ix2_self i)) (congrArg (fun q => (x0 q * rt x0 (i 0) * x2 (ix2 0 (i 1)) - x1 q) * _ * _) (ix2_self i))).symm

theorem pre_facts : Cert.Pre_finite_loss.Facts := ⟨by decide, by decide⟩

/-- The kernel and the reference end with the same results, the arguments being finite. -/
theorem algebraic : Cert.algebraic_KernelLossIdeal_ReferenceLossIdeal_pre_finite_loss (hKernelLossIdeal := Cert.KernelLossIdeal.Gen.facts) (hReferenceLossIdeal := Cert.ReferenceLossIdeal.Gen.facts)
    (hPre_finite_loss := pre_facts) := by
  intro m ρ m' ρ' hp hag
  refine ⟨fun c => dx (m ((c : Thread nD τ).loc main_arg0)) (m ((c : Thread nD τ).loc main_arg1)) (m ((c : Thread nD τ).loc main_arg2)),
    fun c => dg (m ((c : Thread nD τ).loc main_arg0)) (m ((c : Thread nD τ).loc main_arg1)) (m ((c : Thread nD τ).loc main_arg2)),
    fun c => ls (m ((c : Thread nD τ).loc main_arg0)) (m ((c : Thread nD τ).loc main_arg1)) (m ((c : Thread nD τ).loc main_arg2)), ?_, ?_⟩
  · refine (θ_run _ _ _).mono (fun r h c => ?_) (Cert.KernelLossIdeal.Value.run_blocks (F := Ideal) m ρ)
    obtain ⟨h0, h1, h2, ha⟩ := h c
    exact ⟨h0.trans (final3 m c), h1.trans (final4 m c), h2.trans (final5 m c), ha⟩
  · refine (θ_run _ _ _).mono (fun r h c => ?_) (Cert.ReferenceLossIdeal.Value.run (F := Ideal) m' ρ')
    obtain ⟨h0, h1, h2, ha⟩ := h c
    obtain ⟨e0, e1, e2⟩ := hag c
    refine ⟨?_, ?_, ?_, ha⟩
    · rw [h0, Cert.ReferenceLossIdeal.Read.val_main_v51_eq, e0, e1, e2]
      exact ref51 _ _ _ (fun i => ⟨_, Cert.Proof.Attn.real_of_small (congrFun (hp c).1 i)⟩) (fun i => ⟨_, Cert.Proof.Attn.real_of_small (congrFun (hp c).2.1 i)⟩) (fun i => ⟨_, Cert.Proof.Attn.real_of_small (congrFun (hp c).2.2 i)⟩)
    · rw [h1, e0, e1, e2]
      exact (Cert.ReferenceLossIdeal.Read.val_main_v35_eq _ _ _ ).trans (ref35 _ _ _ )
    · rw [h2, e0, e1, e2]
      exact (Cert.ReferenceLossIdeal.Read.val_main_v24_eq _ _ _ ).trans (ref24 _ _ _ )

/-- The kernel over machine words ends, its arguments unchanged and no semaphore counting. -/
theorem frame_kernel : Cert.quiescent_KernelLoss (hKernelLoss := Cert.KernelLoss.Gen.facts) := fun m ρ _ => Cert.KernelLoss.Gen.frame m ρ

/-- So does the idealized kernel. -/
theorem frame_ideal : Cert.quiescent_KernelLossIdeal (hKernelLossIdeal := Cert.KernelLossIdeal.Gen.facts) := fun m ρ _ => Cert.KernelLossIdeal.Gen.frame m ρ

/-- And the reference. -/
theorem frame_reference : Cert.quiescent_ReferenceLossIdeal (hReferenceLossIdeal := Cert.ReferenceLossIdeal.Gen.facts) := fun m ρ _ =>
  (θ_run Cert.ReferenceLossIdeal.defs _ _).mono (fun r h => ⟨fun c => (h c).2.2.2, sem_eq_zero_of_no_sems (by decide) r.2⟩)
    (Cert.ReferenceLossIdeal.Value.run (F := Ideal) m ρ)

end Cert.Proof.Mul.Loss

end
-- ==== Proof.Mul.Ada.lean ====
/-
  The modulation's product (the call mod_fwd): what the kernel's result array holds after the run, and what the reference
  computes. Each of the 4 points is a layer.
-/
module

public import proofs.«01_k».proof.Defs
public import proofs.«01_k».proof.Proof.Gen.KernelAda.Frame
public import proofs.«01_k».proof.Proof.Gen.KernelAdaIdeal.Value
public import proofs.«01_k».proof.Proof.Gen.ReferenceAdaIdeal.Read
public import Idealize.ShloMosaic.Lib.Pipeline.ValueKit
public import Idealize.ShloMosaic.Lib.Claim

@[expose] public section

set_option maxRecDepth 16384

noncomputable section

namespace Cert.Proof.Mul.Ada

open Cert.KernelAdaIdeal Cert.KernelAdaIdeal.Gen Idealize.ShloMosaic Idealize.ShloMosaic.TcCoe Idealize.SL.Sem

variable (m : (ℓ : Loc nD τ sig) → Buf (Elt Ideal) ℓ)

/-- The product of the condition's SiLU and a layer's weights. -/
def modul (x : FVec Ideal S8x2048 .f32) (w : FVec Ideal S4x2048x768 .f32) : FVec Ideal S4x8x768 .f32 := fun i =>
  ∑ k : Fin 2048, x (ix2 (i 1) k) * Ideal.div 1 (1 + Ideal.exp (-x (ix2 (i 1) k))) * w (ix3 (i 0) k (i 2))

/-- The blocks' places. -/
theorem idx : ∀ t : Fin cfg0.N, win0_0.index t = ![0, 0] ∧ win0_1.index t = ![t.val, 0, 0] ∧ win0_2.index t = ![t.val, 0, 0] := by
  decide +kernel

/-- After the run the result holds the products. -/
theorem final2 (c : Dev nD) : (dats m 0 c).arrAt 2 cfg0.N = modul (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, Ideal.logistic, modul]
  blk_point [iblk, V, idx t]

theorem ref2 (x0 : FVec Ideal S8x2048 .f32) (x1 : FVec Ideal S4x2048x768 .f32) : Cert.ReferenceAdaIdeal.Read.val_main_v2 (F := Ideal) x0 x1 = modul x0 x1 := by
  rw [← Cert.ReferenceAdaIdeal.Read.val_main_v2_eq]
  funext i
  pointwise [modul]

/-- The kernel and the reference end with the same results. -/
theorem algebraic : Cert.algebraic_KernelAdaIdeal_ReferenceAdaIdeal (hKernelAdaIdeal := Cert.KernelAdaIdeal.Gen.facts) (hReferenceAdaIdeal := Cert.ReferenceAdaIdeal.Gen.facts) := by
  intro m ρ m' ρ' _ hag
  refine ⟨fun c => modul (m ((c : Thread nD τ).loc main_arg0)) (m ((c : Thread nD τ).loc main_arg1)), ?_, ?_⟩
  · refine (θ_run _ _ _).mono (fun r h c => ?_) (Cert.KernelAdaIdeal.Value.run_blocks (F := Ideal) m ρ)
    obtain ⟨h0, ha⟩ := h c
    exact ⟨h0.trans (final2 m c), ha⟩
  · refine (θ_run _ _ _).mono (fun r h c => ?_) (Cert.ReferenceAdaIdeal.Value.run (F := Ideal) m' ρ')
    obtain ⟨h0, ha⟩ := h c
    obtain ⟨e0, e1⟩ := hag c
    refine ⟨?_, ha⟩
    · rw [h0, e0, e1]
      exact (Cert.ReferenceAdaIdeal.Read.val_main_v2_eq _ _ ).trans (ref2 _ _)

/-- The kernel over machine words ends, its arguments unchanged and no semaphore counting. -/
theorem frame_kernel : Cert.quiescent_KernelAda (hKernelAda := Cert.KernelAda.Gen.facts) := fun m ρ _ => Cert.KernelAda.Gen.frame m ρ

/-- So does the idealized kernel. -/
theorem frame_ideal : Cert.quiescent_KernelAdaIdeal (hKernelAdaIdeal := Cert.KernelAdaIdeal.Gen.facts) := fun m ρ _ => Cert.KernelAdaIdeal.Gen.frame m ρ

/-- And the reference. -/
theorem frame_reference : Cert.quiescent_ReferenceAdaIdeal (hReferenceAdaIdeal := Cert.ReferenceAdaIdeal.Gen.facts) := fun m ρ _ =>
  (θ_run Cert.ReferenceAdaIdeal.defs _ _).mono (fun r h => ⟨fun c => (h c).2, sem_eq_zero_of_no_sems (by decide) r.2⟩)
    (Cert.ReferenceAdaIdeal.Value.run (F := Ideal) m ρ)

end Cert.Proof.Mul.Ada

end
-- ==== Proof.Mul.Adaw.lean ====
/-
  The gradient of the modulation's weights and their optimiser step (the call wada_bwd): what the kernel's four result arrays
  hold after the run, and what the reference computes. Each of the 32 points writes 256 rows of a layer.
-/
module

public import proofs.«01_k».proof.Defs
public import proofs.«01_k».proof.Proof.Gen.KernelAdaw.Frame
public import proofs.«01_k».proof.Proof.Gen.KernelAdawIdeal.Frame
public import Idealize.ShloMosaic.Lib.Pipeline.Value
public import proofs.«01_k».proof.Proof.Gen.ReferenceAdawIdeal.Read
public import Idealize.ShloMosaic.Lib.Pipeline.ValueKit
public import Idealize.ShloMosaic.Lib.Claim

@[expose] public section

set_option maxRecDepth 16384

noncomputable section

namespace Cert.Proof.Mul.Adaw

open Cert.KernelAdawIdeal Cert.KernelAdawIdeal.Gen Idealize.ShloMosaic Idealize.ShloMosaic.TcCoe Idealize.SL.Sem

variable (m : (ℓ : Loc nD τ sig) → Buf (Elt Ideal) ℓ)

/-- The weights' gradient: the sum over the examples of the condition's SiLU times the modulation's gradient. -/
def grad (x : FVec Ideal S2048x8 .f32) (d : FVec Ideal S4x8x768 .f32) : FVec Ideal S4x2048x768 .f32 := fun i =>
  ∑ b : Fin 8, x (ix2 (i 1) b) * Ideal.div 1 (1 + Ideal.exp (-x (ix2 (i 1) b))) * d (ix3 (i 0) b (i 2))

/-- The new first moment. -/
def mom (x : FVec Ideal S2048x8 .f32) (d : FVec Ideal S4x8x768 .f32) (mm : FVec Ideal S4x2048x768 .f32) : FVec Ideal S4x2048x768 .f32 := fun i =>
  Ideal.ofBits .f32 0x3F666666#32 * mm (ix3 (i 0) (i 1) (i 2)) + Ideal.ofBits .f32 0x3DCCCCCD#32 * grad x d i

/-- The new second moment. -/
def var (x : FVec Ideal S2048x8 .f32) (d : FVec Ideal S4x8x768 .f32) (v : FVec Ideal S4x2048x768 .f32) : FVec Ideal S4x2048x768 .f32 := fun i =>
  Ideal.ofBits .f32 0x3F7FBE77#32 * v (ix3 (i 0) (i 1) (i 2)) + Ideal.ofBits .f32 0x3A83126F#32 * (grad x d i * grad x d i)

/-- The step. -/
def step (x : FVec Ideal S2048x8 .f32) (d : FVec Ideal S4x8x768 .f32) (w mm v : FVec Ideal S4x2048x768 .f32) : FVec Ideal S4x2048x768 .f32 := fun i =>
  Ideal.ofBits .f32 0xBA83126F#32 * (Ideal.div (Ideal.div (mom x d mm i) (Ideal.ofBits .f32 0x3F26BD02#32))
    (Ideal.sqrt (Ideal.div (var x d v i) (Ideal.ofBits .f32 0x3C231ACC#32)) + Ideal.ofBits .f32 0x322BCC77#32)
    + Ideal.ofBits .f32 0x3C23D70A#32 * w (ix3 (i 0) (i 1) (i 2)))

/-- The blocks' places. -/
theorem idx : ∀ t : Fin cfg0.N, win0_0.index t = ![t.val % 8, 0] ∧ win0_1.index t = ![t.val / 8, 0, 0] ∧ win0_2.index t = ![t.val / 8, t.val % 8, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0] ∧ win0_8.index t = ![t.val / 8, t.val % 8, 0] := by
  decide +kernel

/-- A point's gradient at an index. -/
theorem pay3_apply (v0 : FVec Ideal S256x8 .f32) (v3 : FVec Ideal S1x8x768 .f32) (j : S256x768.Idx) :
    k0_pay3 (F := Ideal) v0 v3 j = ∑ b : Fin 8, v0 (ix2 (j 0) b) * Ideal.div 1 (1 + Ideal.exp (-v0 (ix2 (j 0) b))) * v3 (ix3 0 b (j 1)) := by
  rw [Fin.sum_univ_eight]
  pointwise [k0_pay3, Ideal.logistic]

/-- After the run the result holds the gradient. -/
theorem final5 (c : Dev nD) : (dats m 0 c).arrAt 5 cfg0.N = grad (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay6, k0_pay8, pay3_apply, grad]
  blk_point [iblk, V, idx t]

/-- After the run the result holds the step. -/
theorem final6 (c : Dev nD) : (dats m 0 c).arrAt 6 cfg0.N = step (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay7, k0_pay4, k0_pay5, k0_pay8, pay3_apply, step, mom, var, grad]
  blk_point [iblk, V, idx t]

/-- After the run the result holds the new first moment. -/
theorem final7 (c : Dev nD) : (dats m 0 c).arrAt 7 cfg0.N = mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  pointwise [k0_pay1, k0_pay4, k0_pay8, pay3_apply, mom, grad]
  blk_point [iblk, V, idx t]

/-- After the run the result holds the new second moment. -/
theorem final8 (c : Dev nD) : (dats m 0 c).arrAt 8 cfg0.N = var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  pointwise [k0_pay2, k0_pay5, k0_pay8, pay3_apply, var, grad]
  blk_point [iblk, V, idx t]

theorem ix3_self (i : S4x2048x768.Idx) : ix3 (i 0) (i 1) (i 2) = i := by
  funext a
  match a with
  | ⟨0, _⟩ => rfl
  | ⟨1, _⟩ => rfl
  | ⟨2, _⟩ => rfl

/-- The same sum with the factors exchanged. -/
theorem grad_swap (x : FVec Ideal S2048x8 .f32) (d : FVec Ideal S4x8x768 .f32) (i : S4x2048x768.Idx) :
    grad x d i = ∑ b : Fin 8, d (ix3 (i 0) b (i 2)) * (x (ix2 (i 1) b) * Ideal.div 1 (1 + Ideal.exp (-x (ix2 (i 1) b)))) :=
  Finset.sum_congr rfl fun _ _ => mul_comm _ _

theorem ref7 (x0 : FVec Ideal S2048x8 .f32) (x1 : FVec Ideal S4x8x768 .f32) : Cert.ReferenceAdawIdeal.Read.val_main_v7 (F := Ideal) x0 x1 = grad x0 x1 := by
  rw [← Cert.ReferenceAdawIdeal.Read.val_main_v7_eq]
  funext i
  pointwise [grad_swap]

theorem ref31 (x0 : FVec Ideal S2048x8 .f32) (x1 : FVec Ideal S4x8x768 .f32) (x2 x3 x4 : FVec Ideal S4x2048x768 .f32) : Cert.ReferenceAdawIdeal.Read.val_main_v31 (F := Ideal) x0 x1 x2 x3 x4 = step x0 x1 x2 x3 x4 := by
  rw [← Cert.ReferenceAdawIdeal.Read.val_main_v31_eq]
  funext i
  pointwise [step, mom, var, grad_swap, ix3_self]

theorem ref12 (x0 : FVec Ideal S2048x8 .f32) (x1 : FVec Ideal S4x8x768 .f32) (x3 : FVec Ideal S4x2048x768 .f32) : Cert.ReferenceAdawIdeal.Read.val_main_v12 (F := Ideal) x0 x1 x3 = mom x0 x1 x3 := by
  rw [← Cert.ReferenceAdawIdeal.Read.val_main_v12_eq]
  funext i
  pointwise [mom, grad_swap, ix3_self]

theorem ref18 (x0 : FVec Ideal S2048x8 .f32) (x1 : FVec Ideal S4x8x768 .f32) (x4 : FVec Ideal S4x2048x768 .f32) : Cert.ReferenceAdawIdeal.Read.val_main_v18 (F := Ideal) x0 x1 x4 = var x0 x1 x4 := by
  rw [← Cert.ReferenceAdawIdeal.Read.val_main_v18_eq]
  funext i
  pointwise [var, grad_swap, ix3_self]

/-- The run, its four result arrays named and its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v0_0) = (dats m 0 c).arrAt 5 cfg0.N ∧ r.2.mem ((c : Thread nD τ).loc main_v0_1) = (dats m 0 c).arrAt 6 cfg0.N ∧
    r.2.mem ((c : Thread nD τ).loc main_v0_2) = (dats m 0 c).arrAt 7 cfg0.N ∧ r.2.mem ((c : Thread nD τ).loc main_v0_3) = (dats m 0 c).arrAt 8 cfg0.N ∧
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) := by
  refine (θ_run _ _ _).mono (fun r h c => ?_) (run_main (F := Ideal) m ρ)
  have kept : ∀ w : Fin cfg0.W, (cfg0.win w).isOut = false → r.2.mem ((c : Thread nD τ).loc (Pipeline.arrRef spec0 w)) = V m c (Pipeline.arrRef spec0 w) :=
    fun w hw => ((h c).1 w).trans (((dats m 0 c).arrAt_in w hw _).trans (A_eq m c w))
  exact ⟨(h c).1 5, (h c).1 6, (h c).1 7, (h c).1 8, kept 0 rfl, kept 1 rfl, kept 2 rfl, kept 3 rfl, kept 4 rfl⟩

/-- The kernel and the reference end with the same results. -/
theorem algebraic : Cert.algebraic_KernelAdawIdeal_ReferenceAdawIdeal (hKernelAdawIdeal := Cert.KernelAdawIdeal.Gen.facts) (hReferenceAdawIdeal := Cert.ReferenceAdawIdeal.Gen.facts) := by
  intro m ρ m' ρ' _ hag
  refine ⟨fun c => grad (m ((c : Thread nD τ).loc main_arg0)) (m ((c : Thread nD τ).loc main_arg1)),
    fun c => step (m ((c : Thread nD τ).loc main_arg0)) (m ((c : Thread nD τ).loc main_arg1)) (m ((c : Thread nD τ).loc main_arg2)) (m ((c : Thread nD τ).loc main_arg3)) (m ((c : Thread nD τ).loc main_arg4)),
    fun c => mom (m ((c : Thread nD τ).loc main_arg0)) (m ((c : Thread nD τ).loc main_arg1)) (m ((c : Thread nD τ).loc main_arg3)),
    fun c => var (m ((c : Thread nD τ).loc main_arg0)) (m ((c : Thread nD τ).loc main_arg1)) (m ((c : Thread nD τ).loc main_arg4)), ?_, ?_⟩
  · refine (θ_run _ _ _).mono (fun r h c => ?_) (run_blocks m ρ)
    obtain ⟨h0, h1, h2, h3, ha⟩ := h c
    exact ⟨h0.trans (final5 m c), h1.trans (final6 m c), h2.trans (final7 m c), h3.trans (final8 m c), ha⟩
  · refine (θ_run _ _ _).mono (fun r h c => ?_) (Cert.ReferenceAdawIdeal.Value.run (F := Ideal) m' ρ')
    obtain ⟨h0, h1, h2, h3, ha⟩ := h c
    obtain ⟨e0, e1, e2, e3, e4⟩ := hag c
    refine ⟨?_, ?_, ?_, ?_, ha⟩
    · rw [h0, e0, e1]
      exact (Cert.ReferenceAdawIdeal.Read.val_main_v7_eq _ _ ).trans (ref7 _ _)
    · rw [h1, e0, e1, e2, e3, e4]
      exact (Cert.ReferenceAdawIdeal.Read.val_main_v31_eq _ _ _ _ _ ).trans (ref31 _ _ _ _ _)
    · rw [h2, e0, e1, e3]
      exact (Cert.ReferenceAdawIdeal.Read.val_main_v12_eq _ _ _ ).trans (ref12 _ _ _)
    · rw [h3, e0, e1, e4]
      exact (Cert.ReferenceAdawIdeal.Read.val_main_v18_eq _ _ _ ).trans (ref18 _ _ _)

/-- The kernel over machine words ends, its arguments unchanged and no semaphore counting. -/
theorem frame_kernel : Cert.quiescent_KernelAdaw (hKernelAdaw := Cert.KernelAdaw.Gen.facts) := fun m ρ _ => Cert.KernelAdaw.Gen.frame m ρ

/-- So does the idealized kernel. -/
theorem frame_ideal : Cert.quiescent_KernelAdawIdeal (hKernelAdawIdeal := Cert.KernelAdawIdeal.Gen.facts) := fun m ρ _ => Cert.KernelAdawIdeal.Gen.frame m ρ

/-- And the reference. -/
theorem frame_reference : Cert.quiescent_ReferenceAdawIdeal (hReferenceAdawIdeal := Cert.ReferenceAdawIdeal.Gen.facts) := fun m ρ _ =>
  (θ_run Cert.ReferenceAdawIdeal.defs _ _).mono (fun r h => ⟨fun c => (h c).2.2.2.2, sem_eq_zero_of_no_sems (by decide) r.2⟩)
    (Cert.ReferenceAdawIdeal.Value.run (F := Ideal) m ρ)

end Cert.Proof.Mul.Adaw

end
-- ==== Proof.Mul.Fac.lean ====
/-
  The gradients of the norm's factor and of the modulation's scale (the call mod_bwd): what the kernel's two result arrays
  hold after the run, and what the reference computes.
-/
module

public import proofs.«01_k».proof.Defs
public import proofs.«01_k».proof.Proof.Gen.KernelFac.Frame
public import proofs.«01_k».proof.Proof.Gen.KernelFacIdeal.Value
public import proofs.«01_k».proof.Proof.Gen.ReferenceFacIdeal.Read
public import Idealize.ShloMosaic.Lib.Pipeline.ValueKit
public import Idealize.ShloMosaic.Lib.Claim

@[expose] public section

set_option maxRecDepth 16384

noncomputable section

namespace Cert.Proof.Mul.Fac

open Cert.KernelFacIdeal Cert.KernelFacIdeal.Gen Idealize.ShloMosaic Idealize.ShloMosaic.TcCoe Idealize.SL.Sem

variable (m : (ℓ : Loc nD τ sig) → Buf (Elt Ideal) ℓ)

/-- The factor's gradient. -/
def dg (da sc : FVec Ideal S4x2048 .f32) : FVec Ideal S4x2048 .f32 := fun i => da (ix2 (i 0) (i 1)) * (1 + sc (ix2 (i 0) (i 1)))

/-- The scale's gradient. -/
def dsc (da g : FVec Ideal S4x2048 .f32) : FVec Ideal S4x2048 .f32 := fun i => da (ix2 (i 0) (i 1)) * g (ix2 (i 0) (i 1))

/-- The one block of every array is the whole array. -/
theorem idx : ∀ t : Fin cfg0.N, win0_0.index t = ![0, 0] ∧ win0_1.index t = ![0, 0] ∧ win0_2.index t = ![0, 0] ∧ win0_3.index t = ![0, 0]
    ∧ win0_4.index t = ![0, 0] := by
  decide +kernel

/-- After the run the first result holds the factor's gradient. -/
theorem final3 (c : Dev nD) : (dats m 0 c).arrAt 3 cfg0.N = dg (m ((c : Thread nD τ).loc main_arg0)) (m ((c : Thread nD τ).loc main_arg2)) := by
  refine (dats m 0 c).arrAt_eq_of_covers 3 _ (by decide +kernel) fun t hf y => ?_
  blk_simp
  rw [after0_3]
  frame_out
  pointwise [k0_pay1, dg]
  blk_point [iblk, V, idx t]

/-- After the run the second result holds the scale's gradient. -/
theorem final4 (c : Dev nD) : (dats m 0 c).arrAt 4 cfg0.N = dsc (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay2, dsc]
  blk_point [iblk, V, idx t]

theorem ix2_self (i : S4x2048.Idx) : ix2 (i 0) (i 1) = i := by
  funext a
  match a with
  | ⟨0, _⟩ => rfl
  | ⟨1, _⟩ => rfl

theorem ref4 (x0 x2 : FVec Ideal S4x2048 .f32) : Cert.ReferenceFacIdeal.Read.val_main_v4 (F := Ideal) x0 x2 = dg x0 x2 := by
  rw [← Cert.ReferenceFacIdeal.Read.val_main_v4_eq]
  funext i
  pointwise [dg, ix2_self]

theorem ref3 (x0 x1 : FVec Ideal S4x2048 .f32) : Cert.ReferenceFacIdeal.Read.val_main_v3 (F := Ideal) x0 x1 = dsc x0 x1 := by
  rw [← Cert.ReferenceFacIdeal.Read.val_main_v3_eq]
  funext i
  pointwise [dsc, ix2_self]
  exact mul_comm _ _

/-- The kernel and the reference end with the same results. -/
theorem algebraic : Cert.algebraic_KernelFacIdeal_ReferenceFacIdeal (hKernelFacIdeal := Cert.KernelFacIdeal.Gen.facts) (hReferenceFacIdeal := Cert.ReferenceFacIdeal.Gen.facts) := by
  intro m ρ m' ρ' _ hag
  refine ⟨fun c => dg (m ((c : Thread nD τ).loc main_arg0)) (m ((c : Thread nD τ).loc main_arg2)),
    fun c => dsc (m ((c : Thread nD τ).loc main_arg0)) (m ((c : Thread nD τ).loc main_arg1)), ?_, ?_⟩
  · refine (θ_run _ _ _).mono (fun r h c => ?_) (Cert.KernelFacIdeal.Value.run_blocks (F := Ideal) m ρ)
    obtain ⟨h0, h1, ha⟩ := h c
    exact ⟨h0.trans (final3 m c), h1.trans (final4 m c), ha⟩
  · refine (θ_run _ _ _).mono (fun r h c => ?_) (Cert.ReferenceFacIdeal.Value.run (F := Ideal) m' ρ')
    obtain ⟨h0, h1, ha⟩ := h c
    obtain ⟨e0, e1, e2⟩ := hag c
    refine ⟨?_, ?_, ha⟩
    · rw [h0, e0, e2]
      exact (Cert.ReferenceFacIdeal.Read.val_main_v4_eq _ _ ).trans (ref4 _ _)
    · rw [h1, e0, e1]
      exact (Cert.ReferenceFacIdeal.Read.val_main_v3_eq _ _ ).trans (ref3 _ _)

/-- The kernel over machine words ends, its arguments unchanged and no semaphore counting. -/
theorem frame_kernel : Cert.quiescent_KernelFac (hKernelFac := Cert.KernelFac.Gen.facts) := fun m ρ _ => Cert.KernelFac.Gen.frame m ρ

/-- So does the idealized kernel. -/
theorem frame_ideal : Cert.quiescent_KernelFacIdeal (hKernelFacIdeal := Cert.KernelFacIdeal.Gen.facts) := fun m ρ _ => Cert.KernelFacIdeal.Gen.frame m ρ

/-- And the reference. -/
theorem frame_reference : Cert.quiescent_ReferenceFacIdeal (hReferenceFacIdeal := Cert.ReferenceFacIdeal.Gen.facts) := fun m ρ _ =>
  (θ_run Cert.ReferenceFacIdeal.defs _ _).mono (fun r h => ⟨fun c => (h c).2.2, sem_eq_zero_of_no_sems (by decide) r.2⟩)
    (Cert.ReferenceFacIdeal.Value.run (F := Ideal) m ρ)

end Cert.Proof.Mul.Fac

end
-- ==== Proof.Mul.Post.lean ====
/-
  The out-projection's gradients (the call wout_post): what the kernel's two result arrays hold after the run, and what the
  reference computes. Each of the 8 points reads 256 rows; the gate's gradient adds up over the points.
-/
module

public import proofs.«01_k».proof.Defs
public import proofs.«01_k».proof.Proof.Gen.KernelPost.Frame
public import proofs.«01_k».proof.Proof.Gen.KernelPostIdeal.Value
public import proofs.«01_k».proof.Proof.Gen.ReferencePostIdeal.Read
public import Idealize.ShloMosaic.Lib.Pipeline.ValueKit
public import Idealize.ShloMosaic.Lib.Claim

@[expose] public section

set_option maxRecDepth 16384

noncomputable section

namespace Cert.Proof.Mul.Post

open Cert.KernelPostIdeal Cert.KernelPostIdeal.Gen Idealize.ShloMosaic Idealize.ShloMosaic.TcCoe Idealize.SL.Sem

variable (m : (ℓ : Loc nD τ sig) → Buf (Elt Ideal) ℓ)

/-- The weights' gradient. -/
def dw (g : FVec Ideal S2048x2048 .f32) (gate : FVec Ideal S1x2048 .f32) : FVec Ideal S2048x2048 .f32 := fun i => g (ix2 (i 0) (i 1)) * gate (ix2 0 (i 1))

/-- The gate's gradient. -/
def dg (g : FVec Ideal S2048x2048 .f32) (w : FVec Ideal S2048x2048 .bf16) : FVec Ideal S1x2048 .f32 := fun i => ∑ r : Fin 2048, g (ix2 r (i 1)) * w (ix2 r (i 1))

/-- The blocks' places. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] := by
  decide +kernel

/-- What a point leaves of the weights' gradient. -/
theorem outs3 (c : Dev nD) (t : Fin cfg0.N) : (outsAt0 m c t.val t.isLt).1 = k0_pay1 (F := Ideal) (iblk m c 0 t) (iblk m c 2 t) := by
  by_cases h : t.val % 8 = 0
  · rw [outsAt0_A m c t h (by have : t.val < 8 := t.isLt; omega)]
    frame_out
  · rw [outsAt0_B m c t h (by omega)]
    frame_out

/-- After the run the first result holds the weights' gradient. -/
theorem final3 (c : Dev nD) : (dats m 0 c).arrAt 3 cfg0.N = dw (m ((c : Thread nD τ).loc main_arg0)) (m ((c : Thread nD τ).loc main_arg2)) := by
  refine (dats m 0 c).arrAt_eq_of_covers 3 _ (by decide +kernel) fun t hf y => ?_
  blk_simp
  rw [after0_3, outs3]
  pointwise [k0_pay1, dw]
  blk_point [iblk, V, idx t]

/-- A point's sum at an index. -/
theorem pay2_apply (v0 : FVec Ideal S256x2048 .f32) (v5 : FVec Ideal S256x2048 .bf16) (j : S1x2048.Idx) :
    k0_pay2 (F := Ideal) v0 v5 j = ∑ r : Fin 256, v0 (ix2 r (j 1)) * v5 (ix2 r (j 1)) := by
  pointwise [k0_pay2]

/-- After the last point the block holds the sum of the points' sums. -/
theorem outs4 (c : Dev nD) (t : Fin cfg0.N) (ht : t.val % 8 = 7) (j : S1x2048.Idx) :
    ((outsAt0 m c t.val t.isLt).2 : S1x2048.Idx → EReal) j
      = 0 + ∑ s : Fin 8, k0_pay2 (F := Ideal) (iblk m c 0 ⟨8 * (t.val / 8) + s.val, Pipeline.run_point_lt_of_flush t ht s⟩) (iblk m c 1 ⟨8 * (t.val / 8) + s.val, Pipeline.run_point_lt_of_flush t ht s⟩) j := by
  refine Pipeline.eq_sum_fin_of_reset_step_apply_of_flush (M := EReal) (fun n h => ((outsAt0 m c n h).2 : S1x2048.Idx → EReal)) 8 (fun _ => 0)
    (fun t => k0_pay2 (F := Ideal) (iblk m c 0 t) (iblk m c 1 t)) ?_ ?_ t ht j
  · intro t h j
    rw [outsAt0_A m c t h (by have : t.val < 8 := t.isLt; omega)]
    frame_out
    rw [zero_add]
  · intro t h j
    rw [outsAt0_B m c t h (by omega)]
    frame_out
    pointwise [k0_pay3]

/-- After the run the second result holds the gate's gradient. -/
theorem final4 (c : Dev nD) : (dats m 0 c).arrAt 4 cfg0.N = dg (m ((c : Thread nD τ).loc main_arg0)) (m ((c : Thread nD τ).loc main_arg1)) := by
  refine (dats m 0 c).arrAt_eq_of_covers 4 _ (by decide +kernel) fun t hf y => ?_
  have ht := (flush0_4 t).mp hf
  blk_simp
  rw [after0_4]
  refine (outs4 m c t ht _).trans ?_
  rw [zero_add]
  simp only [pay2_apply]
  unfold dg
  refine Fin.sum_mul_add_congr fun s k hl => ?_
  blk_point [iblk, V, idx t, idx ⟨_, Pipeline.run_point_lt_of_flush t ht s⟩]

theorem ref4 (x0 : FVec Ideal S2048x2048 .f32) (x2 : FVec Ideal S1x2048 .f32) : Cert.ReferencePostIdeal.Read.val_main_v4 (F := Ideal) x0 x2 = dw x0 x2 := by
  rw [← Cert.ReferencePostIdeal.Read.val_main_v4_eq]
  funext i
  pointwise [dw]
  exact (mul_comm _ _).trans (congrArg (x0 · * _) (funext fun a => match a with
    | ⟨0, _⟩ => rfl
    | ⟨1, _⟩ => rfl))

theorem ref7 (x0 : FVec Ideal S2048x2048 .f32) (x1 : FVec Ideal S2048x2048 .bf16) : Cert.ReferencePostIdeal.Read.val_main_v7 (F := Ideal) x0 x1 = dg x0 x1 := by
  rw [← Cert.ReferencePostIdeal.Read.val_main_v7_eq]
  funext i
  pointwise [dg]

/-- The kernel and the reference end with the same results. -/
theorem algebraic : Cert.algebraic_KernelPostIdeal_ReferencePostIdeal (hKernelPostIdeal := Cert.KernelPostIdeal.Gen.facts) (hReferencePostIdeal := Cert.ReferencePostIdeal.Gen.facts) := by
  intro m ρ m' ρ' _ hag
  refine ⟨fun c => dw (m ((c : Thread nD τ).loc main_arg0)) (m ((c : Thread nD τ).loc main_arg2)), fun c => dg (m ((c : Thread nD τ).loc main_arg0)) (m ((c : Thread nD τ).loc main_arg1)), ?_, ?_⟩
  · refine (θ_run _ _ _).mono (fun r h c => ?_) (Cert.KernelPostIdeal.Value.run_blocks (F := Ideal) m ρ)
    obtain ⟨h0, h1, ha⟩ := h c
    exact ⟨h0.trans (final3 m c), h1.trans (final4 m c), ha⟩
  · refine (θ_run _ _ _).mono (fun r h c => ?_) (Cert.ReferencePostIdeal.Value.run (F := Ideal) m' ρ')
    obtain ⟨h0, h1, ha⟩ := h c
    obtain ⟨e0, e1, e2⟩ := hag c
    refine ⟨?_, ?_, ha⟩
    · rw [h0, e0, e2]
      exact (Cert.ReferencePostIdeal.Read.val_main_v4_eq _ _ ).trans (ref4 _ _)
    · rw [h1, e0, e1]
      exact (Cert.ReferencePostIdeal.Read.val_main_v7_eq _ _ ).trans (ref7 _ _)

/-- The kernel over machine words ends, its arguments unchanged and no semaphore counting. -/
theorem frame_kernel : Cert.quiescent_KernelPost (hKernelPost := Cert.KernelPost.Gen.facts) := fun m ρ _ => Cert.KernelPost.Gen.frame m ρ

/-- So does the idealized kernel. -/
theorem frame_ideal : Cert.quiescent_KernelPostIdeal (hKernelPostIdeal := Cert.KernelPostIdeal.Gen.facts) := fun m ρ _ => Cert.KernelPostIdeal.Gen.frame m ρ

/-- And the reference. -/
theorem frame_reference : Cert.quiescent_ReferencePostIdeal (hReferencePostIdeal := Cert.ReferencePostIdeal.Gen.facts) := fun m ρ _ =>
  (θ_run Cert.ReferencePostIdeal.defs _ _).mono (fun r h => ⟨fun c => (h c).2.2, sem_eq_zero_of_no_sems (by decide) r.2⟩)
    (Cert.ReferencePostIdeal.Value.run (F := Ideal) m ρ)

end Cert.Proof.Mul.Post

end
-- ==== Proof.Mul.Small.lean ====
/-
  The small weights' last sum and their optimiser step (the call small_final): what the kernel's four result arrays hold after
  the run, and what the reference computes. One point holds every array.
-/
module

public import proofs.«01_k».proof.Defs
public import proofs.«01_k».proof.Proof.Gen.KernelSmall.Frame
public import proofs.«01_k».proof.Proof.Gen.KernelSmallIdeal.Frame
public import Idealize.ShloMosaic.Lib.Pipeline.Value
public import proofs.«01_k».proof.Proof.Gen.ReferenceSmallIdeal.Read
public import Idealize.ShloMosaic.Lib.Pipeline.ValueKit
public import Idealize.ShloMosaic.Lib.Claim

@[expose] public section

set_option maxRecDepth 16384

noncomputable section

namespace Cert.Proof.Mul.Small

open Cert.KernelSmallIdeal Cert.KernelSmallIdeal.Gen Idealize.ShloMosaic Idealize.ShloMosaic.TcCoe Idealize.SL.Sem

variable (m : (ℓ : Loc nD τ sig) → Buf (Elt Ideal) ℓ)

/-- The gradient: the sum of the eight parts. -/
def grad (p : FVec Ideal S8x424x128 .f32) : FVec Ideal S424x128 .f32 := fun i => ∑ b : Fin 8, p (ix3 b (i 0) (i 1))

/-- The new first moment. -/
def mom (p : FVec Ideal S8x424x128 .f32) (mm : FVec Ideal S424x128 .f32) : FVec Ideal S424x128 .f32 := fun i =>
  Ideal.ofBits .f32 0x3F666666#32 * mm (ix2 (i 0) (i 1)) + Ideal.ofBits .f32 0x3DCCCCCD#32 * grad p i

/-- The new second moment. -/
def var (p : FVec Ideal S8x424x128 .f32) (v : FVec Ideal S424x128 .f32) : FVec Ideal S424x128 .f32 := fun i =>
  Ideal.ofBits .f32 0x3F7FBE77#32 * v (ix2 (i 0) (i 1)) + Ideal.ofBits .f32 0x3A83126F#32 * (grad p i * grad p i)

/-- The step. -/
def step (p : FVec Ideal S8x424x128 .f32) (w mm v : FVec Ideal S424x128 .f32) : FVec Ideal S424x128 .f32 := fun i =>
  Ideal.ofBits .f32 0xBA83126F#32 * (Ideal.div (Ideal.div (mom p mm i) (Ideal.ofBits .f32 0x3F26BD02#32))
    (Ideal.sqrt (Ideal.div (var p v i) (Ideal.ofBits .f32 0x3C231ACC#32)) + Ideal.ofBits .f32 0x322BCC77#32)
    + Ideal.ofBits .f32 0x3C23D70A#32 * w (ix2 (i 0) (i 1)))

/-- The blocks' places. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by
  decide +kernel

/-- After the run the result holds the gradient. -/
theorem final4 (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  pointwise [k0_pay4, grad]
  simp only [Fin.sum_univ_eight]
  blk_point [iblk, V, idx t]

/-- After the run the result holds the step. -/
theorem final5 (c : Dev nD) : (dats m 0 c).arrAt 5 cfg0.N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, k0_pay7, step, mom, var, grad]
  simp only [Fin.sum_univ_eight]
  blk_point [iblk, V, idx t]

/-- After the run the result holds the new first moment. -/
theorem final6 (c : Dev nD) : (dats m 0 c).arrAt 6 cfg0.N = mom (m ((c : Thread nD τ).loc main_arg0)) (m ((c : Thread nD τ).loc main_arg2)) := by
  refine (dats m 0 c).arrAt_eq_of_covers 6 _ (by decide +kernel) fun t hf y => ?_
  blk_simp
  rw [after0_6]
  frame_out
  pointwise [k0_pay1, k0_pay4, k0_pay5, k0_pay6, k0_pay7, mom, grad]
  simp only [Fin.sum_univ_eight]
  blk_point [iblk, V, idx t]

/-- After the run the result holds the new second moment. -/
theorem final7 (c : Dev nD) : (dats m 0 c).arrAt 7 cfg0.N = var (m ((c : Thread nD τ).loc main_arg0)) (m ((c : Thread nD τ).loc main_arg3)) := by
  refine (dats m 0 c).arrAt_eq_of_covers 7 _ (by decide +kernel) fun t hf y => ?_
  blk_simp
  rw [after0_7]
  frame_out
  pointwise [k0_pay2, k0_pay4, k0_pay6, k0_pay7, var, grad]
  simp only [Fin.sum_univ_eight]
  blk_point [iblk, V, idx t]

theorem ix2_self (i : S424x128.Idx) : ix2 (i 0) (i 1) = i := by
  funext a
  match a with
  | ⟨0, _⟩ => rfl
  | ⟨1, _⟩ => rfl

theorem ref0 (x0 : FVec Ideal S8x424x128 .f32) : Cert.ReferenceSmallIdeal.Read.val_main_v0 (F := Ideal) x0 = grad x0 := by
  rw [← Cert.ReferenceSmallIdeal.Read.val_main_v0_eq]
  funext i
  pointwise [grad]

theorem ref24 (x0 : FVec Ideal S8x424x128 .f32) (x1 x2 x3 : FVec Ideal S424x128 .f32) : Cert.ReferenceSmallIdeal.Read.val_main_v24 (F := Ideal) x0 x1 x2 x3 = step x0 x1 x2 x3 := by
  rw [← Cert.ReferenceSmallIdeal.Read.val_main_v24_eq]
  funext i
  pointwise [step, mom, var, grad, ix2_self]

theorem ref5 (x0 : FVec Ideal S8x424x128 .f32) (x2 : FVec Ideal S424x128 .f32) : Cert.ReferenceSmallIdeal.Read.val_main_v5 (F := Ideal) x0 x2 = mom x0 x2 := by
  rw [← Cert.ReferenceSmallIdeal.Read.val_main_v5_eq]
  funext i
  pointwise [mom, grad, ix2_self]

theorem ref11 (x0 : FVec Ideal S8x424x128 .f32) (x3 : FVec Ideal S424x128 .f32) : Cert.ReferenceSmallIdeal.Read.val_main_v11 (F := Ideal) x0 x3 = var x0 x3 := by
  rw [← Cert.ReferenceSmallIdeal.Read.val_main_v11_eq]
  funext i
  pointwise [var, grad, ix2_self]

/-- The run, its four result arrays named and its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v0_0) = (dats m 0 c).arrAt 4 cfg0.N ∧ r.2.mem ((c : Thread nD τ).loc main_v0_1) = (dats m 0 c).arrAt 5 cfg0.N ∧
    r.2.mem ((c : Thread nD τ).loc main_v0_2) = (dats m 0 c).arrAt 6 cfg0.N ∧ r.2.mem ((c : Thread nD τ).loc main_v0_3) = (dats m 0 c).arrAt 7 cfg0.N ∧
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) := by
  refine (θ_run _ _ _).mono (fun r h c => ?_) (run_main (F := Ideal) m ρ)
  have kept : ∀ w : Fin cfg0.W, (cfg0.win w).isOut = false → r.2.mem ((c : Thread nD τ).loc (Pipeline.arrRef spec0 w)) = V m c (Pipeline.arrRef spec0 w) :=
    fun w hw => ((h c).1 w).trans (((dats m 0 c).arrAt_in w hw _).trans (A_eq m c w))
  exact ⟨(h c).1 4, (h c).1 5, (h c).1 6, (h c).1 7, kept 0 rfl, kept 1 rfl, kept 2 rfl, kept 3 rfl⟩

/-- The kernel and the reference end with the same results. -/
theorem algebraic : Cert.algebraic_KernelSmallIdeal_ReferenceSmallIdeal (hKernelSmallIdeal := Cert.KernelSmallIdeal.Gen.facts) (hReferenceSmallIdeal := Cert.ReferenceSmallIdeal.Gen.facts) := by
  intro m ρ m' ρ' _ hag
  refine ⟨fun c => grad (m ((c : Thread nD τ).loc main_arg0)),
    fun c => step (m ((c : Thread nD τ).loc main_arg0)) (m ((c : Thread nD τ).loc main_arg1)) (m ((c : Thread nD τ).loc main_arg2)) (m ((c : Thread nD τ).loc main_arg3)),
    fun c => mom (m ((c : Thread nD τ).loc main_arg0)) (m ((c : Thread nD τ).loc main_arg2)),
    fun c => var (m ((c : Thread nD τ).loc main_arg0)) (m ((c : Thread nD τ).loc main_arg3)), ?_, ?_⟩
  · refine (θ_run _ _ _).mono (fun r h c => ?_) (run_blocks m ρ)
    obtain ⟨h0, h1, h2, h3, ha⟩ := h c
    exact ⟨h0.trans (final4 m c), h1.trans (final5 m c), h2.trans (final6 m c), h3.trans (final7 m c), ha⟩
  · refine (θ_run _ _ _).mono (fun r h c => ?_) (Cert.ReferenceSmallIdeal.Value.run (F := Ideal) m' ρ')
    obtain ⟨h0, h1, h2, h3, ha⟩ := h c
    obtain ⟨e0, e1, e2, e3⟩ := hag c
    refine ⟨?_, ?_, ?_, ?_, ha⟩
    · rw [h0, e0]
      exact (Cert.ReferenceSmallIdeal.Read.val_main_v0_eq _ ).trans (ref0 _)
    · rw [h1, e0, e1, e2, e3]
      exact (Cert.ReferenceSmallIdeal.Read.val_main_v24_eq _ _ _ _ ).trans (ref24 _ _ _ _)
    · rw [h2, e0, e2]
      exact (Cert.ReferenceSmallIdeal.Read.val_main_v5_eq _ _ ).trans (ref5 _ _)
    · rw [h3, e0, e3]
      exact (Cert.ReferenceSmallIdeal.Read.val_main_v11_eq _ _ ).trans (ref11 _ _)

/-- The kernel over machine words ends, its arguments unchanged and no semaphore counting. -/
theorem frame_kernel : Cert.quiescent_KernelSmall (hKernelSmall := Cert.KernelSmall.Gen.facts) := fun m ρ _ => Cert.KernelSmall.Gen.frame m ρ

/-- So does the idealized kernel. -/
theorem frame_ideal : Cert.quiescent_KernelSmallIdeal (hKernelSmallIdeal := Cert.KernelSmallIdeal.Gen.facts) := fun m ρ _ => Cert.KernelSmallIdeal.Gen.frame m ρ

/-- And the reference. -/
theorem frame_reference : Cert.quiescent_ReferenceSmallIdeal (hReferenceSmallIdeal := Cert.ReferenceSmallIdeal.Gen.facts) := fun m ρ _ =>
  (θ_run Cert.ReferenceSmallIdeal.defs _ _).mono (fun r h => ⟨fun c => (h c).2.2.2.2, sem_eq_zero_of_no_sems (by decide) r.2⟩)
    (Cert.ReferenceSmallIdeal.Value.run (F := Ideal) m ρ)

end Cert.Proof.Mul.Small

end
-- ==== Proof.Attn.RefFwd.lean ====
/-
  The forward pass of the reference as real numbers: the mask, the row's largest logit, the softmax with its sink, the
  output and the gate.
-/
module

public import proofs.«01_k».proof.Proof.Attn.RefIn
public import Idealize.ShloMosaic.Lib.KernelVsHost
public import Idealize.ShloMosaic.Lib.IdealHost

@[expose] public section

noncomputable section

namespace Cert.Proof.Attn

open Cert.ReferenceIdeal Cert.ReferenceIdeal.Gen Cert.ReferenceIdeal.Read Idealize.ShloMosaic Idealize.ShloMosaic.StableHlo
  Idealize.ShloMosaic.ValueIdx

/-! ## The mask -/

theorem v38_row : ∀ j : Fin 192, val_main_v38 (F := Ideal) (ix2 (0 : Fin 1) j) = BitVec.ofNat 32 (j.val / 64) := by
  decide +kernel

theorem mask_word : ∀ (n : Fin 128) (a : Fin 3),
    IntOp.cmpi .sge (IntOp.addi (IntOp.subi (BitVec.ofNat 32 n.val) 2#32) (BitVec.ofNat 32 a.val)) 0#32
      = if 2 ≤ n.val + a.val then 1#1 else 0#1 := by
  decide +kernel

/-- The mask of key `j` in chunk `n`'s band: set on the keys behind the zero rows. -/
theorem v43_eq (i : S128x192.Idx) :
    val_main_v43 (F := Ideal) i = if 128 ≤ 64 * (i 0).val + (i 1).val then 1#1 else 0#1 := by
  have h0 : (i 0).val < 128 := (i 0).isLt
  have h1 : (i 1).val < 192 := (i 1).isLt
  have e : idx_main_v40 i = ix2 (0 : Fin 1) ⟨(i 1).val, h1⟩ := by
    funext a; match a with
    | ⟨0, _⟩ => rfl
    | ⟨1, _⟩ => rfl
  rw [val_main_v43_apply, val_main_v41_apply, val_main_v39_apply, val_main_v35_apply, val_main_v33_apply,
    val_main_v32_apply, val_main_v34_apply, val_main_c_apply, val_main_v42_apply, val_main_c_5_apply,
    val_main_v40_apply, e, v38_row]
  refine (mask_word ⟨(i 0).val, h0⟩ ⟨(i 1).val / 64, by omega⟩).trans ?_
  exact if_congr (by dsimp; omega) rfl rfl

/-- Row `q` of chunk `n` sees key `j` of the band. -/
theorem vis_band (n q j : ℕ) (hq : q < 64) (hj : j < 192) : vis (64 * n + q) (64 * n + j) ↔ 128 ≤ 64 * n + j := by
  unfold vis; omega

theorem v45_1_eq (i : S128x4x4x64x192.Idx) :
    val_main_v45_1 (F := Ideal) i = if vis (64 * (i 0).val + (i 3).val) (64 * (i 0).val + (i 4).val) then 1#1 else 0#1 := by
  have h3 : (i 3).val < 64 := (i 3).isLt
  have h4 : (i 4).val < 192 := (i 4).isLt
  rw [val_main_v45_1_apply, val_main_v44_apply, v43_eq]
  exact if_congr (vis_band _ _ _ h3 h4).symm rfl rfl

/-- A row's largest entry, from minus infinity. -/
theorem row_max (y : FVec Ideal S128x4x4x64x192 .f32) (hr : S128x4x4x64x192.Reduces [4] S128x4x4x64) (i : S128x4x4x64.Idx) :
    Host.reduce FloatOps.maximumf y (constant S_ .f32 0xFF800000#32) reducesTo_S128x4x4x64x192_S128x4x4x64_d4 h_S_ i
      = (Finset.univ : Finset (Fin 192)).fold max (FloatOps.ofBits (F := Ideal) .f32 0xFF800000#32) (fun k => y (hr.lift i k)) := by
  have hφ : FKind.Formats .f32 := by decide
  have hacc : (0xFF800000#32) = FKind.maximumf.neutral .f32 hφ := rfl
  rw [hostReduce_maximumf_eq_multiReduction (φ := .f32) y _ _ _ hr hφ hacc]
  exact Ideal.multiReduction_maximumf_single (φ := .f32) y _ hr hφ hacc i

variable {I : Inputs} {x0 : FVec Ideal ⟨2, ![8192, 1024]⟩ .bf16} {x1 : FVec Ideal ⟨2, ![8192, 13824]⟩ .bf16}
  {x2 : FVec Ideal ⟨1, ![16]⟩ .f32} (H : Holds I x0 x1 x2)

include H

/-- The masked logits. -/
theorem v45_0_eq (i : S128x4x4x64x192.Idx) : val_main_v45_0 (F := Ideal) x1 i
    = if vis (64 * (i 0).val + (i 3).val) (64 * (i 0).val + (i 4).val) then
        ((I.S (64 * (i 0).val + (i 3).val) (4 * (i 1).val + (i 2).val) (64 * (i 0).val + (i 4).val) : ℝ) : EReal)
      else ⊥ := by
  rw [val_main_v45_0_apply, v45_1_eq, v31_eq H, val_main_call1_v2_apply]
  unfold Scalar.select
  by_cases hv : vis (64 * (i 0).val + (i 3).val) (64 * (i 0).val + (i 4).val)
  · rw [if_pos hv, if_pos hv]
    exact if_pos rfl
  · rw [if_neg hv, if_neg hv]
    exact (if_neg (by decide)).trans neg_inf

/-- The sinks. -/
theorem v46_eq (i : S1x4x4x1x1.Idx) : val_main_v46 (F := Ideal) x2 i = ((I.sk (4 * (i 1).val + (i 2).val) : ℝ) : EReal) := by
  have h0 : (i 0).val < 1 := (i 0).isLt
  have h3 : (i 3).val < 1 := (i 3).isLt
  have h4 : (i 4).val < 1 := (i 4).isLt
  rw [val_main_v46_apply, H.sk]
  exact coe_at1 _ (by dsimp; omega)

/-! ## The row's largest logit -/

/-- It is the logit of a key the row sees. -/
theorem v47_eq (i : S128x4x4x64.Idx) : ∃ k : Fin 192, vis (64 * (i 0).val + (i 3).val) (64 * (i 0).val + k.val) ∧
    val_main_v47 (F := Ideal) x1 i
      = ((I.S (64 * (i 0).val + (i 3).val) (4 * (i 1).val + (i 2).val) (64 * (i 0).val + k.val) : ℝ) : EReal) := by
  have h3 : (i 3).val < 64 := (i 3).isLt
  have hr : S128x4x4x64x192.Reduces [4] S128x4x4x64 := by decide
  have hm : val_main_v47 (F := Ideal) x1 i = (Finset.univ : Finset (Fin 192)).fold max (FloatOps.ofBits (F := Ideal) .f32 0xFF800000#32)
      (fun k => val_main_v45_0 (F := Ideal) x1 (hr.lift i k)) := row_max _ hr i
  have hat : ∀ k : Fin 192, val_main_v45_0 (F := Ideal) x1 (hr.lift i k)
      = if vis (64 * (i 0).val + (i 3).val) (64 * (i 0).val + k.val) then
        ((I.S (64 * (i 0).val + (i 3).val) (4 * (i 1).val + (i 2).val) (64 * (i 0).val + k.val) : ℝ) : EReal) else ⊥ :=
    fun k => v45_0_eq H _
  obtain ⟨k, hk⟩ := fold_max_attained (n := 192) (fun k => val_main_v45_0 (F := Ideal) x1 (hr.lift i k))
  have hv : vis (64 * (i 0).val + (i 3).val) (64 * (i 0).val + k.val) := by
    by_contra hv
    have h1 := hk.2 ⟨(i 3).val + 128, by omega⟩
    rw [hat, hat, if_neg hv, if_pos (by unfold vis; dsimp; omega)] at h1
    exact absurd (le_bot_iff.1 h1) (EReal.coe_ne_bot _)
  refine ⟨k, hv, ?_⟩
  have h2 := hk.1
  rw [hat, if_pos hv] at h2
  rw [hm, Ideal.ofBits_def, neg_inf]
  exact h2

/-- The shift of row `r` in head `h`: the largest of its logits and the sink. -/
def shift (x1 : FVec Ideal ⟨2, ![8192, 13824]⟩ .bf16) (x2 : FVec Ideal ⟨1, ![16]⟩ .f32) (r h : ℕ) : ℝ :=
  (val_main_v55 (F := Ideal) x1 x2 (ix5 ⟨r / 64 % 128, Nat.mod_lt _ (by omega)⟩ ⟨h / 4 % 4, Nat.mod_lt _ (by omega)⟩
    ⟨h % 4, Nat.mod_lt _ (by omega)⟩ ⟨r % 64, Nat.mod_lt _ (by omega)⟩ (0 : Fin 1))).toReal

theorem v55_eq (i : S128x4x4x64x1.Idx) : val_main_v55 (F := Ideal) x1 x2 i
    = ((shift x1 x2 (64 * (i 0).val + (i 3).val) (4 * (i 1).val + (i 2).val) : ℝ) : EReal) := by
  have h0 : (i 0).val < 128 := (i 0).isLt
  have h1 : (i 1).val < 4 := (i 1).isLt
  have h2 : (i 2).val < 4 := (i 2).isLt
  have h3 : (i 3).val < 64 := (i 3).isLt
  have h4 : (i 4).val < 1 := (i 4).isLt
  have e : i = ix5 ⟨(64 * (i 0).val + (i 3).val) / 64 % 128, Nat.mod_lt _ (by omega)⟩
      ⟨(4 * (i 1).val + (i 2).val) / 4 % 4, Nat.mod_lt _ (by omega)⟩ ⟨(4 * (i 1).val + (i 2).val) % 4, Nat.mod_lt _ (by omega)⟩
      ⟨(64 * (i 0).val + (i 3).val) % 64, Nat.mod_lt _ (by omega)⟩ (0 : Fin 1) := by
    funext a; apply Fin.ext
    match a with
    | ⟨0, _⟩ => show (i 0).val = (64 * (i 0).val + (i 3).val) / 64 % 128; omega
    | ⟨1, _⟩ => show (i 1).val = (4 * (i 1).val + (i 2).val) / 4 % 4; omega
    | ⟨2, _⟩ => show (i 2).val = (4 * (i 1).val + (i 2).val) % 4; omega
    | ⟨3, _⟩ => show (i 3).val = (64 * (i 0).val + (i 3).val) % 64; omega
    | ⟨4, _⟩ => show (i 4).val = 0; omega
  have hr : ∃ m : ℝ, val_main_v55 (F := Ideal) x1 x2 i = (m : EReal) := by
    rw [val_main_v55_apply, val_main_v53_apply, val_main_v54_apply, v46_eq H, Ideal.maximumf_def]
    obtain ⟨k, -, hk⟩ := v47_eq H (idx_main_v53 i)
    rw [hk, max_real]
    exact ⟨_, rfl⟩
  obtain ⟨m, hm⟩ := hr
  unfold shift
  rw [← e, hm, EReal.toReal_coe]

/-- The number of keys that attain the row's largest logit is a positive real. -/
theorem v52_eq (i : S128x4x4x64.Idx) : ∃ c : ℝ, c ≠ 0 ∧ val_main_v52 (F := Ideal) x1 i = (c : EReal) := by
  have hat : ∀ k : Fin 192, ∃ b : ℕ, val_main_v51 (F := Ideal) x1 (idx_main_v52 i k) = ((b : ℝ) : EReal) := fun k =>
    ⟨(val_main_v50 (F := Ideal) x1 (idx_main_v52 i k)).toNat, val_main_v51_apply _ _⟩
  choose b hb using hat
  refine ⟨((∑ k, b k : ℕ) : ℝ), ?_, ?_⟩
  · obtain ⟨k, hv, hk⟩ := v47_eq H i
    have h0 : (i 0).val < 128 := (i 0).isLt
    have h1 : (i 1).val < 4 := (i 1).isLt
    have h2 : (i 2).val < 4 := (i 2).isLt
    have h3 : (i 3).val < 64 := (i 3).isLt
    have e : idx_main_v48 (idx_main_v49 (idx_main_v52 i k)) = i := by
      funext a; apply Fin.ext
      match a with
      | ⟨0, _⟩ => show _ = (i 0).val; dsimp; omega
      | ⟨1, _⟩ => show _ = (i 1).val; dsimp; omega
      | ⟨2, _⟩ => show _ = (i 2).val; dsimp; omega
      | ⟨3, _⟩ => show _ = (i 3).val; dsimp; omega
    have h50 : val_main_v50 (F := Ideal) x1 (idx_main_v52 i k) = 1#1 := by
      rw [val_main_v50_apply, v45_0_eq H, val_main_v49_apply, val_main_v48_apply, e, hk, Ideal.cmpf_def]
      refine (congrArg (Ideal.cmp .oeq · _) (if_pos hv)).trans ?_
      unfold Ideal.cmp
      simp
    have h51 : ((b k : ℝ) : EReal) = (((1 : ℕ) : ℝ) : EReal) := by
      rw [← hb k, val_main_v51_apply, h50]; rfl
    have hb1 : b k = 1 := by exact_mod_cast EReal.coe_eq_coe_iff.1 h51
    have hs : b k ≤ ∑ k, b k := Finset.single_le_sum (f := b) (fun _ _ => Nat.zero_le _) (Finset.mem_univ k)
    exact_mod_cast (by omega : (∑ k, b k) ≠ 0)
  · rw [val_main_v52_apply, Finset.sum_congr rfl fun k _ => hb k, coe_sum, val_main_cst_8_apply, Ideal.ofBits_def,
      Ideal.ofBits_zero_f32, zero_add]
    exact coe_cong (by push_cast; rfl)

/-! ## The softmax -/

/-- The keys' weights, shifted. -/
theorem v76_eq (i : S128x4x4x64x192.Idx) : val_main_v76 (F := Ideal) x1 x2 i
    = ((I.w (64 * (i 0).val + (i 3).val) (4 * (i 1).val + (i 2).val) (64 * (i 0).val + (i 4).val)
        * Real.exp (-shift x1 x2 (64 * (i 0).val + (i 3).val) (4 * (i 1).val + (i 2).val)) : ℝ) : EReal) := by
  rw [val_main_v76_apply, val_main_v75_apply, val_main_v74_apply, v55_eq H, v45_0_eq H, Ideal.hostUnary_exp_def,
    Ideal.subf_def, ← Inputs.shifted]
  split
  · rw [← EReal.coe_sub, exp_real]
  · rw [sub_eq_add_neg, EReal.bot_add]; exact Ideal.exp_bot

/-- The sink's weight, shifted. -/
theorem v81_eq (i : S128x4x4x64x1.Idx) : val_main_v81 (F := Ideal) x1 x2 i
    = ((Real.exp (I.sk (4 * (i 1).val + (i 2).val)
        - shift x1 x2 (64 * (i 0).val + (i 3).val) (4 * (i 1).val + (i 2).val)) : ℝ) : EReal) := by
  rw [val_main_v81_apply, val_main_v80_apply, val_main_v79_apply, v55_eq H, v46_eq H, Ideal.hostUnary_exp_def,
    Ideal.subf_def, ← EReal.coe_sub, exp_real]

/-- The denominator, shifted. -/
theorem v82_eq (i : S128x4x4x64x1.Idx) : val_main_v82 (F := Ideal) x1 x2 i
    = ((I.den (64 * (i 0).val + (i 3).val) (4 * (i 1).val + (i 2).val)
        * Real.exp (-shift x1 x2 (64 * (i 0).val + (i 3).val) (4 * (i 1).val + (i 2).val)) : ℝ) : EReal) := by
  have h0 : (i 0).val < 128 := (i 0).isLt
  have h3 : (i 3).val < 64 := (i 3).isLt
  rw [val_main_v82_apply, val_main_v78_apply, val_main_v77_apply, v81_eq H, Finset.sum_congr rfl fun k _ => v76_eq H _,
    val_main_cst_15_apply, Ideal.ofBits_def, Ideal.ofBits_zero_f32, zero_add, Ideal.addf_def]
  refine Eq.trans (congrArg (· + _) (coe_sum_fin 192 (fun j => I.w (64 * (i 0).val + (i 3).val) (4 * (i 1).val + (i 2).val) (64 * (i 0).val + j)
    * Real.exp (-shift x1 x2 (64 * (i 0).val + (i 3).val) (4 * (i 1).val + (i 2).val))))) ?_
  rw [← EReal.coe_add, (Inputs.covers_band _ _ h0 h3).den]

theorem shifted_den_ne (r h : ℕ) (m : ℝ) : I.den r h * Real.exp (-m) ≠ 0 :=
  mul_ne_zero (I.den_pos r h).ne' (Real.exp_ne_zero _)

/-- The softmax. -/
theorem v84_eq (i : S128x4x4x64x192.Idx) : val_main_v84 (F := Ideal) x1 x2 i
    = ((I.P (64 * (i 0).val + (i 3).val) (4 * (i 1).val + (i 2).val) (64 * (i 0).val + (i 4).val) : ℝ) : EReal) := by
  rw [val_main_v84_apply, val_main_v83_apply, v82_eq H, v76_eq H, Ideal.hostDivf_def]
  refine (div_real (shifted_den_ne H _ _ _)).trans (coe_cong ?_)
  exact Inputs.shifted_div _ _ _

/-- The attention's output. -/
theorem v88_eq (i : S128x4x64x4x64.Idx) : val_main_v88 (F := Ideal) x1 x2 i
    = ((I.O (64 * (i 0).val + (i 4).val) (64 * (4 * (i 1).val + (i 3).val) + (i 2).val) : ℝ) : EReal) := by
  have h0 : (i 0).val < 128 := (i 0).isLt
  have h1 : (i 1).val < 4 := (i 1).isLt
  have h2 : (i 2).val < 64 := (i 2).isLt
  have h3 : (i 3).val < 4 := (i 3).isLt
  have h4 : (i 4).val < 64 := (i 4).isLt
  rw [val_main_v88_apply, Finset.sum_congr rfl fun k _ => by rw [v27_eq H, v84_eq H, ← EReal.coe_mul]]
  refine (coe_sum_fin 192 (fun u => I.v (64 * (i 0).val + u) (64 * (i 1).val + (i 2).val)
    * I.P (64 * (i 0).val + (i 4).val) (4 * (i 1).val + (i 3).val) (64 * (i 0).val + u))).trans (coe_cong ?_)
  rw [Inputs.O, show (64 * (4 * (i 1).val + (i 3).val) + (i 2).val) / 64 = 4 * (i 1).val + (i 3).val by omega,
    show (64 * (4 * (i 1).val + (i 3).val) + (i 2).val) / 256 = (i 1).val by omega,
    show (64 * (4 * (i 1).val + (i 3).val) + (i 2).val) % 64 = (i 2).val by omega,
    ← (Inputs.covers_band _ _ h0 h4).sum_P _ fun u => I.v u (64 * (i 1).val + (i 2).val)]
  exact Finset.sum_congr rfl fun u _ => mul_comm _ _

theorem v90_eq (i : S8192x1024.Idx) : val_main_v90 (F := Ideal) x1 x2 i = ((I.O (i 0).val (i 1).val : ℝ) : EReal) := by
  have h0 : (i 0).val < 8192 := (i 0).isLt
  have h1 : (i 1).val < 1024 := (i 1).isLt
  rw [val_main_v90_apply, val_main_v89_apply, v88_eq H]
  exact coe_at2 _ (by dsimp; omega) (by dsimp; omega)

/-! ## The gate -/

theorem v91_2_eq (i : S8192x1024.Idx) : val_main_v91_2 (F := Ideal) x1 i = ((sigm (I.z (i 0).val (i 1).val) : ℝ) : EReal) := by
  rw [val_main_v91_2_apply, val_main_call2_v4_apply, val_main_call2_v3_apply, val_main_call2_v2_apply,
    val_main_call2_v1_apply, val_main_call2_v0_apply, val_main_call2_cst_apply, val_main_call2_cst_0_apply, v7_eq H,
    Ideal.ofBits_def, Ideal.ofBits_one_f32, Ideal.hostNegf_def, Ideal.negf_def, Ideal.hostUnary_exp_def, Ideal.addf_def,
    Ideal.hostDivf_def, ← EReal.coe_neg, exp_real, ← EReal.coe_one, ← EReal.coe_add, div_real (one_add_exp_pos _).ne', sigm,
    one_div]

theorem v91_0_eq (i : S8192x1024.Idx) : val_main_v91_0 (F := Ideal) x1 i
    = ((I.z (i 0).val (i 1).val * sigm (I.z (i 0).val (i 1).val) : ℝ) : EReal) := by
  rw [val_main_v91_0_apply, v91_2_eq H, v7_eq H, Ideal.mulf_def, EReal.coe_mul]

theorem v91_1_eq (i : S8192x1024.Idx) : val_main_v91_1 (F := Ideal) x1 i
    = ((sigm (I.z (i 0).val (i 1).val) * (1 - sigm (I.z (i 0).val (i 1).val)) : ℝ) : EReal) := by
  rw [val_main_v91_1_apply, val_main_call2_v7_apply, val_main_call2_v6_apply, val_main_call2_cst_1_apply, v91_2_eq H,
    Ideal.ofBits_def, Ideal.ofBits_one_f32, Ideal.mulf_def, Ideal.subf_def, ← EReal.coe_one, ← EReal.coe_sub, EReal.coe_mul]

/-- The cotangent of the attention's output. -/
theorem v95_eq (i : S8192x1024.Idx) : val_main_v95 (F := Ideal) x0 x1 i = ((I.dO (i 0).val (i 1).val : ℝ) : EReal) := by
  rw [val_main_v95_apply, val_main_v93_apply, v91_0_eq H, H.dy, Ideal.extf_def, Ideal.mulf_def, ← EReal.coe_mul]; rfl

/-- The gradient of the gate's argument. -/
theorem v168_eq (i : S8192x1024.Idx) : val_main_v168 (F := Ideal) x0 x1 x2 i = ((I.gz (i 0).val (i 1).val : ℝ) : EReal) := by
  rw [val_main_v168_apply, val_main_v96_apply, val_main_call3_v1_apply, val_main_call3_v2_apply, val_main_call3_v0_apply,
    val_main_v94_apply, val_main_v93_apply, v90_eq H, v91_1_eq H, v91_2_eq H, v7_eq H, H.dy]
  simp only [Ideal.truncf_def, Ideal.extf_def, Ideal.mulf_def, Ideal.addf_def, ← EReal.coe_mul, ← EReal.coe_add]
  exact coe_cong (by rw [Inputs.gz]; ring)

end Cert.Proof.Attn

end
-- ==== Proof.Attn.RefBwd.lean ====
/-
  The backward pass of the reference as real numbers: the cotangents of the softmax and of the logits, and from them the
  gradients of the queries and of the sinks, and the gradients of a chunk's band of keys and values.
-/
module

public import proofs.«01_k».proof.Proof.Attn.RefFwd
public import Idealize.ShloMosaic.Lib.TwoAxisContraction

@[expose] public section

noncomputable section

namespace Cert.Proof.Attn

open Cert.ReferenceIdeal Cert.ReferenceIdeal.Gen Cert.ReferenceIdeal.Read Idealize.ShloMosaic Idealize.ShloMosaic.StableHlo
  Idealize.ShloMosaic.ValueIdx Finset

/-! ## Sums over chunks and rows of a chunk -/

/-- A sum over two coordinates of reals. -/
theorem coe_sum_fin2 (n m : ℕ) (f : ℕ → ℕ → ℝ) :
    ∑ a : Fin n, ∑ b : Fin m, ((f a.val b.val : ℝ) : EReal) = ((∑ a ∈ range n, ∑ b ∈ range m, f a b : ℝ) : EReal) := by
  rw [sum_congr rfl fun a _ => coe_sum_fin m (f a.val)]
  exact coe_sum_fin n fun a => ∑ b ∈ range m, f a b

/-- The sum over the first and the fourth axis of the rows' array. -/
theorem sum_rows (x : FVec Ideal S128x4x4x64x1 .f32) (i : S4x4x1.Idx) :
    Host.reduceAdd x (constant S_ .f32 0x00000000#32) reducesTo_S128x4x4x64x1_S4x4x1_d0_3 h_S_ i
      = ∑ n : Fin 128, ∑ q : Fin 64, x (ix5 n (i 0) (i 1) q (0 : Fin 1)) := by
  simp only [Host.reduceAdd, Ideal.hostReduceAdd_def]
  rw [Ideal.hostReduceAdd, constant, Ideal.ofBits_def, Ideal.ofBits_zero_f32, zero_add, ← Fintype.sum_prod_type']
  have d0 : ∀ k, (reducesTo_S128x4x4x64x1_S4x4x1_d0_3.drop k 0).val = (k 1).val := fun k =>
    Shape.ReducesTo.drop_apply_val _ k 0
  have d1 : ∀ k, (reducesTo_S128x4x4x64x1_S4x4x1_d0_3.drop k 1).val = (k 2).val := fun k =>
    Shape.ReducesTo.drop_apply_val _ k 1
  refine sum_bij' (fun k _ => (k 0, k 3)) (fun p _ => ix5 p.1 (i 0) (i 1) p.2 (0 : Fin 1)) (fun _ _ => mem_univ _)
    (fun p _ => mem_filter.2 ⟨mem_univ _, ?_⟩) (fun k hk => ?_) (fun _ _ => rfl) (fun k hk => congrArg x ?_)
  · funext a; apply Fin.ext
    match a with
    | ⟨0, _⟩ => exact d0 _
    | ⟨1, _⟩ => exact d1 _
    | ⟨2, h⟩ => exact (Nat.lt_one_iff.1 (Fin.isLt _)).trans (Nat.lt_one_iff.1 (i ⟨2, h⟩).isLt).symm
  all_goals
    have hj := (mem_filter.1 hk).2
    funext a; apply Fin.ext
    match a with
    | ⟨0, _⟩ => rfl
    | ⟨1, _⟩ => first | exact (congrArg (fun j : S4x4x1.Idx => (j 0).val) hj).symm.trans (d0 k) | exact (d0 k).symm.trans (congrArg (fun j : S4x4x1.Idx => (j 0).val) hj)
    | ⟨2, _⟩ => first | exact (congrArg (fun j : S4x4x1.Idx => (j 1).val) hj).symm.trans (d1 k) | exact (d1 k).symm.trans (congrArg (fun j : S4x4x1.Idx => (j 1).val) hj)
    | ⟨3, _⟩ => rfl
    | ⟨4, h⟩ => first | exact (Nat.lt_one_iff.1 (k ⟨4, h⟩).isLt).symm | exact Nat.lt_one_iff.1 (k ⟨4, h⟩).isLt

/-- The product over the rows and the heads of a group, of arrays with the rows before the heads. -/
theorem dot_rows (x : FVec Ideal S128x4x192x64x4 .f32) (y : FVec Ideal S128x64x4x4x64 .f32) (i : S128x4x192x64.Idx) :
    Host.dotGeneral dot_S128x4x192x64x4_S128x64x4x4x64_S128x4x192x64_34_13_2_4_01_02 none x y i
      = ∑ q : Fin 64, ∑ g : Fin 4, x (ix5 (i 0) (i 1) (i 2) q g) * y (ix5 (i 0) q (i 1) g (i 3)) := by
  let D := dot_S128x4x192x64x4_S128x64x4x4x64_S128x4x192x64_34_13_2_4_01_02
  have hr : D.contr.rank = 2 := rfl
  have c0 : D.contr.size ⟨0, by rw [hr]; omega⟩ = 64 := rfl
  have c1 : D.contr.size ⟨1, by rw [hr]; omega⟩ = 4 := rfl
  simp only [Host.dotGeneral]
  rw [Ideal.dotGeneral_apply, ← Equiv.sum_comp (contrEquiv2 D 64 4 hr c0 c1).symm, Fintype.sum_prod_type]
  refine sum_congr rfl fun q _ => sum_congr rfl fun g _ => ?_
  have h0 := contrEquiv2_symm_val0 D 64 4 hr c0 c1 (q, g)
  have h1 := contrEquiv2_symm_val1 D 64 4 hr c0 c1 (q, g)
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact h0
    | ⟨4, _⟩ => exact h1
  · match a with
    | ⟨0, _⟩ => rfl
    | ⟨1, _⟩ => exact h0
    | ⟨2, _⟩ => rfl
    | ⟨3, _⟩ => exact h1
    | ⟨4, _⟩ => rfl

/-- The product over the heads of a group and the rows, of arrays with the heads before the rows. -/
theorem dot_heads (x : FVec Ideal S128x4x64x4x64 .f32) (y : FVec Ideal S128x4x4x64x192 .f32) (i : S128x4x64x192.Idx) :
    Host.dotGeneral dot_S128x4x64x4x64_S128x4x4x64x192_S128x4x64x192_34_23_2_4_01_01 none x y i
      = ∑ g : Fin 4, ∑ q : Fin 64, x (ix5 (i 0) (i 1) (i 2) g q) * y (ix5 (i 0) (i 1) g q (i 3)) := by
  let D := dot_S128x4x64x4x64_S128x4x4x64x192_S128x4x64x192_34_23_2_4_01_01
  have hr : D.contr.rank = 2 := rfl
  have c0 : D.contr.size ⟨0, by rw [hr]; omega⟩ = 4 := rfl
  have c1 : D.contr.size ⟨1, by rw [hr]; omega⟩ = 64 := rfl
  simp only [Host.dotGeneral]
  rw [Ideal.dotGeneral_apply, ← Equiv.sum_comp (contrEquiv2 D 4 64 hr c0 c1).symm, Fintype.sum_prod_type]
  refine sum_congr rfl fun g _ => sum_congr rfl fun q _ => ?_
  have h0 := contrEquiv2_symm_val0 D 4 64 hr c0 c1 (g, q)
  have h1 := contrEquiv2_symm_val1 D 4 64 hr c0 c1 (g, q)
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact h0
    | ⟨4, _⟩ => exact h1
  · match a with
    | ⟨0, _⟩ => rfl
    | ⟨1, _⟩ => rfl
    | ⟨2, _⟩ => exact h0
    | ⟨3, _⟩ => exact h1
    | ⟨4, _⟩ => rfl

variable {I : Inputs} {x0 : FVec Ideal ⟨2, ![8192, 1024]⟩ .bf16} {x1 : FVec Ideal ⟨2, ![8192, 13824]⟩ .bf16}
  {x2 : FVec Ideal ⟨1, ![16]⟩ .f32} (H : Holds I x0 x1 x2)

include H

/-! ## The cotangents of the softmax and the logits -/

theorem v98_eq (i : S128x4x64x4x64.Idx) : val_main_v98 (F := Ideal) x0 x1 i
    = ((I.dO (64 * (i 0).val + (i 4).val) (64 * (4 * (i 1).val + (i 3).val) + (i 2).val) : ℝ) : EReal) := by
  have h0 : (i 0).val < 128 := (i 0).isLt
  have h1 : (i 1).val < 4 := (i 1).isLt
  have h2 : (i 2).val < 64 := (i 2).isLt
  have h3 : (i 3).val < 4 := (i 3).isLt
  have h4 : (i 4).val < 64 := (i 4).isLt
  rw [val_main_v98_apply, val_main_v97_apply, v95_eq H]
  exact coe_at2 _ (by dsimp; omega) (by dsimp; omega)

theorem v99_eq (i : S128x4x4x64x192.Idx) : val_main_v99 (F := Ideal) x0 x1 i
    = ((I.dP (64 * (i 0).val + (i 3).val) (4 * (i 1).val + (i 2).val) (64 * (i 0).val + (i 4).val) : ℝ) : EReal) := by
  have h2 : (i 2).val < 4 := (i 2).isLt
  rw [val_main_v99_apply, sum_congr rfl fun k _ => by rw [v98_eq H, v27_eq H, ← EReal.coe_mul]]
  refine (coe_sum_fin 64 (fun d => I.dO (64 * (i 0).val + (i 3).val) (64 * (4 * (i 1).val + (i 2).val) + d)
    * I.v (64 * (i 0).val + (i 4).val) (64 * (i 1).val + d))).trans (coe_cong ?_)
  rw [Inputs.dP, show (4 * (i 1).val + (i 2).val) / 4 = (i 1).val by omega]

/-- The row's sum of the softmax times its cotangent, over the shifted denominator, negated. -/
theorem v107_eq (i : S128x4x4x64x1.Idx) : val_main_v107 (F := Ideal) x0 x1 x2 i
    = ((-(I.delta (64 * (i 0).val + (i 3).val) (4 * (i 1).val + (i 2).val)
        / (I.den (64 * (i 0).val + (i 3).val) (4 * (i 1).val + (i 2).val)
          * Real.exp (-shift x1 x2 (64 * (i 0).val + (i 3).val) (4 * (i 1).val + (i 2).val)))) : ℝ) : EReal) := by
  have h0 : (i 0).val < 128 := (i 0).isLt
  have h1 : (i 1).val < 4 := (i 1).isLt
  have h2 : (i 2).val < 4 := (i 2).isLt
  have h3 : (i 3).val < 64 := (i 3).isLt
  have h4 : (i 4).val < 1 := (i 4).isLt
  have hat : ∀ j : S128x4x4x64x192.Idx, val_main_v104 (F := Ideal) x0 x1 x2 j
      = ((I.P (64 * (j 0).val + (j 3).val) (4 * (j 1).val + (j 2).val) (64 * (j 0).val + (j 4).val)
        * (I.dP (64 * (j 0).val + (j 3).val) (4 * (j 1).val + (j 2).val) (64 * (j 0).val + (j 4).val)
        / (I.den (64 * (j 0).val + (j 3).val) (4 * (j 1).val + (j 2).val)
          * Real.exp (-shift x1 x2 (64 * (j 0).val + (j 3).val) (4 * (j 1).val + (j 2).val)))) : ℝ) : EReal) := by
    intro j
    rw [val_main_v104_apply, val_main_v103_apply, val_main_v102_apply, val_main_v87_apply, val_main_v86_apply,
      val_main_cst_16_apply, val_main_v85_apply, v99_eq H, v82_eq H, v76_eq H, Ideal.ofBits_def, Ideal.ofBits_one_f32,
      Ideal.hostDivf_def, Ideal.mulf_def, Ideal.mulf_def, Ideal.mulf_def, ← EReal.coe_mul, ← EReal.coe_one,
      div_real (mul_ne_zero (shifted_den_ne H _ _ _) (shifted_den_ne H _ _ _)), ← EReal.coe_mul, ← EReal.coe_mul]
    refine coe_cong ?_
    dsimp only
    have hd := (I.den_pos (64 * (j 0).val + (j 3).val) (4 * (j 1).val + (j 2).val)).ne'
    have he := Real.exp_ne_zero (-shift x1 x2 (64 * (j 0).val + (j 3).val) (4 * (j 1).val + (j 2).val))
    rw [Inputs.P]
    field_simp
  rw [val_main_v107_apply, val_main_v106_apply, val_main_v105_apply, sum_congr rfl fun k _ => hat _, val_main_cst_17_apply,
    Ideal.ofBits_def, Ideal.ofBits_zero_f32, zero_add, Ideal.hostNegf_def, Ideal.negf_def, EReal.coe_neg]
  refine congrArg (fun x : EReal => -x) ?_
  have e0 : ((idx_main_v106 i) 0).val = (i 0).val := by dsimp; omega
  have e1 : ((idx_main_v106 i) 1).val = (i 1).val := by dsimp; omega
  have e2 : ((idx_main_v106 i) 2).val = (i 2).val := by dsimp; omega
  have e3 : ((idx_main_v106 i) 3).val = (i 3).val := by dsimp; omega
  have hs := coe_sum_fin 192 (fun u => I.P (64 * ((idx_main_v106 i) 0).val + ((idx_main_v106 i) 3).val) (4 * ((idx_main_v106 i) 1).val + ((idx_main_v106 i) 2).val) (64 * ((idx_main_v106 i) 0).val + u)
    * (I.dP (64 * ((idx_main_v106 i) 0).val + ((idx_main_v106 i) 3).val) (4 * ((idx_main_v106 i) 1).val + ((idx_main_v106 i) 2).val) (64 * ((idx_main_v106 i) 0).val + u)
    / (I.den (64 * ((idx_main_v106 i) 0).val + ((idx_main_v106 i) 3).val) (4 * ((idx_main_v106 i) 1).val + ((idx_main_v106 i) 2).val)
      * Real.exp (-shift x1 x2 (64 * ((idx_main_v106 i) 0).val + ((idx_main_v106 i) 3).val) (4 * ((idx_main_v106 i) 1).val + ((idx_main_v106 i) 2).val)))))
  refine hs.trans (coe_cong ?_)
  rw [e0, e1, e2, e3]
  generalize I.den (64 * (i 0).val + (i 3).val) (4 * (i 1).val + (i 2).val)
    * Real.exp (-shift x1 x2 (64 * (i 0).val + (i 3).val) (4 * (i 1).val + (i 2).val)) = y
  rw [I.delta_eq, ← (Inputs.covers_band _ _ h0 h3).sum_P _ fun u => I.dP (64 * (i 0).val + (i 3).val) (4 * (i 1).val + (i 2).val) u,
    sum_div]
  exact sum_congr rfl fun u _ => mul_div_assoc' _ _ _

/-- The sink's part of a row. -/
theorem v110_eq (i : S128x4x4x64x1.Idx) : val_main_v110 (F := Ideal) x0 x1 x2 i
    = ((-(Real.exp (I.sk (4 * (i 1).val + (i 2).val)) / I.den (64 * (i 0).val + (i 3).val) (4 * (i 1).val + (i 2).val)
        * I.delta (64 * (i 0).val + (i 3).val) (4 * (i 1).val + (i 2).val)) : ℝ) : EReal) := by
  rw [val_main_v110_apply, v107_eq H, v81_eq H, Ideal.mulf_def, ← EReal.coe_mul]
  refine coe_cong ?_
  have hd := (I.den_pos (64 * (i 0).val + (i 3).val) (4 * (i 1).val + (i 2).val)).ne'
  have he := Real.exp_ne_zero (-shift x1 x2 (64 * (i 0).val + (i 3).val) (4 * (i 1).val + (i 2).val))
  rw [sub_eq_add_neg, Real.exp_add]
  field_simp

/-- The cotangent of the logits. -/
theorem v117_eq (i : S128x4x4x64x192.Idx) : val_main_v117 (F := Ideal) x0 x1 x2 i
    = ((I.dS (64 * (i 0).val + (i 3).val) (4 * (i 1).val + (i 2).val) (64 * (i 0).val + (i 4).val) : ℝ) : EReal) := by
  rw [val_main_v117_apply, val_main_v116_apply, val_main_v115_apply, val_main_v114_apply, val_main_v109_apply,
    val_main_v108_apply, v99_eq H, v82_eq H, v76_eq H, Fin.sum_univ_one, v107_eq H, val_main_cst_19_apply, Ideal.ofBits_def,
    Ideal.ofBits_zero_f32, zero_add, Ideal.hostDivf_def, div_real (shifted_den_ne H _ _ _), Ideal.addf_def, Ideal.mulf_def,
    ← EReal.coe_add, ← EReal.coe_mul]
  refine coe_cong ?_
  dsimp only
  have hd := (I.den_pos (64 * (i 0).val + (i 3).val) (4 * (i 1).val + (i 2).val)).ne'
  have he := Real.exp_ne_zero (-shift x1 x2 (64 * (i 0).val + (i 3).val) (4 * (i 1).val + (i 2).val))
  rw [Inputs.dS, Inputs.P]
  field_simp
  ring

/-- What reaches the row's shift is zero. -/
theorem v121_eq (i : S128x4x4x64x1.Idx) : val_main_v121 (F := Ideal) x0 x1 x2 i = 0 := by
  have h0 : (i 0).val < 128 := (i 0).isLt
  have h1 : (i 1).val < 4 := (i 1).isLt
  have h2 : (i 2).val < 4 := (i 2).isLt
  have h3 : (i 3).val < 64 := (i 3).isLt
  have h4 : (i 4).val < 1 := (i 4).isLt
  have e0 : ((idx_main_v120 i) 0).val = (i 0).val := by dsimp; omega
  have e1 : ((idx_main_v120 i) 1).val = (i 1).val := by dsimp; omega
  have e2 : ((idx_main_v120 i) 2).val = (i 2).val := by dsimp; omega
  have e3 : ((idx_main_v120 i) 3).val = (i 3).val := by dsimp; omega
  have hat : ∀ k : Fin 192, val_main_v118 (F := Ideal) x0 x1 x2 (idx_main_v119 (idx_main_v120 i) k)
      = ((-I.dS (64 * (i 0).val + (i 3).val) (4 * (i 1).val + (i 2).val) (64 * (i 0).val + k.val) : ℝ) : EReal) := by
    intro k
    rw [val_main_v118_apply, v117_eq H, Ideal.hostNegf_def, Ideal.negf_def, EReal.coe_neg, ← e0, ← e1, ← e2, ← e3]
  rw [val_main_v121_apply, val_main_v113_apply, val_main_v120_apply, val_main_v119_apply, sum_congr rfl fun k _ => hat k,
    coe_sum_fin 192 (fun u => -I.dS (64 * (i 0).val + (i 3).val) (4 * (i 1).val + (i 2).val) (64 * (i 0).val + u)), v110_eq H,
    val_main_cst_20_apply, Ideal.ofBits_def, Ideal.ofBits_zero_f32, zero_add, Ideal.hostNegf_def, Ideal.negf_def,
    Ideal.addf_def, ← EReal.coe_neg, ← EReal.coe_add]
  refine (coe_cong ?_).trans EReal.coe_zero
  generalize hr : 64 * (i 0).val + (i 3).val = r at *
  generalize hh : 4 * (i 1).val + (i 2).val = h at *
  have hc := Inputs.covers_band _ _ h0 h3
  rw [hr] at hc
  have e : ∑ u ∈ range 192, -I.dS r h (64 * (i 0).val + u) = -∑ u ∈ range 8320, I.dS r h u := by
    rw [sum_neg_distrib, ← hc.sum (fun u => I.dS r h u) fun u hu => I.dS_eq_zero hu]
  have e5 : ∑ u ∈ range 8320, I.dS r h u = I.delta r h - I.delta r h * ((I.den r h - Real.exp (I.sk h)) / I.den r h) := by
    have hw : ∑ u ∈ range 8320, I.P r h u = (I.den r h - Real.exp (I.sk h)) / I.den r h := by
      rw [Inputs.den, add_sub_cancel_right, sum_div]; rfl
    have hs : ∑ u ∈ range 8320, I.dS r h u = ∑ u ∈ range 8320, (I.P r h u * I.dP r h u - I.P r h u * I.delta r h) :=
      sum_congr rfl fun u _ => mul_sub _ _ _
    rw [hs, sum_sub_distrib, ← sum_mul, ← I.delta_eq, hw, mul_comm (_ / _)]
  rw [e, e5]
  have hd := (I.den_pos r h).ne'
  field_simp
  ring

/-! ## The gradients of the sinks and the queries -/

/-- The gradient of the sinks. -/
theorem v172_eq (i : S16x128.Idx) : val_main_v172 (F := Ideal) x0 x1 x2 i = ((I.gsink (i 0).val : ℝ) : EReal) := by
  have h0 : (i 0).val < 16 := (i 0).isLt
  have z : val_main_v122 (F := Ideal) x0 x1 x2 = fun _ => 0 := by
    funext j; rw [val_main_v122_apply, v121_eq H, Ideal.mulf_def, zero_mul]
  have hz : ∀ j, val_main_v123 (F := Ideal) x0 x1 x2 j = 0 := fun j => by
    unfold val_main_v123 val_main_cst_21
    rw [z, sum_rows]
    exact sum_eq_zero fun _ _ => sum_eq_zero fun _ _ => rfl
  have hs : ∀ j : S4x4x1.Idx, val_main_v111 (F := Ideal) x0 x1 x2 j
      = ((I.gsink (4 * (j 0).val + (j 1).val) : ℝ) : EReal) := fun j => by
    unfold val_main_v111 val_main_cst_18
    rw [sum_rows, sum_congr rfl fun n _ => sum_congr rfl fun q _ => v110_eq H _]
    refine (coe_sum_fin2 128 64 (fun n q => -(Real.exp (I.sk (4 * (j 0).val + (j 1).val)) / I.den (64 * n + q) (4 * (j 0).val + (j 1).val)
      * I.delta (64 * n + q) (4 * (j 0).val + (j 1).val)))).trans (coe_cong ?_)
    rw [Inputs.gsink, show (8192 : ℕ) = 128 * 64 from rfl, sum_blocks, ← sum_neg_distrib]
    exact sum_congr rfl fun n _ => by rw [← sum_neg_distrib]; exact sum_congr rfl fun q _ => by rw [mul_comm 64 n]
  rw [val_main_v172_apply, val_main_v171_apply, val_main_v132_apply, val_main_v125_apply, val_main_v124_apply,
    val_main_v112_apply, hz, hs, Ideal.addf_def, add_zero]
  exact coe_at1 _ (by dsimp; omega)

theorem v135_eq (i : S128x4x4x64x192.Idx) : val_main_v135 (F := Ideal) x0 x1 x2 i
    = ((I.dS (64 * (i 0).val + (i 3).val) (4 * (i 1).val + (i 2).val) (64 * (i 0).val + (i 4).val) * (1 / 8) : ℝ) : EReal) := by
  have z : val_main_v130 (F := Ideal) x0 x1 x2 i = 0 := by
    obtain ⟨c, hc, h⟩ := v52_eq H (idx_main_v129 i)
    rw [val_main_v130_apply, val_main_v129_apply, val_main_v128_apply, val_main_v127_apply, Fin.sum_univ_one,
      val_main_v126_apply, v121_eq H, h, val_main_cst_22_apply, Ideal.ofBits_def, Ideal.ofBits_zero_f32]
    simp only [Ideal.mulf_def, zero_mul, zero_add, Ideal.hostDivf_def, Ideal.div_coe hc]
  rw [val_main_v135_apply, val_main_v133_apply, val_main_v131_apply, z, v117_eq H, val_main_v134_apply, val_main_cst_23_apply,
    v45_1_eq, Ideal.addf_def, add_zero, Ideal.ofBits_def, eighth, Ideal.mulf_def, EReal.coe_mul]
  refine congrArg (fun x : EReal => x * _) ?_
  unfold Scalar.select
  by_cases hv : vis (64 * (i 0).val + (i 3).val) (64 * (i 0).val + (i 4).val)
  · rw [if_pos hv]
    exact if_pos rfl
  · rw [if_neg hv, I.dS_eq_zero hv]
    exact (if_neg (by decide)).trans Ideal.ofBits_zero_f32

/-- The gradient of the queries. -/
theorem v167_eq (i : S8192x1024.Idx) : val_main_v167 (F := Ideal) x0 x1 x2 i = ((I.gq (i 0).val (i 1).val : ℝ) : EReal) := by
  have h0 : (i 0).val < 8192 := (i 0).isLt
  have h1 : (i 1).val < 1024 := (i 1).isLt
  have hat : ∀ j : S128x4x64x4x64.Idx, val_main_v137 (F := Ideal) x0 x1 x2 j
      = ((I.gq (64 * (j 0).val + (j 2).val) (64 * (4 * (j 1).val + (j 3).val) + (j 4).val) : ℝ) : EReal) := fun j => by
    have h0 : (j 0).val < 128 := (j 0).isLt
    have h1 : (j 1).val < 4 := (j 1).isLt
    have h2 : (j 2).val < 64 := (j 2).isLt
    have h3 : (j 3).val < 4 := (j 3).isLt
    have h4 : (j 4).val < 64 := (j 4).isLt
    rw [val_main_v137_apply, sum_congr rfl fun k _ => by rw [val_main_v136_apply, v135_eq H, v19_eq H, ← EReal.coe_mul]]
    refine (coe_sum_fin 192 (fun u => I.dS (64 * (j 0).val + (j 2).val) (4 * (j 1).val + (j 3).val) (64 * (j 0).val + u) * (1 / 8)
      * I.k (64 * (j 0).val + u) (64 * (j 1).val + (j 4).val))).trans (coe_cong ?_)
    rw [Inputs.gq, show (64 * (4 * (j 1).val + (j 3).val) + (j 4).val) / 64 = 4 * (j 1).val + (j 3).val by omega,
      show (64 * (4 * (j 1).val + (j 3).val) + (j 4).val) / 256 = (j 1).val by omega,
      show (64 * (4 * (j 1).val + (j 3).val) + (j 4).val) % 64 = (j 4).val by omega,
      ← (Inputs.covers_band _ _ h0 h2).sum_dS _ fun u => I.k u (64 * (j 1).val + (j 4).val), sum_mul]
    exact sum_congr rfl fun u _ => by ring
  rw [val_main_v167_apply, Ideal.truncf_def, val_main_v166_apply, val_main_v163_apply, val_main_v138_apply, hat]
  exact coe_at2 _ (by dsimp; omega) (by dsimp; omega)

/-! ## A chunk's part in the gradients of the keys and values -/

omit H in
variable (I) in
/-- Chunk `n`'s part in the gradient of the values at row `u`. -/
def partV (n u y d : ℕ) : ℝ :=
  ∑ g ∈ range 4, ∑ q ∈ range 64, I.dO (64 * n + q) (64 * (4 * y + g) + d) * I.P (64 * n + q) (4 * y + g) u

omit H in
variable (I) in
/-- Chunk `n`'s part in the gradient of the keys at row `u`. -/
def partK (n u y d : ℕ) : ℝ :=
  ∑ q ∈ range 64, ∑ g ∈ range 4, I.dS (64 * n + q) (4 * y + g) u * (1 / 8) * I.q (64 * n + q) (64 * (4 * y + g) + d)

theorem v101_eq (i : S128x192x4x64.Idx) : val_main_v101 (F := Ideal) x0 x1 x2 i
    = ((partV I (i 0).val (64 * (i 0).val + (i 1).val) (i 2).val (i 3).val : ℝ) : EReal) := by
  rw [val_main_v101_apply]
  unfold val_main_v100
  rw [dot_heads, sum_congr rfl fun g _ => sum_congr rfl fun q _ => by rw [v98_eq H, v84_eq H, ← EReal.coe_mul]]
  exact coe_sum_fin2 4 64 fun g q => I.dO (64 * (i 0).val + q) (64 * (4 * (i 2).val + g) + (i 3).val)
    * I.P (64 * (i 0).val + q) (4 * (i 2).val + g) (64 * (i 0).val + (i 1).val)

theorem v140_eq (i : S128x192x4x64.Idx) : val_main_v140 (F := Ideal) x0 x1 x2 i
    = ((partK I (i 0).val (64 * (i 0).val + (i 1).val) (i 2).val (i 3).val : ℝ) : EReal) := by
  rw [val_main_v140_apply]
  unfold val_main_v139
  rw [dot_rows, sum_congr rfl fun q _ => sum_congr rfl fun g _ => by
    rw [val_main_v136_apply, v135_eq H, v11_eq H, ← EReal.coe_mul]]
  exact coe_sum_fin2 64 4 fun q g => I.dS (64 * (i 0).val + q) (4 * (i 2).val + g) (64 * (i 0).val + (i 1).val) * (1 / 8)
    * I.q (64 * (i 0).val + q) (64 * (4 * (i 2).val + g) + (i 3).val)

end Cert.Proof.Attn

end
-- ==== Proof.Attn.RefRes.lean ====
/-
  The gradients of the keys and values in the reference: the parts of the chunks, three pieces of 64 rows each, padded
  to 130 chunks and added, and the rows behind the zero rows of the sum.
-/
module

public import proofs.«01_k».proof.Proof.Attn.RefBwd

@[expose] public section

noncomputable section

namespace Cert.Proof.Attn

open Cert.ReferenceIdeal Cert.ReferenceIdeal.Gen Cert.ReferenceIdeal.Read Idealize.ShloMosaic Idealize.ShloMosaic.StableHlo
  Idealize.ShloMosaic.ValueIdx Finset

/-! ## The chunks whose bands hold a row -/

/-- The one term with `n + a = b`. -/
theorem sum_at (T : ℕ → ℝ) (a b : ℕ) :
    ∑ n ∈ range 128, (if n + a = b then T n else 0) = if a ≤ b ∧ b < a + 128 then T (b - a) else 0 := by
  by_cases h : a ≤ b ∧ b < a + 128
  · rw [if_pos h, sum_eq_single (b - a) (fun n _ hn => if_neg (by omega)) (fun hn => absurd (mem_range.2 (by omega)) hn),
      if_pos (by omega)]
  · rw [if_neg h]
    exact sum_eq_zero fun n hn => if_neg (by have := mem_range.1 hn; omega)

/-- The sum over the chunks of a term that vanishes unless chunk `n`'s band holds chunk `b`. -/
theorem sum_three (T : ℕ → ℝ) (b : ℕ) (h : ∀ n, ¬(n ≤ b ∧ b ≤ n + 2) → T n = 0) :
    ∑ n ∈ range 128, T n = (if 2 ≤ b ∧ b < 2 + 128 then T (b - 2) else 0) + (if 1 ≤ b ∧ b < 1 + 128 then T (b - 1) else 0)
      + (if 0 ≤ b ∧ b < 0 + 128 then T (b - 0) else 0) := by
  rw [← sum_at T 2 b, ← sum_at T 1 b, ← sum_at T 0 b, ← sum_add_distrib, ← sum_add_distrib]
  refine sum_congr rfl fun n _ => ?_
  by_cases hn : n ≤ b ∧ b ≤ n + 2
  · rcases (by omega : n + 2 = b ∨ n + 1 = b ∨ n + 0 = b) with e | e | e
    · rw [if_pos e, if_neg (by omega), if_neg (by omega), add_zero, add_zero]
    · rw [if_neg (by omega), if_pos e, if_neg (by omega), add_zero, zero_add]
    · rw [if_neg (by omega), if_neg (by omega), if_pos e, zero_add, zero_add]
  · rw [h n hn, if_neg (by omega), if_neg (by omega), if_neg (by omega), add_zero, add_zero]

/-- A piece padded by `lo` chunks of zeros in front. -/
theorem pad_piece (lo : ℕ) (hi : Fin 4 → ℕ) (x : S128x64x4x64.Idx → EReal) (T : ℕ → ℕ → ℕ → ℕ → ℝ)
    (hx : ∀ i, x i = ((T (i 0).val (64 * ((i 0).val + lo) + (i 1).val) (i 2).val (i 3).val : ℝ) : EReal))
    (h : S128x64x4x64.Pads ![lo, 0, 0, 0] hi ![0, 0, 0, 0] S130x64x4x64) (i : S130x64x4x64.Idx) :
    pad S130x64x4x64 ![lo, 0, 0, 0] hi ![0, 0, 0, 0] x (constant (F := Ideal) S_ .f32 0x00000000#32) h h_S_ i
      = ((if lo ≤ (i 0).val ∧ (i 0).val < lo + 128 then T ((i 0).val - lo) (64 * (i 0).val + (i 1).val) (i 2).val (i 3).val else 0 : ℝ) : EReal) := by
  have h1 : (i 1).val < 64 := (i 1).isLt
  have h2 : (i 2).val < 4 := (i 2).isLt
  have h3 : (i 3).val < 64 := (i 3).isLt
  by_cases hb : lo ≤ (i 0).val ∧ (i 0).val < lo + 128
  · rw [pad_apply_of_inside _ _ _ x _ h h_S_ i (ix4 (⟨(i 0).val - lo, by omega⟩ : Fin 128) ⟨(i 1).val, h1⟩ ⟨(i 2).val, h2⟩ ⟨(i 3).val, h3⟩)
      (fun a => by
        match a with
        | ⟨0, _⟩ => show (i 0).val = lo + ((i 0).val - lo) * 1; omega
        | ⟨1, _⟩ => show (i 1).val = 0 + (i 1).val * 1; omega
        | ⟨2, _⟩ => show (i 2).val = 0 + (i 2).val * 1; omega
        | ⟨3, _⟩ => show (i 3).val = 0 + (i 3).val * 1; omega), hx, if_pos hb]
    refine coe_cong ?_
    show T ((i 0).val - lo) (64 * ((i 0).val - lo + lo) + (i 1).val) _ _ = _
    rw [show (i 0).val - lo + lo = (i 0).val by omega]
  · rw [pad_apply_of_not_inside _ _ _ x _ h h_S_ i 0 (fun hc => hb ?_), if_neg hb]
    · exact Ideal.ofBits_zero_f32
    · have c1 : lo ≤ (i 0).val := hc.1
      have c2 : ((i 0).val - lo) / 1 < 128 := hc.2.2
      omega

/-- The three pieces of every chunk's part, padded and added, hold at each row the sum of all chunks' parts. -/
theorem add_pieces (a b c : S128x64x4x64.Idx → EReal) (T : ℕ → ℕ → ℕ → ℕ → ℝ)
    (ha : ∀ i, a i = ((T (i 0).val (64 * (i 0).val + (i 1).val) (i 2).val (i 3).val : ℝ) : EReal))
    (hb : ∀ i, b i = ((T (i 0).val (64 * (i 0).val + (64 + (i 1).val)) (i 2).val (i 3).val : ℝ) : EReal))
    (hc : ∀ i, c i = ((T (i 0).val (64 * (i 0).val + (128 + (i 1).val)) (i 2).val (i 3).val : ℝ) : EReal))
    (hT : ∀ n u y d, ¬(n ≤ u / 64 ∧ u / 64 ≤ n + 2) → T n u y d = 0)
    (h2 : S128x64x4x64.Pads ![2, 0, 0, 0] ![0, 0, 0, 0] ![0, 0, 0, 0] S130x64x4x64)
    (h1 : S128x64x4x64.Pads ![1, 0, 0, 0] ![1, 0, 0, 0] ![0, 0, 0, 0] S130x64x4x64)
    (h0 : S128x64x4x64.Pads ![0, 0, 0, 0] ![2, 0, 0, 0] ![0, 0, 0, 0] S130x64x4x64) (i : S130x64x4x64.Idx) :
    (pad S130x64x4x64 ![2, 0, 0, 0] ![0, 0, 0, 0] ![0, 0, 0, 0] c (constant (F := Ideal) S_ .f32 0x00000000#32) h2 h_S_ i
      + pad S130x64x4x64 ![1, 0, 0, 0] ![1, 0, 0, 0] ![0, 0, 0, 0] b (constant (F := Ideal) S_ .f32 0x00000000#32) h1 h_S_ i
      + pad S130x64x4x64 ![0, 0, 0, 0] ![2, 0, 0, 0] ![0, 0, 0, 0] a (constant (F := Ideal) S_ .f32 0x00000000#32) h0 h_S_ i : EReal)
      = ((∑ n ∈ range 128, T n (64 * (i 0).val + (i 1).val) (i 2).val (i 3).val : ℝ) : EReal) := by
  have i1 : (i 1).val < 64 := (i 1).isLt
  rw [pad_piece 2 _ c T (fun i => (hc i).trans (coe_cong (by rw [show 64 * (i 0).val + (128 + (i 1).val) = 64 * ((i 0).val + 2) + (i 1).val by omega]))) h2,
    pad_piece 1 _ b T (fun i => (hb i).trans (coe_cong (by rw [show 64 * (i 0).val + (64 + (i 1).val) = 64 * ((i 0).val + 1) + (i 1).val by omega]))) h1,
    pad_piece 0 _ a T (fun i => (ha i).trans (coe_cong (by rw [Nat.add_zero]))) h0, ← EReal.coe_add, ← EReal.coe_add]
  refine coe_cong (sum_three (fun n => T n (64 * (i 0).val + (i 1).val) (i 2).val (i 3).val) (i 0).val fun n hn => hT _ _ _ _ ?_).symm
  rwa [show (64 * (i 0).val + (i 1).val) / 64 = (i 0).val by omega]

/-- The rows behind 128 zero rows. -/
theorem pad_rows (x : FVec Ideal S8192x256 .f32) (v : FVec Ideal S_ .f32) (hv : ∀ i, v i = 0) (f : ℕ → ℕ → ℝ)
    (hx : ∀ i, x i = ((f ((i 0).val + 128) (i 1).val : ℝ) : EReal)) (hf : ∀ u c, u < 128 → f u c = 0)
    (h : S8192x256.Pads ![128, 0] ![0, 0] ![0, 0] S8320x256) (i : S8320x256.Idx) :
    pad S8320x256 ![128, 0] ![0, 0] ![0, 0] x v h h_S_ i = ((f (i 0).val (i 1).val : ℝ) : EReal) := by
  have h0 : (i 0).val < 8320 := (i 0).isLt
  have h1 : (i 1).val < 256 := (i 1).isLt
  by_cases hb : 128 ≤ (i 0).val
  · rw [pad_apply_of_inside _ _ _ x _ h h_S_ i (ix2 (⟨(i 0).val - 128, by omega⟩ : Fin 8192) ⟨(i 1).val, h1⟩)
      (fun a => by
        match a with
        | ⟨0, _⟩ => show (i 0).val = 128 + ((i 0).val - 128) * 1; omega
        | ⟨1, _⟩ => show (i 1).val = 0 + (i 1).val * 1; omega), hx]
    exact coe_at2 _ (by show (i 0).val - 128 + 128 = _; omega) rfl
  · rw [pad_apply_of_not_inside _ _ _ x _ h h_S_ i 0 (fun hc => hb hc.1), hv, hf _ _ (by omega)]; rfl

section
variable (I : Inputs)

theorem partV_zero (n u y d : ℕ) (h : ¬(n ≤ u / 64 ∧ u / 64 ≤ n + 2)) : partV I n u y d = 0 :=
  sum_eq_zero fun g _ => sum_eq_zero fun q hq => by
    have := mem_range.1 hq
    rw [I.P_eq_zero (fun hv => h (by unfold vis at hv; omega)), mul_zero]

theorem partK_zero (n u y d : ℕ) (h : ¬(n ≤ u / 64 ∧ u / 64 ≤ n + 2)) : partK I n u y d = 0 :=
  sum_eq_zero fun q hq => sum_eq_zero fun g _ => by
    have := mem_range.1 hq
    rw [I.dS_eq_zero (fun hv => h (by unfold vis at hv; omega)), zero_mul, zero_mul]

theorem sum_partV (u c : ℕ) : ∑ n ∈ range 128, partV I n u (c / 64) (c % 64) = I.gv u c := by
  unfold partV Inputs.gv
  rw [sum_comm]
  refine sum_congr rfl fun g _ => ?_
  rw [show (8192 : ℕ) = 128 * 64 from rfl, sum_blocks]
  exact sum_congr rfl fun n _ => sum_congr rfl fun q _ => by rw [mul_comm 64 n, mul_comm (I.dO _ _)]

theorem sum_partK (u c : ℕ) : ∑ n ∈ range 128, partK I n u (c / 64) (c % 64) = I.gk u c := by
  unfold partK Inputs.gk
  have e : ∀ n ∈ range 128, ∑ q ∈ range 64, ∑ g ∈ range 4, I.dS (64 * n + q) (4 * (c / 64) + g) u * (1 / 8) * I.q (64 * n + q) (64 * (4 * (c / 64) + g) + c % 64)
      = ∑ g ∈ range 4, ∑ q ∈ range 64, I.dS (64 * n + q) (4 * (c / 64) + g) u * (1 / 8) * I.q (64 * n + q) (64 * (4 * (c / 64) + g) + c % 64) :=
    fun n _ => sum_comm
  rw [sum_congr rfl e, sum_comm, sum_mul]
  refine sum_congr rfl fun g _ => ?_
  rw [show (8192 : ℕ) = 128 * 64 from rfl, sum_blocks, sum_mul]
  refine sum_congr rfl fun n _ => ?_
  rw [sum_mul]
  exact sum_congr rfl fun q _ => by rw [mul_comm 64 n]; ring

theorem gv_zero (u c : ℕ) (h : u < 128) : I.gv u c = 0 :=
  sum_eq_zero fun g _ => sum_eq_zero fun r _ => by
    rw [I.P_eq_zero (fun hv => by unfold vis at hv; omega), zero_mul]

theorem gk_zero (u c : ℕ) (h : u < 128) : I.gk u c = 0 := by
  unfold Inputs.gk
  rw [sum_eq_zero fun g _ => sum_eq_zero fun r _ => by
    rw [I.dS_eq_zero (fun hv => by unfold vis at hv; omega), zero_mul], zero_mul]

end

variable {I : Inputs} {x0 : FVec Ideal ⟨2, ![8192, 1024]⟩ .bf16} {x1 : FVec Ideal ⟨2, ![8192, 13824]⟩ .bf16}
  {x2 : FVec Ideal ⟨1, ![16]⟩ .f32} (H : Holds I x0 x1 x2)

include H

theorem v148_eq (i : S130x64x4x64.Idx) : val_main_v148 (F := Ideal) x0 x1 x2 i
    = ((∑ n ∈ range 128, partV I n (64 * (i 0).val + (i 1).val) (i 2).val (i 3).val : ℝ) : EReal) := by
  rw [val_main_v148_apply, val_main_v146_apply, Ideal.addf_def, Ideal.addf_def]
  exact add_pieces (val_main_v141 (F := Ideal) x0 x1 x2) (val_main_v142 (F := Ideal) x0 x1 x2) (val_main_v143 (F := Ideal) x0 x1 x2)
    (partV I) (fun i => by rw [val_main_v141_apply, v101_eq H]) (fun i => by rw [val_main_v142_apply, v101_eq H])
    (fun i => by rw [val_main_v143_apply, v101_eq H]) (partV_zero I) _ _ _ i

theorem v159_eq (i : S130x64x4x64.Idx) : val_main_v159 (F := Ideal) x0 x1 x2 i
    = ((∑ n ∈ range 128, partK I n (64 * (i 0).val + (i 1).val) (i 2).val (i 3).val : ℝ) : EReal) := by
  rw [val_main_v159_apply, val_main_v157_apply, Ideal.addf_def, Ideal.addf_def]
  exact add_pieces (val_main_v152 (F := Ideal) x0 x1 x2) (val_main_v153 (F := Ideal) x0 x1 x2) (val_main_v154 (F := Ideal) x0 x1 x2)
    (partK I) (fun i => by rw [val_main_v152_apply, v140_eq H]) (fun i => by rw [val_main_v153_apply, v140_eq H])
    (fun i => by rw [val_main_v154_apply, v140_eq H]) (partK_zero I) _ _ _ i

/-- The gradient of the keys. -/
theorem v169_eq (i : S8320x256.Idx) : val_main_v169 (F := Ideal) x0 x1 x2 i = ((I.gk (i 0).val (i 1).val : ℝ) : EReal) := by
  unfold val_main_v169
  refine pad_rows _ _ (fun i => ?_) I.gk (fun i => ?_) (gk_zero I) _ i
  · rw [val_main_call5_v0_apply, val_main_c_30_apply]
    exact (congrArg (fun z : ℤ => ((z : ℝ) : EReal)) (by decide : (0#32).toInt = 0)).trans (by norm_num)
  · have h0 : (i 0).val < 8192 := (i 0).isLt
    have h1 : (i 1).val < 256 := (i 1).isLt
    rw [val_main_v165_apply, val_main_v162_apply, val_main_v160_apply, v159_eq H, ← sum_partK I]
    refine coe_cong (sum_congr rfl fun n _ => ?_)
    dsimp only
    congr 1 <;> omega

/-- The gradient of the values. -/
theorem v170_eq (i : S8320x256.Idx) : val_main_v170 (F := Ideal) x0 x1 x2 i = ((I.gv (i 0).val (i 1).val : ℝ) : EReal) := by
  unfold val_main_v170
  refine pad_rows _ _ (fun i => ?_) I.gv (fun i => ?_) (gv_zero I) _ i
  · rw [val_main_call6_v0_apply, val_main_c_31_apply]
    exact (congrArg (fun z : ℤ => ((z : ℝ) : EReal)) (by decide : (0#32).toInt = 0)).trans (by norm_num)
  · have h0 : (i 0).val < 8192 := (i 0).isLt
    have h1 : (i 1).val < 256 := (i 1).isLt
    rw [val_main_v164_apply, val_main_v151_apply, val_main_v149_apply, v148_eq H, ← sum_partV I]
    refine coe_cong (sum_congr rfl fun n _ => ?_)
    dsimp only
    congr 1 <;> omega

end Cert.Proof.Attn

end
-- ==== Proof.Attn.Host.lean ====
/-
  What the operations before the call leave in its operands: the attention's output, which the lines of the forward
  pass compute, and the sinks, each repeated along a row.
-/
module

public import proofs.«01_k».proof.Proof.Gen.KernelIdeal.Launch
public import proofs.«01_k».proof.Proof.Gen.ReferenceIdeal.Read
public import Idealize.ShloMosaic.Lib.StableHlo.Run

@[expose] public section

set_option maxRecDepth 16384

noncomputable section

namespace Cert.Proof.Attn

open Cert.KernelIdeal Cert.KernelIdeal.Gen Idealize.ShloMosaic Idealize.ShloMosaic.StableHlo Idealize.ShloMosaic.Tactic
open Cert.ReferenceIdeal.Read (val_main_v27 val_main_v31 val_main_v35 val_main_v37 val_main_c_4 val_main_v38 val_main_v44 val_main_cst_6 val_main_v45_0 val_main_v90)

variable {F : FTy → Type} [FloatOps F]

/-- The buffers after the first of the runs of operations. -/
def pre1 (V0 : Valuation τ sig (Elt F)) : Valuation τ sig (Elt F) := after hostOps0 V0

theorem hostOps0_writes : (hostOps0 : List (HloOp τ sig (Elt F))).Forall fun op => op.writes ⊆ (([main_v0, main_v1, main_v2, main_v3, main_v4, main_v5, main_v6, main_v7, main_v8, main_v9, main_v10, main_v11, main_cst, main_v12, main_v13, main_v14, main_v15, main_v16, main_v17, main_v18, main_cst_0, main_v19, main_v20, main_v21, main_v22, main_v23, main_v24, main_v25, main_v26, main_v27, main_cst_1, main_v28, main_v29, main_v30, main_v31, main_c, main_v32, main_v33, main_v34, main_v35, main_c_2] : List (Ref sig .tc)).map (Proc.devRef (τ := τ) .tc)).toFinset := by
  simp only [hostOps0, TRef.nullary, TRef.unary, TRef.binary, TRef.ternary, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

theorem pre1_keep (V0 : Valuation τ sig (Elt F)) (r : Ref sig .tc) (h : r ∉ ([main_v0, main_v1, main_v2, main_v3, main_v4, main_v5, main_v6, main_v7, main_v8, main_v9, main_v10, main_v11, main_cst, main_v12, main_v13, main_v14, main_v15, main_v16, main_v17, main_v18, main_cst_0, main_v19, main_v20, main_v21, main_v22, main_v23, main_v24, main_v25, main_v26, main_v27, main_cst_1, main_v28, main_v29, main_v30, main_v31, main_c, main_v32, main_v33, main_v34, main_v35, main_c_2] : List (Ref sig .tc))) :
    pre1 V0 (Proc.devRef .tc r) = V0 (Proc.devRef .tc r) :=
  after_of_writes_sub hostOps0 _ hostOps0_writes h

set_option maxHeartbeats 2000000 in
theorem pre1_main_v29 (V0 : Valuation τ sig (Elt F)) : pre1 V0 (no_index (Proc.devRef .tc main_v29)) = val_main_v31 (F := F) (V0 (Proc.devRef .tc main_arg1)) := by
  unfold pre1
  simp only [hostOps0, TRef.nullary, TRef.unary, TRef.binary, TRef.ternary, TRef.toBuf, TRef.ofBuf, cast_eq]
  after_results_simp
  try dsimp only [Matrix.cons_val]
  try after_results_simp
  try simp only [id_eq]
  all_goals rfl

set_option maxHeartbeats 2000000 in
theorem pre1_main_v25 (V0 : Valuation τ sig (Elt F)) : pre1 V0 (no_index (Proc.devRef .tc main_v25)) = val_main_v27 (F := F) (V0 (Proc.devRef .tc main_arg1)) := by
  unfold pre1
  simp only [hostOps0, TRef.nullary, TRef.unary, TRef.binary, TRef.ternary, TRef.toBuf, TRef.ofBuf, cast_eq]
  after_results_simp
  try dsimp only [Matrix.cons_val]
  try after_results_simp
  try simp only [id_eq]
  all_goals rfl

set_option maxHeartbeats 2000000 in
theorem pre1_main_v33 (V0 : Valuation τ sig (Elt F)) : pre1 V0 (no_index (Proc.devRef .tc main_v33)) = val_main_v35 (F := F) := by
  unfold pre1
  simp only [hostOps0, TRef.nullary, TRef.unary, TRef.binary, TRef.ternary, TRef.toBuf, TRef.ofBuf, cast_eq]
  after_results_simp
  try dsimp only [Matrix.cons_val]
  try after_results_simp
  try simp only [id_eq]
  all_goals rfl

set_option maxHeartbeats 2000000 in
theorem pre1_main_v35 (V0 : Valuation τ sig (Elt F)) : pre1 V0 (no_index (Proc.devRef .tc main_v35)) = val_main_v37 (F := F) := by
  unfold pre1
  simp only [hostOps0, TRef.nullary, TRef.unary, TRef.binary, TRef.ternary, TRef.toBuf, TRef.ofBuf, cast_eq]
  after_results_simp
  try dsimp only [Matrix.cons_val]
  try after_results_simp
  try simp only [id_eq]
  all_goals rfl

set_option maxHeartbeats 2000000 in
theorem pre1_main_c_2 (V0 : Valuation τ sig (Elt F)) : pre1 V0 (no_index (Proc.devRef .tc main_c_2)) = val_main_c_4 (F := F) := by
  unfold pre1
  simp only [hostOps0, TRef.nullary, TRef.unary, TRef.binary, TRef.ternary, TRef.toBuf, TRef.ofBuf, cast_eq]
  after_results_simp
  try dsimp only [Matrix.cons_val]
  try after_results_simp
  try simp only [id_eq]
  all_goals rfl

theorem pre1_main_arg2 (V0 : Valuation τ sig (Elt F)) : pre1 V0 (no_index (Proc.devRef .tc main_arg2)) = V0 (Proc.devRef .tc main_arg2) :=
  (pre1_keep V0 main_arg2 (by decide)).trans (rfl)

/-- The buffers after the first 2 of the runs of operations. -/
def pre2 (V0 : Valuation τ sig (Elt F)) : Valuation τ sig (Elt F) := after hostOps0_1 (pre1 V0)

theorem hostOps0_1_writes : (hostOps0_1 : List (HloOp τ sig (Elt F))).Forall fun op => op.writes ⊆ (([main_call0_v0, main_call0_v1, main_call0_v2, main_call0_v3, main_call0_v4, main_call0_v5, main_call0_v6, main_call0_v7, main_call0_v8, main_call0_v9, main_call0_v10, main_call0_v11, main_call0_v12, main_call0_v13, main_call0_c, main_call0_c_0, main_v36] : List (Ref sig .tc)).map (Proc.devRef (τ := τ) .tc)).toFinset := by
  simp only [hostOps0_1, TRef.nullary, TRef.unary, TRef.binary, TRef.ternary, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

theorem pre2_keep (V0 : Valuation τ sig (Elt F)) (r : Ref sig .tc) (h : r ∉ ([main_call0_v0, main_call0_v1, main_call0_v2, main_call0_v3, main_call0_v4, main_call0_v5, main_call0_v6, main_call0_v7, main_call0_v8, main_call0_v9, main_call0_v10, main_call0_v11, main_call0_v12, main_call0_v13, main_call0_c, main_call0_c_0, main_v36] : List (Ref sig .tc))) :
    pre2 V0 (Proc.devRef .tc r) = pre1 V0 (Proc.devRef .tc r) :=
  after_of_writes_sub hostOps0_1 _ hostOps0_1_writes h

set_option maxHeartbeats 2000000 in
theorem pre2_main_v36 (V0 : Valuation τ sig (Elt F)) : pre2 V0 (no_index (Proc.devRef .tc main_v36)) = val_main_v38 (F := F) := by
  unfold pre2
  simp only [hostOps0_1, TRef.nullary, TRef.unary, TRef.binary, TRef.ternary, TRef.toBuf, TRef.ofBuf, cast_eq]
  after_results_simp
  try dsimp only [Matrix.cons_val]
  try after_results_simp
  try simp only [pre1_main_v35, pre1_main_c_2]
  all_goals rfl

theorem pre2_main_v29 (V0 : Valuation τ sig (Elt F)) : pre2 V0 (no_index (Proc.devRef .tc main_v29)) = val_main_v31 (F := F) (V0 (Proc.devRef .tc main_arg1)) :=
  (pre2_keep V0 main_v29 (by decide)).trans (pre1_main_v29 V0)

theorem pre2_main_v25 (V0 : Valuation τ sig (Elt F)) : pre2 V0 (no_index (Proc.devRef .tc main_v25)) = val_main_v27 (F := F) (V0 (Proc.devRef .tc main_arg1)) :=
  (pre2_keep V0 main_v25 (by decide)).trans (pre1_main_v25 V0)

theorem pre2_main_v33 (V0 : Valuation τ sig (Elt F)) : pre2 V0 (no_index (Proc.devRef .tc main_v33)) = val_main_v35 (F := F) :=
  (pre2_keep V0 main_v33 (by decide)).trans (pre1_main_v33 V0)

theorem pre2_main_arg2 (V0 : Valuation τ sig (Elt F)) : pre2 V0 (no_index (Proc.devRef .tc main_arg2)) = V0 (Proc.devRef .tc main_arg2) :=
  (pre2_keep V0 main_arg2 (by decide)).trans (pre1_main_arg2 V0)

/-- The buffers after the first 3 of the runs of operations. -/
def pre3 (V0 : Valuation τ sig (Elt F)) : Valuation τ sig (Elt F) := after hostOps0_2 (pre2 V0)

theorem hostOps0_2_writes : (hostOps0_2 : List (HloOp τ sig (Elt F))).Forall fun op => op.writes ⊆ (([main_v37, main_v38, main_v39, main_c_3, main_v40, main_v41, main_v42, main_cst_4] : List (Ref sig .tc)).map (Proc.devRef (τ := τ) .tc)).toFinset := by
  simp only [hostOps0_2, TRef.nullary, TRef.unary, TRef.binary, TRef.ternary, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

theorem pre3_keep (V0 : Valuation τ sig (Elt F)) (r : Ref sig .tc) (h : r ∉ ([main_v37, main_v38, main_v39, main_c_3, main_v40, main_v41, main_v42, main_cst_4] : List (Ref sig .tc))) :
    pre3 V0 (Proc.devRef .tc r) = pre2 V0 (Proc.devRef .tc r) :=
  after_of_writes_sub hostOps0_2 _ hostOps0_2_writes h

set_option maxHeartbeats 2000000 in
theorem pre3_main_v42 (V0 : Valuation τ sig (Elt F)) : pre3 V0 (no_index (Proc.devRef .tc main_v42)) = val_main_v44 (F := F) := by
  unfold pre3
  simp only [hostOps0_2, TRef.nullary, TRef.unary, TRef.binary, TRef.ternary, TRef.toBuf, TRef.ofBuf, cast_eq]
  after_results_simp
  try dsimp only [Matrix.cons_val]
  try after_results_simp
  try simp only [pre2_main_v33, pre2_main_v36]
  all_goals rfl

set_option maxHeartbeats 2000000 in
theorem pre3_main_cst_4 (V0 : Valuation τ sig (Elt F)) : pre3 V0 (no_index (Proc.devRef .tc main_cst_4)) = val_main_cst_6 (F := F) := by
  unfold pre3
  simp only [hostOps0_2, TRef.nullary, TRef.unary, TRef.binary, TRef.ternary, TRef.toBuf, TRef.ofBuf, cast_eq]
  after_results_simp
  try dsimp only [Matrix.cons_val]
  try after_results_simp
  try simp only [id_eq]
  all_goals rfl

theorem pre3_main_v29 (V0 : Valuation τ sig (Elt F)) : pre3 V0 (no_index (Proc.devRef .tc main_v29)) = val_main_v31 (F := F) (V0 (Proc.devRef .tc main_arg1)) :=
  (pre3_keep V0 main_v29 (by decide)).trans (pre2_main_v29 V0)

theorem pre3_main_v25 (V0 : Valuation τ sig (Elt F)) : pre3 V0 (no_index (Proc.devRef .tc main_v25)) = val_main_v27 (F := F) (V0 (Proc.devRef .tc main_arg1)) :=
  (pre3_keep V0 main_v25 (by decide)).trans (pre2_main_v25 V0)

theorem pre3_main_arg2 (V0 : Valuation τ sig (Elt F)) : pre3 V0 (no_index (Proc.devRef .tc main_arg2)) = V0 (Proc.devRef .tc main_arg2) :=
  (pre3_keep V0 main_arg2 (by decide)).trans (pre2_main_arg2 V0)

/-- The buffers after the first 4 of the runs of operations. -/
def pre4 (V0 : Valuation τ sig (Elt F)) : Valuation τ sig (Elt F) := after hostOps0_3 (pre3 V0)

theorem hostOps0_3_writes : (hostOps0_3 : List (HloOp τ sig (Elt F))).Forall fun op => op.writes ⊆ (([main_call1_v0, main_call1_v1, main_call1_v2, main_v43] : List (Ref sig .tc)).map (Proc.devRef (τ := τ) .tc)).toFinset := by
  simp only [hostOps0_3, TRef.nullary, TRef.unary, TRef.binary, TRef.ternary, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

theorem pre4_keep (V0 : Valuation τ sig (Elt F)) (r : Ref sig .tc) (h : r ∉ ([main_call1_v0, main_call1_v1, main_call1_v2, main_v43] : List (Ref sig .tc))) :
    pre4 V0 (Proc.devRef .tc r) = pre3 V0 (Proc.devRef .tc r) :=
  after_of_writes_sub hostOps0_3 _ hostOps0_3_writes h

set_option maxHeartbeats 2000000 in
theorem pre4_main_v43 (V0 : Valuation τ sig (Elt F)) : pre4 V0 (no_index (Proc.devRef .tc main_v43)) = val_main_v45_0 (F := F) (V0 (Proc.devRef .tc main_arg1)) := by
  unfold pre4
  simp only [hostOps0_3, TRef.nullary, TRef.unary, TRef.binary, TRef.ternary, TRef.toBuf, TRef.ofBuf, cast_eq]
  after_results_simp
  try dsimp only [Matrix.cons_val]
  try after_results_simp
  try simp only [pre3_main_v42, pre3_main_cst_4, pre3_main_v29]
  all_goals rfl

theorem pre4_main_v25 (V0 : Valuation τ sig (Elt F)) : pre4 V0 (no_index (Proc.devRef .tc main_v25)) = val_main_v27 (F := F) (V0 (Proc.devRef .tc main_arg1)) :=
  (pre4_keep V0 main_v25 (by decide)).trans (pre3_main_v25 V0)

theorem pre4_main_arg2 (V0 : Valuation τ sig (Elt F)) : pre4 V0 (no_index (Proc.devRef .tc main_arg2)) = V0 (Proc.devRef .tc main_arg2) :=
  (pre4_keep V0 main_arg2 (by decide)).trans (pre3_main_arg2 V0)

/-- The buffers after the first 5 of the runs of operations. -/
def pre5 (V0 : Valuation τ sig (Elt F)) : Valuation τ sig (Elt F) := after hostOps0_4 (pre4 V0)

set_option maxHeartbeats 2000000 in
theorem pre5_main_v63 (V0 : Valuation τ sig (Elt F)) : pre5 V0 (no_index (Proc.devRef .tc main_v63)) = truncf .bf16 (val_main_v90 (F := F) (V0 (Proc.devRef .tc main_arg1)) (V0 (Proc.devRef .tc main_arg2))) bitsLt_bf16_f32 := by
  unfold pre5
  simp only [hostOps0_4, TRef.nullary, TRef.unary, TRef.binary, TRef.ternary, TRef.toBuf, TRef.ofBuf, cast_eq]
  after_results_simp
  try dsimp only [Matrix.cons_val]
  try after_results_simp
  try simp only [pre4_main_v43, pre4_main_v25, pre4_main_arg2]
  all_goals rfl

set_option maxHeartbeats 2000000 in
theorem pre5_main_v65 (V0 : Valuation τ sig (Elt F)) : pre5 V0 (no_index (Proc.devRef .tc main_v65)) = broadcastInDim S16x128 ![0, 1] bcast_S16x1_S16x128_0_1 (broadcastInDim S16x1 ![0] bcast_S16_S16x1_0 (V0 (Proc.devRef .tc main_arg2))) := by
  unfold pre5
  simp only [hostOps0_4, TRef.nullary, TRef.unary, TRef.binary, TRef.ternary, TRef.toBuf, TRef.ofBuf, cast_eq]
  after_results_simp
  try dsimp only [Matrix.cons_val]
  try after_results_simp
  try simp only [pre4_main_arg2]
  all_goals rfl

theorem after_host (V0 : Valuation τ sig (Elt F)) :
    after (List.flatten [hostOps0, hostOps0_1, hostOps0_2, hostOps0_3, hostOps0_4]) V0 = pre5 V0 := by
  simp only [List.flatten_cons, List.flatten_nil, List.append_nil, after_append]
  rfl

end Cert.Proof.Attn

end
-- ==== Proof.Attn.Blk.lean ====
/-
  One block of 256 rows of the kernel as functions of the blocks it reads: the mask, a head's weights and gradients,
  and what the block stores into the five results. The sixteen heads are the same text, so each stage is written once.
-/
module

public import proofs.«01_k».proof.Proof.Gen.KernelIdeal.Skeleton
public import Idealize.ShloMosaic.Lib.Pipeline.FrameBody

@[expose] public section

set_option maxRecDepth 16384

noncomputable section

namespace Cert.Proof.Attn

open Cert.KernelIdeal Cert.KernelIdeal.Gen Idealize.ShloMosaic

variable {F : FTy → Type} [FloatOps F]

/-! ## The pieces a head reads -/

/-- Head `g` of key head `y`. -/
def hd (y g : Fin 4) : Fin 16 := ⟨4 * y.val + g.val, by omega⟩

theorem inb_head (h : Fin 16) : ∀ a, (![0, 64 * h.val] : Fin 2 → ℕ) a + S256x64.size a ≤ S256x1024.size a :=
  Fin.forall_fin_two.mpr ⟨by show 0 + 256 ≤ 256; omega, by show 64 * h.val + 64 ≤ 1024; omega⟩

theorem inb_group (y : Fin 4) : ∀ a, (![0, 256 * y.val] : Fin 2 → ℕ) a + S256x256.size a ≤ S256x1024.size a :=
  Fin.forall_fin_two.mpr ⟨by show 0 + 256 ≤ 256; omega, by show 256 * y.val + 256 ≤ 1024; omega⟩

theorem inb_keys (y : Fin 4) : ∀ a, (![0, 64 * y.val] : Fin 2 → ℕ) a + S384x64.size a ≤ S384x256.size a :=
  Fin.forall_fin_two.mpr ⟨by show 0 + 384 ≤ 384; omega, by show 64 * y.val + 64 ≤ 256; omega⟩

theorem inb_sink (h : Fin 16) : ∀ a, (![h.val, 0] : Fin 2 → ℕ) a + S1x1.size a ≤ S16x128.size a :=
  Fin.forall_fin_two.mpr ⟨by show h.val + 1 ≤ 16; omega, by show 0 + 1 ≤ 128; omega⟩

theorem inb_row (h : Fin 16) : ∀ a, (![h.val, 0] : Fin 2 → ℕ) a + S1x128.size a ≤ S16x128.size a :=
  Fin.forall_fin_two.mpr ⟨by show h.val + 1 ≤ 16; omega, by show 0 + 128 ≤ 128; omega⟩

/-- A head's 64 columns of a block. -/
def headOf (x : Vec F S256x1024 .bf16) (h : Fin 16) : Vec F S256x64 .bf16 :=
  View.ld x (Rect.unit ![0, 64 * h.val] S256x64.size (inb_head h))

/-- A key head's 256 columns of a block. -/
def groupOf (x : Vec F S256x1024 .bf16) (y : Fin 4) : Vec F S256x256 .bf16 :=
  View.ld x (Rect.unit ![0, 256 * y.val] S256x256.size (inb_group y))

/-- A key head's 64 columns of the window of keys or values. -/
def keysOf (x : Vec F S384x256 .bf16) (y : Fin 4) : Vec F S384x64 .bf16 :=
  View.ld x (Rect.unit ![0, 64 * y.val] S384x64.size (inb_keys y))

/-- A head's sink. -/
def sinkOf (x : Vec F S16x128 .f32) (h : Fin 16) : Vec F S1x1 .f32 :=
  View.ld x (Rect.unit ![h.val, 0] S1x1.size (inb_sink h))

/-! ## One head -/

/-- Which keys of the window a row sees. -/
def mask (i : grid0.Coords) : IVec S256x384 1 :=
  k0_pay12 (BitVec.ofNat 32 (i 0).val) (k0_pay10 (iota .tc S256x384 32 [0] iota_S256x384_d0_w32) 64#32 k0_pay9)
    (iota .tc S256x384 32 [1] iota_S256x384_d1_w32) k0_pay11

def scores (m : IVec S256x384 1) (k : Vec F S384x64 .bf16) (q : Vec F S256x64 .bf16) : FVec F S256x384 .f32 :=
  select m (mulf (matmul dot_S256x64_S384x64_S256x384_1_1_0_0_n_n none q k (constant S256x384 .f32 0x00000000#32))
    (broadcast S256x384 (Scalar.ofBits .f32 0x3E000000#32))) (broadcast S256x384 (Scalar.ofBits .f32 0xFF800000#32))

def top (s : FVec F S256x384 .f32) (sk : Vec F S1x1 .f32) : FVec F S256x1 .f32 :=
  maximumf (shapeCast S256x1 (multiReduction .maximumf [1] S256 s 0xFF800000#32 reduces_S256x384_S256 (.inl rfl) rfl) shapeCasts_S256_S256x1)
    (broadcastTo S256x1 (shapeCast S1x1 sk shapeCasts_S1x1_S1x1) broadcasts_S1x1_S256x1)

def expo (s : FVec F S256x384 .f32) (sk : Vec F S1x1 .f32) : FVec F S256x384 .f32 :=
  exp (subf s (broadcastTo S256x384 (top s sk) broadcasts_S256x1_S256x384))

def expoSink (s : FVec F S256x384 .f32) (sk : Vec F S1x1 .f32) : FVec F S256x1 .f32 :=
  exp (subf (broadcastTo S256x1 (shapeCast S1x1 sk shapeCasts_S1x1_S1x1) broadcasts_S1x1_S256x1) (top s sk))

def total (s : FVec F S256x384 .f32) (sk : Vec F S1x1 .f32) : FVec F S256x1 .f32 :=
  addf (shapeCast S256x1 (multiReduction .add [1] S256 (expo s sk) 0x00000000#32 reduces_S256x384_S256 (.inl rfl) rfl) shapeCasts_S256_S256x1)
    (expoSink s sk)

def probs (s : FVec F S256x384 .f32) (sk : Vec F S1x1 .f32) : FVec F S256x384 .f32 :=
  divf (expo s sk) (broadcastTo S256x384 (total s sk) broadcasts_S256x1_S256x384)

def probSink (s : FVec F S256x384 .f32) (sk : Vec F S1x1 .f32) : FVec F S256x1 .f32 :=
  divf (expoSink s sk) (total s sk)

def dOut (dy z : Vec F S256x64 .bf16) : FVec F S256x64 .f32 :=
  mulf (extf .f32 dy bitsLt_bf16_f32) (mulf (extf .f32 z bitsLt_bf16_f32) (logistic (extf .f32 z bitsLt_bf16_f32)))

def dOutB (dy z : Vec F S256x64 .bf16) : FVec F S256x64 .bf16 := truncf .bf16 (dOut dy z) bitsLt_bf16_f32

def dRow (o dy z : Vec F S256x64 .bf16) : FVec F S256x1 .f32 :=
  shapeCast S256x1 (multiReduction .add [1] S256 (mulf (dOut dy z) (extf .f32 (shapeCast S256x64 o shapeCasts_S256x64_S256x64) bitsLt_bf16_f32))
    0x00000000#32 reduces_S256x64_S256 (.inl rfl) rfl) shapeCasts_S256_S256x1

def dScores (p : FVec F S256x384 .f32) (v : Vec F S384x64 .bf16) (o dy z : Vec F S256x64 .bf16) : FVec F S256x384 .bf16 :=
  truncf .bf16 (mulf p (subf (matmul dot_S256x64_S384x64_S256x384_1_1_0_0_n_n none (dOutB dy z) v (constant S256x384 .f32 0x00000000#32))
    (broadcastTo S256x384 (dRow o dy z) broadcasts_S256x1_S256x384))) bitsLt_bf16_f32

def dSinkRow (p : FVec F S256x1 .f32) (o dy z : Vec F S256x64 .bf16) (r : Vec F S1x128 .f32) : FVec F S1x128 .f32 :=
  addf (shapeCast S1x128 r shapeCasts_S1x128_S1x128)
    (broadcastTo S1x128 (shapeCast S1x1 (subf (broadcast S1x1 (Scalar.ofBits .f32 0x00000000#32))
      (shapeCast S1x1 (multiReduction .add [0] S1 (mulf p (dRow o dy z)) 0x00000000#32 reduces_S256x1_S1 (.inl rfl) rfl) shapeCasts_S1_S1x1))
      shapeCasts_S1x1_S1x1) broadcasts_S1x1_S1x128)

def dQuery (d : FVec F S256x384 .bf16) (k : Vec F S384x64 .bf16) : FVec F S256x64 .f32 :=
  mulf (matmul dot_S256x384_S384x64_S256x64_1_0_0_1_n_n none d k (constant S256x64 .f32 0x00000000#32))
    (broadcast S256x64 (Scalar.ofBits .f32 0x3E000000#32))

def addRows (a : FVec F S384x64 .f32) (d : FVec F S256x384 .bf16) (x : Vec F S256x64 .bf16) : FVec F S384x64 .f32 :=
  addf a (matmul dot_S256x384_S256x64_S384x64_0_0_1_1_n_n none d x (constant S384x64 .f32 0x00000000#32))

def noRows : FVec F S384x64 .f32 := broadcast S384x64 (Scalar.ofBits .f32 0x00000000#32)

/-! ## A block -/

section
variable (i : grid0.Coords) (K W : Vec F S384x256 .bf16) (X0 X1 X2 X3 : Vec F S256x1024 .bf16) (X8 : Vec F S16x128 .f32)

/-- A head's scores, weights and the gradients of its scores. -/
def sc (y g : Fin 4) : FVec F S256x384 .f32 := scores (mask i) (keysOf K y) (headOf X2 (hd y g))
def pr (y g : Fin 4) : FVec F S256x384 .f32 := probs (sc i K X2 y g) (sinkOf X8 (hd y g))
def ds (y g : Fin 4) : FVec F S256x384 .bf16 :=
  dScores (pr i K X2 X8 y g) (keysOf W y) (headOf X1 (hd y g)) (headOf X0 (hd y g)) (headOf X3 (hd y g))

def dq (y g : Fin 4) : FVec F S256x64 .f32 := dQuery (ds i K W X0 X1 X2 X3 X8 y g) (keysOf K y)

/-- The gradient of a key head's four heads' queries. -/
def dqGroup (y : Fin 4) : FVec F S256x256 .bf16 :=
  truncf .bf16 (concatenate S256x256 1 [⟨S256x64, dq i K W X0 X1 X2 X3 X8 y 0⟩, ⟨S256x64, dq i K W X0 X1 X2 X3 X8 y 1⟩,
    ⟨S256x64, dq i K W X0 X1 X2 X3 X8 y 2⟩, ⟨S256x64, dq i K W X0 X1 X2 X3 X8 y 3⟩]
    concatenates_S256x64_S256x64_S256x64_S256x64_S256x256_d1) bitsLt_bf16_f32

/-- The gradient of the gate's argument in a key head's columns. -/
def dzGroup (y : Fin 4) : FVec F S256x256 .bf16 :=
  truncf .bf16 (mulf (mulf (extf .f32 (groupOf X0 y) bitsLt_bf16_f32) (extf .f32 (shapeCast S256x256 (groupOf X1 y) shapeCasts_S256x256_S256x256) bitsLt_bf16_f32))
    (mulf (logistic (extf .f32 (groupOf X3 y) bitsLt_bf16_f32)) (addf (broadcast S256x256 (Scalar.ofBits .f32 0x3F800000#32))
      (mulf (extf .f32 (groupOf X3 y) bitsLt_bf16_f32) (subf (broadcast S256x256 (Scalar.ofBits .f32 0x3F800000#32))
        (logistic (extf .f32 (groupOf X3 y) bitsLt_bf16_f32))))))) bitsLt_bf16_f32

/-- The sum over a key head's four heads of the gradient of the keys, and of the values. -/
def dk (y : Fin 4) : FVec F S384x64 .f32 :=
  addRows (addRows (addRows (addRows noRows (ds i K W X0 X1 X2 X3 X8 y 0) (headOf X2 (hd y 0))) (ds i K W X0 X1 X2 X3 X8 y 1) (headOf X2 (hd y 1)))
    (ds i K W X0 X1 X2 X3 X8 y 2) (headOf X2 (hd y 2))) (ds i K W X0 X1 X2 X3 X8 y 3) (headOf X2 (hd y 3))

def prB (y g : Fin 4) : FVec F S256x384 .bf16 := truncf .bf16 (pr i K X2 X8 y g) bitsLt_bf16_f32

def dv (y : Fin 4) : FVec F S384x64 .f32 :=
  addRows (addRows (addRows (addRows noRows (prB i K X2 X8 y 0) (dOutB (headOf X0 (hd y 0)) (headOf X3 (hd y 0))))
    (prB i K X2 X8 y 1) (dOutB (headOf X0 (hd y 1)) (headOf X3 (hd y 1))))
    (prB i K X2 X8 y 2) (dOutB (headOf X0 (hd y 2)) (headOf X3 (hd y 2))))
    (prB i K X2 X8 y 3) (dOutB (headOf X0 (hd y 3)) (headOf X3 (hd y 3)))

def dkScaled (y : Fin 4) : FVec F S384x64 .f32 :=
  mulf (dk i K W X0 X1 X2 X3 X8 y) (broadcast S384x64 (Scalar.ofBits .f32 0x3E000000#32))

def dkRows : FVec F S384x256 .f32 :=
  concatenate S384x256 1 [⟨S384x64, dkScaled i K W X0 X1 X2 X3 X8 0⟩, ⟨S384x64, dkScaled i K W X0 X1 X2 X3 X8 1⟩,
    ⟨S384x64, dkScaled i K W X0 X1 X2 X3 X8 2⟩, ⟨S384x64, dkScaled i K W X0 X1 X2 X3 X8 3⟩]
    concatenates_S384x64_S384x64_S384x64_S384x64_S384x256_d1

def dvRows : FVec F S384x256 .f32 :=
  concatenate S384x256 1 [⟨S384x64, dv i K X0 X2 X3 X8 0⟩, ⟨S384x64, dv i K X0 X2 X3 X8 1⟩,
    ⟨S384x64, dv i K X0 X2 X3 X8 2⟩, ⟨S384x64, dv i K X0 X2 X3 X8 3⟩]
    concatenates_S384x64_S384x64_S384x64_S384x64_S384x256_d1

/-- What the block leaves in a row of the sinks' gradient over what the row held. -/
def dsRow (h : Fin 16) (r : Vec F S1x128 .f32) : FVec F S1x128 .f32 :=
  dSinkRow (probSink (scores (mask i) (keysOf K ⟨h.val / 4, by omega⟩) (headOf X2 h)) (sinkOf X8 h)) (headOf X1 h) (headOf X0 h) (headOf X3 h) r

end

/-! ## The window of keys and values -/

/-- What the two stores leave in the window: the 128 rows before the block, zero at the first block, and the block. -/
def winOf (v : View sig .tc .vmem S384x256 .bf16) (i : grid0.Coords) (x : Vec F S256x256 .bf16) (xh : Vec F S128x256 .bf16) : Vec F S384x256 .bf16 :=
  v.read (Elt F) (v.writes (Elt F) v.junk
    [(⟨Rect.unit ![128, 0] S256x256.size inb_S384x256_S256x256_128_0, k0_pay3 (View.ld x (Rect.unit ![0, 0] S256x256.size inb_S256x256_S256x256_0_0))⟩ : View.Piece (Elt F) S384x256 .bf16),
      ⟨Rect.unit ![0, 0] S128x256.size inb_S384x256_S128x256_0_0, k0_pay2 i (View.ld xh (Rect.unit ![0, 0] S128x256.size inb_S128x256_S128x256_0_0))⟩])

end Cert.Proof.Attn

end
-- ==== Proof.Attn.BlkApply.lean ====
/-
  The stages of a block read at an index, over the extended reals: each operation at its operands' indices.
-/
module

public import proofs.«01_k».proof.Proof.Attn.Blk
public import Idealize.ShloMosaic.Lib.Pointwise
public import Idealize.ShloMosaic.Lib.MatmulPlain

@[expose] public section

set_option maxRecDepth 16384

noncomputable section

namespace Cert.Proof.Attn

open Cert.KernelIdeal Cert.KernelIdeal.Gen Idealize.ShloMosaic

theorem headOf_apply (x : Vec Ideal S256x1024 .bf16) (h : Fin 16) (i : S256x64.Idx) : headOf x h i
    = x (ix2 (i 0) ⟨64 * h.val + (i 1).val, by have h1 : (i 1).val < 64 := (i 1).isLt; omega⟩) := by
  unfold headOf; pointwise

theorem groupOf_apply (x : Vec Ideal S256x1024 .bf16) (y : Fin 4) (i : S256x256.Idx) : groupOf x y i
    = x (ix2 (i 0) ⟨256 * y.val + (i 1).val, by have h1 : (i 1).val < 256 := (i 1).isLt; omega⟩) := by
  unfold groupOf; pointwise

theorem keysOf_apply (x : Vec Ideal S384x256 .bf16) (y : Fin 4) (i : S384x64.Idx) : keysOf x y i
    = x (ix2 (i 0) ⟨64 * y.val + (i 1).val, by have h1 : (i 1).val < 64 := (i 1).isLt; omega⟩) := by
  unfold keysOf; pointwise

theorem sinkOf_apply (x : Vec Ideal S16x128 .f32) (h : Fin 16) (i : S1x1.Idx) : sinkOf x h i = x (ix2 h 0) := by
  unfold sinkOf; pointwise

theorem scores_apply (m : IVec S256x384 1) (k : Vec Ideal S384x64 .bf16) (q : Vec Ideal S256x64 .bf16) (i : S256x384.Idx) :
    scores m k q i = Scalar.select (m i) ((∑ d : Fin 64, q (ix2 (i 0) d) * k (ix2 (i 1) d)) * Ideal.ofBits .f32 0x3E000000#32)
      (Ideal.ofBits .f32 0xFF800000#32) := by
  unfold scores; pointwise

theorem top_apply (s : FVec Ideal S256x384 .f32) (sk : Vec Ideal S1x1 .f32) (i : S256x1.Idx) :
    top s sk i = max ((Finset.univ : Finset (Fin 384)).fold max (Ideal.ofBits .f32 0xFF800000#32) fun u => s (ix2 (i 0) u)) (sk (ix2 0 0)) := by
  unfold top; pointwise

theorem expo_apply (s : FVec Ideal S256x384 .f32) (sk : Vec Ideal S1x1 .f32) (i : S256x384.Idx) :
    expo s sk i = Ideal.exp (s i - top s sk (ix2 (i 0) 0)) := by
  unfold expo; pointwise

theorem expoSink_apply (s : FVec Ideal S256x384 .f32) (sk : Vec Ideal S1x1 .f32) (i : S256x1.Idx) :
    expoSink s sk i = Ideal.exp (sk (ix2 0 0) - top s sk i) := by
  unfold expoSink; pointwise

theorem total_apply (s : FVec Ideal S256x384 .f32) (sk : Vec Ideal S1x1 .f32) (i : S256x1.Idx) :
    total s sk i = (∑ u : Fin 384, expo s sk (ix2 (i 0) u)) + expoSink s sk i := by
  unfold total; pointwise

theorem probs_apply (s : FVec Ideal S256x384 .f32) (sk : Vec Ideal S1x1 .f32) (i : S256x384.Idx) :
    probs s sk i = Ideal.div (expo s sk i) (total s sk (ix2 (i 0) 0)) := by
  unfold probs; pointwise

theorem probSink_apply (s : FVec Ideal S256x384 .f32) (sk : Vec Ideal S1x1 .f32) (i : S256x1.Idx) :
    probSink s sk i = Ideal.div (expoSink s sk i) (total s sk i) := by
  unfold probSink; pointwise

theorem dOut_apply (dy z : Vec Ideal S256x64 .bf16) (i : S256x64.Idx) : dOut dy z i = dy i * (z i * Ideal.logistic (z i)) := by
  unfold dOut; pointwise

theorem dOutB_apply (dy z : Vec Ideal S256x64 .bf16) (i : S256x64.Idx) : dOutB dy z i = dOut dy z i := by
  unfold dOutB; pointwise

theorem dRow_apply (o dy z : Vec Ideal S256x64 .bf16) (i : S256x1.Idx) :
    dRow o dy z i = ∑ d : Fin 64, dOut dy z (ix2 (i 0) d) * o (ix2 (i 0) d) := by
  unfold dRow; pointwise

theorem dScores_apply (p : FVec Ideal S256x384 .f32) (v : Vec Ideal S384x64 .bf16) (o dy z : Vec Ideal S256x64 .bf16) (i : S256x384.Idx) :
    dScores p v o dy z i = p i * ((∑ d : Fin 64, dOutB dy z (ix2 (i 0) d) * v (ix2 (i 1) d)) - dRow o dy z (ix2 (i 0) 0)) := by
  unfold dScores; pointwise

theorem dSinkRow_apply (p : FVec Ideal S256x1 .f32) (o dy z : Vec Ideal S256x64 .bf16) (r : Vec Ideal S1x128 .f32) (i : S1x128.Idx) :
    dSinkRow p o dy z r i = r i + ((0 : EReal) - ∑ a : Fin 256, p (ix2 a 0) * dRow o dy z (ix2 a 0)) := by
  unfold dSinkRow; pointwise

theorem dQuery_apply (d : FVec Ideal S256x384 .bf16) (k : Vec Ideal S384x64 .bf16) (i : S256x64.Idx) :
    dQuery d k i = (∑ u : Fin 384, d (ix2 (i 0) u) * k (ix2 u (i 1))) * Ideal.ofBits .f32 0x3E000000#32 := by
  unfold dQuery; pointwise

theorem addRows_apply (a : FVec Ideal S384x64 .f32) (d : FVec Ideal S256x384 .bf16) (x : Vec Ideal S256x64 .bf16) (i : S384x64.Idx) :
    addRows a d x i = a i + ∑ r : Fin 256, d (ix2 r (i 0)) * x (ix2 r (i 1)) := by
  unfold addRows; pointwise

theorem noRows_apply (i : S384x64.Idx) : (noRows : FVec Ideal S384x64 .f32) i = 0 := by
  unfold noRows; pointwise

end Cert.Proof.Attn

end
-- ==== Proof.Attn.MathBlk.lean ====
/-
  One block's part of the gradients that are summed over the blocks: of the keys, the values and the sinks.
-/
module

public import proofs.«01_k».proof.Proof.Attn.Math

@[expose] public section

noncomputable section

namespace Cert.Proof.Attn.Inputs

open Finset

variable (I : Inputs)

/-- The part of block `t`, rows `256 t` to `256 t + 255`, in the gradient of key `u`. -/
def gkBlk (t u c : ℕ) : ℝ :=
  (∑ g ∈ range 4, ∑ a ∈ range 256, I.dS (256 * t + a) (4 * (c / 64) + g) u * I.q (256 * t + a) (64 * (4 * (c / 64) + g) + c % 64)) * (1 / 8)

def gvBlk (t u c : ℕ) : ℝ :=
  ∑ g ∈ range 4, ∑ a ∈ range 256, I.P (256 * t + a) (4 * (c / 64) + g) u * I.dO (256 * t + a) (64 * (4 * (c / 64) + g) + c % 64)

def gsBlk (t h : ℕ) : ℝ := -∑ a ∈ range 256, Real.exp (I.sk h) / I.den (256 * t + a) h * I.delta (256 * t + a) h

theorem sum_rows (F : ℕ → ℝ) : ∑ r ∈ range 8192, F r = ∑ t ∈ range 32, ∑ a ∈ range 256, F (256 * t + a) := by
  rw [show 8192 = 32 * 256 from rfl, sum_blocks F 32 256]
  exact sum_congr rfl fun t _ => sum_congr rfl fun a _ => by rw [mul_comm]

theorem gk_blocks (u c : ℕ) : I.gk u c = ∑ t ∈ range 32, I.gkBlk t u c := by
  simp only [gk, gkBlk, sum_rows]
  rw [← sum_mul, sum_comm]

theorem gv_blocks (u c : ℕ) : I.gv u c = ∑ t ∈ range 32, I.gvBlk t u c := by
  simp only [gv, gvBlk, sum_rows]
  rw [sum_comm]

theorem gsink_blocks (h : ℕ) : I.gsink h = ∑ t ∈ range 32, I.gsBlk t h := by
  simp only [gsink, gsBlk, sum_rows, sum_neg_distrib]

theorem not_vis_block {t u a : ℕ} (ha : a < 256) (hu : ¬(256 * t ≤ u ∧ u < 256 * t + 384)) : ¬vis (256 * t + a) u := by
  unfold vis; omega

theorem gkBlk_zero {t u : ℕ} (c : ℕ) (hu : ¬(256 * t ≤ u ∧ u < 256 * t + 384)) : I.gkBlk t u c = 0 := by
  unfold gkBlk
  rw [sum_eq_zero fun g _ => sum_eq_zero fun a ha => by
    rw [I.dS_eq_zero (not_vis_block (mem_range.1 ha) hu), zero_mul], zero_mul]

theorem gvBlk_zero {t u : ℕ} (c : ℕ) (hu : ¬(256 * t ≤ u ∧ u < 256 * t + 384)) : I.gvBlk t u c = 0 := by
  unfold gvBlk
  exact sum_eq_zero fun g _ => sum_eq_zero fun a ha => by
    rw [I.P_eq_zero (not_vis_block (mem_range.1 ha) hu), zero_mul]

end Cert.Proof.Attn.Inputs

end
-- ==== Proof.Attn.BlkReal.lean ====
/-
  A block's stages at real inputs: the softmax's weights over the block's window of 384 keys, and the gradients.
-/
module

public import proofs.«01_k».proof.Proof.Attn.BlkApply
public import proofs.«01_k».proof.Proof.Attn.MathBlk
public import proofs.«01_k».proof.Proof.Attn.Real

@[expose] public section

set_option maxRecDepth 16384

noncomputable section

namespace Cert.Proof.Attn

open Cert.KernelIdeal Cert.KernelIdeal.Gen Idealize.ShloMosaic Finset

/-! ## The mask -/

theorem row_chunk : ∀ a : Fin 256, k0_pay10 (iota .tc S256x384 32 [0] iota_S256x384_d0_w32) 64#32 k0_pay9 (ix2 a (0 : Fin 384))
    = BitVec.ofNat 32 (a.val / 64) := by
  decide +kernel

theorem key_chunk : ∀ b : Fin 384, k0_pay11 (ix2 (0 : Fin 256) b) = BitVec.ofNat 32 (b.val / 64) := by
  decide +kernel

theorem chunk_words : ∀ (a : Fin 4) (b : Fin 6),
    IntOp.andi (IntOp.cmpi .sge (BitVec.ofNat 32 b.val) (BitVec.ofNat 32 a.val))
      (IntOp.cmpi .sle (BitVec.ofNat 32 b.val) (IntOp.addi (BitVec.ofNat 32 a.val) 2#32))
      = if a.val ≤ b.val ∧ b.val ≤ a.val + 2 then 1#1 else 0#1 := by
  decide +kernel

theorem key_word : ∀ b : Fin 384, IntOp.cmpi .sge (BitVec.ofNat 32 b.val) 128#32 = if 128 ≤ b.val then 1#1 else 0#1 := by
  decide +kernel

theorem block_word : ∀ t : Fin 32, Scalar.cmpi .sgt (BitVec.ofNat 32 t.val) 0#32 = if 0 < t.val then 1#1 else 0#1 := by
  decide +kernel

theorem mask_eq (i : grid0.Coords) (x : S256x384.Idx) :
    mask i x = if vis (256 * (i 0).val + (x 0).val) (256 * (i 0).val + (x 1).val) then 1#1 else 0#1 := by
  have ht : (i 0).val < 32 := (i 0).isLt
  have h0 : (x 0).val < 256 := (x 0).isLt
  have h1 : (x 1).val < 384 := (x 1).isLt
  have er : k0_pay10 (iota .tc S256x384 32 [0] iota_S256x384_d0_w32) 64#32 k0_pay9 x = BitVec.ofNat 32 ((x 0).val / 64) :=
    Eq.trans rfl (row_chunk ⟨(x 0).val, h0⟩)
  have ek : k0_pay11 x = BitVec.ofNat 32 ((x 1).val / 64) := Eq.trans rfl (key_chunk ⟨(x 1).val, h1⟩)
  have e : mask i x = IntOp.andi
      (IntOp.andi (IntOp.cmpi .sge (k0_pay11 x) (k0_pay10 (iota .tc S256x384 32 [0] iota_S256x384_d0_w32) 64#32 k0_pay9 x))
        (IntOp.cmpi .sle (k0_pay11 x) (IntOp.addi (k0_pay10 (iota .tc S256x384 32 [0] iota_S256x384_d0_w32) 64#32 k0_pay9 x) 2#32)))
      (IntOp.ori (IntOp.cmpi .sge (iota .tc S256x384 32 [1] iota_S256x384_d1_w32 x) 128#32) (Scalar.cmpi .sgt (BitVec.ofNat 32 (i 0).val) 0#32)) := rfl
  have ei : iota .tc S256x384 32 [1] iota_S256x384_d1_w32 x = BitVec.ofNat 32 (x 1).val := by pointwise
  rw [e, er, ek, ei, chunk_words ⟨(x 0).val / 64, by omega⟩ ⟨(x 1).val / 64, by omega⟩, key_word ⟨(x 1).val, h1⟩, block_word ⟨(i 0).val, ht⟩]
  dsimp only
  by_cases c1 : (x 0).val / 64 ≤ (x 1).val / 64 ∧ (x 1).val / 64 ≤ (x 0).val / 64 + 2 <;> by_cases c2 : 128 ≤ (x 1).val <;>
    by_cases c3 : 0 < (i 0).val <;>
    simp only [c1, c2, c3, if_true, if_false, true_and, and_true, and_self]
  all_goals first
    | exact (if_pos (by unfold vis; omega)).symm
    | exact (if_neg (by unfold vis; omega)).symm

/-! ## One head -/

section
variable {I : Inputs} {t h : ℕ}

theorem scores_eq {m : IVec S256x384 1} {k : Vec Ideal S384x64 .bf16} {q : Vec Ideal S256x64 .bf16}
    (hm : ∀ x : S256x384.Idx, m x = if vis (256 * t + (x 0).val) (256 * t + (x 1).val) then 1#1 else 0#1)
    (hk : ∀ x : S384x64.Idx, k x = ((I.k (256 * t + (x 0).val) (64 * (h / 4) + (x 1).val) : ℝ) : EReal))
    (hq : ∀ x : S256x64.Idx, q x = ((I.q (256 * t + (x 0).val) (64 * h + (x 1).val) : ℝ) : EReal)) (x : S256x384.Idx) :
    scores m k q x = if vis (256 * t + (x 0).val) (256 * t + (x 1).val) then
      ((I.S (256 * t + (x 0).val) h (256 * t + (x 1).val) : ℝ) : EReal) else ⊥ := by
  rw [scores_apply, hm]
  unfold Scalar.select
  by_cases hv : vis (256 * t + (x 0).val) (256 * t + (x 1).val)
  · rw [if_pos hv, if_pos hv]
    refine (if_pos rfl).trans ?_
    rw [Finset.sum_congr rfl fun d _ => by rw [hq, hk, ← EReal.coe_mul], eighth]
    refine (congrArg (· * _) (coe_sum_fin 64 (fun d => I.q (256 * t + (x 0).val) (64 * h + d) * I.k (256 * t + (x 1).val) (64 * (h / 4) + d)))).trans ?_
    rw [← EReal.coe_mul]; rfl
  · rw [if_neg hv, if_neg hv]
    exact (if_neg (by decide)).trans neg_inf

variable {s : FVec Ideal S256x384 .f32} {sk : Vec Ideal S1x1 .f32}
    (hs : ∀ x : S256x384.Idx, s x = if vis (256 * t + (x 0).val) (256 * t + (x 1).val) then
      ((I.S (256 * t + (x 0).val) h (256 * t + (x 1).val) : ℝ) : EReal) else ⊥)
    (hsk : sk (ix2 0 0) = ((I.sk h : ℝ) : EReal))

include hs hsk

/-- A row's shift is a real. -/
theorem top_eq : ∃ m : ℕ → ℝ, ∀ x : S256x1.Idx, top s sk x = ((m (x 0).val : ℝ) : EReal) := by
  have hr : ∀ x : S256x1.Idx, ∃ m : ℝ, top s sk x = (m : EReal) := by
    intro x
    obtain ⟨u, hu, -⟩ := fold_max_attained (n := 384) (fun u => s (ix2 (x 0) u))
    rw [top_apply, neg_inf, hu, hsk, hs]
    split
    · exact ⟨_, max_real _ _⟩
    · exact ⟨_, max_eq_right bot_le⟩
  choose f hf using hr
  refine ⟨fun a => if ha : a < 256 then f (ix2 ⟨a, ha⟩ 0) else 0, fun x => ?_⟩
  have h0 : (x 0).val < 256 := (x 0).isLt
  have h1 : (x 1).val < 1 := (x 1).isLt
  rw [hf x]
  dsimp only
  rw [dif_pos h0]
  congr 2
  funext a; apply Fin.ext
  match a with
  | ⟨0, _⟩ => rfl
  | ⟨1, _⟩ => show (x 1).val = 0; omega

/-- With a row's shift, its weights and their sum. -/
theorem shift_eq (ht : t < 32) : ∃ m : ℕ → ℝ, (∀ x : S256x1.Idx, top s sk x = ((m (x 0).val : ℝ) : EReal)) ∧
    (∀ x : S256x384.Idx, expo s sk x = ((I.w (256 * t + (x 0).val) h (256 * t + (x 1).val) * Real.exp (-m (x 0).val) : ℝ) : EReal)) ∧
    ∀ x : S256x1.Idx, total s sk x = ((I.den (256 * t + (x 0).val) h * Real.exp (-m (x 0).val) : ℝ) : EReal) := by
  obtain ⟨m, hm⟩ := top_eq hs hsk
  have he : ∀ x : S256x384.Idx, expo s sk x = ((I.w (256 * t + (x 0).val) h (256 * t + (x 1).val) * Real.exp (-m (x 0).val) : ℝ) : EReal) := by
    intro x
    rw [expo_apply, hm, hs, ← Inputs.shifted]
    split
    · rw [← EReal.coe_sub, exp_real]; rfl
    · rw [sub_eq_add_neg, EReal.bot_add]; exact Ideal.exp_bot
  refine ⟨m, hm, he, fun x => ?_⟩
  have h0 : (x 0).val < 256 := (x 0).isLt
  rw [total_apply, Finset.sum_congr rfl fun u _ => he _, expoSink_apply, hm, hsk, ← EReal.coe_sub, exp_real]
  refine (congrArg (· + _) (coe_sum_fin 384 (fun u => I.w (256 * t + (x 0).val) h (256 * t + u) * Real.exp (-m (x 0).val)))).trans ?_
  rw [← EReal.coe_add]
  exact coe_cong ((Inputs.covers_block t _ ht h0).den h _)

theorem probs_eq (ht : t < 32) (x : S256x384.Idx) :
    probs s sk x = ((I.P (256 * t + (x 0).val) h (256 * t + (x 1).val) : ℝ) : EReal) := by
  obtain ⟨m, -, he, hd⟩ := shift_eq hs hsk ht
  rw [probs_apply, he, hd]
  exact (div_real (mul_ne_zero (I.den_pos _ _).ne' (Real.exp_ne_zero _))).trans (coe_cong (Inputs.shifted_div _ _ _))

theorem probSink_eq (ht : t < 32) (x : S256x1.Idx) :
    probSink s sk x = ((Real.exp (I.sk h) / I.den (256 * t + (x 0).val) h : ℝ) : EReal) := by
  obtain ⟨m, hm, -, hd⟩ := shift_eq hs hsk ht
  rw [probSink_apply, hd, expoSink_apply, hm, hsk, ← EReal.coe_sub, exp_real]
  refine (div_real (mul_ne_zero (I.den_pos _ _).ne' (Real.exp_ne_zero _))).trans (coe_cong ?_)
  rw [sub_eq_add_neg, Real.exp_add, Inputs.shifted_div]

end

section
variable {I : Inputs} {t h : ℕ} {o dy z : Vec Ideal S256x64 .bf16}
    (hdy : ∀ x : S256x64.Idx, dy x = ((I.dy (256 * t + (x 0).val) (64 * h + (x 1).val) : ℝ) : EReal))
    (hz : ∀ x : S256x64.Idx, z x = ((I.z (256 * t + (x 0).val) (64 * h + (x 1).val) : ℝ) : EReal))

include hdy hz

theorem dOut_eq (x : S256x64.Idx) : dOut dy z x = ((I.dO (256 * t + (x 0).val) (64 * h + (x 1).val) : ℝ) : EReal) := by
  rw [dOut_apply, hdy, hz, Ideal.logistic_coe, ← EReal.coe_mul, ← EReal.coe_mul]; rfl

theorem dOutB_eq (x : S256x64.Idx) : dOutB dy z x = ((I.dO (256 * t + (x 0).val) (64 * h + (x 1).val) : ℝ) : EReal) := by
  rw [dOutB_apply, dOut_eq hdy hz]

variable (ho : ∀ x : S256x64.Idx, o x = ((I.O (256 * t + (x 0).val) (64 * h + (x 1).val) : ℝ) : EReal))

include ho

theorem dRow_eq (x : S256x1.Idx) : dRow o dy z x = ((I.delta (256 * t + (x 0).val) h : ℝ) : EReal) := by
  rw [dRow_apply, Finset.sum_congr rfl fun d _ => by rw [dOut_eq hdy hz, ho, ← EReal.coe_mul]]
  exact coe_sum_fin 64 (fun d => I.dO (256 * t + (x 0).val) (64 * h + d) * I.O (256 * t + (x 0).val) (64 * h + d))

theorem dScores_eq {p : FVec Ideal S256x384 .f32} {v : Vec Ideal S384x64 .bf16}
    (hp : ∀ x : S256x384.Idx, p x = ((I.P (256 * t + (x 0).val) h (256 * t + (x 1).val) : ℝ) : EReal))
    (hv : ∀ x : S384x64.Idx, v x = ((I.v (256 * t + (x 0).val) (64 * (h / 4) + (x 1).val) : ℝ) : EReal)) (x : S256x384.Idx) :
    dScores p v o dy z x = ((I.dS (256 * t + (x 0).val) h (256 * t + (x 1).val) : ℝ) : EReal) := by
  rw [dScores_apply, hp, dRow_eq hdy hz ho, Finset.sum_congr rfl fun d _ => by rw [dOutB_eq hdy hz, hv, ← EReal.coe_mul]]
  refine (congrArg (fun y => _ * (y - _)) (coe_sum_fin 64 (fun d => I.dO (256 * t + (x 0).val) (64 * h + d) * I.v (256 * t + (x 1).val) (64 * (h / 4) + d)))).trans ?_
  rw [← EReal.coe_sub, ← EReal.coe_mul]; rfl

theorem dSinkRow_eq {p : FVec Ideal S256x1 .f32} {r : Vec Ideal S1x128 .f32} {ρ : ℝ}
    (hp : ∀ x : S256x1.Idx, p x = ((Real.exp (I.sk h) / I.den (256 * t + (x 0).val) h : ℝ) : EReal)) (x : S1x128.Idx)
    (hr : r x = (ρ : EReal)) : dSinkRow p o dy z r x = ((ρ + I.gsBlk t h : ℝ) : EReal) := by
  rw [dSinkRow_apply, hr, Finset.sum_congr rfl fun a _ => by rw [hp, dRow_eq hdy hz ho, ← EReal.coe_mul]]
  refine (congrArg (fun y => _ + (_ - y)) (coe_sum_fin 256 (fun a => Real.exp (I.sk h) / I.den (256 * t + a) h * I.delta (256 * t + a) h))).trans ?_
  rw [← EReal.coe_zero, ← EReal.coe_sub, ← EReal.coe_add, zero_sub]; rfl

end

section
variable {I : Inputs} {t h : ℕ} {d : FVec Ideal S256x384 .bf16}
    (hd : ∀ x : S256x384.Idx, d x = ((I.dS (256 * t + (x 0).val) h (256 * t + (x 1).val) : ℝ) : EReal))

include hd

theorem dQuery_eq (ht : t < 32) {k : Vec Ideal S384x64 .bf16}
    (hk : ∀ x : S384x64.Idx, k x = ((I.k (256 * t + (x 0).val) (64 * (h / 4) + (x 1).val) : ℝ) : EReal)) (x : S256x64.Idx) :
    dQuery d k x = ((I.gq (256 * t + (x 0).val) (64 * h + (x 1).val) : ℝ) : EReal) := by
  have h0 : (x 0).val < 256 := (x 0).isLt
  have h1 : (x 1).val < 64 := (x 1).isLt
  rw [dQuery_apply, Finset.sum_congr rfl fun u _ => by rw [hd, hk, ← EReal.coe_mul], eighth]
  refine (congrArg (· * _) (coe_sum_fin 384 (fun u => I.dS (256 * t + (x 0).val) h (256 * t + u) * I.k (256 * t + u) (64 * (h / 4) + (x 1).val)))).trans ?_
  rw [← EReal.coe_mul, (Inputs.covers_block t _ ht h0).sum_dS h fun u => I.k u (64 * (h / 4) + (x 1).val), Inputs.gq,
    show (64 * h + (x 1).val) / 64 = h by omega, show (64 * h + (x 1).val) / 256 = h / 4 by omega,
    show (64 * h + (x 1).val) % 64 = (x 1).val by omega]

end

/-- Rows added to what a sum of rows held. -/
theorem addRows_eq {a : FVec Ideal S384x64 .f32} {d : FVec Ideal S256x384 .bf16} {y : Vec Ideal S256x64 .bf16} {A D Y : ℕ → ℕ → ℝ}
    (ha : ∀ x : S384x64.Idx, a x = ((A (x 0).val (x 1).val : ℝ) : EReal)) (hd : ∀ x : S256x384.Idx, d x = ((D (x 0).val (x 1).val : ℝ) : EReal))
    (hy : ∀ x : S256x64.Idx, y x = ((Y (x 0).val (x 1).val : ℝ) : EReal)) (x : S384x64.Idx) :
    addRows a d y x = ((A (x 0).val (x 1).val + ∑ r ∈ range 256, D r (x 0).val * Y r (x 1).val : ℝ) : EReal) := by
  rw [addRows_apply, ha, Finset.sum_congr rfl fun r _ => by rw [hd, hy, ← EReal.coe_mul]]
  refine (congrArg (_ + ·) (coe_sum_fin 256 (fun r => D r (x 0).val * Y r (x 1).val))).trans ?_
  rw [← EReal.coe_add]

/-- Four of them, from none. -/
theorem fourRows_eq {d : Fin 4 → FVec Ideal S256x384 .bf16} {y : Fin 4 → Vec Ideal S256x64 .bf16} {D Y : ℕ → ℕ → ℕ → ℝ}
    (hd : ∀ (g : Fin 4) (x : S256x384.Idx), d g x = ((D g.val (x 0).val (x 1).val : ℝ) : EReal))
    (hy : ∀ (g : Fin 4) (x : S256x64.Idx), y g x = ((Y g.val (x 0).val (x 1).val : ℝ) : EReal)) (x : S384x64.Idx) :
    addRows (addRows (addRows (addRows noRows (d 0) (y 0)) (d 1) (y 1)) (d 2) (y 2)) (d 3) (y 3) x
      = ((∑ g ∈ range 4, ∑ r ∈ range 256, D g r (x 0).val * Y g r (x 1).val : ℝ) : EReal) := by
  have h0 : ∀ x : S384x64.Idx, (noRows : FVec Ideal S384x64 .f32) x = (((fun _ _ => 0 : ℕ → ℕ → ℝ) (x 0).val (x 1).val : ℝ) : EReal) :=
    fun x => (noRows_apply x).trans EReal.coe_zero.symm
  have h1 := addRows_eq (A := fun _ _ => 0) h0 (hd 0) (hy 0)
  have h2 := addRows_eq (A := fun a b => 0 + ∑ r ∈ range 256, D 0 r a * Y 0 r b) h1 (hd 1) (hy 1)
  have h3 := addRows_eq (A := fun a b => 0 + ∑ r ∈ range 256, D 0 r a * Y 0 r b + ∑ r ∈ range 256, D 1 r a * Y 1 r b) h2 (hd 2) (hy 2)
  have h4 := addRows_eq (A := fun a b => 0 + ∑ r ∈ range 256, D 0 r a * Y 0 r b + ∑ r ∈ range 256, D 1 r a * Y 1 r b
    + ∑ r ∈ range 256, D 2 r a * Y 2 r b) h3 (hd 3) (hy 3)
  rw [h4]
  refine coe_cong ?_
  simp only [sum_range_succ, range_zero, sum_empty]
  rfl

end Cert.Proof.Attn

end
-- ==== Proof.Attn.BlkVal.lean ====
/-
  What a block stores, at real inputs: the gradients of its rows' queries and gates, and its part of the gradients of
  the keys, the values and the sinks.
-/
module

public import proofs.«01_k».proof.Proof.Attn.BlkReal

@[expose] public section

set_option maxRecDepth 16384

noncomputable section

namespace Cert.Proof.Attn

open Cert.KernelIdeal Cert.KernelIdeal.Gen Idealize.ShloMosaic Finset

/-- The arrays a block reads hold the inputs' numbers: its rows of the cotangent, the output, the queries and the gate's
    argument, and the window of keys and values from the 128 rows before it. -/
structure BlkHolds (I : Inputs) (i : grid0.Coords) (K W : Vec Ideal S384x256 .bf16) (X0 X1 X2 X3 : Vec Ideal S256x1024 .bf16)
    (X8 : Vec Ideal S16x128 .f32) : Prop where
  k : ∀ x : S384x256.Idx, K x = ((I.k (256 * (i 0).val + (x 0).val) (x 1).val : ℝ) : EReal)
  v : ∀ x : S384x256.Idx, W x = ((I.v (256 * (i 0).val + (x 0).val) (x 1).val : ℝ) : EReal)
  dy : ∀ x : S256x1024.Idx, X0 x = ((I.dy (256 * (i 0).val + (x 0).val) (x 1).val : ℝ) : EReal)
  o : ∀ x : S256x1024.Idx, X1 x = ((I.O (256 * (i 0).val + (x 0).val) (x 1).val : ℝ) : EReal)
  q : ∀ x : S256x1024.Idx, X2 x = ((I.q (256 * (i 0).val + (x 0).val) (x 1).val : ℝ) : EReal)
  z : ∀ x : S256x1024.Idx, X3 x = ((I.z (256 * (i 0).val + (x 0).val) (x 1).val : ℝ) : EReal)
  sk : ∀ x : S16x128.Idx, X8 x = ((I.sk (x 0).val : ℝ) : EReal)

/-- Four heads' columns side by side: column `c` is column `c % 64` of head `c / 64`. -/
theorem concat_rows (f : Fin 4 → FVec Ideal S256x64 .f32) (x : S256x256.Idx) :
    concatenate S256x256 1 [⟨S256x64, f 0⟩, ⟨S256x64, f 1⟩, ⟨S256x64, f 2⟩, ⟨S256x64, f 3⟩]
      concatenates_S256x64_S256x64_S256x64_S256x64_S256x256_d1 x
      = f ⟨(x 1).val / 64, by have h1 : (x 1).val < 256 := (x 1).isLt; omega⟩ (ix2 (x 0) ⟨(x 1).val % 64, Nat.mod_lt _ (by omega)⟩) := by
  have h1 : (x 1).val < 256 := (x 1).isLt
  exact concatenate_ofFn_apply (t := S256x256) (s₁ := S256x64) 1 f concatenates_S256x64_S256x64_S256x64_S256x64_S256x256_d1 rfl 64 rfl x
    ⟨(x 1).val / 64, by omega⟩ rfl _ rfl (fun b hb => by
      match b with
      | ⟨0, _⟩ => rfl
      | ⟨1, _⟩ => exact absurd rfl hb)

theorem concat_keys (f : Fin 4 → FVec Ideal S384x64 .f32) (x : S384x256.Idx) :
    concatenate S384x256 1 [⟨S384x64, f 0⟩, ⟨S384x64, f 1⟩, ⟨S384x64, f 2⟩, ⟨S384x64, f 3⟩]
      concatenates_S384x64_S384x64_S384x64_S384x64_S384x256_d1 x
      = f ⟨(x 1).val / 64, by have h1 : (x 1).val < 256 := (x 1).isLt; omega⟩ (ix2 (x 0) ⟨(x 1).val % 64, Nat.mod_lt _ (by omega)⟩) := by
  have h1 : (x 1).val < 256 := (x 1).isLt
  exact concatenate_ofFn_apply (t := S384x256) (s₁ := S384x64) 1 f concatenates_S384x64_S384x64_S384x64_S384x64_S384x256_d1 rfl 64 rfl x
    ⟨(x 1).val / 64, by omega⟩ rfl _ rfl (fun b hb => by
      match b with
      | ⟨0, _⟩ => rfl
      | ⟨1, _⟩ => exact absurd rfl hb)

section
variable {I : Inputs} {i : grid0.Coords} {K W : Vec Ideal S384x256 .bf16} {X0 X1 X2 X3 : Vec Ideal S256x1024 .bf16}
  {X8 : Vec Ideal S16x128 .f32} (B : BlkHolds I i K W X0 X1 X2 X3 X8)

include B

theorem coords_lt : (i 0).val < 32 := (i 0).isLt

theorem head_k (h : ℕ) (y : Fin 4) (e : h / 4 = y.val) (x : S384x64.Idx) :
    keysOf K y x = ((I.k (256 * (i 0).val + (x 0).val) (64 * (h / 4) + (x 1).val) : ℝ) : EReal) := by
  rw [keysOf_apply, B.k]; exact coe_at2 _ rfl (by dsimp; omega)

theorem head_v (h : ℕ) (y : Fin 4) (e : h / 4 = y.val) (x : S384x64.Idx) :
    keysOf W y x = ((I.v (256 * (i 0).val + (x 0).val) (64 * (h / 4) + (x 1).val) : ℝ) : EReal) := by
  rw [keysOf_apply, B.v]; exact coe_at2 _ rfl (by dsimp; omega)

theorem head_dy (h : Fin 16) (x : S256x64.Idx) : headOf X0 h x = ((I.dy (256 * (i 0).val + (x 0).val) (64 * h.val + (x 1).val) : ℝ) : EReal) := by
  rw [headOf_apply, B.dy]; rfl

theorem head_o (h : Fin 16) (x : S256x64.Idx) : headOf X1 h x = ((I.O (256 * (i 0).val + (x 0).val) (64 * h.val + (x 1).val) : ℝ) : EReal) := by
  rw [headOf_apply, B.o]; rfl

theorem head_q (h : Fin 16) (x : S256x64.Idx) : headOf X2 h x = ((I.q (256 * (i 0).val + (x 0).val) (64 * h.val + (x 1).val) : ℝ) : EReal) := by
  rw [headOf_apply, B.q]; rfl

theorem head_z (h : Fin 16) (x : S256x64.Idx) : headOf X3 h x = ((I.z (256 * (i 0).val + (x 0).val) (64 * h.val + (x 1).val) : ℝ) : EReal) := by
  rw [headOf_apply, B.z]; rfl

theorem head_sk (h : Fin 16) : sinkOf X8 h (ix2 0 0) = ((I.sk h.val : ℝ) : EReal) := by
  rw [sinkOf_apply, B.sk]; rfl

theorem hd_div (y g : Fin 4) : (hd y g).val / 4 = y.val := by unfold hd; dsimp; omega

theorem pr_eq (y g : Fin 4) (x : S256x384.Idx) :
    pr i K X2 X8 y g x = ((I.P (256 * (i 0).val + (x 0).val) (hd y g).val (256 * (i 0).val + (x 1).val) : ℝ) : EReal) :=
  probs_eq (scores_eq (mask_eq i) (head_k B _ y (hd_div B y g)) (head_q B (hd y g))) (head_sk B (hd y g)) (coords_lt B) x

theorem prB_eq (y g : Fin 4) (x : S256x384.Idx) :
    prB i K X2 X8 y g x = ((I.P (256 * (i 0).val + (x 0).val) (hd y g).val (256 * (i 0).val + (x 1).val) : ℝ) : EReal) :=
  pr_eq B y g x

theorem ds_eq (y g : Fin 4) (x : S256x384.Idx) :
    ds i K W X0 X1 X2 X3 X8 y g x = ((I.dS (256 * (i 0).val + (x 0).val) (hd y g).val (256 * (i 0).val + (x 1).val) : ℝ) : EReal) :=
  dScores_eq (head_dy B (hd y g)) (head_z B (hd y g)) (head_o B (hd y g)) (pr_eq B y g) (head_v B _ y (hd_div B y g)) x

theorem dq_eq (y g : Fin 4) (x : S256x64.Idx) :
    dq i K W X0 X1 X2 X3 X8 y g x = ((I.gq (256 * (i 0).val + (x 0).val) (64 * (hd y g).val + (x 1).val) : ℝ) : EReal) :=
  dQuery_eq (ds_eq B y g) (coords_lt B) (head_k B _ y (hd_div B y g)) x

theorem dqGroup_eq (y : Fin 4) (x : S256x256.Idx) :
    dqGroup i K W X0 X1 X2 X3 X8 y x = ((I.gq (256 * (i 0).val + (x 0).val) (256 * y.val + (x 1).val) : ℝ) : EReal) := by
  refine (concat_rows (dq i K W X0 X1 X2 X3 X8 y) x).trans ((dq_eq B y _ _).trans (coe_at2 _ rfl ?_))
  unfold hd; dsimp; omega

theorem dk_eq (y : Fin 4) (x : S384x64.Idx) : dk i K W X0 X1 X2 X3 X8 y x
    = ((∑ g ∈ range 4, ∑ a ∈ range 256, I.dS (256 * (i 0).val + a) (4 * y.val + g) (256 * (i 0).val + (x 0).val)
        * I.q (256 * (i 0).val + a) (64 * (4 * y.val + g) + (x 1).val) : ℝ) : EReal) :=
  fourRows_eq (d := ds i K W X0 X1 X2 X3 X8 y) (y := fun g => headOf X2 (hd y g))
    (D := fun g a u => I.dS (256 * (i 0).val + a) (4 * y.val + g) (256 * (i 0).val + u))
    (Y := fun g a c => I.q (256 * (i 0).val + a) (64 * (4 * y.val + g) + c))
    (fun g => ds_eq B y g) (fun g => head_q B (hd y g)) x

theorem dv_eq (y : Fin 4) (x : S384x64.Idx) : dv i K X0 X2 X3 X8 y x
    = ((∑ g ∈ range 4, ∑ a ∈ range 256, I.P (256 * (i 0).val + a) (4 * y.val + g) (256 * (i 0).val + (x 0).val)
        * I.dO (256 * (i 0).val + a) (64 * (4 * y.val + g) + (x 1).val) : ℝ) : EReal) :=
  fourRows_eq (d := prB i K X2 X8 y) (y := fun g => dOutB (headOf X0 (hd y g)) (headOf X3 (hd y g)))
    (D := fun g a u => I.P (256 * (i 0).val + a) (4 * y.val + g) (256 * (i 0).val + u))
    (Y := fun g a c => I.dO (256 * (i 0).val + a) (64 * (4 * y.val + g) + c))
    (fun g => prB_eq B y g) (fun g => dOutB_eq (head_dy B (hd y g)) (head_z B (hd y g))) x

theorem dkRows_eq (x : S384x256.Idx) :
    dkRows i K W X0 X1 X2 X3 X8 x = ((I.gkBlk (i 0).val (256 * (i 0).val + (x 0).val) (x 1).val : ℝ) : EReal) := by
  refine (concat_keys (dkScaled i K W X0 X1 X2 X3 X8) x).trans ?_
  have e : ∀ (y : Fin 4) (x : S384x64.Idx), dkScaled i K W X0 X1 X2 X3 X8 y x
      = dk i K W X0 X1 X2 X3 X8 y x * Ideal.ofBits .f32 0x3E000000#32 := fun y x => by unfold dkScaled; pointwise
  rw [e, dk_eq B, eighth, ← EReal.coe_mul]; rfl

theorem dvRows_eq (x : S384x256.Idx) :
    dvRows i K X0 X2 X3 X8 x = ((I.gvBlk (i 0).val (256 * (i 0).val + (x 0).val) (x 1).val : ℝ) : EReal) :=
  (concat_keys (dv i K X0 X2 X3 X8) x).trans (dv_eq B _ _)

theorem dsRow_eq (h : Fin 16) (r : Vec Ideal S1x128 .f32) (x : S1x128.Idx) {ρ : ℝ} (hr : r x = (ρ : EReal)) :
    dsRow i K X0 X1 X2 X3 X8 h r x = ((ρ + I.gsBlk (i 0).val h.val : ℝ) : EReal) :=
  dSinkRow_eq (head_dy B h) (head_z B h) (head_o B h)
    (probSink_eq (scores_eq (mask_eq i) (head_k B h.val ⟨h.val / 4, by omega⟩ rfl) (head_q B h)) (head_sk B h) (coords_lt B)) x hr

theorem dzGroup_eq (y : Fin 4) (x : S256x256.Idx) :
    dzGroup X0 X1 X3 y x = ((I.gz (256 * (i 0).val + (x 0).val) (256 * y.val + (x 1).val) : ℝ) : EReal) := by
  have e : dzGroup X0 X1 X3 y x = groupOf X0 y x * groupOf X1 y x * (Ideal.logistic (groupOf X3 y x)
      * ((1 : EReal) + groupOf X3 y x * ((1 : EReal) - Ideal.logistic (groupOf X3 y x)))) := by
    unfold dzGroup; pointwise
  have e0 : groupOf X0 y x = ((I.dy (256 * (i 0).val + (x 0).val) (256 * y.val + (x 1).val) : ℝ) : EReal) := by rw [groupOf_apply, B.dy]; rfl
  have e1 : groupOf X1 y x = ((I.O (256 * (i 0).val + (x 0).val) (256 * y.val + (x 1).val) : ℝ) : EReal) := by rw [groupOf_apply, B.o]; rfl
  have e3 : groupOf X3 y x = ((I.z (256 * (i 0).val + (x 0).val) (256 * y.val + (x 1).val) : ℝ) : EReal) := by rw [groupOf_apply, B.z]; rfl
  rw [e, e0, e1, e3, Ideal.logistic_coe, ← EReal.coe_one]
  simp only [← EReal.coe_mul, ← EReal.coe_add, ← EReal.coe_sub]
  refine coe_cong ?_
  rw [Inputs.gz]; simp only [sigm]; ring

end

end Cert.Proof.Attn

end
-- ==== Proof.Attn.CaseA.lean ====
/-
  What the body of case A leaves in the results' staging buffers and in the carried scratch, as the block's functions
  of the blocks it reads.
-/
module

public import proofs.«01_k».proof.Proof.Run.Outs
public import proofs.«01_k».proof.Proof.Attn.Blk

@[expose] public section

set_option maxRecDepth 16384

noncomputable section

namespace Cert.Proof.Attn

open Cert.KernelIdeal Cert.KernelIdeal.Gen Idealize.ShloMosaic Idealize.ShloMosaic.Tactic

variable {F : FTy → Type} [FloatOps F]

section

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : cond0_0 i) (hc1 : ¬cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (fw0 : HbBuf0 (F := F) c hbM0_0)
    (fw1 : HbBuf0 (F := F) c hbM0_1)

theorem out0_A_9_eq :
    out0_A_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1
      = VO0_9.read (Elt F) (VO0_9.writes (Elt F) VO0_9.junk [(⟨Rect.unit ![0, 768] S256x256.size inb_S256x1024_S256x256_0_768, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 3⟩ : View.Piece (Elt F) S256x1024 .bf16),
          (⟨Rect.unit ![0, 512] S256x256.size inb_S256x1024_S256x256_0_512, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 2⟩ : View.Piece (Elt F) S256x1024 .bf16),
          (⟨Rect.unit ![0, 256] S256x256.size inb_S256x1024_S256x256_0_256, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 1⟩ : View.Piece (Elt F) S256x1024 .bf16),
          (⟨Rect.unit ![0, 0] S256x256.size inb_S256x1024_S256x256_0_0, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 0⟩ : View.Piece (Elt F) S256x1024 .bf16)]) := by
  unfold out0_A_9 kernelRun0_A
  rfl

theorem out0_A_10_eq :
    out0_A_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1
      = VO0_10.read (Elt F) (VO0_10.writes (Elt F) VO0_10.junk [(⟨Rect.unit ![0, 768] S256x256.size inb_S256x1024_S256x256_0_768, dzGroup (arg1.view.read (Elt F) (harg1.unread x0)) (arg2.view.read (Elt F) (harg2.unread x1)) (arg4.view.read (Elt F) (harg4.unread x3)) 3⟩ : View.Piece (Elt F) S256x1024 .bf16),
          (⟨Rect.unit ![0, 512] S256x256.size inb_S256x1024_S256x256_0_512, dzGroup (arg1.view.read (Elt F) (harg1.unread x0)) (arg2.view.read (Elt F) (harg2.unread x1)) (arg4.view.read (Elt F) (harg4.unread x3)) 2⟩ : View.Piece (Elt F) S256x1024 .bf16),
          (⟨Rect.unit ![0, 256] S256x256.size inb_S256x1024_S256x256_0_256, dzGroup (arg1.view.read (Elt F) (harg1.unread x0)) (arg2.view.read (Elt F) (harg2.unread x1)) (arg4.view.read (Elt F) (harg4.unread x3)) 1⟩ : View.Piece (Elt F) S256x1024 .bf16),
          (⟨Rect.unit ![0, 0] S256x256.size inb_S256x1024_S256x256_0_0, dzGroup (arg1.view.read (Elt F) (harg1.unread x0)) (arg2.view.read (Elt F) (harg2.unread x1)) (arg4.view.read (Elt F) (harg4.unread x3)) 0⟩ : View.Piece (Elt F) S256x1024 .bf16)]) := by
  unfold out0_A_10 kernelRun0_A
  rfl

end

/-- The sinks' gradient's stores at the first block: all zero, then row after row. -/
def firstRows (v : View sig .tc .vmem S16x128 .f32) (i : grid0.Coords) (K : Vec F S384x256 .bf16) (X0 X1 X2 X3 : Vec F S256x1024 .bf16) (X8 : Vec F S16x128 .f32) :
    (n : ℕ) → n ≤ 16 → List (View.Piece (Elt F) S16x128 .f32)
  | 0, _ => [⟨Rect.unit ![0, 0] S16x128.size inb_S16x128_S16x128_0_0, k0_pay8⟩]
  | n + 1, h => ⟨Rect.unit ![n, 0] S1x128.size (inb_row ⟨n, h⟩), dsRow i K X0 X1 X2 X3 X8 ⟨n, h⟩
      (v.readCov (firstRows v i K X0 X1 X2 X3 X8 n (Nat.le_of_succ_le h)) (Rect.unit (s := S16x128) ![n, 0] S1x128.size (inb_row ⟨n, h⟩)).toLoadRect)⟩
      :: firstRows v i K X0 X1 X2 X3 X8 n (Nat.le_of_succ_le h)

theorem firstRows_succ (v : View sig .tc .vmem S16x128 .f32) (i : grid0.Coords) (K : Vec F S384x256 .bf16) (X0 X1 X2 X3 : Vec F S256x1024 .bf16) (X8 : Vec F S16x128 .f32)
    (n : ℕ) (h : n + 1 ≤ 16) : firstRows v i K X0 X1 X2 X3 X8 (n + 1) h =
      (⟨Rect.unit ![n, 0] S1x128.size (inb_row ⟨n, h⟩), dsRow i K X0 X1 X2 X3 X8 ⟨n, h⟩
        (v.readCov (firstRows v i K X0 X1 X2 X3 X8 n (Nat.le_of_succ_le h)) (Rect.unit (s := S16x128) ![n, 0] S1x128.size (inb_row ⟨n, h⟩)).toLoadRect)⟩ : View.Piece (Elt F) S16x128 .f32)
      :: firstRows v i K X0 X1 X2 X3 X8 n (Nat.le_of_succ_le h) := rfl

/-- One more row on top of stores that are already known. -/
theorem firstRows_step {v : View sig .tc .vmem S16x128 .f32} {i : grid0.Coords} {K : Vec F S384x256 .bf16} {X0 X1 X2 X3 : Vec F S256x1024 .bf16}
    {X8 : Vec F S16x128 .f32} {L : List (View.Piece (Elt F) S16x128 .f32)} (n : ℕ) (k : Fin 16) (hk : k.val = n) {h : n ≤ 16}
    (e : L = firstRows v i K X0 X1 X2 X3 X8 n h) :
    (⟨Rect.unit ![k.val, 0] S1x128.size (inb_row k), dsRow i K X0 X1 X2 X3 X8 k
      (v.readCov L (Rect.unit (s := S16x128) ![k.val, 0] S1x128.size (inb_row k)).toLoadRect)⟩ : View.Piece (Elt F) S16x128 .f32) :: L
      = firstRows v i K X0 X1 X2 X3 X8 (n + 1) (hk ▸ k.isLt) := by
  subst hk
  rw [e, firstRows_succ]

section

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg9 : Memref sig .tc .vmem S16x128 .f32) (harg9 : arg9.IsWhole)
    (arg14 : Memref sig .tc .vmem S16x128 .f32) (arg17 : Memref sig .tc .vmem S384x256 .bf16) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x8 : Vec F S16x128 .f32)

theorem first_0 : (kernelRun0_A.sl.H11_1 (F := F)) = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 0 (by omega) := rfl

theorem first_1 : kernelRun0_A.sl.H11_2 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 1 (by omega) :=
  (firstRows_step 0 0 rfl (L := kernelRun0_A.sl.H11_1 (F := F)) (v := arg14.view) (first_0 i arg1 harg1 arg2 harg2 arg3 harg3 arg4 harg4 arg5 harg5 arg6 harg6 arg9 harg9 arg14 arg17 x0 x1 x2 x3 x4 x5 x8) :)

theorem first_2 : kernelRun0_A.sl.H11_3 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 2 (by omega) :=
  (firstRows_step 1 1 rfl (first_1 c i arg1 harg1 arg2 harg2 arg3 harg3 arg4 harg4 arg5 harg5 arg6 harg6 arg9 harg9 arg14 arg17 x0 x1 x2 x3 x4 x5 x8) :)

theorem first_3 : kernelRun0_A.sl.H11_4 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 3 (by omega) :=
  (firstRows_step 2 2 rfl (first_2 c i arg1 harg1 arg2 harg2 arg3 harg3 arg4 harg4 arg5 harg5 arg6 harg6 arg9 harg9 arg14 arg17 x0 x1 x2 x3 x4 x5 x8) :)

theorem first_4 : kernelRun0_A.sl.H11_5 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 4 (by omega) :=
  (firstRows_step 3 3 rfl (first_3 c i arg1 harg1 arg2 harg2 arg3 harg3 arg4 harg4 arg5 harg5 arg6 harg6 arg9 harg9 arg14 arg17 x0 x1 x2 x3 x4 x5 x8) :)

theorem first_5 : kernelRun0_A.sl.H11_6 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 5 (by omega) :=
  (firstRows_step 4 4 rfl (first_4 c i arg1 harg1 arg2 harg2 arg3 harg3 arg4 harg4 arg5 harg5 arg6 harg6 arg9 harg9 arg14 arg17 x0 x1 x2 x3 x4 x5 x8) :)

theorem first_6 : kernelRun0_A.sl.H11_7 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 6 (by omega) :=
  (firstRows_step 5 5 rfl (first_5 c i arg1 harg1 arg2 harg2 arg3 harg3 arg4 harg4 arg5 harg5 arg6 harg6 arg9 harg9 arg14 arg17 x0 x1 x2 x3 x4 x5 x8) :)

theorem first_7 : kernelRun0_A.sl.H11_8 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 7 (by omega) :=
  (firstRows_step 6 6 rfl (first_6 c i arg1 harg1 arg2 harg2 arg3 harg3 arg4 harg4 arg5 harg5 arg6 harg6 arg9 harg9 arg14 arg17 x0 x1 x2 x3 x4 x5 x8) :)

theorem first_8 : kernelRun0_A.sl.H11_9 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 8 (by omega) :=
  (firstRows_step 7 7 rfl (first_7 c i arg1 harg1 arg2 harg2 arg3 harg3 arg4 harg4 arg5 harg5 arg6 harg6 arg9 harg9 arg14 arg17 x0 x1 x2 x3 x4 x5 x8) :)

theorem first_9 : kernelRun0_A.sl.H11_10 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 9 (by omega) :=
  (firstRows_step 8 8 rfl (first_8 c i arg1 harg1 arg2 harg2 arg3 harg3 arg4 harg4 arg5 harg5 arg6 harg6 arg9 harg9 arg14 arg17 x0 x1 x2 x3 x4 x5 x8) :)

theorem first_10 : kernelRun0_A.sl.H11_11 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 10 (by omega) :=
  (firstRows_step 9 9 rfl (first_9 c i arg1 harg1 arg2 harg2 arg3 harg3 arg4 harg4 arg5 harg5 arg6 harg6 arg9 harg9 arg14 arg17 x0 x1 x2 x3 x4 x5 x8) :)

theorem first_11 : kernelRun0_A.sl.H11_12 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 11 (by omega) :=
  (firstRows_step 10 10 rfl (first_10 c i arg1 harg1 arg2 harg2 arg3 harg3 arg4 harg4 arg5 harg5 arg6 harg6 arg9 harg9 arg14 arg17 x0 x1 x2 x3 x4 x5 x8) :)

theorem first_12 : kernelRun0_A.sl.H11_13 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 12 (by omega) :=
  (firstRows_step 11 11 rfl (first_11 c i arg1 harg1 arg2 harg2 arg3 harg3 arg4 harg4 arg5 harg5 arg6 harg6 arg9 harg9 arg14 arg17 x0 x1 x2 x3 x4 x5 x8) :)

theorem first_13 : kernelRun0_A.sl.H11_14 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 13 (by omega) :=
  (firstRows_step 12 12 rfl (first_12 c i arg1 harg1 arg2 harg2 arg3 harg3 arg4 harg4 arg5 harg5 arg6 harg6 arg9 harg9 arg14 arg17 x0 x1 x2 x3 x4 x5 x8) :)

theorem first_14 : kernelRun0_A.sl.H11_15 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 14 (by omega) :=
  (firstRows_step 13 13 rfl (first_13 c i arg1 harg1 arg2 harg2 arg3 harg3 arg4 harg4 arg5 harg5 arg6 harg6 arg9 harg9 arg14 arg17 x0 x1 x2 x3 x4 x5 x8) :)

theorem first_15 : kernelRun0_A.sl.H11_16 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 15 (by omega) :=
  (firstRows_step 14 14 rfl (first_14 c i arg1 harg1 arg2 harg2 arg3 harg3 arg4 harg4 arg5 harg5 arg6 harg6 arg9 harg9 arg14 arg17 x0 x1 x2 x3 x4 x5 x8) :)

theorem firstRows_all :
    (⟨Rect.unit ![15, 0] S1x128.size inb_S16x128_S1x128_15_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 15 (View.readCov arg14.view (kernelRun0_A.sl.H11_16 c i arg1 harg1 arg2 harg2 arg3 harg3 arg4 harg4 arg5 harg5 arg6 harg6 arg9 harg9 arg14 arg17 x0 x1 x2 x3 x4 x5 x8) (Rect.unit (s := S16x128) ![15, 0] S1x128.size inb_S16x128_S1x128_15_0).toLoadRect)⟩ : View.Piece (Elt F) S16x128 .f32) :: kernelRun0_A.sl.H11_16 c i arg1 harg1 arg2 harg2 arg3 harg3 arg4 harg4 arg5 harg5 arg6 harg6 arg9 harg9 arg14 arg17 x0 x1 x2 x3 x4 x5 x8 = firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 16 (by omega) :=
  (firstRows_step 15 15 rfl (first_15 c i arg1 harg1 arg2 harg2 arg3 harg3 arg4 harg4 arg5 harg5 arg6 harg6 arg9 harg9 arg14 arg17 x0 x1 x2 x3 x4 x5 x8) :)

end

section

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : cond0_0 i) (hc1 : ¬cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (fw0 : HbBuf0 (F := F) c hbM0_0)
    (fw1 : HbBuf0 (F := F) c hbM0_1)

theorem out0_A_11_eq :
    out0_A_11 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1
      = VO0_11.read (Elt F) (VO0_11.writes (Elt F) VO0_11.junk (firstRows arg14.view i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 16 (by omega))) := by
  unfold out0_A_11 kernelRun0_A
  refine Eq.trans ?_ (congrArg (fun L : List (View.Piece (Elt F) S16x128 .f32) => VO0_11.read (Elt F) (VO0_11.writes (Elt F) VO0_11.junk L)) (firstRows_all c i arg1 harg1 arg2 harg2 arg3 harg3 arg4 harg4 arg5 harg5 arg6 harg6 arg9 harg9 arg14 arg17 x0 x1 x2 x3 x4 x5 x8))
  rfl

theorem sout0_A_0_eq :
    sout0_A_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1
      = VS0_0.read (Elt F) (VS0_0.writes (Elt F) VS0_0.junk
          [(⟨Rect.unit (k0_off1 i) S384x256.size (k0_off1_inb i), shapeCast S384x256 (addf (View.readCov arg15.view [(⟨Rect.unit ![0, 0] S8320x256.size inb_S8320x256_S8320x256_0_0, k0_pay6⟩ : View.Piece (Elt F) S8320x256 .f32)] (Rect.unit (s := S8320x256) (k0_off1 i) S384x256.size (k0_off1_inb i)).toLoadRect)
            (dkRows i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)))) shapeCasts_S384x256_S384x256⟩ : View.Piece (Elt F) S8320x256 .f32), (⟨Rect.unit ![0, 0] S8320x256.size inb_S8320x256_S8320x256_0_0, k0_pay6⟩ : View.Piece (Elt F) S8320x256 .f32)]) := by
  unfold sout0_A_0 kernelRun0_A
  rfl

theorem sout0_A_1_eq :
    sout0_A_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1
      = VS0_1.read (Elt F) (VS0_1.writes (Elt F) VS0_1.junk
          [(⟨Rect.unit (k0_off1 i) S384x256.size (k0_off1_inb i), shapeCast S384x256 (addf (View.readCov arg16.view [(⟨Rect.unit ![0, 0] S8320x256.size inb_S8320x256_S8320x256_0_0, k0_pay7⟩ : View.Piece (Elt F) S8320x256 .f32)] (Rect.unit (s := S8320x256) (k0_off1 i) S384x256.size (k0_off1_inb i)).toLoadRect)
            (dvRows i (winOf arg17.view i (arg5.view.read (Elt F) (harg5.unread x4)) (arg6.view.read (Elt F) (harg6.unread x5))) (arg1.view.read (Elt F) (harg1.unread x0)) (arg3.view.read (Elt F) (harg3.unread x2)) (arg4.view.read (Elt F) (harg4.unread x3)) (arg9.view.read (Elt F) (harg9.unread x8)))) shapeCasts_S384x256_S384x256⟩ : View.Piece (Elt F) S8320x256 .f32), (⟨Rect.unit ![0, 0] S8320x256.size inb_S8320x256_S8320x256_0_0, k0_pay7⟩ : View.Piece (Elt F) S8320x256 .f32)]) := by
  unfold sout0_A_1 kernelRun0_A
  rfl

end

end Cert.Proof.Attn

end
-- ==== Proof.Attn.Pieces.lean ====
/-
  What the stores of one block leave, read at an index: the window of keys and values, four groups of columns side by
  side, sixteen rows one under the other, and a window of rows added to an array of sums.
-/
module

public import proofs.«01_k».proof.Proof.Attn.BlkVal
public import proofs.«01_k».proof.Proof.Attn.CaseA
public import Idealize.ShloMosaic.Lib.WritesUnit
public import Idealize.ShloMosaic.Lib.Pipeline.ValueKit.Tiles

@[expose] public section

set_option maxRecDepth 16384

noncomputable section

namespace Cert.Proof.Attn

open Cert.KernelIdeal Cert.KernelIdeal.Gen Idealize.ShloMosaic Finset

theorem sgt_pos : ∀ i : grid0.Coords, (i 0).val ≠ 0 → Scalar.cmpi .sgt (BitVec.ofNat 32 (i 0).val) 0#32 = 1#1 := by decide +kernel

theorem sgt_zero : ∀ i : grid0.Coords, (i 0).val = 0 → Scalar.cmpi .sgt (BitVec.ofNat 32 (i 0).val) 0#32 = 0#1 := by decide +kernel

theorem pay2_pos (i : grid0.Coords) (h : (i 0).val ≠ 0) (x : Vec Ideal S128x256 .bf16) (y : S128x256.Idx) : k0_pay2 i x y = x y := by
  unfold k0_pay2
  dsimp only
  rw [sgt_pos i h]
  exact congrFun (shapeCast_self x _) y

theorem pay2_zero (i : grid0.Coords) (h : (i 0).val = 0) (x : Vec Ideal S128x256 .bf16) (y : S128x256.Idx) : k0_pay2 i x y = ((0 : ℝ) : EReal) := by
  unfold k0_pay2
  dsimp only
  rw [sgt_zero i h]
  exact (congrFun (shapeCast_self _ _) y).trans Ideal.ofBits_zero_bf16

theorem pay3_eq (x : Vec Ideal S256x256 .bf16) (y : S256x256.Idx) : k0_pay3 x y = x y :=
  congrFun (shapeCast_self x _) y

theorem pay6_eq (y : S8320x256.Idx) : k0_pay6 (F := Ideal) y = ((0 : ℝ) : EReal) := by
  unfold k0_pay6
  exact (congrFun (shapeCast_self _ _) y).trans Ideal.ofBits_zero_f32

theorem pay7_eq (y : S8320x256.Idx) : k0_pay7 (F := Ideal) y = ((0 : ℝ) : EReal) := by
  unfold k0_pay7
  exact (congrFun (shapeCast_self _ _) y).trans Ideal.ofBits_zero_f32

theorem pay8_eq (y : S16x128.Idx) : k0_pay8 (F := Ideal) y = ((0 : ℝ) : EReal) := Ideal.ofBits_zero_f32

/-- The window holds the numbers of `G` from row `256 i`: the block's rows after the 128 before them. -/
theorem winOf_eq (G : ℕ → ℕ → ℝ) (h0 : ∀ u c, u < 128 → G u c = 0) (v : View sig .tc .vmem S384x256 .bf16) (i : grid0.Coords)
    (x : Vec Ideal S256x256 .bf16) (xh : Vec Ideal S128x256 .bf16)
    (hx : ∀ y : S256x256.Idx, x y = ((G (256 * (i 0).val + 128 + (y 0).val) (y 1).val : ℝ) : EReal))
    (hh : (i 0).val ≠ 0 → ∀ y : S128x256.Idx, xh y = ((G (256 * (i 0).val + (y 0).val) (y 1).val : ℝ) : EReal)) (y : S384x256.Idx) :
    winOf v i x xh y = ((G (256 * (i 0).val + (y 0).val) (y 1).val : ℝ) : EReal) := by
  have y0 : (y 0).val < 384 := (y 0).isLt
  have y1 : (y 1).val < 256 := (y 1).isLt
  unfold winOf
  by_cases h : (y 0).val < 128
  · refine (View.read_writes_cons_unit_of_not_mem v _ _ _ _ y rfl 0 (.inl h)).trans ?_
    refine (View.read_writes_cons_unit_of_mem v _ inb_S384x256_S128x256_0_0 _ _ y (ix2 ⟨(y 0).val, h⟩ ⟨(y 1).val, y1⟩) rfl
      (Fin.forall_fin_two.mpr ⟨by show _ = 0 + (y 0).val; omega, by show _ = 0 + (y 1).val; omega⟩)).trans ?_
    by_cases hi : (i 0).val = 0
    · refine (pay2_zero i hi _ _).trans (coe_cong (h0 _ _ ?_).symm)
      omega
    · refine (pay2_pos i hi _ _).trans ((View.ld_unit_apply_of xh _ _ _ _ (ix2 ⟨(y 0).val, h⟩ ⟨(y 1).val, y1⟩)
        (Fin.forall_fin_two.mpr ⟨by show (y 0).val = 0 + (y 0).val; omega, by show (y 1).val = 0 + (y 1).val; omega⟩)).trans ?_)
      exact hh hi _
  · refine (View.read_writes_cons_unit_of_mem v _ inb_S384x256_S256x256_128_0 _ _ y (ix2 ⟨(y 0).val - 128, by omega⟩ ⟨(y 1).val, y1⟩) rfl
      (Fin.forall_fin_two.mpr ⟨by show _ = 128 + ((y 0).val - 128); omega, by show _ = 0 + (y 1).val; omega⟩)).trans ?_
    refine (pay3_eq _ _).trans ((View.ld_unit_apply_of x _ _ _ _ (ix2 ⟨(y 0).val - 128, by omega⟩ ⟨(y 1).val, y1⟩)
        (Fin.forall_fin_two.mpr ⟨by show (y 0).val - 128 = 0 + ((y 0).val - 128); omega, by show (y 1).val = 0 + (y 1).val; omega⟩)).trans ?_)
    rw [hx]
    exact coe_at2 _ (by show 256 * (i 0).val + 128 + ((y 0).val - 128) = _; omega) rfl

/-- Four groups of 256 columns side by side. -/
theorem read_four (v : View sig .tc .vmem S256x1024 .bf16) (f : v.ty.Contents (Elt Ideal)) (g : Fin 4 → Vec Ideal S256x256 .bf16)
    (G : ℕ → ℕ → ℝ) (b : ℕ) (hg : ∀ y x, g y x = ((G (b + (x 0).val) (256 * y.val + (x 1).val) : ℝ) : EReal)) (x : S256x1024.Idx) :
    v.read (Elt Ideal) (v.writes (Elt Ideal) f [(⟨Rect.unit ![0, 768] S256x256.size inb_S256x1024_S256x256_0_768, g 3⟩ : View.Piece (Elt Ideal) S256x1024 .bf16),
      (⟨Rect.unit ![0, 512] S256x256.size inb_S256x1024_S256x256_0_512, g 2⟩ : View.Piece (Elt Ideal) S256x1024 .bf16),
      (⟨Rect.unit ![0, 256] S256x256.size inb_S256x1024_S256x256_0_256, g 1⟩ : View.Piece (Elt Ideal) S256x1024 .bf16),
      (⟨Rect.unit ![0, 0] S256x256.size inb_S256x1024_S256x256_0_0, g 0⟩ : View.Piece (Elt Ideal) S256x1024 .bf16)]) x
      = ((G (b + (x 0).val) (x 1).val : ℝ) : EReal) := by
  have x0 : (x 0).val < 256 := (x 0).isLt
  have x1 : (x 1).val < 1024 := (x 1).isLt
  by_cases h3 : 768 ≤ (x 1).val
  · refine (View.read_writes_cons_unit_of_mem v f inb_S256x1024_S256x256_0_768 _ _ x (ix2 ⟨(x 0).val, x0⟩ ⟨(x 1).val - 768, by omega⟩) rfl
      (Fin.forall_fin_two.mpr ⟨by show _ = 0 + (x 0).val; omega, by show _ = 768 + ((x 1).val - 768); omega⟩)).trans ((hg _ _).trans ?_)
    exact coe_at2 _ rfl (by show 256 * 3 + ((x 1).val - 768) = _; omega)
  refine (View.read_writes_cons_unit_of_not_mem v f inb_S256x1024_S256x256_0_768 _ _ x rfl 1 (.inl (by show (x 1).val < 768; omega))).trans ?_
  by_cases h2 : 512 ≤ (x 1).val
  · refine (View.read_writes_cons_unit_of_mem v f inb_S256x1024_S256x256_0_512 _ _ x (ix2 ⟨(x 0).val, x0⟩ ⟨(x 1).val - 512, by omega⟩) rfl
      (Fin.forall_fin_two.mpr ⟨by show _ = 0 + (x 0).val; omega, by show _ = 512 + ((x 1).val - 512); omega⟩)).trans ((hg _ _).trans ?_)
    exact coe_at2 _ rfl (by show 256 * 2 + ((x 1).val - 512) = _; omega)
  refine (View.read_writes_cons_unit_of_not_mem v f inb_S256x1024_S256x256_0_512 _ _ x rfl 1 (.inl (by show (x 1).val < 512; omega))).trans ?_
  by_cases h1 : 256 ≤ (x 1).val
  · refine (View.read_writes_cons_unit_of_mem v f inb_S256x1024_S256x256_0_256 _ _ x (ix2 ⟨(x 0).val, x0⟩ ⟨(x 1).val - 256, by omega⟩) rfl
      (Fin.forall_fin_two.mpr ⟨by show _ = 0 + (x 0).val; omega, by show _ = 256 + ((x 1).val - 256); omega⟩)).trans ((hg _ _).trans ?_)
    exact coe_at2 _ rfl (by show 256 * 1 + ((x 1).val - 256) = _; omega)
  refine (View.read_writes_cons_unit_of_not_mem v f inb_S256x1024_S256x256_0_256 _ _ x rfl 1 (.inl (by show (x 1).val < 256; omega))).trans ?_
  refine (View.read_writes_cons_unit_of_mem v f inb_S256x1024_S256x256_0_0 _ _ x (ix2 ⟨(x 0).val, x0⟩ ⟨(x 1).val, by omega⟩) rfl
      (Fin.forall_fin_two.mpr ⟨by show _ = 0 + (x 0).val; omega, by show _ = 0 + (x 1).val; omega⟩)).trans ((hg _ _).trans ?_)
  exact coe_at2 _ rfl (by show 256 * 0 + (x 1).val = _; omega)

/-- The rows below `n` stored one at a time over what `L` left. -/
def rowsOver (L : List (View.Piece (Elt Ideal) S16x128 .f32)) (r : Fin 16 → Vec Ideal S1x128 .f32) :
    (n : ℕ) → n ≤ 16 → List (View.Piece (Elt Ideal) S16x128 .f32)
  | 0, _ => L
  | n + 1, h => ⟨Rect.unit ![n, 0] S1x128.size (inb_row ⟨n, h⟩), r ⟨n, h⟩⟩ :: rowsOver L r n (Nat.le_of_succ_le h)

theorem read_row_mem (v : View sig .tc .vmem S16x128 .f32) (f : v.ty.Contents (Elt Ideal)) (n : ℕ) (h : n < 16) (w : Vec Ideal S1x128 .f32)
    (L : List (View.Piece (Elt Ideal) S16x128 .f32)) (x : S16x128.Idx) (hx : (x 0).val = n) :
    v.read (Elt Ideal) (v.writes (Elt Ideal) f ((⟨Rect.unit ![n, 0] S1x128.size (inb_row ⟨n, h⟩), w⟩ : View.Piece (Elt Ideal) S16x128 .f32) :: L)) x
      = w (ix2 (0 : Fin 1) (x 1)) :=
  View.read_writes_cons_unit_of_mem v f (inb_row ⟨n, h⟩) w L x (ix2 (0 : Fin 1) (x 1)) rfl
    (Fin.forall_fin_two.mpr ⟨by show _ = n + 0; omega, by show _ = 0 + (x 1).val; omega⟩)

theorem read_row_not_mem (v : View sig .tc .vmem S16x128 .f32) (f : v.ty.Contents (Elt Ideal)) (n : ℕ) (h : n < 16) (w : Vec Ideal S1x128 .f32)
    (L : List (View.Piece (Elt Ideal) S16x128 .f32)) (x : S16x128.Idx) (hx : (x 0).val ≠ n) :
    v.read (Elt Ideal) (v.writes (Elt Ideal) f ((⟨Rect.unit ![n, 0] S1x128.size (inb_row ⟨n, h⟩), w⟩ : View.Piece (Elt Ideal) S16x128 .f32) :: L)) x
      = v.read (Elt Ideal) (v.writes (Elt Ideal) f L) x :=
  View.read_writes_cons_unit_of_not_mem v f (inb_row ⟨n, h⟩) w L x rfl 0 (by show (x 0).val < n ∨ n + 1 ≤ (x 0).val; omega)

theorem read_rowsOver (v : View sig .tc .vmem S16x128 .f32) (f : v.ty.Contents (Elt Ideal)) (L : List (View.Piece (Elt Ideal) S16x128 .f32))
    (r : Fin 16 → Vec Ideal S1x128 .f32) (x : S16x128.Idx) : ∀ (n : ℕ) (h : n ≤ 16), (x 0).val < n →
    v.read (Elt Ideal) (v.writes (Elt Ideal) f (rowsOver L r n h)) x = r (x 0) (ix2 (0 : Fin 1) (x 1))
  | 0, _, hx => absurd hx (Nat.not_lt_zero _)
  | n + 1, h, hx => by
    by_cases e : (x 0).val = n
    · refine (read_row_mem v f n h _ _ x e).trans ?_
      subst e; rfl
    · exact (read_row_not_mem v f n h _ _ x e).trans (read_rowsOver v f L r x n _ (by omega))

section
variable {I : Inputs} {i : grid0.Coords} {K W : Vec Ideal S384x256 .bf16} {X0 X1 X2 X3 : Vec Ideal S256x1024 .bf16}
  {X8 : Vec Ideal S16x128 .f32} (B : BlkHolds I i K W X0 X1 X2 X3 X8)

include B

/-- At the first block the rows are stored over zeros, each read back before it is stored. -/
theorem read_firstRows (u : View sig .tc .vmem S16x128 .f32) : ∀ (n : ℕ) (h : n ≤ 16) (v : View sig .tc .vmem S16x128 .f32)
    (f : v.ty.Contents (Elt Ideal)) (x : S16x128.Idx),
    v.read (Elt Ideal) (v.writes (Elt Ideal) f (firstRows u i K X0 X1 X2 X3 X8 n h)) x
      = (((if (x 0).val < n then I.gsBlk (i 0).val (x 0).val else 0 : ℝ)) : EReal)
  | 0, _, v, f, x => by
    rw [if_neg (Nat.not_lt_zero _)]
    exact (View.read_writes_cons_unit_of_mem v f inb_S16x128_S16x128_0_0 _ _ x x rfl
      (Fin.forall_fin_two.mpr ⟨by show _ = 0 + (x 0).val; omega, by show _ = 0 + (x 1).val; omega⟩)).trans (pay8_eq _)
  | n + 1, h, v, f, x => by
    rw [firstRows_succ]
    by_cases e : (x 0).val = n
    · refine (read_row_mem v f n h _ _ x e).trans ?_
      refine (dsRow_eq B ⟨n, h⟩ _ (ix2 (0 : Fin 1) (x 1)) (ρ := 0) ?_).trans ?_
      · refine (View.ld_unit_apply_of (S := S16x128) _ ![n, 0] S1x128.size (inb_row ⟨n, h⟩) (ix2 (0 : Fin 1) (x 1)) (ix2 (⟨n, h⟩ : Fin 16) (x 1))
          (Fin.forall_fin_two.mpr ⟨by show n = n + 0; omega, by show (x 1).val = 0 + (x 1).val; omega⟩)).trans ?_
        refine (read_firstRows u n _ u _ _).trans ?_
        exact coe_cong (if_neg (lt_irrefl n))
      · rw [if_pos (by omega), zero_add, e]
    · refine (read_row_not_mem v f n h _ _ x e).trans ((read_firstRows u n _ v f x).trans (coe_cong ?_))
      by_cases hl : (x 0).val < n
      · rw [if_pos hl, if_pos (by omega)]
      · rw [if_neg hl, if_neg (by omega)]

end

/-- A window of rows added to an array of sums. -/
theorem read_acc (v : View sig .tc .vmem S8320x256 .f32) (f : v.ty.Contents (Elt Ideal)) (L : List (View.Piece (Elt Ideal) S8320x256 .f32))
    (i : grid0.Coords) (a d : FVec Ideal S384x256 .f32) (A D : ℕ → ℕ → ℝ)
    (ha : ∀ y : S384x256.Idx, a y = ((A (256 * (i 0).val + (y 0).val) (y 1).val : ℝ) : EReal))
    (hd : ∀ y : S384x256.Idx, d y = ((D (256 * (i 0).val + (y 0).val) (y 1).val : ℝ) : EReal))
    (hL : ∀ y : S8320x256.Idx, v.read (Elt Ideal) (v.writes (Elt Ideal) f L) y = ((A (y 0).val (y 1).val : ℝ) : EReal))
    (hz : ∀ u c, ¬(256 * (i 0).val ≤ u ∧ u < 256 * (i 0).val + 384) → D u c = 0) (y : S8320x256.Idx) :
    v.read (Elt Ideal) (v.writes (Elt Ideal) f ((⟨Rect.unit (k0_off1 i) S384x256.size (k0_off1_inb i), shapeCast S384x256 (addf a d) shapeCasts_S384x256_S384x256⟩ : View.Piece (Elt Ideal) S8320x256 .f32) :: L)) y
      = ((A (y 0).val (y 1).val + D (y 0).val (y 1).val : ℝ) : EReal) := by
  have y1 : (y 1).val < 256 := (y 1).isLt
  by_cases h : 256 * (i 0).val ≤ (y 0).val ∧ (y 0).val < 256 * (i 0).val + 384
  · refine (View.read_writes_cons_unit_of_mem v f (k0_off1_inb i) _ _ y (ix2 ⟨(y 0).val - 256 * (i 0).val, by omega⟩ ⟨(y 1).val, y1⟩) (k0_off1_eq i)
      (Fin.forall_fin_two.mpr ⟨by show _ = 256 * (i 0).val + ((y 0).val - 256 * (i 0).val); omega, by show _ = 0 + (y 1).val; omega⟩)).trans ?_
    refine (congrFun (shapeCast_self _ _) _).trans ?_
    refine (Ideal.addf_def _ _).trans ?_
    rw [ha, hd, ← EReal.coe_add]
    have e : 256 * (i 0).val + ((y 0).val - 256 * (i 0).val) = (y 0).val := by omega
    refine coe_cong ?_
    show A (256 * (i 0).val + ((y 0).val - 256 * (i 0).val)) _ + D (256 * (i 0).val + ((y 0).val - 256 * (i 0).val)) _ = _
    rw [e]; rfl
  · refine (View.read_writes_cons_unit_of_not_mem v f (k0_off1_inb i) _ _ y (k0_off1_eq i) 0
      (by show (y 0).val < 256 * (i 0).val ∨ 256 * (i 0).val + 384 ≤ (y 0).val; omega)).trans ((hL y).trans (coe_cong ?_))
    rw [hz _ _ h, add_zero]

theorem ld_acc (X : Vec Ideal S8320x256 .f32) (A : ℕ → ℕ → ℝ) (hX : ∀ y : S8320x256.Idx, X y = ((A (y 0).val (y 1).val : ℝ) : EReal))
    (i : grid0.Coords) (y : S384x256.Idx) :
    View.ld X (Rect.unit (s := S8320x256) (k0_off1 i) S384x256.size (k0_off1_inb i)) y = ((A (256 * (i 0).val + (y 0).val) (y 1).val : ℝ) : EReal) := by
  have y0 : (y 0).val < 384 := (y 0).isLt
  have y1 : (y 1).val < 256 := (y 1).isLt
  have i0 : (i 0).val < 32 := (i 0).isLt
  refine (View.ld_unit_apply_of X _ _ _ y (ix2 ⟨256 * (i 0).val + (y 0).val, by omega⟩ ⟨(y 1).val, y1⟩) ?_).trans (hX _)
  have e := k0_off1_eq i
  exact Fin.forall_fin_two.mpr ⟨congrArg (· + (y 0).val) (congrFun e 0).symm, (Nat.zero_add _).symm.trans (congrArg (· + (y 1).val) (congrFun e 1).symm)⟩

end Cert.Proof.Attn

end
-- ==== Proof.Attn.Operands.lean ====
/-
  The blocks the call reads at a point: rows and columns of the operands, at the inputs' numbers.
-/
module

public import proofs.«01_k».proof.Proof.Run.Value
public import proofs.«01_k».proof.Proof.Attn.Host
public import proofs.«01_k».proof.Proof.Attn.RefFwd
public import proofs.«01_k».proof.Proof.Attn.Pieces

@[expose] public section

set_option maxRecDepth 16384

noncomputable section

namespace Cert.Proof.Attn

open Cert.KernelIdeal Cert.KernelIdeal.Gen Idealize.ShloMosaic Idealize.ShloMosaic.TcCoe Idealize.ShloMosaic.Tactic

theorem tr0 : ∀ i : grid0.Coords, cc0_transform_0 i = ![(i 0).val, 0] := by decide +kernel

theorem tr1 : ∀ i : grid0.Coords, cc0_transform_1 i = ![(i 0).val, 0] := by decide +kernel

theorem tr2 : ∀ i : grid0.Coords, cc0_transform_2 i = ![256 * (i 0).val, 2048] := by decide +kernel

theorem tr3 : ∀ i : grid0.Coords, cc0_transform_3 i = ![256 * (i 0).val, 3584] := by decide +kernel

theorem tr4 : ∀ i : grid0.Coords, cc0_transform_4 i = ![256 * (i 0).val, 3072] := by decide +kernel

theorem tr5 : ∀ i : grid0.Coords, cc0_transform_5 i = ![256 * (i 0).val - 128, 3072] := by decide +kernel

theorem tr6 : ∀ i : grid0.Coords, cc0_transform_6 i = ![256 * (i 0).val, 3328] := by decide +kernel

theorem tr7 : ∀ i : grid0.Coords, cc0_transform_7 i = ![256 * (i 0).val - 128, 3328] := by decide +kernel

theorem tr8 : ∀ i : grid0.Coords, cc0_transform_8 i = ![0, 0] := by decide +kernel

section
variable (m : (ℓ : Loc nD τ sig) → Buf (Elt Ideal) ℓ) (c : Dev nD) (t : Fin cfg0.N)

theorem iblk0 (y : S256x1024.Idx) (j : S8192x1024.Idx) (h0 : (j 0).val = 256 * (grid0.coords t 0).val + (y 0).val) (h1 : (j 1).val = 0 + (y 1).val) :
    (iblk m c 0 t : Vec Ideal S256x1024 .bf16) y = V m c main_arg0 j := by
  have e : cc0_transform_0 (grid0.coords t) 0 = (grid0.coords t 0).val := congrFun (tr0 _) 0
  have e' : cc0_transform_0 (grid0.coords t) 1 = 0 := congrFun (tr0 _) 1
  unfold iblk
  rw [View.read_apply]
  refine congrArg (V m c main_arg0) (funext fun a => Fin.ext ?_)
  match a with
  | ⟨0, _⟩ => show cc0_transform_0 (grid0.coords t) 0 * 256 + 1 * (y 0).val = (j 0).val; rw [e, h0]; omega
  | ⟨1, _⟩ => show cc0_transform_0 (grid0.coords t) 1 * 1024 + 1 * (y 1).val = (j 1).val; rw [e', h1]; omega

theorem iblk1 (y : S256x1024.Idx) (j : S8192x1024.Idx) (h0 : (j 0).val = 256 * (grid0.coords t 0).val + (y 0).val) (h1 : (j 1).val = 0 + (y 1).val) :
    (iblk m c 1 t : Vec Ideal S256x1024 .bf16) y = V m c main_v63 j := by
  have e : cc0_transform_1 (grid0.coords t) 0 = (grid0.coords t 0).val := congrFun (tr1 _) 0
  have e' : cc0_transform_1 (grid0.coords t) 1 = 0 := congrFun (tr1 _) 1
  unfold iblk
  rw [View.read_apply]
  refine congrArg (V m c main_v63) (funext fun a => Fin.ext ?_)
  match a with
  | ⟨0, _⟩ => show cc0_transform_1 (grid0.coords t) 0 * 256 + 1 * (y 0).val = (j 0).val; rw [e, h0]; omega
  | ⟨1, _⟩ => show cc0_transform_1 (grid0.coords t) 1 * 1024 + 1 * (y 1).val = (j 1).val; rw [e', h1]; omega

theorem iblk2 (y : S256x1024.Idx) (j : S8192x13824.Idx) (h0 : (j 0).val = 256 * (grid0.coords t 0).val + (y 0).val) (h1 : (j 1).val = 2048 + (y 1).val) :
    (iblk m c 2 t : Vec Ideal S256x1024 .bf16) y = V m c main_arg1 j := by
  have e : cc0_transform_2 (grid0.coords t) 0 = 256 * (grid0.coords t 0).val := congrFun (tr2 _) 0
  have e' : cc0_transform_2 (grid0.coords t) 1 = 2048 := congrFun (tr2 _) 1
  unfold iblk
  rw [View.read_apply]
  refine congrArg (V m c main_arg1) (funext fun a => Fin.ext ?_)
  match a with
  | ⟨0, _⟩ => show cc0_transform_2 (grid0.coords t) 0 + 1 * (y 0).val = (j 0).val; rw [e, h0]; omega
  | ⟨1, _⟩ => show cc0_transform_2 (grid0.coords t) 1 + 1 * (y 1).val = (j 1).val; rw [e', h1]; omega

theorem iblk3 (y : S256x1024.Idx) (j : S8192x13824.Idx) (h0 : (j 0).val = 256 * (grid0.coords t 0).val + (y 0).val) (h1 : (j 1).val = 3584 + (y 1).val) :
    (iblk m c 3 t : Vec Ideal S256x1024 .bf16) y = V m c main_arg1 j := by
  have e : cc0_transform_3 (grid0.coords t) 0 = 256 * (grid0.coords t 0).val := congrFun (tr3 _) 0
  have e' : cc0_transform_3 (grid0.coords t) 1 = 3584 := congrFun (tr3 _) 1
  unfold iblk
  rw [View.read_apply]
  refine congrArg (V m c main_arg1) (funext fun a => Fin.ext ?_)
  match a with
  | ⟨0, _⟩ => show cc0_transform_3 (grid0.coords t) 0 + 1 * (y 0).val = (j 0).val; rw [e, h0]; omega
  | ⟨1, _⟩ => show cc0_transform_3 (grid0.coords t) 1 + 1 * (y 1).val = (j 1).val; rw [e', h1]; omega

theorem iblk4 (y : S256x256.Idx) (j : S8192x13824.Idx) (h0 : (j 0).val = 256 * (grid0.coords t 0).val + (y 0).val) (h1 : (j 1).val = 3072 + (y 1).val) :
    (iblk m c 4 t : Vec Ideal S256x256 .bf16) y = V m c main_arg1 j := by
  have e : cc0_transform_4 (grid0.coords t) 0 = 256 * (grid0.coords t 0).val := congrFun (tr4 _) 0
  have e' : cc0_transform_4 (grid0.coords t) 1 = 3072 := congrFun (tr4 _) 1
  unfold iblk
  rw [View.read_apply]
  refine congrArg (V m c main_arg1) (funext fun a => Fin.ext ?_)
  match a with
  | ⟨0, _⟩ => show cc0_transform_4 (grid0.coords t) 0 + 1 * (y 0).val = (j 0).val; rw [e, h0]; omega
  | ⟨1, _⟩ => show cc0_transform_4 (grid0.coords t) 1 + 1 * (y 1).val = (j 1).val; rw [e', h1]; omega

theorem iblk5 (y : S128x256.Idx) (j : S8192x13824.Idx) (h0 : (j 0).val = 256 * (grid0.coords t 0).val - 128 + (y 0).val) (h1 : (j 1).val = 3072 + (y 1).val) :
    (iblk m c 5 t : Vec Ideal S128x256 .bf16) y = V m c main_arg1 j := by
  have e : cc0_transform_5 (grid0.coords t) 0 = 256 * (grid0.coords t 0).val - 128 := congrFun (tr5 _) 0
  have e' : cc0_transform_5 (grid0.coords t) 1 = 3072 := congrFun (tr5 _) 1
  unfold iblk
  rw [View.read_apply]
  refine congrArg (V m c main_arg1) (funext fun a => Fin.ext ?_)
  match a with
  | ⟨0, _⟩ => show cc0_transform_5 (grid0.coords t) 0 + 1 * (y 0).val = (j 0).val; rw [e, h0]; omega
  | ⟨1, _⟩ => show cc0_transform_5 (grid0.coords t) 1 + 1 * (y 1).val = (j 1).val; rw [e', h1]; omega

theorem iblk6 (y : S256x256.Idx) (j : S8192x13824.Idx) (h0 : (j 0).val = 256 * (grid0.coords t 0).val + (y 0).val) (h1 : (j 1).val = 3328 + (y 1).val) :
    (iblk m c 6 t : Vec Ideal S256x256 .bf16) y = V m c main_arg1 j := by
  have e : cc0_transform_6 (grid0.coords t) 0 = 256 * (grid0.coords t 0).val := congrFun (tr6 _) 0
  have e' : cc0_transform_6 (grid0.coords t) 1 = 3328 := congrFun (tr6 _) 1
  unfold iblk
  rw [View.read_apply]
  refine congrArg (V m c main_arg1) (funext fun a => Fin.ext ?_)
  match a with
  | ⟨0, _⟩ => show cc0_transform_6 (grid0.coords t) 0 + 1 * (y 0).val = (j 0).val; rw [e, h0]; omega
  | ⟨1, _⟩ => show cc0_transform_6 (grid0.coords t) 1 + 1 * (y 1).val = (j 1).val; rw [e', h1]; omega

theorem iblk7 (y : S128x256.Idx) (j : S8192x13824.Idx) (h0 : (j 0).val = 256 * (grid0.coords t 0).val - 128 + (y 0).val) (h1 : (j 1).val = 3328 + (y 1).val) :
    (iblk m c 7 t : Vec Ideal S128x256 .bf16) y = V m c main_arg1 j := by
  have e : cc0_transform_7 (grid0.coords t) 0 = 256 * (grid0.coords t 0).val - 128 := congrFun (tr7 _) 0
  have e' : cc0_transform_7 (grid0.coords t) 1 = 3328 := congrFun (tr7 _) 1
  unfold iblk
  rw [View.read_apply]
  refine congrArg (V m c main_arg1) (funext fun a => Fin.ext ?_)
  match a with
  | ⟨0, _⟩ => show cc0_transform_7 (grid0.coords t) 0 + 1 * (y 0).val = (j 0).val; rw [e, h0]; omega
  | ⟨1, _⟩ => show cc0_transform_7 (grid0.coords t) 1 + 1 * (y 1).val = (j 1).val; rw [e', h1]; omega

theorem iblk8 (y : S16x128.Idx) (j : S16x128.Idx) (h0 : (j 0).val = 0 + (y 0).val) (h1 : (j 1).val = 0 + (y 1).val) :
    (iblk m c 8 t : Vec Ideal S16x128 .f32) y = V m c main_v65 j := by
  have e : cc0_transform_8 (grid0.coords t) 0 = 0 := congrFun (tr8 _) 0
  have e' : cc0_transform_8 (grid0.coords t) 1 = 0 := congrFun (tr8 _) 1
  unfold iblk
  rw [View.read_apply]
  refine congrArg (V m c main_v65) (funext fun a => Fin.ext ?_)
  match a with
  | ⟨0, _⟩ => show cc0_transform_8 (grid0.coords t) 0 * 16 + 1 * (y 0).val = (j 0).val; rw [e, h0]; omega
  | ⟨1, _⟩ => show cc0_transform_8 (grid0.coords t) 1 * 128 + 1 * (y 1).val = (j 1).val; rw [e', h1]; omega

end

section
variable (m : (ℓ : Loc nD τ sig) → Buf (Elt Ideal) ℓ) (c : Dev nD)

theorem V_main_v63 : @Eq (FVec Ideal S8192x1024 .bf16) (V m c main_v63) (truncf .bf16 (Cert.ReferenceIdeal.Read.val_main_v90 (F := Ideal) (m ((c : Thread nD τ).loc main_arg1)) (m ((c : Thread nD τ).loc main_arg2))) bitsLt_bf16_f32) :=
  (congrFun (after_host (F := Ideal) (fun b => m (c, b))) (Proc.devRef .tc main_v63)).trans (pre5_main_v63 (F := Ideal) (fun b => m (c, b)))

theorem V_main_v65 : V m c main_v65 = broadcastInDim S16x128 ![0, 1] bcast_S16x1_S16x128_0_1 (broadcastInDim S16x1 ![0] bcast_S16_S16x1_0 (m ((c : Thread nD τ).loc main_arg2))) :=
  (congrFun (after_host (F := Ideal) (fun b => m (c, b))) (Proc.devRef .tc main_v65)).trans (pre5_main_v65 (F := Ideal) (fun b => m (c, b)))

variable {m c} {I : Inputs} (H : Holds I (m ((c : Thread nD τ).loc main_arg0)) (m ((c : Thread nD τ).loc main_arg1)) (m ((c : Thread nD τ).loc main_arg2)))

include H

/-- The blocks at a point hold the inputs' numbers. -/
theorem blkHolds (t : Fin cfg0.N) (v w : View sig .tc .vmem S384x256 .bf16) :
    BlkHolds I (grid0.coords t) (winOf v (grid0.coords t) (iblk m c 4 t) (iblk m c 5 t)) (winOf w (grid0.coords t) (iblk m c 6 t) (iblk m c 7 t))
      (iblk m c 0 t) (iblk m c 1 t) (iblk m c 2 t) (iblk m c 3 t) (iblk m c 8 t) := by
  have ht : (grid0.coords t 0).val < 32 := (grid0.coords t 0).isLt
  refine ⟨winOf_eq I.k H.k0 _ _ _ _ (fun y => ?_) (fun hi y => ?_), winOf_eq I.v H.v0 _ _ _ _ (fun y => ?_) (fun hi y => ?_), fun y => ?_, fun y => ?_, fun y => ?_, fun y => ?_, fun y => ?_⟩
  · have y0 : (y 0).val < 256 := (y 0).isLt
    have y1 : (y 1).val < 256 := (y 1).isLt
    refine (iblk4 m c t y (ix2 ⟨256 * (grid0.coords t 0).val + (y 0).val, by omega⟩ ⟨3072 + (y 1).val, by omega⟩) rfl rfl).trans ?_
    rw [V_main_arg1, H.k _ (by dsimp; omega) (by dsimp; omega)]
    exact coe_at2 _ (by dsimp; omega) (by dsimp; omega)
  · have y0 : (y 0).val < 128 := (y 0).isLt
    have y1 : (y 1).val < 256 := (y 1).isLt
    refine (iblk5 m c t y (ix2 ⟨256 * (grid0.coords t 0).val - 128 + (y 0).val, by omega⟩ ⟨3072 + (y 1).val, by omega⟩) rfl rfl).trans ?_
    rw [V_main_arg1, H.k _ (by dsimp; omega) (by dsimp; omega)]
    exact coe_at2 _ (by dsimp; omega) (by dsimp; omega)
  · have y0 : (y 0).val < 256 := (y 0).isLt
    have y1 : (y 1).val < 256 := (y 1).isLt
    refine (iblk6 m c t y (ix2 ⟨256 * (grid0.coords t 0).val + (y 0).val, by omega⟩ ⟨3328 + (y 1).val, by omega⟩) rfl rfl).trans ?_
    rw [V_main_arg1, H.v _ (by dsimp; omega) (by dsimp; omega)]
    exact coe_at2 _ (by dsimp; omega) (by dsimp; omega)
  · have y0 : (y 0).val < 128 := (y 0).isLt
    have y1 : (y 1).val < 256 := (y 1).isLt
    refine (iblk7 m c t y (ix2 ⟨256 * (grid0.coords t 0).val - 128 + (y 0).val, by omega⟩ ⟨3328 + (y 1).val, by omega⟩) rfl rfl).trans ?_
    rw [V_main_arg1, H.v _ (by dsimp; omega) (by dsimp; omega)]
    exact coe_at2 _ (by dsimp; omega) (by dsimp; omega)
  · have y0 : (y 0).val < 256 := (y 0).isLt
    have y1 : (y 1).val < 1024 := (y 1).isLt
    refine (iblk0 m c t y (ix2 ⟨256 * (grid0.coords t 0).val + (y 0).val, by omega⟩ ⟨(y 1).val, y1⟩) rfl (Nat.zero_add _).symm).trans ?_
    rw [V_main_arg0, H.dy]
    rfl
  · have y0 : (y 0).val < 256 := (y 0).isLt
    have y1 : (y 1).val < 1024 := (y 1).isLt
    refine (iblk1 m c t y (ix2 ⟨256 * (grid0.coords t 0).val + (y 0).val, by omega⟩ ⟨(y 1).val, y1⟩) rfl (Nat.zero_add _).symm).trans ?_
    refine (congrFun (V_main_v63 m c) _).trans ?_
    exact v90_eq H _
  · have y0 : (y 0).val < 256 := (y 0).isLt
    have y1 : (y 1).val < 1024 := (y 1).isLt
    refine (iblk2 m c t y (ix2 ⟨256 * (grid0.coords t 0).val + (y 0).val, by omega⟩ ⟨2048 + (y 1).val, by omega⟩) rfl rfl).trans ?_
    rw [V_main_arg1, H.q _ (by dsimp; omega) (by dsimp; omega)]
    exact coe_at2 _ rfl (by dsimp; omega)
  · have y0 : (y 0).val < 256 := (y 0).isLt
    have y1 : (y 1).val < 1024 := (y 1).isLt
    refine (iblk3 m c t y (ix2 ⟨256 * (grid0.coords t 0).val + (y 0).val, by omega⟩ ⟨3584 + (y 1).val, by omega⟩) rfl rfl).trans ?_
    rw [V_main_arg1, H.z _ (by dsimp; omega) (by dsimp; omega)]
    exact coe_at2 _ rfl (by dsimp; omega)
  · refine (iblk8 m c t y y (Nat.zero_add _).symm (Nat.zero_add _).symm).trans ?_
    rw [V_main_v65]
    exact H.sk _

end

end Cert.Proof.Attn

end
-- ==== Proof.Attn.CaseB.lean ====
/-
  What the body of case B leaves in the results' staging buffers and in the carried scratch, as the block's functions
  of the blocks it reads.
-/
module

public import proofs.«01_k».proof.Proof.Run.Outs
public import proofs.«01_k».proof.Proof.Attn.Blk

@[expose] public section

set_option maxRecDepth 16384

noncomputable section

namespace Cert.Proof.Attn

open Cert.KernelIdeal Cert.KernelIdeal.Gen Idealize.ShloMosaic Idealize.ShloMosaic.Tactic

variable {F : FTy → Type} [FloatOps F]

section

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : ¬cond0_0 i) (hc1 : ¬cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (xo11 : Vec F S16x128 .f32) (xs0 : Vec F S8320x256 .f32)
    (xs1 : Vec F S8320x256 .f32) (fw0 : HbBuf0 (F := F) c hbM0_0) (fw1 : HbBuf0 (F := F) c hbM0_1)

theorem out0_B_9_eq :
    out0_B_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = VO0_9.read (Elt F) (VO0_9.writes (Elt F) VO0_9.junk [(⟨Rect.unit ![0, 768] S256x256.size inb_S256x1024_S256x256_0_768, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 3⟩ : View.Piece (Elt F) S256x1024 .bf16),
          (⟨Rect.unit ![0, 512] S256x256.size inb_S256x1024_S256x256_0_512, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 2⟩ : View.Piece (Elt F) S256x1024 .bf16),
          (⟨Rect.unit ![0, 256] S256x256.size inb_S256x1024_S256x256_0_256, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 1⟩ : View.Piece (Elt F) S256x1024 .bf16),
          (⟨Rect.unit ![0, 0] S256x256.size inb_S256x1024_S256x256_0_0, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 0⟩ : View.Piece (Elt F) S256x1024 .bf16)]) := by
  unfold out0_B_9 kernelRun0_B
  rfl

theorem out0_B_10_eq :
    out0_B_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = VO0_10.read (Elt F) (VO0_10.writes (Elt F) VO0_10.junk [(⟨Rect.unit ![0, 768] S256x256.size inb_S256x1024_S256x256_0_768, dzGroup (arg1.view.read (Elt F) (harg1.unread x0)) (arg2.view.read (Elt F) (harg2.unread x1)) (arg4.view.read (Elt F) (harg4.unread x3)) 3⟩ : View.Piece (Elt F) S256x1024 .bf16),
          (⟨Rect.unit ![0, 512] S256x256.size inb_S256x1024_S256x256_0_512, dzGroup (arg1.view.read (Elt F) (harg1.unread x0)) (arg2.view.read (Elt F) (harg2.unread x1)) (arg4.view.read (Elt F) (harg4.unread x3)) 2⟩ : View.Piece (Elt F) S256x1024 .bf16),
          (⟨Rect.unit ![0, 256] S256x256.size inb_S256x1024_S256x256_0_256, dzGroup (arg1.view.read (Elt F) (harg1.unread x0)) (arg2.view.read (Elt F) (harg2.unread x1)) (arg4.view.read (Elt F) (harg4.unread x3)) 1⟩ : View.Piece (Elt F) S256x1024 .bf16),
          (⟨Rect.unit ![0, 0] S256x256.size inb_S256x1024_S256x256_0_0, dzGroup (arg1.view.read (Elt F) (harg1.unread x0)) (arg2.view.read (Elt F) (harg2.unread x1)) (arg4.view.read (Elt F) (harg4.unread x3)) 0⟩ : View.Piece (Elt F) S256x1024 .bf16)]) := by
  unfold out0_B_10 kernelRun0_B
  rfl

theorem out0_B_11_eq :
    out0_B_11 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = VO0_11.read (Elt F) (VO0_11.writes (Elt F) VO0_11.junk [(⟨Rect.unit ![15, 0] S1x128.size inb_S16x128_S1x128_15_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 15 (View.ld (arg14.view.read (Elt F) (harg14.unread xo11)) (Rect.unit ![15, 0] S1x128.size inb_S16x128_S1x128_15_0))⟩ : View.Piece (Elt F) S16x128 .f32),
          (⟨Rect.unit ![14, 0] S1x128.size inb_S16x128_S1x128_14_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 14 (View.ld (arg14.view.read (Elt F) (harg14.unread xo11)) (Rect.unit ![14, 0] S1x128.size inb_S16x128_S1x128_14_0))⟩ : View.Piece (Elt F) S16x128 .f32),
          (⟨Rect.unit ![13, 0] S1x128.size inb_S16x128_S1x128_13_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 13 (View.ld (arg14.view.read (Elt F) (harg14.unread xo11)) (Rect.unit ![13, 0] S1x128.size inb_S16x128_S1x128_13_0))⟩ : View.Piece (Elt F) S16x128 .f32),
          (⟨Rect.unit ![12, 0] S1x128.size inb_S16x128_S1x128_12_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 12 (View.ld (arg14.view.read (Elt F) (harg14.unread xo11)) (Rect.unit ![12, 0] S1x128.size inb_S16x128_S1x128_12_0))⟩ : View.Piece (Elt F) S16x128 .f32),
          (⟨Rect.unit ![11, 0] S1x128.size inb_S16x128_S1x128_11_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 11 (View.ld (arg14.view.read (Elt F) (harg14.unread xo11)) (Rect.unit ![11, 0] S1x128.size inb_S16x128_S1x128_11_0))⟩ : View.Piece (Elt F) S16x128 .f32),
          (⟨Rect.unit ![10, 0] S1x128.size inb_S16x128_S1x128_10_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 10 (View.ld (arg14.view.read (Elt F) (harg14.unread xo11)) (Rect.unit ![10, 0] S1x128.size inb_S16x128_S1x128_10_0))⟩ : View.Piece (Elt F) S16x128 .f32),
          (⟨Rect.unit ![9, 0] S1x128.size inb_S16x128_S1x128_9_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 9 (View.ld (arg14.view.read (Elt F) (harg14.unread xo11)) (Rect.unit ![9, 0] S1x128.size inb_S16x128_S1x128_9_0))⟩ : View.Piece (Elt F) S16x128 .f32),
          (⟨Rect.unit ![8, 0] S1x128.size inb_S16x128_S1x128_8_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 8 (View.ld (arg14.view.read (Elt F) (harg14.unread xo11)) (Rect.unit ![8, 0] S1x128.size inb_S16x128_S1x128_8_0))⟩ : View.Piece (Elt F) S16x128 .f32),
          (⟨Rect.unit ![7, 0] S1x128.size inb_S16x128_S1x128_7_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 7 (View.ld (arg14.view.read (Elt F) (harg14.unread xo11)) (Rect.unit ![7, 0] S1x128.size inb_S16x128_S1x128_7_0))⟩ : View.Piece (Elt F) S16x128 .f32),
          (⟨Rect.unit ![6, 0] S1x128.size inb_S16x128_S1x128_6_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 6 (View.ld (arg14.view.read (Elt F) (harg14.unread xo11)) (Rect.unit ![6, 0] S1x128.size inb_S16x128_S1x128_6_0))⟩ : View.Piece (Elt F) S16x128 .f32),
          (⟨Rect.unit ![5, 0] S1x128.size inb_S16x128_S1x128_5_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 5 (View.ld (arg14.view.read (Elt F) (harg14.unread xo11)) (Rect.unit ![5, 0] S1x128.size inb_S16x128_S1x128_5_0))⟩ : View.Piece (Elt F) S16x128 .f32),
          (⟨Rect.unit ![4, 0] S1x128.size inb_S16x128_S1x128_4_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 4 (View.ld (arg14.view.read (Elt F) (harg14.unread xo11)) (Rect.unit ![4, 0] S1x128.size inb_S16x128_S1x128_4_0))⟩ : View.Piece (Elt F) S16x128 .f32),
          (⟨Rect.unit ![3, 0] S1x128.size inb_S16x128_S1x128_3_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 3 (View.ld (arg14.view.read (Elt F) (harg14.unread xo11)) (Rect.unit ![3, 0] S1x128.size inb_S16x128_S1x128_3_0))⟩ : View.Piece (Elt F) S16x128 .f32),
          (⟨Rect.unit ![2, 0] S1x128.size inb_S16x128_S1x128_2_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 2 (View.ld (arg14.view.read (Elt F) (harg14.unread xo11)) (Rect.unit ![2, 0] S1x128.size inb_S16x128_S1x128_2_0))⟩ : View.Piece (Elt F) S16x128 .f32),
          (⟨Rect.unit ![1, 0] S1x128.size inb_S16x128_S1x128_1_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 1 (View.ld (arg14.view.read (Elt F) (harg14.unread xo11)) (Rect.unit ![1, 0] S1x128.size inb_S16x128_S1x128_1_0))⟩ : View.Piece (Elt F) S16x128 .f32),
          (⟨Rect.unit ![0, 0] S1x128.size inb_S16x128_S1x128_0_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 0 (View.ld (arg14.view.read (Elt F) (harg14.unread xo11)) (Rect.unit ![0, 0] S1x128.size inb_S16x128_S1x128_0_0))⟩ : View.Piece (Elt F) S16x128 .f32)]) := by
  unfold out0_B_11 kernelRun0_B
  rfl

theorem sout0_B_0_eq :
    sout0_B_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = arg15.view.read (Elt F) (arg15.view.writes (Elt F) (harg15.unread xs0)
          [(⟨Rect.unit (k0_off1 i) S384x256.size (k0_off1_inb i), shapeCast S384x256 (addf (View.ld (arg15.view.read (Elt F) (harg15.unread xs0)) (Rect.unit (k0_off1 i) S384x256.size (k0_off1_inb i)))
            (dkRows i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)))) shapeCasts_S384x256_S384x256⟩ : View.Piece (Elt F) S8320x256 .f32)]) := by
  unfold sout0_B_0 kernelRun0_B
  rfl

theorem sout0_B_1_eq :
    sout0_B_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = arg16.view.read (Elt F) (arg16.view.writes (Elt F) (harg16.unread xs1)
          [(⟨Rect.unit (k0_off1 i) S384x256.size (k0_off1_inb i), shapeCast S384x256 (addf (View.ld (arg16.view.read (Elt F) (harg16.unread xs1)) (Rect.unit (k0_off1 i) S384x256.size (k0_off1_inb i)))
            (dvRows i (winOf arg17.view i (arg5.view.read (Elt F) (harg5.unread x4)) (arg6.view.read (Elt F) (harg6.unread x5))) (arg1.view.read (Elt F) (harg1.unread x0)) (arg3.view.read (Elt F) (harg3.unread x2)) (arg4.view.read (Elt F) (harg4.unread x3)) (arg9.view.read (Elt F) (harg9.unread x8)))) shapeCasts_S384x256_S384x256⟩ : View.Piece (Elt F) S8320x256 .f32)]) := by
  unfold sout0_B_1 kernelRun0_B
  rfl

end

end Cert.Proof.Attn

end
-- ==== Proof.Attn.CaseC.lean ====
/-
  What the body of case C leaves in the results' staging buffers and in the carried scratch, as the block's functions
  of the blocks it reads.
-/
module

public import proofs.«01_k».proof.Proof.Run.Outs
public import proofs.«01_k».proof.Proof.Attn.Blk

@[expose] public section

set_option maxRecDepth 16384

noncomputable section

namespace Cert.Proof.Attn

open Cert.KernelIdeal Cert.KernelIdeal.Gen Idealize.ShloMosaic Idealize.ShloMosaic.Tactic

variable {F : FTy → Type} [FloatOps F]

section

variable (c : Dev nD) (i : grid0.Coords) (arg1 : Memref sig .tc .vmem S256x1024 .bf16) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S256x1024 .bf16) (harg4 : arg4.IsWhole) (arg5 : Memref sig .tc .vmem S256x256 .bf16) (harg5 : arg5.IsWhole)
    (arg6 : Memref sig .tc .vmem S128x256 .bf16) (harg6 : arg6.IsWhole) (arg7 : Memref sig .tc .vmem S256x256 .bf16) (harg7 : arg7.IsWhole)
    (arg8 : Memref sig .tc .vmem S128x256 .bf16) (harg8 : arg8.IsWhole) (arg9 : Memref sig .tc .vmem S16x128 .f32) (harg9 : arg9.IsWhole)
    (arg10 : Memref sig .tc .vmem S256x1024 .bf16) (harg10 : arg10.IsWhole) (arg11 : Memref sig .tc .vmem S256x1024 .bf16) (harg11 : arg11.IsWhole)
    (arg14 : Memref sig .tc .vmem S16x128 .f32) (harg14 : arg14.IsWhole) (arg15 : Memref sig .tc .vmem S8320x256 .f32) (harg15 : arg15.IsWhole)
    (arg16 : Memref sig .tc .vmem S8320x256 .f32) (harg16 : arg16.IsWhole) (arg17 : Memref sig .tc .vmem S384x256 .bf16) (harg17 : arg17.IsWhole)
    (arg18 : Memref sig .tc .vmem S384x256 .bf16) (harg18 : arg18.IsWhole) (hc0 : ¬cond0_0 i) (hc1 : cond0_1 i) (x0 : Vec F S256x1024 .bf16)
    (x1 : Vec F S256x1024 .bf16) (x2 : Vec F S256x1024 .bf16) (x3 : Vec F S256x1024 .bf16) (x4 : Vec F S256x256 .bf16) (x5 : Vec F S128x256 .bf16)
    (x6 : Vec F S256x256 .bf16) (x7 : Vec F S128x256 .bf16) (x8 : Vec F S16x128 .f32) (xo11 : Vec F S16x128 .f32) (xs0 : Vec F S8320x256 .f32)
    (xs1 : Vec F S8320x256 .f32) (fw0 : HbBuf0 (F := F) c hbM0_0) (fw1 : HbBuf0 (F := F) c hbM0_1)

theorem out0_C_9_eq :
    out0_C_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = VO0_9.read (Elt F) (VO0_9.writes (Elt F) VO0_9.junk [(⟨Rect.unit ![0, 768] S256x256.size inb_S256x1024_S256x256_0_768, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 3⟩ : View.Piece (Elt F) S256x1024 .bf16),
          (⟨Rect.unit ![0, 512] S256x256.size inb_S256x1024_S256x256_0_512, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 2⟩ : View.Piece (Elt F) S256x1024 .bf16),
          (⟨Rect.unit ![0, 256] S256x256.size inb_S256x1024_S256x256_0_256, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 1⟩ : View.Piece (Elt F) S256x1024 .bf16),
          (⟨Rect.unit ![0, 0] S256x256.size inb_S256x1024_S256x256_0_0, dqGroup i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 0⟩ : View.Piece (Elt F) S256x1024 .bf16)]) := by
  unfold out0_C_9 kernelRun0_C
  rfl

theorem out0_C_10_eq :
    out0_C_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = VO0_10.read (Elt F) (VO0_10.writes (Elt F) VO0_10.junk [(⟨Rect.unit ![0, 768] S256x256.size inb_S256x1024_S256x256_0_768, dzGroup (arg1.view.read (Elt F) (harg1.unread x0)) (arg2.view.read (Elt F) (harg2.unread x1)) (arg4.view.read (Elt F) (harg4.unread x3)) 3⟩ : View.Piece (Elt F) S256x1024 .bf16),
          (⟨Rect.unit ![0, 512] S256x256.size inb_S256x1024_S256x256_0_512, dzGroup (arg1.view.read (Elt F) (harg1.unread x0)) (arg2.view.read (Elt F) (harg2.unread x1)) (arg4.view.read (Elt F) (harg4.unread x3)) 2⟩ : View.Piece (Elt F) S256x1024 .bf16),
          (⟨Rect.unit ![0, 256] S256x256.size inb_S256x1024_S256x256_0_256, dzGroup (arg1.view.read (Elt F) (harg1.unread x0)) (arg2.view.read (Elt F) (harg2.unread x1)) (arg4.view.read (Elt F) (harg4.unread x3)) 1⟩ : View.Piece (Elt F) S256x1024 .bf16),
          (⟨Rect.unit ![0, 0] S256x256.size inb_S256x1024_S256x256_0_0, dzGroup (arg1.view.read (Elt F) (harg1.unread x0)) (arg2.view.read (Elt F) (harg2.unread x1)) (arg4.view.read (Elt F) (harg4.unread x3)) 0⟩ : View.Piece (Elt F) S256x1024 .bf16)]) := by
  unfold out0_C_10 kernelRun0_C
  rfl

theorem out0_C_11_eq :
    out0_C_11 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = VO0_11.read (Elt F) (VO0_11.writes (Elt F) VO0_11.junk [(⟨Rect.unit ![15, 0] S1x128.size inb_S16x128_S1x128_15_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 15 (View.ld (arg14.view.read (Elt F) (harg14.unread xo11)) (Rect.unit ![15, 0] S1x128.size inb_S16x128_S1x128_15_0))⟩ : View.Piece (Elt F) S16x128 .f32),
          (⟨Rect.unit ![14, 0] S1x128.size inb_S16x128_S1x128_14_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 14 (View.ld (arg14.view.read (Elt F) (harg14.unread xo11)) (Rect.unit ![14, 0] S1x128.size inb_S16x128_S1x128_14_0))⟩ : View.Piece (Elt F) S16x128 .f32),
          (⟨Rect.unit ![13, 0] S1x128.size inb_S16x128_S1x128_13_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 13 (View.ld (arg14.view.read (Elt F) (harg14.unread xo11)) (Rect.unit ![13, 0] S1x128.size inb_S16x128_S1x128_13_0))⟩ : View.Piece (Elt F) S16x128 .f32),
          (⟨Rect.unit ![12, 0] S1x128.size inb_S16x128_S1x128_12_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 12 (View.ld (arg14.view.read (Elt F) (harg14.unread xo11)) (Rect.unit ![12, 0] S1x128.size inb_S16x128_S1x128_12_0))⟩ : View.Piece (Elt F) S16x128 .f32),
          (⟨Rect.unit ![11, 0] S1x128.size inb_S16x128_S1x128_11_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 11 (View.ld (arg14.view.read (Elt F) (harg14.unread xo11)) (Rect.unit ![11, 0] S1x128.size inb_S16x128_S1x128_11_0))⟩ : View.Piece (Elt F) S16x128 .f32),
          (⟨Rect.unit ![10, 0] S1x128.size inb_S16x128_S1x128_10_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 10 (View.ld (arg14.view.read (Elt F) (harg14.unread xo11)) (Rect.unit ![10, 0] S1x128.size inb_S16x128_S1x128_10_0))⟩ : View.Piece (Elt F) S16x128 .f32),
          (⟨Rect.unit ![9, 0] S1x128.size inb_S16x128_S1x128_9_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 9 (View.ld (arg14.view.read (Elt F) (harg14.unread xo11)) (Rect.unit ![9, 0] S1x128.size inb_S16x128_S1x128_9_0))⟩ : View.Piece (Elt F) S16x128 .f32),
          (⟨Rect.unit ![8, 0] S1x128.size inb_S16x128_S1x128_8_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 8 (View.ld (arg14.view.read (Elt F) (harg14.unread xo11)) (Rect.unit ![8, 0] S1x128.size inb_S16x128_S1x128_8_0))⟩ : View.Piece (Elt F) S16x128 .f32),
          (⟨Rect.unit ![7, 0] S1x128.size inb_S16x128_S1x128_7_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 7 (View.ld (arg14.view.read (Elt F) (harg14.unread xo11)) (Rect.unit ![7, 0] S1x128.size inb_S16x128_S1x128_7_0))⟩ : View.Piece (Elt F) S16x128 .f32),
          (⟨Rect.unit ![6, 0] S1x128.size inb_S16x128_S1x128_6_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 6 (View.ld (arg14.view.read (Elt F) (harg14.unread xo11)) (Rect.unit ![6, 0] S1x128.size inb_S16x128_S1x128_6_0))⟩ : View.Piece (Elt F) S16x128 .f32),
          (⟨Rect.unit ![5, 0] S1x128.size inb_S16x128_S1x128_5_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 5 (View.ld (arg14.view.read (Elt F) (harg14.unread xo11)) (Rect.unit ![5, 0] S1x128.size inb_S16x128_S1x128_5_0))⟩ : View.Piece (Elt F) S16x128 .f32),
          (⟨Rect.unit ![4, 0] S1x128.size inb_S16x128_S1x128_4_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 4 (View.ld (arg14.view.read (Elt F) (harg14.unread xo11)) (Rect.unit ![4, 0] S1x128.size inb_S16x128_S1x128_4_0))⟩ : View.Piece (Elt F) S16x128 .f32),
          (⟨Rect.unit ![3, 0] S1x128.size inb_S16x128_S1x128_3_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 3 (View.ld (arg14.view.read (Elt F) (harg14.unread xo11)) (Rect.unit ![3, 0] S1x128.size inb_S16x128_S1x128_3_0))⟩ : View.Piece (Elt F) S16x128 .f32),
          (⟨Rect.unit ![2, 0] S1x128.size inb_S16x128_S1x128_2_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 2 (View.ld (arg14.view.read (Elt F) (harg14.unread xo11)) (Rect.unit ![2, 0] S1x128.size inb_S16x128_S1x128_2_0))⟩ : View.Piece (Elt F) S16x128 .f32),
          (⟨Rect.unit ![1, 0] S1x128.size inb_S16x128_S1x128_1_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 1 (View.ld (arg14.view.read (Elt F) (harg14.unread xo11)) (Rect.unit ![1, 0] S1x128.size inb_S16x128_S1x128_1_0))⟩ : View.Piece (Elt F) S16x128 .f32),
          (⟨Rect.unit ![0, 0] S1x128.size inb_S16x128_S1x128_0_0, dsRow i (winOf arg17.view i (arg5.view.read (Elt F) (harg5.unread x4)) (arg6.view.read (Elt F) (harg6.unread x5))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)) 0 (View.ld (arg14.view.read (Elt F) (harg14.unread xo11)) (Rect.unit ![0, 0] S1x128.size inb_S16x128_S1x128_0_0))⟩ : View.Piece (Elt F) S16x128 .f32)]) := by
  unfold out0_C_11 kernelRun0_C
  rfl

theorem sout0_C_0_eq :
    sout0_C_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = arg15.view.read (Elt F) (arg15.view.writes (Elt F) (harg15.unread xs0)
          [(⟨Rect.unit (k0_off1 i) S384x256.size (k0_off1_inb i), shapeCast S384x256 (addf (View.ld (arg15.view.read (Elt F) (harg15.unread xs0)) (Rect.unit (k0_off1 i) S384x256.size (k0_off1_inb i)))
            (dkRows i (winOf arg17.view i (arg5.view.read (Elt F) (harg5.unread x4)) (arg6.view.read (Elt F) (harg6.unread x5))) (winOf arg18.view i (arg7.view.read (Elt F) (harg7.unread x6)) (arg8.view.read (Elt F) (harg8.unread x7))) (arg1.view.read (Elt F) (harg1.unread x0)) (arg2.view.read (Elt F) (harg2.unread x1)) (arg3.view.read (Elt F) (harg3.unread x2)) (arg4.view.read (Elt F) (harg4.unread x3)) (arg9.view.read (Elt F) (harg9.unread x8)))) shapeCasts_S384x256_S384x256⟩ : View.Piece (Elt F) S8320x256 .f32)]) := by
  unfold sout0_C_0 kernelRun0_C
  rfl

theorem sout0_C_1_eq :
    sout0_C_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = arg16.view.read (Elt F) (arg16.view.writes (Elt F) (harg16.unread xs1)
          [(⟨Rect.unit (k0_off1 i) S384x256.size (k0_off1_inb i), shapeCast S384x256 (addf (View.ld (arg16.view.read (Elt F) (harg16.unread xs1)) (Rect.unit (k0_off1 i) S384x256.size (k0_off1_inb i)))
            (dvRows i (winOf arg17.view i (arg5.view.read (Elt F) (harg5.unread x4)) (arg6.view.read (Elt F) (harg6.unread x5))) (arg1.view.read (Elt F) (harg1.unread x0)) (arg3.view.read (Elt F) (harg3.unread x2)) (arg4.view.read (Elt F) (harg4.unread x3)) (arg9.view.read (Elt F) (harg9.unread x8)))) shapeCasts_S384x256_S384x256⟩ : View.Piece (Elt F) S8320x256 .f32)]) := by
  unfold sout0_C_1 kernelRun0_C
  rfl

end

theorem hbw0_C_0_eq (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S16x128 .f32) (harg9 : arg9.IsWhole) (arg10 : Memref sig .tc .vmem S256x1024 .bf16) (harg10 : arg10.IsWhole) (arg11 : Memref sig .tc .vmem S256x1024 .bf16) (harg11 : arg11.IsWhole) (arg14 : Memref sig .tc .vmem S16x128 .f32) (harg14 : arg14.IsWhole) (arg15 : Memref sig .tc .vmem S8320x256 .f32) (harg15 : arg15.IsWhole) (arg16 : Memref sig .tc .vmem S8320x256 .f32) (harg16 : arg16.IsWhole) (arg17 : Memref sig .tc .vmem S384x256 .bf16) (harg17 : arg17.IsWhole) (arg18 : Memref sig .tc .vmem S384x256 .bf16) (harg18 : arg18.IsWhole) (hc0 : ¬cond0_0 i) (hc1 : cond0_1 i)
    (x0 : Vec F S256x1024 .bf16) (x1 : Vec F S256x1024 .bf16) (x2 : Vec F S256x1024 .bf16) (x3 : Vec F S256x1024 .bf16) (x4 : Vec F S256x256 .bf16) (x5 : Vec F S128x256 .bf16) (x6 : Vec F S256x256 .bf16) (x7 : Vec F S128x256 .bf16) (x8 : Vec F S16x128 .f32) (xo11 : Vec F S16x128 .f32) (xs0 : Vec F S8320x256 .f32) (xs1 : Vec F S8320x256 .f32) (fw0 : HbBuf0 (F := F) c hbM0_0) (fw1 : HbBuf0 (F := F) c hbM0_1) :
    hbw0_C_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = View.write (Elt F) (View.whole main_v66_2) fw0 (sout0_C_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1) Finset.univ := by
  unfold hbw0_C_0 kernelRun0_C
  rfl

theorem hbw0_C_1_eq (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S16x128 .f32) (harg9 : arg9.IsWhole) (arg10 : Memref sig .tc .vmem S256x1024 .bf16) (harg10 : arg10.IsWhole) (arg11 : Memref sig .tc .vmem S256x1024 .bf16) (harg11 : arg11.IsWhole) (arg14 : Memref sig .tc .vmem S16x128 .f32) (harg14 : arg14.IsWhole) (arg15 : Memref sig .tc .vmem S8320x256 .f32) (harg15 : arg15.IsWhole) (arg16 : Memref sig .tc .vmem S8320x256 .f32) (harg16 : arg16.IsWhole) (arg17 : Memref sig .tc .vmem S384x256 .bf16) (harg17 : arg17.IsWhole) (arg18 : Memref sig .tc .vmem S384x256 .bf16) (harg18 : arg18.IsWhole) (hc0 : ¬cond0_0 i) (hc1 : cond0_1 i)
    (x0 : Vec F S256x1024 .bf16) (x1 : Vec F S256x1024 .bf16) (x2 : Vec F S256x1024 .bf16) (x3 : Vec F S256x1024 .bf16) (x4 : Vec F S256x256 .bf16) (x5 : Vec F S128x256 .bf16) (x6 : Vec F S256x256 .bf16) (x7 : Vec F S128x256 .bf16) (x8 : Vec F S16x128 .f32) (xo11 : Vec F S16x128 .f32) (xs0 : Vec F S8320x256 .f32) (xs1 : Vec F S8320x256 .f32) (fw0 : HbBuf0 (F := F) c hbM0_0) (fw1 : HbBuf0 (F := F) c hbM0_1) :
    hbw0_C_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1
      = View.write (Elt F) (View.whole main_v66_3) fw1 (sout0_C_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1) Finset.univ := by
  unfold hbw0_C_1 kernelRun0_C
  rfl

end Cert.Proof.Attn

end
-- ==== Proof.Attn.CaseVal.lean ====
/-
  What each case of the body leaves in the results' staging buffers and in the carried scratch, at the inputs' numbers.
-/
module

public import proofs.«01_k».proof.Proof.Attn.CaseA
public import proofs.«01_k».proof.Proof.Attn.CaseB
public import proofs.«01_k».proof.Proof.Attn.CaseC
public import proofs.«01_k».proof.Proof.Attn.Pieces

@[expose] public section

set_option maxRecDepth 16384

noncomputable section

namespace Cert.Proof.Attn

open Cert.KernelIdeal Cert.KernelIdeal.Gen Idealize.ShloMosaic Idealize.ShloMosaic.Tactic

variable (c : Dev nD) (i : grid0.Coords)
  (arg1 : Memref sig .tc .vmem S256x1024 .bf16) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S256x1024 .bf16) (harg4 : arg4.IsWhole)
  (arg5 : Memref sig .tc .vmem S256x256 .bf16) (harg5 : arg5.IsWhole)
  (arg6 : Memref sig .tc .vmem S128x256 .bf16) (harg6 : arg6.IsWhole)
  (arg7 : Memref sig .tc .vmem S256x256 .bf16) (harg7 : arg7.IsWhole)
  (arg8 : Memref sig .tc .vmem S128x256 .bf16) (harg8 : arg8.IsWhole)
  (arg9 : Memref sig .tc .vmem S16x128 .f32) (harg9 : arg9.IsWhole)
  (arg10 : Memref sig .tc .vmem S256x1024 .bf16) (harg10 : arg10.IsWhole)
  (arg11 : Memref sig .tc .vmem S256x1024 .bf16) (harg11 : arg11.IsWhole)
  (arg14 : Memref sig .tc .vmem S16x128 .f32) (harg14 : arg14.IsWhole)
  (arg15 : Memref sig .tc .vmem S8320x256 .f32) (harg15 : arg15.IsWhole)
  (arg16 : Memref sig .tc .vmem S8320x256 .f32) (harg16 : arg16.IsWhole)
  (arg17 : Memref sig .tc .vmem S384x256 .bf16) (harg17 : arg17.IsWhole)
  (arg18 : Memref sig .tc .vmem S384x256 .bf16) (harg18 : arg18.IsWhole)
  (x0 : Vec Ideal S256x1024 .bf16) (x1 : Vec Ideal S256x1024 .bf16) (x2 : Vec Ideal S256x1024 .bf16) (x3 : Vec Ideal S256x1024 .bf16)
  (x4 : Vec Ideal S256x256 .bf16) (x5 : Vec Ideal S128x256 .bf16) (x6 : Vec Ideal S256x256 .bf16) (x7 : Vec Ideal S128x256 .bf16) (x8 : Vec Ideal S16x128 .f32)
  (xo11 : Vec Ideal S16x128 .f32) (xs0 : Vec Ideal S8320x256 .f32) (xs1 : Vec Ideal S8320x256 .f32)
  (fw0 : HbBuf0 (F := Ideal) c hbM0_0) (fw1 : HbBuf0 (F := Ideal) c hbM0_1)

theorem lift_blk {I : Inputs} (hB : ∀ v w : View sig .tc .vmem S384x256 .bf16, BlkHolds I i (winOf v i x4 x5) (winOf w i x6 x7) x0 x1 x2 x3 x8) :
    BlkHolds I i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8)) := by
  simp only [Memref.IsWhole.read_unread]
  exact hB arg17.view arg18.view

/-- The zeros stored whole, read at any index. -/
theorem read_zero (v : View sig .tc .vmem S8320x256 .f32) (f : v.ty.Contents (Elt Ideal)) (w : Vec Ideal S8320x256 .f32) (hw : ∀ y, w y = ((0 : ℝ) : EReal)) (y : S8320x256.Idx) :
    v.read (Elt Ideal) (v.writes (Elt Ideal) f [(⟨Rect.unit ![0, 0] S8320x256.size inb_S8320x256_S8320x256_0_0, w⟩ : View.Piece (Elt Ideal) S8320x256 .f32)]) y = ((0 : ℝ) : EReal) :=
  (View.read_writes_cons_unit_of_mem v f inb_S8320x256_S8320x256_0_0 w [] y y rfl
    (Fin.forall_fin_two.mpr ⟨by show _ = 0 + (y 0).val; omega, by show _ = 0 + (y 1).val; omega⟩)).trans (hw y)

theorem out0_A_9_val (hc0 : cond0_0 i) (hc1 : ¬cond0_1 i) {I : Inputs} (hB : ∀ v w : View sig .tc .vmem S384x256 .bf16, BlkHolds I i (winOf v i x4 x5) (winOf w i x6 x7) x0 x1 x2 x3 x8) (y : S256x1024.Idx) :
    out0_A_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1 y = ((I.gq (256 * (i 0).val + (y 0).val) (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_A_9_eq]
  exact read_four _ _ (dqGroup i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8))) I.gq _ (fun g x => dqGroup_eq B g x) y

theorem out0_A_10_val (hc0 : cond0_0 i) (hc1 : ¬cond0_1 i) {I : Inputs} (hB : ∀ v w : View sig .tc .vmem S384x256 .bf16, BlkHolds I i (winOf v i x4 x5) (winOf w i x6 x7) x0 x1 x2 x3 x8) (y : S256x1024.Idx) :
    out0_A_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1 y = ((I.gz (256 * (i 0).val + (y 0).val) (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_A_10_eq]
  exact read_four _ _ (dzGroup (arg1.view.read (Elt Ideal) (harg1.unread x0)) (arg2.view.read (Elt Ideal) (harg2.unread x1)) (arg4.view.read (Elt Ideal) (harg4.unread x3))) I.gz _ (fun g x => dzGroup_eq B g x) y

theorem out0_A_11_val (hc0 : cond0_0 i) (hc1 : ¬cond0_1 i) {I : Inputs} (hB : ∀ v w : View sig .tc .vmem S384x256 .bf16, BlkHolds I i (winOf v i x4 x5) (winOf w i x6 x7) x0 x1 x2 x3 x8) (y : S16x128.Idx) :
    out0_A_11 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1 y = ((I.gsBlk (i 0).val (y 0).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_A_11_eq]
  refine (read_firstRows B arg14.view 16 (by omega) _ _ y).trans ?_
  rw [if_pos (show (y 0).val < 16 from (y 0).isLt)]

theorem sout0_A_0_val (hc0 : cond0_0 i) (hc1 : ¬cond0_1 i) {I : Inputs} (hB : ∀ v w : View sig .tc .vmem S384x256 .bf16, BlkHolds I i (winOf v i x4 x5) (winOf w i x6 x7) x0 x1 x2 x3 x8) (y : S8320x256.Idx) :
    sout0_A_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1 y = ((I.gkBlk (i 0).val (y 0).val (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [sout0_A_0_eq]
  refine (read_acc _ _ _ i _ (dkRows i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8))) (fun _ _ => 0) (I.gkBlk (i 0).val) (fun y => ?_) (dkRows_eq B) (read_zero _ _ _ pay6_eq) (fun u c hu => I.gkBlk_zero c hu) y).trans (by rw [zero_add])
  exact ld_acc _ (fun _ _ => 0) (read_zero arg15.view _ _ pay6_eq) i y

theorem sout0_A_1_val (hc0 : cond0_0 i) (hc1 : ¬cond0_1 i) {I : Inputs} (hB : ∀ v w : View sig .tc .vmem S384x256 .bf16, BlkHolds I i (winOf v i x4 x5) (winOf w i x6 x7) x0 x1 x2 x3 x8) (y : S8320x256.Idx) :
    sout0_A_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 fw0 fw1 y = ((I.gvBlk (i 0).val (y 0).val (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [sout0_A_1_eq]
  refine (read_acc _ _ _ i _ (dvRows i (winOf arg17.view i (arg5.view.read (Elt Ideal) (harg5.unread x4)) (arg6.view.read (Elt Ideal) (harg6.unread x5))) (arg1.view.read (Elt Ideal) (harg1.unread x0)) (arg3.view.read (Elt Ideal) (harg3.unread x2)) (arg4.view.read (Elt Ideal) (harg4.unread x3)) (arg9.view.read (Elt Ideal) (harg9.unread x8))) (fun _ _ => 0) (I.gvBlk (i 0).val) (fun y => ?_) (dvRows_eq B) (read_zero _ _ _ pay7_eq) (fun u c hu => I.gvBlk_zero c hu) y).trans (by rw [zero_add])
  exact ld_acc _ (fun _ _ => 0) (read_zero arg16.view _ _ pay7_eq) i y

theorem out0_B_9_val (hc0 : ¬cond0_0 i) (hc1 : ¬cond0_1 i) {I : Inputs} (hB : ∀ v w : View sig .tc .vmem S384x256 .bf16, BlkHolds I i (winOf v i x4 x5) (winOf w i x6 x7) x0 x1 x2 x3 x8) (y : S256x1024.Idx) :
    out0_B_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((I.gq (256 * (i 0).val + (y 0).val) (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_B_9_eq]
  exact read_four _ _ (dqGroup i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8))) I.gq _ (fun g x => dqGroup_eq B g x) y

theorem out0_B_10_val (hc0 : ¬cond0_0 i) (hc1 : ¬cond0_1 i) {I : Inputs} (hB : ∀ v w : View sig .tc .vmem S384x256 .bf16, BlkHolds I i (winOf v i x4 x5) (winOf w i x6 x7) x0 x1 x2 x3 x8) (y : S256x1024.Idx) :
    out0_B_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((I.gz (256 * (i 0).val + (y 0).val) (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_B_10_eq]
  exact read_four _ _ (dzGroup (arg1.view.read (Elt Ideal) (harg1.unread x0)) (arg2.view.read (Elt Ideal) (harg2.unread x1)) (arg4.view.read (Elt Ideal) (harg4.unread x3))) I.gz _ (fun g x => dzGroup_eq B g x) y

theorem out0_B_11_val (hc0 : ¬cond0_0 i) (hc1 : ¬cond0_1 i) {I : Inputs} (hB : ∀ v w : View sig .tc .vmem S384x256 .bf16, BlkHolds I i (winOf v i x4 x5) (winOf w i x6 x7) x0 x1 x2 x3 x8) (R : ℕ → ℝ) (hR : ∀ y, xo11 y = ((R (y 0).val : ℝ) : EReal)) (y : S16x128.Idx) :
    out0_B_11 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((R (y 0).val + I.gsBlk (i 0).val (y 0).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_B_11_eq]
  refine (read_rowsOver _ _ [] (fun h : Fin 16 => dsRow i (winOf arg17.view i (arg5.view.read (Elt Ideal) (harg5.unread x4)) (arg6.view.read (Elt Ideal) (harg6.unread x5))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8)) h
    (View.ld (arg14.view.read (Elt Ideal) (harg14.unread xo11)) (Rect.unit (s := S16x128) ![h.val, 0] S1x128.size (inb_row h)))) y 16 le_rfl (y 0).isLt).trans ?_
  refine dsRow_eq B (y 0) _ _ ?_
  rw [harg14.read_unread xo11]
  refine (View.ld_unit_apply_of (S := S16x128) xo11 _ _ _ _ y ?_).trans (hR y)
  exact Fin.forall_fin_two.mpr ⟨by show (y 0).val = (y 0).val + 0; omega, by show (y 1).val = 0 + (y 1).val; omega⟩

theorem sout0_B_0_val (hc0 : ¬cond0_0 i) (hc1 : ¬cond0_1 i) {I : Inputs} (hB : ∀ v w : View sig .tc .vmem S384x256 .bf16, BlkHolds I i (winOf v i x4 x5) (winOf w i x6 x7) x0 x1 x2 x3 x8) (A : ℕ → ℕ → ℝ) (hA : ∀ y, xs0 y = ((A (y 0).val (y 1).val : ℝ) : EReal)) (y : S8320x256.Idx) :
    sout0_B_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((A (y 0).val (y 1).val + I.gkBlk (i 0).val (y 0).val (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  have hx : ∀ y, arg15.view.read (Elt Ideal) (harg15.unread xs0) y = ((A (y 0).val (y 1).val : ℝ) : EReal) := fun y => (congrFun (harg15.read_unread xs0) y).trans (hA y)
  rw [sout0_B_0_eq]
  exact read_acc _ _ [] i _ (dkRows i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8))) A (I.gkBlk (i 0).val) (fun y => ld_acc _ A hx i y) (dkRows_eq B) hx (fun u c hu => I.gkBlk_zero c hu) y

theorem sout0_B_1_val (hc0 : ¬cond0_0 i) (hc1 : ¬cond0_1 i) {I : Inputs} (hB : ∀ v w : View sig .tc .vmem S384x256 .bf16, BlkHolds I i (winOf v i x4 x5) (winOf w i x6 x7) x0 x1 x2 x3 x8) (A : ℕ → ℕ → ℝ) (hA : ∀ y, xs1 y = ((A (y 0).val (y 1).val : ℝ) : EReal)) (y : S8320x256.Idx) :
    sout0_B_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((A (y 0).val (y 1).val + I.gvBlk (i 0).val (y 0).val (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  have hx : ∀ y, arg16.view.read (Elt Ideal) (harg16.unread xs1) y = ((A (y 0).val (y 1).val : ℝ) : EReal) := fun y => (congrFun (harg16.read_unread xs1) y).trans (hA y)
  rw [sout0_B_1_eq]
  exact read_acc _ _ [] i _ (dvRows i (winOf arg17.view i (arg5.view.read (Elt Ideal) (harg5.unread x4)) (arg6.view.read (Elt Ideal) (harg6.unread x5))) (arg1.view.read (Elt Ideal) (harg1.unread x0)) (arg3.view.read (Elt Ideal) (harg3.unread x2)) (arg4.view.read (Elt Ideal) (harg4.unread x3)) (arg9.view.read (Elt Ideal) (harg9.unread x8))) A (I.gvBlk (i 0).val) (fun y => ld_acc _ A hx i y) (dvRows_eq B) hx (fun u c hu => I.gvBlk_zero c hu) y

theorem out0_C_9_val (hc0 : ¬cond0_0 i) (hc1 : cond0_1 i) {I : Inputs} (hB : ∀ v w : View sig .tc .vmem S384x256 .bf16, BlkHolds I i (winOf v i x4 x5) (winOf w i x6 x7) x0 x1 x2 x3 x8) (y : S256x1024.Idx) :
    out0_C_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((I.gq (256 * (i 0).val + (y 0).val) (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_C_9_eq]
  exact read_four _ _ (dqGroup i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8))) I.gq _ (fun g x => dqGroup_eq B g x) y

theorem out0_C_10_val (hc0 : ¬cond0_0 i) (hc1 : cond0_1 i) {I : Inputs} (hB : ∀ v w : View sig .tc .vmem S384x256 .bf16, BlkHolds I i (winOf v i x4 x5) (winOf w i x6 x7) x0 x1 x2 x3 x8) (y : S256x1024.Idx) :
    out0_C_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((I.gz (256 * (i 0).val + (y 0).val) (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_C_10_eq]
  exact read_four _ _ (dzGroup (arg1.view.read (Elt Ideal) (harg1.unread x0)) (arg2.view.read (Elt Ideal) (harg2.unread x1)) (arg4.view.read (Elt Ideal) (harg4.unread x3))) I.gz _ (fun g x => dzGroup_eq B g x) y

theorem out0_C_11_val (hc0 : ¬cond0_0 i) (hc1 : cond0_1 i) {I : Inputs} (hB : ∀ v w : View sig .tc .vmem S384x256 .bf16, BlkHolds I i (winOf v i x4 x5) (winOf w i x6 x7) x0 x1 x2 x3 x8) (R : ℕ → ℝ) (hR : ∀ y, xo11 y = ((R (y 0).val : ℝ) : EReal)) (y : S16x128.Idx) :
    out0_C_11 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((R (y 0).val + I.gsBlk (i 0).val (y 0).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  rw [out0_C_11_eq]
  refine (read_rowsOver _ _ [] (fun h : Fin 16 => dsRow i (winOf arg17.view i (arg5.view.read (Elt Ideal) (harg5.unread x4)) (arg6.view.read (Elt Ideal) (harg6.unread x5))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8)) h
    (View.ld (arg14.view.read (Elt Ideal) (harg14.unread xo11)) (Rect.unit (s := S16x128) ![h.val, 0] S1x128.size (inb_row h)))) y 16 le_rfl (y 0).isLt).trans ?_
  refine dsRow_eq B (y 0) _ _ ?_
  rw [harg14.read_unread xo11]
  refine (View.ld_unit_apply_of (S := S16x128) xo11 _ _ _ _ y ?_).trans (hR y)
  exact Fin.forall_fin_two.mpr ⟨by show (y 0).val = (y 0).val + 0; omega, by show (y 1).val = 0 + (y 1).val; omega⟩

theorem sout0_C_0_val (hc0 : ¬cond0_0 i) (hc1 : cond0_1 i) {I : Inputs} (hB : ∀ v w : View sig .tc .vmem S384x256 .bf16, BlkHolds I i (winOf v i x4 x5) (winOf w i x6 x7) x0 x1 x2 x3 x8) (A : ℕ → ℕ → ℝ) (hA : ∀ y, xs0 y = ((A (y 0).val (y 1).val : ℝ) : EReal)) (y : S8320x256.Idx) :
    sout0_C_0 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((A (y 0).val (y 1).val + I.gkBlk (i 0).val (y 0).val (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  have hx : ∀ y, arg15.view.read (Elt Ideal) (harg15.unread xs0) y = ((A (y 0).val (y 1).val : ℝ) : EReal) := fun y => (congrFun (harg15.read_unread xs0) y).trans (hA y)
  rw [sout0_C_0_eq]
  exact read_acc _ _ [] i _ (dkRows i (winOf arg17.view i (arg5.view.read (Elt Ideal) (harg5.unread x4)) (arg6.view.read (Elt Ideal) (harg6.unread x5))) (winOf arg18.view i (arg7.view.read (Elt Ideal) (harg7.unread x6)) (arg8.view.read (Elt Ideal) (harg8.unread x7))) (arg1.view.read (Elt Ideal) (harg1.unread x0)) (arg2.view.read (Elt Ideal) (harg2.unread x1)) (arg3.view.read (Elt Ideal) (harg3.unread x2)) (arg4.view.read (Elt Ideal) (harg4.unread x3)) (arg9.view.read (Elt Ideal) (harg9.unread x8))) A (I.gkBlk (i 0).val) (fun y => ld_acc _ A hx i y) (dkRows_eq B) hx (fun u c hu => I.gkBlk_zero c hu) y

theorem sout0_C_1_val (hc0 : ¬cond0_0 i) (hc1 : cond0_1 i) {I : Inputs} (hB : ∀ v w : View sig .tc .vmem S384x256 .bf16, BlkHolds I i (winOf v i x4 x5) (winOf w i x6 x7) x0 x1 x2 x3 x8) (A : ℕ → ℕ → ℝ) (hA : ∀ y, xs1 y = ((A (y 0).val (y 1).val : ℝ) : EReal)) (y : S8320x256.Idx) :
    sout0_C_1 c i arg1 harg1 arg2 harg2 arg3 harg3 arg4 harg4 arg5 harg5 arg6 harg6 arg7 harg7 arg8 harg8 arg9 harg9 arg10 harg10 arg11 harg11 arg14 harg14 arg15 harg15 arg16 harg16 arg17 harg17 arg18 harg18 hc0 hc1 x0 x1 x2 x3 x4 x5 x6 x7 x8 xo11 xs0 xs1 fw0 fw1 y = ((A (y 0).val (y 1).val + I.gvBlk (i 0).val (y 0).val (y 1).val : ℝ) : EReal) := by
  have B := lift_blk i arg1 harg1 arg2 harg2 arg3 harg3 arg4 harg4 arg5 harg5 arg6 harg6 arg7 harg7 arg8 harg8 arg9 harg9 arg17 arg18 x0 x1 x2 x3 x4 x5 x6 x7 x8 hB
  have hx : ∀ y, arg16.view.read (Elt Ideal) (harg16.unread xs1) y = ((A (y 0).val (y 1).val : ℝ) : EReal) := fun y => (congrFun (harg16.read_unread xs1) y).trans (hA y)
  rw [sout0_C_1_eq]
  exact read_acc _ _ [] i _ (dvRows i (winOf arg17.view i (arg5.view.read (Elt Ideal) (harg5.unread x4)) (arg6.view.read (Elt Ideal) (harg6.unread x5))) (arg1.view.read (Elt Ideal) (harg1.unread x0)) (arg3.view.read (Elt Ideal) (harg3.unread x2)) (arg4.view.read (Elt Ideal) (harg4.unread x3)) (arg9.view.read (Elt Ideal) (harg9.unread x8))) A (I.gvBlk (i 0).val) (fun y => ld_acc _ A hx i y) (dvRows_eq B) hx (fun u c hu => I.gvBlk_zero c hu) y

end Cert.Proof.Attn

end
-- ==== Proof.Attn.Points.lean ====
/-
  What the buffers hold after each point, at the inputs' numbers: the point's own rows of the first two results, and of
  the sums over the blocks the part up to the point.
-/
module

public import proofs.«01_k».proof.Proof.Attn.Operands
public import proofs.«01_k».proof.Proof.Attn.CaseVal

@[expose] public section

set_option maxRecDepth 16384

noncomputable section

namespace Cert.Proof.Attn

open Cert.KernelIdeal Cert.KernelIdeal.Gen Idealize.ShloMosaic Idealize.ShloMosaic.TcCoe Idealize.ShloMosaic.Tactic Finset

theorem coords_val : ∀ t : Fin cfg0.N, (grid0.coords t 0).val = t.val := by decide +kernel

/-- The buffers after a point. -/
structure After (I : Inputs) (m : (ℓ : Loc nD τ sig) → Buf (Elt Ideal) ℓ) (c : Dev nD) (n : ℕ) (hn : n < cfg0.N) : Prop where
  dq : ∀ y : S256x1024.Idx, (outsAt0 m c n hn).1 y = ((I.gq (256 * n + (y 0).val) (y 1).val : ℝ) : EReal)
  dz : ∀ y : S256x1024.Idx, (outsAt0 m c n hn).2.1 y = ((I.gz (256 * n + (y 0).val) (y 1).val : ℝ) : EReal)
  ds : ∀ y : S16x128.Idx, (outsAt0 m c n hn).2.2.1 y = ((∑ t ∈ range (n + 1), I.gsBlk t (y 0).val : ℝ) : EReal)
  dk : ∀ y : S8320x256.Idx, (outsAt0 m c n hn).2.2.2.1 y = ((∑ t ∈ range (n + 1), I.gkBlk t (y 0).val (y 1).val : ℝ) : EReal)
  dv : ∀ y : S8320x256.Idx, (outsAt0 m c n hn).2.2.2.2.1 y = ((∑ t ∈ range (n + 1), I.gvBlk t (y 0).val (y 1).val : ℝ) : EReal)

section
variable {m : (ℓ : Loc nD τ sig) → Buf (Elt Ideal) ℓ} {c : Dev nD} {I : Inputs}
  (H : Holds I (m ((c : Thread nD τ).loc main_arg0)) (m ((c : Thread nD τ).loc main_arg1)) (m ((c : Thread nD τ).loc main_arg2)))

include H

theorem after_A (t : Fin cfg0.N) (hz : t.val = 0) (h0 : t.val % 32 = 0) (h1 : ¬t.val % 32 = 31) : After I m c t.val t.isLt := by
  have e : (grid0.coords t 0).val = t.val := coords_val t
  have eo := outsAt0_A m c t h0 h1
  refine ⟨fun y => ?_, fun y => ?_, fun y => ?_, fun y => ?_, fun y => ?_⟩
  · have e1 := congrArg (fun p => p.1 y) eo; dsimp only at e1; exact e1.trans <| (out0_A_9_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (V m c main_v66_2) (V m c main_v66_3) ((hcond0_0 t).mpr h0) (fun h => h1 ((hcond0_1 t).mp h)) (fun v w => blkHolds H t v w) y).trans (by rw [e])
  · have e1 := congrArg (fun p => p.2.1 y) eo; dsimp only at e1; exact e1.trans <| (out0_A_10_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (V m c main_v66_2) (V m c main_v66_3) ((hcond0_0 t).mpr h0) (fun h => h1 ((hcond0_1 t).mp h)) (fun v w => blkHolds H t v w) y).trans (by rw [e])
  · have e1 := congrArg (fun p => p.2.2.1 y) eo; dsimp only at e1; exact e1.trans <| (out0_A_11_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (V m c main_v66_2) (V m c main_v66_3) ((hcond0_0 t).mpr h0) (fun h => h1 ((hcond0_1 t).mp h)) (fun v w => blkHolds H t v w) y).trans (by rw [e, hz, sum_range_one])
  · have e1 := congrArg (fun p => p.2.2.2.1 y) eo; dsimp only at e1; exact e1.trans <| (sout0_A_0_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (V m c main_v66_2) (V m c main_v66_3) ((hcond0_0 t).mpr h0) (fun h => h1 ((hcond0_1 t).mp h)) (fun v w => blkHolds H t v w) y).trans (by rw [e, hz, sum_range_one])
  · have e1 := congrArg (fun p => p.2.2.2.2.1 y) eo; dsimp only at e1; exact e1.trans <| (sout0_A_1_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (V m c main_v66_2) (V m c main_v66_3) ((hcond0_0 t).mpr h0) (fun h => h1 ((hcond0_1 t).mp h)) (fun v w => blkHolds H t v w) y).trans (by rw [e, hz, sum_range_one])

theorem after_B (t : Fin cfg0.N) (h0 : ¬t.val % 32 = 0) (h1 : ¬t.val % 32 = 31) (P : After I m c (t.val - 1) (Nat.lt_of_le_of_lt (Nat.sub_le _ _) t.isLt)) :
    After I m c t.val t.isLt := by
  have e : (grid0.coords t 0).val = t.val := coords_val t
  have hs : t.val - 1 + 1 = t.val := by omega
  have eo := outsAt0_B m c t h0 h1
  refine ⟨fun y => ?_, fun y => ?_, fun y => ?_, fun y => ?_, fun y => ?_⟩
  · have e1 := congrArg (fun p => p.1 y) eo; dsimp only at e1; exact e1.trans <| (out0_B_9_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h)) (fun v w => blkHolds H t v w) y).trans (by rw [e])
  · have e1 := congrArg (fun p => p.2.1 y) eo; dsimp only at e1; exact e1.trans <| (out0_B_10_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h)) (fun v w => blkHolds H t v w) y).trans (by rw [e])
  · have e1 := congrArg (fun p => p.2.2.1 y) eo; dsimp only at e1; exact e1.trans <| (out0_B_11_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h)) (fun v w => blkHolds H t v w) (fun h => ∑ s ∈ range t.val, I.gsBlk s h) (fun y => (P.ds y).trans (by rw [hs])) y).trans (by rw [e, sum_range_succ])
  · have e1 := congrArg (fun p => p.2.2.2.1 y) eo; dsimp only at e1; exact e1.trans <| (sout0_B_0_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h)) (fun v w => blkHolds H t v w) (fun u d => ∑ s ∈ range t.val, I.gkBlk s u d) (fun y => (P.dk y).trans (by rw [hs])) y).trans (by rw [e, sum_range_succ])
  · have e1 := congrArg (fun p => p.2.2.2.2.1 y) eo; dsimp only at e1; exact e1.trans <| (sout0_B_1_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h)) (fun v w => blkHolds H t v w) (fun u d => ∑ s ∈ range t.val, I.gvBlk s u d) (fun y => (P.dv y).trans (by rw [hs])) y).trans (by rw [e, sum_range_succ])

theorem after_C (t : Fin cfg0.N) (h0 : ¬t.val % 32 = 0) (h1 : t.val % 32 = 31) (P : After I m c (t.val - 1) (Nat.lt_of_le_of_lt (Nat.sub_le _ _) t.isLt)) :
    After I m c t.val t.isLt
    ∧ (∀ y : S8320x256.Idx, (outsAt0 m c t.val t.isLt).2.2.2.2.2.1 y = ((∑ s ∈ range (t.val + 1), I.gkBlk s (y 0).val (y 1).val : ℝ) : EReal))
    ∧ (∀ y : S8320x256.Idx, (outsAt0 m c t.val t.isLt).2.2.2.2.2.2 y = ((∑ s ∈ range (t.val + 1), I.gvBlk s (y 0).val (y 1).val : ℝ) : EReal)) := by
  have e : (grid0.coords t 0).val = t.val := coords_val t
  have hs : t.val - 1 + 1 = t.val := by omega
  have eo := outsAt0_C m c t h0 h1
  refine ⟨⟨fun y => ?_, fun y => ?_, fun y => ?_, fun y => ?_, fun y => ?_⟩, fun y => ?_, fun y => ?_⟩
  · have e1 := congrArg (fun p => p.1 y) eo; dsimp only at e1; exact e1.trans <| (out0_C_9_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) y).trans (by rw [e])
  · have e1 := congrArg (fun p => p.2.1 y) eo; dsimp only at e1; exact e1.trans <| (out0_C_10_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) y).trans (by rw [e])
  · have e1 := congrArg (fun p => p.2.2.1 y) eo; dsimp only at e1; exact e1.trans <| (out0_C_11_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) (fun h => ∑ s ∈ range t.val, I.gsBlk s h) (fun y => (P.ds y).trans (by rw [hs])) y).trans (by rw [e, sum_range_succ])
  · have e1 := congrArg (fun p => p.2.2.2.1 y) eo; dsimp only at e1; exact e1.trans <| (sout0_C_0_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) (fun u d => ∑ s ∈ range t.val, I.gkBlk s u d) (fun y => (P.dk y).trans (by rw [hs])) y).trans (by rw [e, sum_range_succ])
  · have e1 := congrArg (fun p => p.2.2.2.2.1 y) eo; dsimp only at e1; exact e1.trans <| (sout0_C_1_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) (fun u d => ∑ s ∈ range t.val, I.gvBlk s u d) (fun y => (P.dv y).trans (by rw [hs])) y).trans (by rw [e, sum_range_succ])
  · have e1 := congrArg (fun p => p.2.2.2.2.2.1 y) eo; dsimp only at e1; rw [hbw0_C_0_eq] at e1; refine e1.trans ?_; refine (congrFun (View.write_whole_univ main_v66_2 _ _) y).trans ?_; exact (sout0_C_0_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) (fun u d => ∑ s ∈ range t.val, I.gkBlk s u d) (fun y => (P.dk y).trans (by rw [hs])) y).trans (by rw [e, sum_range_succ])
  · have e1 := congrArg (fun p => p.2.2.2.2.2.2 y) eo; dsimp only at e1; rw [hbw0_C_1_eq] at e1; refine e1.trans ?_; refine (congrFun (View.write_whole_univ main_v66_3 _ _) y).trans ?_; exact (sout0_C_1_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1) (fun v w => blkHolds H t v w) (fun u d => ∑ s ∈ range t.val, I.gvBlk s u d) (fun y => (P.dv y).trans (by rw [hs])) y).trans (by rw [e, sum_range_succ])

theorem after_point : ∀ (n : ℕ) (hn : n < cfg0.N), After I m c n hn
  | 0, hn => after_A H ⟨0, hn⟩ rfl rfl (by decide : ¬0 % 32 = 31)
  | n + 1, hn => by
    have hN : n + 1 < 32 := lt_of_lt_of_eq hn (show cfg0.N = 32 from N_0)
    have P := after_point n (Nat.lt_of_succ_lt hn)
    by_cases h1 : (n + 1) % 32 = 31
    · exact (after_C H ⟨n + 1, hn⟩ (show ¬(n + 1) % 32 = 0 by omega) h1 P).1
    · exact after_B H ⟨n + 1, hn⟩ (show ¬(n + 1) % 32 = 0 by omega) h1 P

/-- The copies the last point makes of the two accumulators. -/
theorem after_last (n : ℕ) (hn : n < cfg0.N) (h : n = 31) :
    (∀ y : S8320x256.Idx, (outsAt0 m c n hn).2.2.2.2.2.1 y = ((I.gk (y 0).val (y 1).val : ℝ) : EReal))
    ∧ (∀ y : S8320x256.Idx, (outsAt0 m c n hn).2.2.2.2.2.2 y = ((I.gv (y 0).val (y 1).val : ℝ) : EReal)) := by
  have Q := (after_C H ⟨n, hn⟩ (show ¬n % 32 = 0 by omega) (show n % 32 = 31 by omega) (after_point H (n - 1) (Nat.lt_of_le_of_lt (Nat.sub_le _ _) hn))).2
  dsimp only at Q
  exact ⟨fun y => (Q.1 y).trans (by rw [h, I.gk_blocks]), fun y => (Q.2 y).trans (by rw [h, I.gv_blocks])⟩

end

end Cert.Proof.Attn

end
-- ==== Proof.Attn.Result.lean ====
/-
  The result arrays after the run, at the inputs' numbers.
-/
module

public import proofs.«01_k».proof.Proof.Attn.Points

@[expose] public section

set_option maxRecDepth 16384

noncomputable section

namespace Cert.Proof.Attn

open Cert.KernelIdeal Cert.KernelIdeal.Gen Idealize.ShloMosaic Idealize.ShloMosaic.TcCoe Idealize.ShloMosaic.Tactic Finset

theorem tr9 : ∀ i : grid0.Coords, cc0_transform_9 i = ![(i 0).val, 0] := by decide +kernel

theorem tr10 : ∀ i : grid0.Coords, cc0_transform_10 i = ![(i 0).val, 0] := by decide +kernel

theorem tr11 : ∀ i : grid0.Coords, cc0_transform_13 i = ![0, 0] := by decide +kernel

section
variable {m : (ℓ : Loc nD τ sig) → Buf (Elt Ideal) ℓ} {c : Dev nD} {I : Inputs}
  (H : Holds I (m ((c : Thread nD τ).loc main_arg0)) (m ((c : Thread nD τ).loc main_arg1)) (m ((c : Thread nD τ).loc main_arg2)))

include H

theorem arr9 (y : S8192x1024.Idx) : ((Gen.dats m 0 c).arrAt 9 cfg0.N : Vec Ideal S8192x1024 .bf16) y = ((I.gq (y 0).val (y 1).val : ℝ) : EReal) := by
  have y0 : (y 0).val < 8192 := (y 0).isLt
  have y1 : (y 1).val < 1024 := (y 1).isLt
  have ht : (y 0).val / 256 < cfg0.N := by rw [show cfg0.N = 32 from N_0]; omega
  let t : Fin cfg0.N := ⟨(y 0).val / 256, ht⟩
  let j : S256x1024.Idx := ix2 ⟨(y 0).val % 256, Nat.mod_lt _ (by omega)⟩ ⟨(y 1).val, y1⟩
  have h := congrFun (Cert.KernelIdeal.Value.blocks9 m c t (flush0_9 t)) j
  rw [Cert.KernelIdeal.Value.flushed9, View.read_apply] at h
  have e : cc0_transform_9 (grid0.coords t) 0 = (y 0).val / 256 := (congrFun (tr9 _) 0).trans (coords_val t)
  have e' : cc0_transform_9 (grid0.coords t) 1 = 0 := congrFun (tr9 _) 1
  have ey : ((cfg0.win 9).blk t).view.emb j = y := by
    refine funext fun a => Fin.ext ?_
    match a with
    | ⟨0, _⟩ => show cc0_transform_9 (grid0.coords t) 0 * 256 + 1 * ((y 0).val % 256) = (y 0).val; rw [e]; omega
    | ⟨1, _⟩ => show cc0_transform_9 (grid0.coords t) 1 * 1024 + 1 * (y 1).val = (y 1).val; rw [e']; omega
  rw [ey] at h
  refine Eq.trans h (((after_point H t.val t.isLt).dq j).trans ?_)
  exact coe_at2 _ (by show 256 * ((y 0).val / 256) + (y 0).val % 256 = (y 0).val; omega) rfl

theorem arr10 (y : S8192x1024.Idx) : ((Gen.dats m 0 c).arrAt 10 cfg0.N : Vec Ideal S8192x1024 .bf16) y = ((I.gz (y 0).val (y 1).val : ℝ) : EReal) := by
  have y0 : (y 0).val < 8192 := (y 0).isLt
  have y1 : (y 1).val < 1024 := (y 1).isLt
  have ht : (y 0).val / 256 < cfg0.N := by rw [show cfg0.N = 32 from N_0]; omega
  let t : Fin cfg0.N := ⟨(y 0).val / 256, ht⟩
  let j : S256x1024.Idx := ix2 ⟨(y 0).val % 256, Nat.mod_lt _ (by omega)⟩ ⟨(y 1).val, y1⟩
  have h := congrFun (Cert.KernelIdeal.Value.blocks10 m c t (flush0_10 t)) j
  rw [Cert.KernelIdeal.Value.flushed10, View.read_apply] at h
  have e : cc0_transform_10 (grid0.coords t) 0 = (y 0).val / 256 := (congrFun (tr10 _) 0).trans (coords_val t)
  have e' : cc0_transform_10 (grid0.coords t) 1 = 0 := congrFun (tr10 _) 1
  have ey : ((cfg0.win 10).blk t).view.emb j = y := by
    refine funext fun a => Fin.ext ?_
    match a with
    | ⟨0, _⟩ => show cc0_transform_10 (grid0.coords t) 0 * 256 + 1 * ((y 0).val % 256) = (y 0).val; rw [e]; omega
    | ⟨1, _⟩ => show cc0_transform_10 (grid0.coords t) 1 * 1024 + 1 * (y 1).val = (y 1).val; rw [e']; omega
  rw [ey] at h
  refine Eq.trans h (((after_point H t.val t.isLt).dz j).trans ?_)
  exact coe_at2 _ (by show 256 * ((y 0).val / 256) + (y 0).val % 256 = (y 0).val; omega) rfl

theorem arr11 (y : S16x128.Idx) : ((Gen.dats m 0 c).arrAt 11 cfg0.N : Vec Ideal S16x128 .f32) y = ((I.gsink (y 0).val : ℝ) : EReal) := by
  have ht : 31 < cfg0.N := by rw [show cfg0.N = 32 from N_0]; omega
  let t : Fin cfg0.N := ⟨31, ht⟩
  have hd : ∀ t t' : Fin cfg0.N, (cfg0.win 11).flush t = true → (cfg0.win 11).flush t' = true → t ≠ t' →
      Disjoint ((cfg0.win 11).blk t).view.set ((cfg0.win 11).blk t').view.set := fun t t' h h' hne => by
    have h1 := (flush0_11 t).1 h
    have h2 := (flush0_11 t').1 h'
    have b1 : t.val < 32 := lt_of_lt_of_eq t.isLt (show cfg0.N = 32 from N_0)
    have b2 : t'.val < 32 := lt_of_lt_of_eq t'.isLt (show cfg0.N = 32 from N_0)
    exact absurd (Fin.ext (by omega)) hne
  have h := congrFun ((Gen.dats m 0 c).read_blk_arrAt_eq_flushed 11 hd cfg0.N t t.isLt ((flush0_11 t).2 rfl)) y
  rw [Cert.KernelIdeal.Value.flushed11, View.read_apply] at h
  have e : cc0_transform_13 (grid0.coords t) 0 = 0 := congrFun (tr11 _) 0
  have e' : cc0_transform_13 (grid0.coords t) 1 = 0 := congrFun (tr11 _) 1
  have ey : ((cfg0.win 11).blk t).view.emb y = y := by
    refine funext fun a => Fin.ext ?_
    match a with
    | ⟨0, _⟩ => show cc0_transform_13 (grid0.coords t) 0 * 16 + 1 * (y 0).val = (y 0).val; rw [e]; omega
    | ⟨1, _⟩ => show cc0_transform_13 (grid0.coords t) 1 * 128 + 1 * (y 1).val = (y 1).val; rw [e']; omega
  rw [ey] at h
  exact Eq.trans h (((after_point H t.val t.isLt).ds y).trans (by rw [I.gsink_blocks]))

theorem last_dk (n : ℕ) (hn : n < cfg0.N) (h : n = 31) :
    (outsAt0 m c n hn).2.2.2.2.2.1 = fun y : S8320x256.Idx => ((I.gk (y 0).val (y 1).val : ℝ) : EReal) :=
  funext (after_last H n hn h).1

theorem last_dv (n : ℕ) (hn : n < cfg0.N) (h : n = 31) :
    (outsAt0 m c n hn).2.2.2.2.2.2 = fun y : S8320x256.Idx => ((I.gv (y 0).val (y 1).val : ℝ) : EReal) :=
  funext (after_last H n hn h).2

end

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Run.Frame
public import proofs.«01_k».proof.Proof.Run.Value
public import proofs.«01_k».proof.Proof.Run.Words
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.KernelWout.Frame
public import proofs.«01_k».proof.Proof.Gen.KernelWoutIdeal.Frame
public import proofs.«01_k».proof.Proof.Gen.KernelWoutIdeal.Value
public import proofs.«01_k».proof.Proof.Gen.ReferenceWoutIdeal.Run
public import proofs.«01_k».proof.Proof.Gen.ReferenceWoutIdeal.Read
public import proofs.«01_k».proof.Proof.Gen.KernelBdy.Frame
public import proofs.«01_k».proof.Proof.Gen.KernelBdyIdeal.Frame
public import proofs.«01_k».proof.Proof.Gen.KernelBdyIdeal.Value
public import proofs.«01_k».proof.Proof.Gen.ReferenceBdyIdeal.Run
public import proofs.«01_k».proof.Proof.Gen.ReferenceBdyIdeal.Read
public import proofs.«01_k».proof.Proof.Gen.KernelBdw.Frame
public import proofs.«01_k».proof.Proof.Gen.KernelBdwIdeal.Frame
public import proofs.«01_k».proof.Proof.Gen.KernelBdwIdeal.Value
public import proofs.«01_k».proof.Proof.Gen.ReferenceBdwIdeal.Run
public import proofs.«01_k».proof.Proof.Gen.ReferenceBdwIdeal.Read
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelGate.Frame
public import proofs.«01_k».proof.Proof.Gen.KernelGateIdeal.Frame
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Gen.KernelMod.Frame
public import proofs.«01_k».proof.Proof.Gen.KernelModIdeal.Frame
public import proofs.«01_k».proof.Proof.Gen.KernelModIdeal.Value
public import proofs.«01_k».proof.Proof.Gen.ReferenceModIdeal.Run
public import proofs.«01_k».proof.Proof.Gen.ReferenceModIdeal.Read
public import proofs.«01_k».proof.Proof.Gen.KernelNorm.Frame
public import proofs.«01_k».proof.Proof.Gen.KernelNormIdeal.Frame
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Gen.KernelAda.Frame
public import proofs.«01_k».proof.Proof.Gen.KernelAdaIdeal.Frame
public import proofs.«01_k».proof.Proof.Gen.KernelAdaIdeal.Value
public import proofs.«01_k».proof.Proof.Gen.ReferenceAdaIdeal.Run
public import proofs.«01_k».proof.Proof.Gen.ReferenceAdaIdeal.Read
public import proofs.«01_k».proof.Proof.Gen.KernelAdaw.Frame
public import proofs.«01_k».proof.Proof.Gen.KernelAdawIdeal.Frame
public import proofs.«01_k».proof.Proof.Gen.ReferenceAdawIdeal.Run
public import proofs.«01_k».proof.Proof.Gen.ReferenceAdawIdeal.Read
public import proofs.«01_k».proof.Proof.Gen.KernelFac.Frame
public import proofs.«01_k».proof.Proof.Gen.KernelFacIdeal.Frame
public import proofs.«01_k».proof.Proof.Gen.KernelFacIdeal.Value
public import proofs.«01_k».proof.Proof.Gen.ReferenceFacIdeal.Run
public import proofs.«01_k».proof.Proof.Gen.ReferenceFacIdeal.Read
public import proofs.«01_k».proof.Proof.Gen.KernelPost.Frame
public import proofs.«01_k».proof.Proof.Gen.KernelPostIdeal.Frame
public import proofs.«01_k».proof.Proof.Gen.KernelPostIdeal.Value
public import proofs.«01_k».proof.Proof.Gen.ReferencePostIdeal.Run
public import proofs.«01_k».proof.Proof.Gen.ReferencePostIdeal.Read
public import proofs.«01_k».proof.Proof.Gen.KernelSmall.Frame
public import proofs.«01_k».proof.Proof.Gen.KernelSmallIdeal.Frame
public import proofs.«01_k».proof.Proof.Gen.ReferenceSmallIdeal.Run
public import proofs.«01_k».proof.Proof.Gen.ReferenceSmallIdeal.Read
public import proofs.«01_k».proof.Proof.Mul.Dw
public import proofs.«01_k».proof.Proof.Mul.Dh
public import proofs.«01_k».proof.Proof.Mul.Proj
public import proofs.«01_k».proof.Proof.Mul.Wout
public import proofs.«01_k».proof.Proof.Mul.Bdy
public import proofs.«01_k».proof.Proof.Mul.Bdw
public import proofs.«01_k».proof.Proof.Mul.Merge
public import proofs.«01_k».proof.Proof.Mul.Out
public import proofs.«01_k».proof.Proof.Mul.Gate
public import proofs.«01_k».proof.Proof.Mul.Mod
public import proofs.«01_k».proof.Proof.Mul.Norm
public import proofs.«01_k».proof.Proof.Mul.Loss
public import proofs.«01_k».proof.Proof.Mul.Ada
public import proofs.«01_k».proof.Proof.Mul.Adaw
public import proofs.«01_k».proof.Proof.Mul.Fac
public import proofs.«01_k».proof.Proof.Mul.Post
public import proofs.«01_k».proof.Proof.Mul.Small
public import proofs.«01_k».proof.Proof.Attn.Finite
public import proofs.«01_k».proof.Proof.Attn.RefRes
public import proofs.«01_k».proof.Proof.Attn.Result
public import Idealize.ShloMosaic.Adequacy
public import Idealize.ShloMosaic.Init

@[expose] public section

noncomputable section

namespace Cert.Proof

open Idealize.ShloMosaic Idealize.SL.Sem Cert.Proof.Attn

/-- The numbers of the arguments on a device. -/
def numbers (m : (ℓ : Loc Cert.KernelIdeal.nD Cert.KernelIdeal.τ Cert.KernelIdeal.sig) → Buf (Elt Ideal) ℓ) (c : Dev Cert.KernelIdeal.nD) : Inputs :=
  inputsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2))

theorem algebraic : Cert.algebraic_KernelIdeal_ReferenceIdeal_pre_finite (hKernelIdeal := Cert.KernelIdeal.Gen.facts) (hReferenceIdeal := Cert.ReferenceIdeal.Gen.facts)
    (hPre_finite := pre_facts) := by
  intro m ρ m' ρ' hp hag
  have H : ∀ c : Dev Cert.KernelIdeal.nD, Holds (numbers m c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := fun c =>
    @holds_of_finite pre_facts _ _ _ (hp c).1 (hp c).2.1 (hp c).2.2
  have H' : ∀ c : Dev Cert.KernelIdeal.nD, Holds (numbers m c) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := fun c => by
    rw [(hag c).1, (hag c).2.1, (hag c).2.2]; exact H c
  refine ⟨fun c => fun y => (((numbers m c).gq (y 0).val (y 1).val : ℝ) : EReal), fun c => fun y => (((numbers m c).gz (y 0).val (y 1).val : ℝ) : EReal),
    fun c => fun y => (((numbers m c).gk (y 0).val (y 1).val : ℝ) : EReal), fun c => fun y => (((numbers m c).gv (y 0).val (y 1).val : ℝ) : EReal),
    fun c => fun y => (((numbers m c).gsink (y 0).val : ℝ) : EReal), ?_, ?_⟩
  · refine (θ_run _ _ _).mono (fun r h c => ?_) (Cert.KernelIdeal.Value.run_blocks (F := Ideal) m ρ)
    obtain ⟨h0, h1, h4, ha0, ha1, ha2, h2, h3⟩ := h c
    have hl : (Fin.last Cert.KernelIdeal.cfg0.N).val - 1 = 31 := by rw [Fin.val_last]; have : Cert.KernelIdeal.cfg0.N = 32 := Cert.KernelIdeal.Gen.N_0; omega
    exact ⟨h0.trans (funext fun y => arr9 (H c) y), h1.trans (funext fun y => arr10 (H c) y), h2.trans (last_dk (H c) _ _ hl), h3.trans (last_dv (H c) _ _ hl),
      h4.trans (funext fun y => arr11 (H c) y), ha0, ha1, ha2⟩
  · refine (θ_run _ _ _).mono (fun r h c => ?_) (Cert.ReferenceIdeal.Value.run (F := Ideal) m' ρ')
    obtain ⟨h0, h1, h2, h3, h4, ha⟩ := h c
    exact ⟨h0.trans ((Cert.ReferenceIdeal.Read.val_main_v167_eq _).trans (funext fun y => v167_eq (H' c) y)),
      h1.trans ((Cert.ReferenceIdeal.Read.val_main_v168_eq _).trans (funext fun y => v168_eq (H' c) y)),
      h2.trans ((Cert.ReferenceIdeal.Read.val_main_v169_eq _).trans (funext fun y => v169_eq (H' c) y)),
      h3.trans ((Cert.ReferenceIdeal.Read.val_main_v170_eq _).trans (funext fun y => v170_eq (H' c) y)),
      h4.trans ((Cert.ReferenceIdeal.Read.val_main_v172_eq _).trans (funext fun y => v172_eq (H' c) y)), ha⟩

/-- The reference ends, its arguments unchanged and no semaphore counting. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KernelDw.Gen.facts, Cert.KernelDwIdeal.Gen.facts, Cert.ReferenceDwIdeal.Gen.facts,
  Cert.KernelDh.Gen.facts, Cert.KernelDhIdeal.Gen.facts, Cert.ReferenceDhIdeal.Gen.facts,
  Cert.KernelProj.Gen.facts, Cert.KernelProjIdeal.Gen.facts, Cert.ReferenceProjIdeal.Gen.facts,
  Cert.KernelWout.Gen.facts, Cert.KernelWoutIdeal.Gen.facts, Cert.ReferenceWoutIdeal.Gen.facts,
  Cert.KernelBdy.Gen.facts, Cert.KernelBdyIdeal.Gen.facts, Cert.ReferenceBdyIdeal.Gen.facts,
  Cert.KernelBdw.Gen.facts, Cert.KernelBdwIdeal.Gen.facts, Cert.ReferenceBdwIdeal.Gen.facts,
  Cert.KernelMerge.Gen.facts, Cert.KernelMergeIdeal.Gen.facts, Cert.ReferenceMergeIdeal.Gen.facts,
  Cert.KernelOut.Gen.facts, Cert.KernelOutIdeal.Gen.facts, Cert.ReferenceOutIdeal.Gen.facts,
  Cert.KernelGate.Gen.facts, Cert.KernelGateIdeal.Gen.facts, Cert.ReferenceGateIdeal.Gen.facts,
  Cert.KernelMod.Gen.facts, Cert.KernelModIdeal.Gen.facts, Cert.ReferenceModIdeal.Gen.facts,
  Cert.KernelNorm.Gen.facts, Cert.KernelNormIdeal.Gen.facts, Cert.ReferenceNormIdeal.Gen.facts,
  Cert.KernelLoss.Gen.facts, Cert.KernelLossIdeal.Gen.facts, Cert.ReferenceLossIdeal.Gen.facts,
  Cert.KernelAda.Gen.facts, Cert.KernelAdaIdeal.Gen.facts, Cert.ReferenceAdaIdeal.Gen.facts,
  Cert.KernelAdaw.Gen.facts, Cert.KernelAdawIdeal.Gen.facts, Cert.ReferenceAdawIdeal.Gen.facts,
  Cert.KernelFac.Gen.facts, Cert.KernelFacIdeal.Gen.facts, Cert.ReferenceFacIdeal.Gen.facts,
  Cert.KernelPost.Gen.facts, Cert.KernelPostIdeal.Gen.facts, Cert.ReferencePostIdeal.Gen.facts,
  Cert.KernelSmall.Gen.facts, Cert.KernelSmallIdeal.Gen.facts, Cert.ReferenceSmallIdeal.Gen.facts,
  pre_facts, Mul.Norm.pre_facts, Mul.Loss.pre_facts,
  frame_kernel, fun m ρ _ => Cert.KernelIdeal.Gen.frame m ρ, fun m ρ _ => Cert.KernelIdeal.Gen.frame m ρ,
  frame_reference, fun m ρ _ => frame_reference m ρ trivial,
  Mul.Dw.frame_kernel, Mul.Dw.frame_ideal, Mul.Dw.frame_reference,
  Mul.Dh.frame_kernel, Mul.Dh.frame_ideal, Mul.Dh.frame_reference,
  Mul.Proj.frame_kernel, Mul.Proj.frame_ideal, Mul.Proj.frame_reference,
  Mul.Wout.frame_kernel, Mul.Wout.frame_ideal, Mul.Wout.frame_reference,
  Mul.Bdy.frame_kernel, Mul.Bdy.frame_ideal, Mul.Bdy.frame_reference,
  Mul.Bdw.frame_kernel, Mul.Bdw.frame_ideal, Mul.Bdw.frame_reference,
  Mul.Merge.frame_kernel, Mul.Merge.frame_ideal, Mul.Merge.frame_reference,
  Mul.Out.frame_kernel, Mul.Out.frame_ideal, Mul.Out.frame_reference,
  Mul.Gate.frame_kernel, Mul.Gate.frame_ideal, Mul.Gate.frame_reference,
  Mul.Mod.frame_kernel, Mul.Mod.frame_ideal, Mul.Mod.frame_reference,
  Mul.Norm.frame_kernel, Mul.Norm.frame_ideal, fun m ρ _ => Mul.Norm.frame_ideal m ρ trivial,
  Mul.Norm.frame_reference, fun m ρ _ => Mul.Norm.frame_reference m ρ trivial,
  Mul.Loss.frame_kernel, Mul.Loss.frame_ideal, fun m ρ _ => Mul.Loss.frame_ideal m ρ trivial,
  Mul.Loss.frame_reference, fun m ρ _ => Mul.Loss.frame_reference m ρ trivial,
  Mul.Ada.frame_kernel, Mul.Ada.frame_ideal, Mul.Ada.frame_reference,
  Mul.Adaw.frame_kernel, Mul.Adaw.frame_ideal, Mul.Adaw.frame_reference,
  Mul.Fac.frame_kernel, Mul.Fac.frame_ideal, Mul.Fac.frame_reference,
  Mul.Post.frame_kernel, Mul.Post.frame_ideal, Mul.Post.frame_reference,
  Mul.Small.frame_kernel, Mul.Small.frame_ideal, Mul.Small.frame_reference,
  trivial, algebraic, trivial, Mul.Dw.algebraic, trivial, Mul.Dh.algebraic, trivial, Mul.Proj.algebraic,
  trivial, Mul.Wout.algebraic,
  trivial, Mul.Bdy.algebraic,
  trivial, Mul.Bdw.algebraic,
  trivial, Mul.Merge.algebraic,
  trivial, Mul.Out.algebraic,
  trivial, Mul.Gate.algebraic,
  trivial, Mul.Mod.algebraic,
  trivial, Mul.Norm.algebraic,
  trivial, Mul.Loss.algebraic,
  trivial, Mul.Ada.algebraic,
  trivial, Mul.Adaw.algebraic,
  trivial, Mul.Fac.algebraic,
  trivial, Mul.Post.algebraic,
  trivial, Mul.Small.algebraic⟩

end Cert.Proof

end
